-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 [hPre_is_part : Cert.Pre_is_part.Facts] (m : (ℓ : Loc Cert.Kernel17.nD Cert.Kernel17.τ Cert.Kernel17.sig) → Buf (Elt Bits) ℓ) : Prop :=
  ∀ c : Dev Cert.Kernel17.nD,
    (Cert.Pre_is_part.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2)) (m ((c.tc : Thread Cert.Kernel17.nD Cert.Kernel17.τ).loc Cert.Kernel17.main_arg3))) = (fun _ => 1#1)

def Pre_Kernel17Ideal [hPre_is_part : Cert.Pre_is_part.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_is_part.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_is_part [hPre_is_part : Cert.Pre_is_part.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_is_part.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] [hPre_is_part : Cert.Pre_is_part.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] [hPre_is_part : Cert.Pre_is_part.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Reference17Ideal_pre_is_part [hReference17Ideal : Cert.Reference17Ideal.Facts] [hPre_is_part : Cert.Pre_is_part.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_is_part m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v20) = v0 c
          ∧ r.2.mem ((c.tc : Thread Cert.Reference13Ideal.nD Cert.Reference13Ideal.τ).loc Cert.Reference13Ideal.main_v21) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v33) = v0 c
          ∧ r.2.mem ((c.tc : Thread Cert.Reference14Ideal.nD Cert.Reference14Ideal.τ).loc Cert.Reference14Ideal.main_v34) = v1 c
          ∧ r.2.mem ((c.tc : Thread Cert.Reference14Ideal.nD Cert.Reference14Ideal.τ).loc Cert.Reference14Ideal.main_v38) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v14) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] [hPre_is_part : Cert.Pre_is_part.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v11) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_is_part : Cert.Pre_is_part.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17) (hPre_is_part := hPre_is_part)
    ∧ quiescent_Kernel17Ideal (hKernel17Ideal := hKernel17Ideal) (hPre_is_part := hPre_is_part)
    ∧ quiescent_Reference17Ideal (hReference17Ideal := hReference17Ideal)
    ∧ quiescent_Reference17Ideal_pre_is_part (hReference17Ideal := hReference17Ideal) (hPre_is_part := hPre_is_part)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal) (hPre_is_part := hPre_is_part)
-- ==== Pre_finite.lean ====
abbrev S7x2048x2048 : Shape := ⟨3, ![7, 2048, 2048]⟩
abbrev S16x1x128 : Shape := ⟨3, ![16, 1, 128]⟩
abbrev S2048x2048 : Shape := ⟨2, ![2048, 2048]⟩
abbrev S3x2048x2048 : Shape := ⟨3, ![3, 2048, 2048]⟩
abbrev S_ : Shape := ⟨0, ![]⟩
abbrev S16x1x1 : Shape := ⟨3, ![16, 1, 1]⟩

class Facts : Prop where
  slices_S7x2048x2048_S3x2048x2048_0_0_0 : S7x2048x2048.Slices ![0, 0, 0] S3x2048x2048
  bcast_S_S3x2048x2048 : S_.BroadcastsInDim S3x2048x2048 (![] : Fin 0 → Fin S3x2048x2048.rank)
  reducesTo_S3x2048x2048_S_d0_1_2 : S3x2048x2048.ReducesTo [0, 1, 2] S_
  h_S_ : 0 < S_.numel
  slices_S16x1x128_S16x1x1_0_0_0 : S16x1x128.Slices ![0, 0, 0] S16x1x1
  bcast_S_S16x1x1 : S_.BroadcastsInDim S16x1x1 (![] : Fin 0 → Fin S16x1x1.rank)
  reducesTo_S16x1x1_S_d0_1_2 : S16x1x1.ReducesTo [0, 1, 2] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S7x2048x2048 .f32) (main_arg1 : FVec F S16x1x128 .f32) (main_arg2 : FVec F S2048x2048 .f32) : IVec S_ 1 :=
  let main_v0 : FVec F S3x2048x2048 .f32 := (extractStridedSlice S3x2048x2048 ![0, 0, 0] · slices_S7x2048x2048_S3x2048x2048_0_0_0) main_arg0
  let main_v1 : FVec F S3x2048x2048 .f32 := Host.absf main_v0
  let main_cst : FVec F S_ .f32 := constant S_ .f32 0x7F800000#32
  let main_v2 : FVec F S3x2048x2048 .f32 := broadcastInDim S3x2048x2048 ![] bcast_S_S3x2048x2048 main_cst
  let main_v3 : IVec S3x2048x2048 1 := cmpf .olt main_v1 main_v2
  let main_c : IVec S_ 1 := constantI S_ 1 1#1
  let main_v4 : IVec S_ 1 := (fun x v => Host.reduce IntOp.andi x v reducesTo_S3x2048x2048_S_d0_1_2 h_S_) main_v3 main_c
  let main_v5 : FVec F S16x1x1 .f32 := (extractStridedSlice S16x1x1 ![0, 0, 0] · slices_S16x1x128_S16x1x1_0_0_0) main_arg1
  let main_v6 : FVec F S16x1x1 .f32 := Host.absf main_v5
  let main_cst_0 : FVec F S_ .f32 := constant S_ .f32 0x7F800000#32
  let main_v7 : FVec F S16x1x1 .f32 := broadcastInDim S16x1x1 ![] bcast_S_S16x1x1 main_cst_0
  let main_v8 : IVec S16x1x1 1 := cmpf .olt main_v6 main_v7
  let main_c_1 : IVec S_ 1 := constantI S_ 1 1#1
  let main_v9 : IVec S_ 1 := (fun x v => Host.reduce IntOp.andi x v reducesTo_S16x1x1_S_d0_1_2 h_S_) main_v8 main_c_1
  let main_v10 : IVec S_ 1 := andi main_v4 main_v9
  let main_v11 : FVec F S2048x2048 .f32 := Host.absf main_arg2
  let main_cst_2 : FVec F S_ .f32 := constant S_ .f32 0x7F800000#32
  let main_v12 : FVec F S2048x2048 .f32 := broadcastInDim S2048x2048 ![] bcast_S_S2048x2048 main_cst_2
  let main_v13 : IVec S2048x2048 1 := cmpf .olt main_v11 main_v12
  let main_c_3 : IVec S_ 1 := constantI S_ 1 1#1
  let main_v14 : IVec S_ 1 := (fun x v => Host.reduce IntOp.andi x v reducesTo_S2048x2048_S_d0_1 h_S_) main_v13 main_c_3
  let main_v15 : IVec S_ 1 := andi main_v10 main_v14
  main_v15
-- ==== Pre_is_part.lean ====
abbrev S1 : Shape := ⟨1, ![1]⟩
abbrev S2048x2048 : Shape := ⟨2, ![2048, 2048]⟩
abbrev S4x2048x3584 : Shape := ⟨3, ![4, 2048, 3584]⟩
abbrev S7x2048x2048 : Shape := ⟨3, ![7, 2048, 2048]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S1 32) (main_arg1 : FVec F S2048x2048 .f32) (main_arg2 : FVec F S4x2048x3584 .f32) (main_arg3 : FVec F S7x2048x2048 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Kernel.lean ====
abbrev S7x2048x2048 : Shape := ⟨3, ![7, 2048, 2048]⟩
abbrev S16x1x128 : Shape := ⟨3, ![16, 1, 128]⟩
abbrev S2048x2048 : Shape := ⟨2, ![2048, 2048]⟩
abbrev S3 : Shape := ⟨1, ![3]⟩
abbrev S1x2048x2048 : Shape := ⟨3, ![1, 2048, 2048]⟩
abbrev S2048x16x128 : Shape := ⟨3, ![2048, 16, 128]⟩
abbrev S16x2048x128 : Shape := ⟨3, ![16, 2048, 128]⟩
abbrev S16x1x1 : Shape := ⟨3, ![16, 1, 1]⟩
abbrev S16 : Shape := ⟨1, ![16]⟩
abbrev S3x2048x2048 : Shape := ⟨3, ![3, 2048, 2048]⟩
abbrev S3x1x1 : Shape := ⟨3, ![3, 1, 1]⟩
abbrev S_ : Shape := ⟨0, ![]⟩
abbrev S1x16 : Shape := ⟨2, ![1, 16]⟩
abbrev S3x1 : Shape := ⟨2, ![3, 1]⟩
abbrev S3x16 : Shape := ⟨2, ![3, 16]⟩
abbrev S3x16x1x1 : Shape := ⟨4, ![3, 16, 1, 1]⟩
abbrev S3x1x2048x2048 : Shape := ⟨4, ![3, 1, 2048, 2048]⟩
abbrev S3x16x2048x2048 : Shape := ⟨4, ![3, 16, 2048, 2048]⟩
abbrev S16x2048x2048 : Shape := ⟨3, ![16, 2048, 2048]⟩
abbrev S1x16x2048x2048 : Shape := ⟨4, ![1, 16, 2048, 2048]⟩
abbrev S3x16x2048 : Shape := ⟨3, ![3, 16, 2048]⟩
abbrev S3x16x2048x1 : Shape := ⟨4, ![3, 16, 2048, 1]⟩
abbrev S16x128x3x2048 : Shape := ⟨4, ![16, 128, 3, 2048]⟩
abbrev S3x16x2048x128 : Shape := ⟨4, ![3, 16, 2048, 128]⟩
abbrev S16x2048x1 : Shape := ⟨3, ![16, 2048, 1]⟩
abbrev S1x16x2048x1 : Shape := ⟨4, ![1, 16, 2048, 1]⟩
abbrev S1x2048x128 : Shape := ⟨3, ![1, 2048, 128]⟩
abbrev S1x1x128 : Shape := ⟨3, ![1, 1, 128]⟩
abbrev S2048x128 : Shape := ⟨2, ![2048, 128]⟩
abbrev S3x2048x128 : Shape := ⟨3, ![3, 2048, 128]⟩
abbrev S2176x128 : Shape := ⟨2, ![2176, 128]⟩
abbrev S1x128 : Shape := ⟨2, ![1, 128]⟩
abbrev S1x1 : Shape := ⟨2, ![1, 1]⟩
abbrev S2048 : Shape := ⟨1, ![2048]⟩
abbrev S2048x1 : Shape := ⟨2, ![2048, 1]⟩
abbrev S128x256 : Shape := ⟨2, ![128, 256]⟩
abbrev S128x128 : Shape := ⟨2, ![128, 128]⟩
abbrev S1x128x128 : Shape := ⟨3, ![1, 128, 128]⟩
abbrev S256x128 : Shape := ⟨2, ![256, 128]⟩
abbrev S1x512x128 : Shape := ⟨3, ![1, 512, 128]⟩
abbrev S512x128 : Shape := ⟨2, ![512, 128]⟩

abbrev nBuf : Space → Nat
  | .hbm => 113
  | .vmem => 29
  | .smem => 0
  | _ => 0

abbrev bufTy : (tb : Table) → Fin (tcTables nBuf tb) → BufTy
  | .hbm, ⟨0, _⟩ => ⟨S7x2048x2048, .f32⟩
  | .hbm, ⟨1, _⟩ => ⟨S16x1x128, .f32⟩
  | .hbm, ⟨2, _⟩ => ⟨S2048x2048, .f32⟩
  | .hbm, ⟨3, _⟩ => ⟨S3, .i32⟩
  | .hbm, ⟨4, _⟩ => ⟨S1x2048x2048, .f32⟩
  | .hbm, ⟨5, _⟩ => ⟨S2048x2048, .f32⟩
  | .hbm, ⟨6, _⟩ => ⟨S2048x16x128, .f32⟩
  | .hbm, ⟨7, _⟩ => ⟨S16x2048x128, .f32⟩
  | .hbm, ⟨8, _⟩ => ⟨S1x2048x2048, .f32⟩
  | .hbm, ⟨9, _⟩ => ⟨S2048x2048, .f32⟩
  | .hbm, ⟨10, _⟩ => ⟨S2048x16x128, .f32⟩
  | .hbm, ⟨11, _⟩ => ⟨S16x2048x128, .f32⟩
  | .hbm, ⟨12, _⟩ => ⟨S1x2048x2048, .f32⟩
  | .hbm, ⟨13, _⟩ => ⟨S2048x2048, .f32⟩
  | .hbm, ⟨14, _⟩ => ⟨S2048x16x128, .f32⟩
  | .hbm, ⟨15, _⟩ => ⟨S16x2048x128, .f32⟩
  | .hbm, ⟨16, _⟩ => ⟨S16x1x1, .f32⟩
  | .hbm, ⟨17, _⟩ => ⟨S16, .f32⟩
  | .hbm, ⟨18, _⟩ => ⟨S1x2048x2048, .i32⟩
  | .hbm, ⟨19, _⟩ => ⟨S1x2048x2048, .i32⟩
  | .hbm, ⟨20, _⟩ => ⟨S1x2048x2048, .i32⟩
  | .hbm, ⟨21, _⟩ => ⟨S3x2048x2048, .i32⟩
  | .hbm, ⟨22, _⟩ => ⟨S3x1x1, .i32⟩
  | .hbm, ⟨23, _⟩ => ⟨S3x2048x2048, .i32⟩
  | .hbm, ⟨24, _⟩ => ⟨S3x2048x2048, .i32⟩
  | .hbm, ⟨25, _⟩ => ⟨S_, .i32⟩
  | .hbm, ⟨26, _⟩ => ⟨S3x2048x2048, .i32⟩
  | .hbm, ⟨27, _⟩ => ⟨S3x2048x2048, .i1⟩
  | .hbm, ⟨28, _⟩ => ⟨S3x2048x2048, .i32⟩
  | .hbm, ⟨29, _⟩ => ⟨S_, .i32⟩
  | .hbm, ⟨30, _⟩ => ⟨S3x2048x2048, .i32⟩
  | .hbm, ⟨31, _⟩ => ⟨S3x2048x2048, .i1⟩
  | .hbm, ⟨32, _⟩ => ⟨S3x2048x2048, .i1⟩
  | .hbm, ⟨33, _⟩ => ⟨S_, .i32⟩
  | .hbm, ⟨34, _⟩ => ⟨S3x2048x2048, .i32⟩
  | .hbm, ⟨35, _⟩ => ⟨S3x2048x2048, .i1⟩
  | .hbm, ⟨36, _⟩ => ⟨S3x2048x2048, .i1⟩
  | .hbm, ⟨37, _⟩ => ⟨S1x16, .f32⟩
  | .hbm, ⟨38, _⟩ => ⟨S3, .f32⟩
  | .hbm, ⟨39, _⟩ => ⟨S3x1, .f32⟩
  | .hbm, ⟨40, _⟩ => ⟨S3x16, .f32⟩
  | .hbm, ⟨41, _⟩ => ⟨S3x16, .f32⟩
  | .hbm, ⟨42, _⟩ => ⟨S3x16, .f32⟩
  | .hbm, ⟨43, _⟩ => ⟨S3x16x1x1, .f32⟩
  | .hbm, ⟨44, _⟩ => ⟨S3x16x1x1, .f32⟩
  | .hbm, ⟨45, _⟩ => ⟨S3x2048x2048, .f32⟩
  | .hbm, ⟨46, _⟩ => ⟨S3x1x2048x2048, .f32⟩
  | .hbm, ⟨47, _⟩ => ⟨S3x16x2048x2048, .f32⟩
  | .hbm, ⟨48, _⟩ => ⟨S3x16x2048x2048, .f32⟩
  | .hbm, ⟨49, _⟩ => ⟨S3x16x2048x2048, .f32⟩
  | .hbm, ⟨50, _⟩ => ⟨S16x2048x2048, .f32⟩
  | .hbm, ⟨51, _⟩ => ⟨S_, .f32⟩
  | .hbm, ⟨52, _⟩ => ⟨S16x2048x2048, .f32⟩
  | .hbm, ⟨53, _⟩ => ⟨S16x2048x2048, .f32⟩
  | .hbm, ⟨54, _⟩ => ⟨S1x16x2048x2048, .f32⟩
  | .hbm, ⟨55, _⟩ => ⟨S3x16x2048x2048, .f32⟩
  | .hbm, ⟨56, _⟩ => ⟨S3x16x2048x2048, .f32⟩
  | .hbm, ⟨57, _⟩ => ⟨S3x1x2048x2048, .i1⟩
  | .hbm, ⟨58, _⟩ => ⟨S_, .f32⟩
  | .hbm, ⟨59, _⟩ => ⟨S_, .f32⟩
  | .hbm, ⟨60, _⟩ => ⟨S3x16x2048x2048, .i1⟩
  | .hbm, ⟨61, _⟩ => ⟨S3x16x2048x2048, .f32⟩
  | .hbm, ⟨62, _⟩ => ⟨S3x16x2048x2048, .f32⟩
  | .hbm, ⟨63, _⟩ => ⟨S_, .f32⟩
  | .hbm, ⟨64, _⟩ => ⟨S3x16x2048, .f32⟩
  | .hbm, ⟨65, _⟩ => ⟨S3x16x2048x1, .f32⟩
  | .hbm, ⟨66, _⟩ => ⟨S3x16x2048x2048, .f32⟩
  | .hbm, ⟨67, _⟩ => ⟨S3x16x2048x2048, .f32⟩
  | .hbm, ⟨68, _⟩ => ⟨S3x16x2048x2048, .f32⟩
  | .hbm, ⟨69, _⟩ => ⟨S_, .f32⟩
  | .hbm, ⟨70, _⟩ => ⟨S3x16x2048, .f32⟩
  | .hbm, ⟨71, _⟩ => ⟨S3x16x2048x1, .f32⟩
  | .hbm, ⟨72, _⟩ => ⟨S16x128x3x2048, .f32⟩
  | .hbm, ⟨73, _⟩ => ⟨S3x16x2048x128, .f32⟩
  | .hbm, ⟨74, _⟩ => ⟨S3x16x2048x128, .f32⟩
  | .hbm, ⟨75, _⟩ => ⟨S3x16x2048x128, .f32⟩
  | .hbm, ⟨76, _⟩ => ⟨S3x16x2048x1, .f32⟩
  | .hbm, ⟨77, _⟩ => ⟨S3x16x2048x1, .f32⟩
  | .hbm, ⟨78, _⟩ => ⟨S_, .f32⟩
  | .hbm, ⟨79, _⟩ => ⟨S16x2048x1, .f32⟩
  | .hbm, ⟨80, _⟩ => ⟨S_, .f32⟩
  | .hbm, ⟨81, _⟩ => ⟨S16x2048x1, .f32⟩
  | .hbm, ⟨82, _⟩ => ⟨S16x2048x1, .f32⟩
  | .hbm, ⟨83, _⟩ => ⟨S1x16x2048x1, .f32⟩
  | .hbm, ⟨84, _⟩ => ⟨S3x16x2048x1, .f32⟩
  | .hbm, ⟨85, _⟩ => ⟨S3x16x2048x1, .f32⟩
  | .hbm, ⟨86, _⟩ => ⟨S3x16x2048x1, .f32⟩
  | .hbm, ⟨87, _⟩ => ⟨S_, .f32⟩
  | .hbm, ⟨88, _⟩ => ⟨S16x2048x1, .f32⟩
  | .hbm, ⟨89, _⟩ => ⟨S1x16x2048x1, .f32⟩
  | .hbm, ⟨90, _⟩ => ⟨S3x16x2048x1, .f32⟩
  | .hbm, ⟨91, _⟩ => ⟨S3x16x2048x1, .f32⟩
  | .hbm, ⟨92, _⟩ => ⟨S3x16x2048x128, .f32⟩
  | .hbm, ⟨93, _⟩ => ⟨S3x16x2048x128, .f32⟩
  | .hbm, ⟨94, _⟩ => ⟨S_, .f32⟩
  | .hbm, ⟨95, _⟩ => ⟨S16x2048x128, .f32⟩
  | .hbm, ⟨96, _⟩ => ⟨S_, .f32⟩
  | .hbm, ⟨97, _⟩ => ⟨S16x2048x1, .f32⟩
  | .hbm, ⟨98, _⟩ => ⟨S1x16x2048x1, .f32⟩
  | .hbm, ⟨99, _⟩ => ⟨S3x16x2048x1, .f32⟩
  | .hbm, ⟨100, _⟩ => ⟨S3x16x2048x1, .f32⟩
  | .hbm, ⟨101, _⟩ => ⟨S3x16x2048x1, .f32⟩
  | .hbm, ⟨102, _⟩ => ⟨S_, .f32⟩
  | .hbm, ⟨103, _⟩ => ⟨S16x2048x1, .f32⟩
  | .hbm, ⟨104, _⟩ => ⟨S16x2048x1, .f32⟩
  | .hbm, ⟨105, _⟩ => ⟨S16x2048x1, .f32⟩
  | .hbm, ⟨106, _⟩ => ⟨S16x2048x128, .f32⟩
  | .hbm, ⟨107, _⟩ => ⟨S2048x16x128, .f32⟩
  | .hbm, ⟨108, _⟩ => ⟨S2048x2048, .f32⟩
  | .hbm, ⟨109, _⟩ => ⟨S2048x2048, .bf16⟩
  | .hbm, ⟨110, _⟩ => ⟨S2048x16x128, .f32⟩
  | .hbm, ⟨111, _⟩ => ⟨S2048x2048, .f32⟩
  | .hbm, ⟨112, _⟩ => ⟨S3x2048x2048, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1x128, .f32⟩
  | .local _ .vmem, ⟨7, _⟩ => ⟨S1x1x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S3x2048x128, .bf16⟩
  | .local _ .vmem, ⟨15, _⟩ => ⟨S3x2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2176x128, .f32⟩
  | .local _ .vmem, ⟨25, _⟩ => ⟨S2176x128, .f32⟩
  | .local _ .vmem, ⟨26, _⟩ => ⟨S2048x128, .f32⟩
  | .local _ .vmem, ⟨27, _⟩ => ⟨S2176x128, .f32⟩
  | .local _ .vmem, ⟨28, _⟩ => ⟨S2176x128, .f32⟩
  | _, _ => ⟨S7x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_3 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_cst_7 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_8 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_cst_10 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_11 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def k0_mult1 : BitVec 32 :=
  let c0_i32_12 : BitVec 32 := 0#32
  let c16_i32 : BitVec 32 := 16#32
  let v33 : BitVec 32 := Scalar.muli c0_i32_12 c16_i32
  let c0_i32_13 : BitVec 32 := 0#32
  let v34 : BitVec 32 := Scalar.addi v33 c0_i32_13
  let c128_i32_14 : BitVec 32 := 128#32
  let v35 : BitVec 32 := Scalar.muli v34 c128_i32_14
  v35
def k0_mult2 : BitVec 32 :=
  let c0_i32_12 : BitVec 32 := 0#32
  let c16_i32 : BitVec 32 := 16#32
  let v33 : BitVec 32 := Scalar.muli c0_i32_12 c16_i32
  let c0_i32_13 : BitVec 32 := 0#32
  let v34 : BitVec 32 := Scalar.addi v33 c0_i32_13
  let c1_i32 : BitVec 32 := 1#32
  let v37 : BitVec 32 := Scalar.subi v34 c1_i32
  let c0_i32_15 : BitVec 32 := 0#32
  let v38 : BitVec 32 := Scalar.maxsi v37 c0_i32_15
  let c128_i32_16 : BitVec 32 := 128#32
  let v39 : BitVec 32 := Scalar.muli v38 c128_i32_16
  v39
def k0_off1 (c0_i32_13 : BitVec 32) : Fin 3 → Nat :=
  let c0_26 : Index := 0#32
  let c0_i32_12 : BitVec 32 := 0#32
  let c16_i32 : BitVec 32 := 16#32
  let v33 : BitVec 32 := Scalar.muli c0_i32_12 c16_i32
  let v34 : BitVec 32 := Scalar.addi v33 c0_i32_13
  let c128_i32_14 : BitVec 32 := 128#32
  let v35 : BitVec 32 := Scalar.muli v34 c128_i32_14
  let v36 : BitVec 32 := v35
  let v53 : Index := Scalar.indexCast v36
  let c0_27 : Index := 0#32
  ![0, v53.toNat, 0]
def k0_off2 (c0_i32_13 : BitVec 32) : Fin 2 → Nat :=
  let c0_i32_12 : BitVec 32 := 0#32
  let c16_i32 : BitVec 32 := 16#32
  let v33 : BitVec 32 := Scalar.muli c0_i32_12 c16_i32
  let v34 : BitVec 32 := Scalar.addi v33 c0_i32_13
  let c128_i32_14 : BitVec 32 := 128#32
  let v35 : BitVec 32 := Scalar.muli v34 c128_i32_14
  let v36 : BitVec 32 := v35
  let v56 : Index := Scalar.indexCast v36
  let c0_28 : Index := 0#32
  ![v56.toNat, 0]
def k0_off3 (c0_i32_13 : BitVec 32) : Fin 3 → Nat :=
  let c0_31 : Index := 0#32
  let c0_i32_12 : BitVec 32 := 0#32
  let c16_i32 : BitVec 32 := 16#32
  let v33 : BitVec 32 := Scalar.muli c0_i32_12 c16_i32
  let v34 : BitVec 32 := Scalar.addi v33 c0_i32_13
  let c1_i32 : BitVec 32 := 1#32
  let v37 : BitVec 32 := Scalar.subi v34 c1_i32
  let c0_i32_15 : BitVec 32 := 0#32
  let v38 : BitVec 32 := Scalar.maxsi v37 c0_i32_15
  let c128_i32_16 : BitVec 32 := 128#32
  let v39 : BitVec 32 := Scalar.muli v38 c128_i32_16
  let v40 : BitVec 32 := v39
  let v63 : Index := Scalar.indexCast v40
  let c0_32 : Index := 0#32
  ![0, v63.toNat, 0]
def k0_mult3 : BitVec 32 :=
  let c0_i32_12 : BitVec 32 := 0#32
  let c16_i32 : BitVec 32 := 16#32
  let v33 : BitVec 32 := Scalar.muli c0_i32_12 c16_i32
  let c0_i32_13 : BitVec 32 := 0#32
  let v34 : BitVec 32 := Scalar.addi v33 c0_i32_13
  let c0_i32_49 : BitVec 32 := 0#32
  let v114 : BitVec 1 := Scalar.cmpi .eq v34 c0_i32_49
  let c16_i32_51 : BitVec 32 := 16#32
  let c1_i32_50 : BitVec 32 := 1#32
  let v115 : BitVec 32 := Scalar.subi v34 c1_i32_50
  let v116 : BitVec 32 := Scalar.select v114 c16_i32_51 v115
  let c128_i32_52 : BitVec 32 := 128#32
  let v117 : BitVec 32 := Scalar.muli v116 c128_i32_52
  v117
def k0_off4 (c0_i32_13 : BitVec 32) : Fin 2 → Nat :=
  let c0_i32_12 : BitVec 32 := 0#32
  let c16_i32 : BitVec 32 := 16#32
  let v33 : BitVec 32 := Scalar.muli c0_i32_12 c16_i32
  let v34 : BitVec 32 := Scalar.addi v33 c0_i32_13
  let c0_i32_49 : BitVec 32 := 0#32
  let v114 : BitVec 1 := Scalar.cmpi .eq v34 c0_i32_49
  let c16_i32_51 : BitVec 32 := 16#32
  let c1_i32_50 : BitVec 32 := 1#32
  let v115 : BitVec 32 := Scalar.subi v34 c1_i32_50
  let v116 : BitVec 32 := Scalar.select v114 c16_i32_51 v115
  let c128_i32_52 : BitVec 32 := 128#32
  let v117 : BitVec 32 := Scalar.muli v116 c128_i32_52
  let v118 : BitVec 32 := v117
  let v121 : Index := Scalar.indexCast v118
  let c0_53 : Index := 0#32
  ![v121.toNat, 0]
def k0_mult4 : BitVec 32 :=
  let c0_i32_12 : BitVec 32 := 0#32
  let c16_i32_55 : BitVec 32 := 16#32
  let v133 : BitVec 32 := Scalar.muli c0_i32_12 c16_i32_55
  let c1_i32_56 : BitVec 32 := 1#32
  let v134 : BitVec 32 := Scalar.addi v133 c1_i32_56
  let c128_i32_57 : BitVec 32 := 128#32
  let v135 : BitVec 32 := Scalar.muli v134 c128_i32_57
  v135
def k0_mult5 : BitVec 32 :=
  let c0_i32_12 : BitVec 32 := 0#32
  let c16_i32_55 : BitVec 32 := 16#32
  let v133 : BitVec 32 := Scalar.muli c0_i32_12 c16_i32_55
  let c1_i32_56 : BitVec 32 := 1#32
  let v134 : BitVec 32 := Scalar.addi v133 c1_i32_56
  let c1_i32_58 : BitVec 32 := 1#32
  let v137 : BitVec 32 := Scalar.subi v134 c1_i32_58
  let c0_i32_59 : BitVec 32 := 0#32
  let v138 : BitVec 32 := Scalar.maxsi v137 c0_i32_59
  let c128_i32_60 : BitVec 32 := 128#32
  let v139 : BitVec 32 := Scalar.muli v138 c128_i32_60
  v139
def k0_mult6 : BitVec 32 :=
  let c0_i32_12 : BitVec 32 := 0#32
  let c16_i32_55 : BitVec 32 := 16#32
  let v133 : BitVec 32 := Scalar.muli c0_i32_12 c16_i32_55
  let c1_i32_56 : BitVec 32 := 1#32
  let v134 : BitVec 32 := Scalar.addi v133 c1_i32_56
  let c0_i32_93 : BitVec 32 := 0#32
  let v214 : BitVec 1 := Scalar.cmpi .eq v134 c0_i32_93
  let c16_i32_95 : BitVec 32 := 16#32
  let c1_i32_94 : BitVec 32 := 1#32
  let v215 : BitVec 32 := Scalar.subi v134 c1_i32_94
  let v216 : BitVec 32 := Scalar.select v214 c16_i32_95 v215
  let c128_i32_96 : BitVec 32 := 128#32
  let v217 : BitVec 32 := Scalar.muli v216 c128_i32_96
  v217
def k0_mult7 : BitVec 32 :=
  let c0_i32_12 : BitVec 32 := 0#32
  let c16_i32_99 : BitVec 32 := 16#32
  let v233 : BitVec 32 := Scalar.muli c0_i32_12 c16_i32_99
  let c2_i32 : BitVec 32 := 2#32
  let v234 : BitVec 32 := Scalar.addi v233 c2_i32
  let c128_i32_100 : BitVec 32 := 128#32
  let v235 : BitVec 32 := Scalar.muli v234 c128_i32_100
  v235
def k0_mult8 : BitVec 32 :=
  let c0_i32_12 : BitVec 32 := 0#32
  let c16_i32_99 : BitVec 32 := 16#32
  let v233 : BitVec 32 := Scalar.muli c0_i32_12 c16_i32_99
  let c2_i32 : BitVec 32 := 2#32
  let v234 : BitVec 32 := Scalar.addi v233 c2_i32
  let c1_i32_101 : BitVec 32 := 1#32
  let v237 : BitVec 32 := Scalar.subi v234 c1_i32_101
  let c0_i32_102 : BitVec 32 := 0#32
  let v238 : BitVec 32 := Scalar.maxsi v237 c0_i32_102
  let c128_i32_103 : BitVec 32 := 128#32
  let v239 : BitVec 32 := Scalar.muli v238 c128_i32_103
  v239
def k0_mult9 : BitVec 32 :=
  let c0_i32_12 : BitVec 32 := 0#32
  let c16_i32_99 : BitVec 32 := 16#32
  let v233 : BitVec 32 := Scalar.muli c0_i32_12 c16_i32_99
  let c2_i32 : BitVec 32 := 2#32
  let v234 : BitVec 32 := Scalar.addi v233 c2_i32
  let c0_i32_136 : BitVec 32 := 0#32
  let v314 : BitVec 1 := Scalar.cmpi .eq v234 c0_i32_136
  let c16_i32_138 : BitVec 32 := 16#32
  let c1_i32_137 : BitVec 32 := 1#32
  let v315 : BitVec 32 := Scalar.subi v234 c1_i32_137
  let v316 : BitVec 32 := Scalar.select v314 c16_i32_138 v315
  let c128_i32_139 : BitVec 32 := 128#32
  let v317 : BitVec 32 := Scalar.muli v316 c128_i32_139
  v317
def k0_mult10 : BitVec 32 :=
  let c0_i32_12 : BitVec 32 := 0#32
  let c16_i32_142 : BitVec 32 := 16#32
  let v333 : BitVec 32 := Scalar.muli c0_i32_12 c16_i32_142
  let c3_i32 : BitVec 32 := 3#32
  let v334 : BitVec 32 := Scalar.addi v333 c3_i32
  let c128_i32_143 : BitVec 32 := 128#32
  let v335 : BitVec 32 := Scalar.muli v334 c128_i32_143
  v335
def k0_mult11 : BitVec 32 :=
  let c0_i32_12 : BitVec 32 := 0#32
  let c16_i32_142 : BitVec 32 := 16#32
  let v333 : BitVec 32 := Scalar.muli c0_i32_12 c16_i32_142
  let c3_i32 : BitVec 32 := 3#32
  let v334 : BitVec 32 := Scalar.addi v333 c3_i32
  let c1_i32_144 : BitVec 32 := 1#32
  let v337 : BitVec 32 := Scalar.subi v334 c1_i32_144
  let c0_i32_145 : BitVec 32 := 0#32
  let v338 : BitVec 32 := Scalar.maxsi v337 c0_i32_145
  let c128_i32_146 : BitVec 32 := 128#32
  let v339 : BitVec 32 := Scalar.muli v338 c128_i32_146
  v339
def k0_mult12 : BitVec 32 :=
  let c0_i32_12 : BitVec 32 := 0#32
  let c16_i32_142 : BitVec 32 := 16#32
  let v333 : BitVec 32 := Scalar.muli c0_i32_12 c16_i32_142
  let c3_i32 : BitVec 32 := 3#32
  let v334 : BitVec 32 := Scalar.addi v333 c3_i32
  let c0_i32_179 : BitVec 32 := 0#32
  let v414 : BitVec 1 := Scalar.cmpi .eq v334 c0_i32_179
  let c16_i32_181 : BitVec 32 := 16#32
  let c1_i32_180 : BitVec 32 := 1#32
  let v415 : BitVec 32 := Scalar.subi v334 c1_i32_180
  let v416 : BitVec 32 := Scalar.select v414 c16_i32_181 v415
  let c128_i32_182 : BitVec 32 := 128#32
  let v417 : BitVec 32 := Scalar.muli v416 c128_i32_182
  v417
def k0_mult13 : BitVec 32 :=
  let c0_i32_12 : BitVec 32 := 0#32
  let c16_i32_185 : BitVec 32 := 16#32
  let v433 : BitVec 32 := Scalar.muli c0_i32_12 c16_i32_185
  let c4_i32 : BitVec 32 := 4#32
  let v434 : BitVec 32 := Scalar.addi v433 c4_i32
  let c128_i32_186 : BitVec 32 := 128#32
  let v435 : BitVec 32 := Scalar.muli v434 c128_i32_186
  v435
def k0_mult14 : BitVec 32 :=
  let c0_i32_12 : BitVec 32 := 0#32
  let c16_i32_185 : BitVec 32 := 16#32
  let v433 : BitVec 32 := Scalar.muli c0_i32_12 c16_i32_185
  let c4_i32 : BitVec 32 := 4#32
  let v434 : BitVec 32 := Scalar.addi v433 c4_i32
  let c1_i32_187 : BitVec 32 := 1#32
  let v437 : BitVec 32 := Scalar.subi v434 c1_i32_187
  let c0_i32_188 : BitVec 32 := 0#32
  let v438 : BitVec 32 := Scalar.maxsi v437 c0_i32_188
  let c128_i32_189 : BitVec 32 := 128#32
  let v439 : BitVec 32 := Scalar.muli v438 c128_i32_189
  v439
def k0_mult15 : BitVec 32 :=
  let c0_i32_12 : BitVec 32 := 0#32
  let c16_i32_185 : BitVec 32 := 16#32
  let v433 : BitVec 32 := Scalar.muli c0_i32_12 c16_i32_185
  let c4_i32 : BitVec 32 := 4#32
  let v434 : BitVec 32 := Scalar.addi v433 c4_i32
  let c0_i32_222 : BitVec 32 := 0#32
  let v514 : BitVec 1 := Scalar.cmpi .eq v434 c0_i32_222
  let c16_i32_224 : BitVec 32 := 16#32
  let c1_i32_223 : BitVec 32 := 1#32
  let v515 : BitVec 32 := Scalar.subi v434 c1_i32_223
  let v516 : BitVec 32 := Scalar.select v514 c16_i32_224 v515
  let c128_i32_225 : BitVec 32 := 128#32
  let v517 : BitVec 32 := Scalar.muli v516 c128_i32_225
  v517
def k0_mult16 : BitVec 32 :=
  let c0_i32_12 : BitVec 32 := 0#32
  let c16_i32_228 : BitVec 32 := 16#32
  let v533 : BitVec 32 := Scalar.muli c0_i32_12 c16_i32_228
  let c5_i32 : BitVec 32 := 5#32
  let v534 : BitVec 32 := Scalar.addi v533 c5_i32
  let c128_i32_229 : BitVec 32 := 128#32
  let v535 : BitVec 32 := Scalar.muli v534 c128_i32_229
  v535
def k0_mult17 : BitVec 32 :=
  let c0_i32_12 : BitVec 32 := 0#32
  let c16_i32_228 : BitVec 32 := 16#32
  let v533 : BitVec 32 := Scalar.muli c0_i32_12 c16_i32_228
  let c5_i32 : BitVec 32 := 5#32
  let v534 : BitVec 32 := Scalar.addi v533 c5_i32
  let c1_i32_230 : BitVec 32 := 1#32
  let v537 : BitVec 32 := Scalar.subi v534 c1_i32_230
  let c0_i32_231 : BitVec 32 := 0#32
  let v538 : BitVec 32 := Scalar.maxsi v537 c0_i32_231
  let c128_i32_232 : BitVec 32 := 128#32
  let v539 : BitVec 32 := Scalar.muli v538 c128_i32_232
  v539
def k0_mult18 : BitVec 32 :=
  let c0_i32_12 : BitVec 32 := 0#32
  let c16_i32_228 : BitVec 32 := 16#32
  let v533 : BitVec 32 := Scalar.muli c0_i32_12 c16_i32_228
  let c5_i32 : BitVec 32 := 5#32
  let v534 : BitVec 32 := Scalar.addi v533 c5_i32
  let c0_i32_265 : BitVec 32 := 0#32
  let v614 : BitVec 1 := Scalar.cmpi .eq v534 c0_i32_265
  let c16_i32_267 : BitVec 32 := 16#32
  let c1_i32_266 : BitVec 32 := 1#32
  let v615 : BitVec 32 := Scalar.subi v534 c1_i32_266
  let v616 : BitVec 32 := Scalar.select v614 c16_i32_267 v615
  let c128_i32_268 : BitVec 32 := 128#32
  let v617 : BitVec 32 := Scalar.muli v616 c128_i32_268
  v617
def k0_mult19 : BitVec 32 :=
  let c0_i32_12 : BitVec 32 := 0#32
  let c16_i32_271 : BitVec 32 := 16#32
  let v633 : BitVec 32 := Scalar.muli c0_i32_12 c16_i32_271
  let c6_i32 : BitVec 32 := 6#32
  let v634 : BitVec 32 := Scalar.addi v633 c6_i32
  let c128_i32_272 : BitVec 32 := 128#32
  let v635 : BitVec 32 := Scalar.muli v634 c128_i32_272
  v635
def k0_mult20 : BitVec 32 :=
  let c0_i32_12 : BitVec 32 := 0#32
  let c16_i32_271 : BitVec 32 := 16#32
  let v633 : BitVec 32 := Scalar.muli c0_i32_12 c16_i32_271
  let c6_i32 : BitVec 32 := 6#32
  let v634 : BitVec 32 := Scalar.addi v633 c6_i32
  let c1_i32_273 : BitVec 32 := 1#32
  let v637 : BitVec 32 := Scalar.subi v634 c1_i32_273
  let c0_i32_274 : BitVec 32 := 0#32
  let v638 : BitVec 32 := Scalar.maxsi v637 c0_i32_274
  let c128_i32_275 : BitVec 32 := 128#32
  let v639 : BitVec 32 := Scalar.muli v638 c128_i32_275
  v639
def k0_mult21 : BitVec 32 :=
  let c0_i32_12 : BitVec 32 := 0#32
  let c16_i32_271 : BitVec 32 := 16#32
  let v633 : BitVec 32 := Scalar.muli c0_i32_12 c16_i32_271
  let c6_i32 : BitVec 32 := 6#32
  let v634 : BitVec 32 := Scalar.addi v633 c6_i32
  let c0_i32_308 : BitVec 32 := 0#32
  let v714 : BitVec 1 := Scalar.cmpi .eq v634 c0_i32_308
  let c16_i32_310 : BitVec 32 := 16#32
  let c1_i32_309 : BitVec 32 := 1#32
  let v715 : BitVec 32 := Scalar.subi v634 c1_i32_309
  let v716 : BitVec 32 := Scalar.select v714 c16_i32_310 v715
  let c128_i32_311 : BitVec 32 := 128#32
  let v717 : BitVec 32 := Scalar.muli v716 c128_i32_311
  v717
def k0_mult22 : BitVec 32 :=
  let c0_i32_12 : BitVec 32 := 0#32
  let c16_i32_314 : BitVec 32 := 16#32
  let v733 : BitVec 32 := Scalar.muli c0_i32_12 c16_i32_314
  let c7_i32 : BitVec 32 := 7#32
  let v734 : BitVec 32 := Scalar.addi v733 c7_i32
  let c128_i32_315 : BitVec 32 := 128#32
  let v735 : BitVec 32 := Scalar.muli v734 c128_i32_315
  v735
def k0_mult23 : BitVec 32 :=
  let c0_i32_12 : BitVec 32 := 0#32
  let c16_i32_314 : BitVec 32 := 16#32
  let v733 : BitVec 32 := Scalar.muli c0_i32_12 c16_i32_314
  let c7_i32 : BitVec 32 := 7#32
  let v734 : BitVec 32 := Scalar.addi v733 c7_i32
  let c1_i32_316 : BitVec 32 := 1#32
  let v737 : BitVec 32 := Scalar.subi v734 c1_i32_316
  let c0_i32_317 : BitVec 32 := 0#32
  let v738 : BitVec 32 := Scalar.maxsi v737 c0_i32_317
  let c128_i32_318 : BitVec 32 := 128#32
  let v739 : BitVec 32 := Scalar.muli v738 c128_i32_318
  v739
def k0_mult24 : BitVec 32 :=
  let c0_i32_12 : BitVec 32 := 0#32
  let c16_i32_314 : BitVec 32 := 16#32
  let v733 : BitVec 32 := Scalar.muli c0_i32_12 c16_i32_314
  let c7_i32 : BitVec 32 := 7#32
  let v734 : BitVec 32 := Scalar.addi v733 c7_i32
  let c0_i32_351 : BitVec 32 := 0#32
  let v814 : BitVec 1 := Scalar.cmpi .eq v734 c0_i32_351
  let c16_i32_353 : BitVec 32 := 16#32
  let c1_i32_352 : BitVec 32 := 1#32
  let v815 : BitVec 32 := Scalar.subi v734 c1_i32_352
  let v816 : BitVec 32 := Scalar.select v814 c16_i32_353 v815
  let c128_i32_354 : BitVec 32 := 128#32
  let v817 : BitVec 32 := Scalar.muli v816 c128_i32_354
  v817
def k0_mult25 : BitVec 32 :=
  let c0_i32_12 : BitVec 32 := 0#32
  let c16_i32_357 : BitVec 32 := 16#32
  let v833 : BitVec 32 := Scalar.muli c0_i32_12 c16_i32_357
  let c8_i32 : BitVec 32 := 8#32
  let v834 : BitVec 32 := Scalar.addi v833 c8_i32
  let c128_i32_358 : BitVec 32 := 128#32
  let v835 : BitVec 32 := Scalar.muli v834 c128_i32_358
  v835
def k0_mult26 : BitVec 32 :=
  let c0_i32_12 : BitVec 32 := 0#32
  let c16_i32_357 : BitVec 32 := 16#32
  let v833 : BitVec 32 := Scalar.muli c0_i32_12 c16_i32_357
  let c8_i32 : BitVec 32 := 8#32
  let v834 : BitVec 32 := Scalar.addi v833 c8_i32
  let c1_i32_359 : BitVec 32 := 1#32
  let v837 : BitVec 32 := Scalar.subi v834 c1_i32_359
  let c0_i32_360 : BitVec 32 := 0#32
  let v838 : BitVec 32 := Scalar.maxsi v837 c0_i32_360
  let c128_i32_361 : BitVec 32 := 128#32
  let v839 : BitVec 32 := Scalar.muli v838 c128_i32_361
  v839
def k0_mult27 : BitVec 32 :=
  let c0_i32_12 : BitVec 32 := 0#32
  let c16_i32_357 : BitVec 32 := 16#32
  let v833 : BitVec 32 := Scalar.muli c0_i32_12 c16_i32_357
  let c8_i32 : BitVec 32 := 8#32
  let v834 : BitVec 32 := Scalar.addi v833 c8_i32
  let c0_i32_394 : BitVec 32 := 0#32
  let v914 : BitVec 1 := Scalar.cmpi .eq v834 c0_i32_394
  let c16_i32_396 : BitVec 32 := 16#32
  let c1_i32_395 : BitVec 32 := 1#32
  let v915 : BitVec 32 := Scalar.subi v834 c1_i32_395
  let v916 : BitVec 32 := Scalar.select v914 c16_i32_396 v915
  let c128_i32_397 : BitVec 32 := 128#32
  let v917 : BitVec 32 := Scalar.muli v916 c128_i32_397
  v917
def k0_mult28 : BitVec 32 :=
  let c0_i32_12 : BitVec 32 := 0#32
  let c16_i32_400 : BitVec 32 := 16#32
  let v933 : BitVec 32 := Scalar.muli c0_i32_12 c16_i32_400
  let c9_i32 : BitVec 32 := 9#32
  let v934 : BitVec 32 := Scalar.addi v933 c9_i32
  let c128_i32_401 : BitVec 32 := 128#32
  let v935 : BitVec 32 := Scalar.muli v934 c128_i32_401
  v935
def k0_mult29 : BitVec 32 :=
  let c0_i32_12 : BitVec 32 := 0#32
  let c16_i32_400 : BitVec 32 := 16#32
  let v933 : BitVec 32 := Scalar.muli c0_i32_12 c16_i32_400
  let c9_i32 : BitVec 32 := 9#32
  let v934 : BitVec 32 := Scalar.addi v933 c9_i32
  let c1_i32_402 : BitVec 32 := 1#32
  let v937 : BitVec 32 := Scalar.subi v934 c1_i32_402
  let c0_i32_403 : BitVec 32 := 0#32
  let v938 : BitVec 32 := Scalar.maxsi v937 c0_i32_403
  let c128_i32_404 : BitVec 32 := 128#32
  let v939 : BitVec 32 := Scalar.muli v938 c128_i32_404
  v939
def k0_mult30 : BitVec 32 :=
  let c0_i32_12 : BitVec 32 := 0#32
  let c16_i32_400 : BitVec 32 := 16#32
  let v933 : BitVec 32 := Scalar.muli c0_i32_12 c16_i32_400
  let c9_i32 : BitVec 32 := 9#32
  let v934 : BitVec 32 := Scalar.addi v933 c9_i32
  let c0_i32_437 : BitVec 32 := 0#32
  let v1014 : BitVec 1 := Scalar.cmpi .eq v934 c0_i32_437
  let c16_i32_439 : BitVec 32 := 16#32
  let c1_i32_438 : BitVec 32 := 1#32
  let v1015 : BitVec 32 := Scalar.subi v934 c1_i32_438
  let v1016 : BitVec 32 := Scalar.select v1014 c16_i32_439 v1015
  let c128_i32_440 : BitVec 32 := 128#32
  let v1017 : BitVec 32 := Scalar.muli v1016 c128_i32_440
  v1017
def k0_mult31 : BitVec 32 :=
  let c0_i32_12 : BitVec 32 := 0#32
  let c16_i32_443 : BitVec 32 := 16#32
  let v1033 : BitVec 32 := Scalar.muli c0_i32_12 c16_i32_443
  let c10_i32 : BitVec 32 := 10#32
  let v1034 : BitVec 32 := Scalar.addi v1033 c10_i32
  let c128_i32_444 : BitVec 32 := 128#32
  let v1035 : BitVec 32 := Scalar.muli v1034 c128_i32_444
  v1035
def k0_mult32 : BitVec 32 :=
  let c0_i32_12 : BitVec 32 := 0#32
  let c16_i32_443 : BitVec 32 := 16#32
  let v1033 : BitVec 32 := Scalar.muli c0_i32_12 c16_i32_443
  let c10_i32 : BitVec 32 := 10#32
  let v1034 : BitVec 32 := Scalar.addi v1033 c10_i32
  let c1_i32_445 : BitVec 32 := 1#32
  let v1037 : BitVec 32 := Scalar.subi v1034 c1_i32_445
  let c0_i32_446 : BitVec 32 := 0#32
  let v1038 : BitVec 32 := Scalar.maxsi v1037 c0_i32_446
  let c128_i32_447 : BitVec 32 := 128#32
  let v1039 : BitVec 32 := Scalar.muli v1038 c128_i32_447
  v1039
def k0_mult33 : BitVec 32 :=
  let c0_i32_12 : BitVec 32 := 0#32
  let c16_i32_443 : BitVec 32 := 16#32
  let v1033 : BitVec 32 := Scalar.muli c0_i32_12 c16_i32_443
  let c10_i32 : BitVec 32 := 10#32
  let v1034 : BitVec 32 := Scalar.addi v1033 c10_i32
  let c0_i32_480 : BitVec 32 := 0#32
  let v1114 : BitVec 1 := Scalar.cmpi .eq v1034 c0_i32_480
  let c16_i32_482 : BitVec 32 := 16#32
  let c1_i32_481 : BitVec 32 := 1#32
  let v1115 : BitVec 32 := Scalar.subi v1034 c1_i32_481
  let v1116 : BitVec 32 := Scalar.select v1114 c16_i32_482 v1115
  let c128_i32_483 : BitVec 32 := 128#32
  let v1117 : BitVec 32 := Scalar.muli v1116 c128_i32_483
  v1117
def k0_mult34 : BitVec 32 :=
  let c0_i32_12 : BitVec 32 := 0#32
  let c16_i32_486 : BitVec 32 := 16#32
  let v1133 : BitVec 32 := Scalar.muli c0_i32_12 c16_i32_486
  let c11_i32 : BitVec 32 := 11#32
  let v1134 : BitVec 32 := Scalar.addi v1133 c11_i32
  let c128_i32_487 : BitVec 32 := 128#32
  let v1135 : BitVec 32 := Scalar.muli v1134 c128_i32_487
  v1135
def k0_mult35 : BitVec 32 :=
  let c0_i32_12 : BitVec 32 := 0#32
  let c16_i32_486 : BitVec 32 := 16#32
  let v1133 : BitVec 32 := Scalar.muli c0_i32_12 c16_i32_486
  let c11_i32 : BitVec 32 := 11#32
  let v1134 : BitVec 32 := Scalar.addi v1133 c11_i32
  let c1_i32_488 : BitVec 32 := 1#32
  let v1137 : BitVec 32 := Scalar.subi v1134 c1_i32_488
  let c0_i32_489 : BitVec 32 := 0#32
  let v1138 : BitVec 32 := Scalar.maxsi v1137 c0_i32_489
  let c128_i32_490 : BitVec 32 := 128#32
  let v1139 : BitVec 32 := Scalar.muli v1138 c128_i32_490
  v1139
def k0_mult36 : BitVec 32 :=
  let c0_i32_12 : BitVec 32 := 0#32
  let c16_i32_486 : BitVec 32 := 16#32
  let v1133 : BitVec 32 := Scalar.muli c0_i32_12 c16_i32_486
  let c11_i32 : BitVec 32 := 11#32
  let v1134 : BitVec 32 := Scalar.addi v1133 c11_i32
  let c0_i32_523 : BitVec 32 := 0#32
  let v1214 : BitVec 1 := Scalar.cmpi .eq v1134 c0_i32_523
  let c16_i32_525 : BitVec 32 := 16#32
  let c1_i32_524 : BitVec 32 := 1#32
  let v1215 : BitVec 32 := Scalar.subi v1134 c1_i32_524
  let v1216 : BitVec 32 := Scalar.select v1214 c16_i32_525 v1215
  let c128_i32_526 : BitVec 32 := 128#32
  let v1217 : BitVec 32 := Scalar.muli v1216 c128_i32_526
  v1217
def k0_mult37 : BitVec 32 :=
  let c0_i32_12 : BitVec 32 := 0#32
  let c16_i32_529 : BitVec 32 := 16#32
  let v1233 : BitVec 32 := Scalar.muli c0_i32_12 c16_i32_529
  let c12_i32 : BitVec 32 := 12#32
  let v1234 : BitVec 32 := Scalar.addi v1233 c12_i32
  let c128_i32_530 : BitVec 32 := 128#32
  let v1235 : BitVec 32 := Scalar.muli v1234 c128_i32_530
  v1235
def k0_mult38 : BitVec 32 :=
  let c0_i32_12 : BitVec 32 := 0#32
  let c16_i32_529 : BitVec 32 := 16#32
  let v1233 : BitVec 32 := Scalar.muli c0_i32_12 c16_i32_529
  let c12_i32 : BitVec 32 := 12#32
  let v1234 : BitVec 32 := Scalar.addi v1233 c12_i32
  let c1_i32_531 : BitVec 32 := 1#32
  let v1237 : BitVec 32 := Scalar.subi v1234 c1_i32_531
  let c0_i32_532 : BitVec 32 := 0#32
  let v1238 : BitVec 32 := Scalar.maxsi v1237 c0_i32_532
  let c128_i32_533 : BitVec 32 := 128#32
  let v1239 : BitVec 32 := Scalar.muli v1238 c128_i32_533
  v1239
def k0_mult39 : BitVec 32 :=
  let c0_i32_12 : BitVec 32 := 0#32
  let c16_i32_529 : BitVec 32 := 16#32
  let v1233 : BitVec 32 := Scalar.muli c0_i32_12 c16_i32_529
  let c12_i32 : BitVec 32 := 12#32
  let v1234 : BitVec 32 := Scalar.addi v1233 c12_i32
  let c0_i32_566 : BitVec 32 := 0#32
  let v1314 : BitVec 1 := Scalar.cmpi .eq v1234 c0_i32_566
  let c16_i32_568 : BitVec 32 := 16#32
  let c1_i32_567 : BitVec 32 := 1#32
  let v1315 : BitVec 32 := Scalar.subi v1234 c1_i32_567
  let v1316 : BitVec 32 := Scalar.select v1314 c16_i32_568 v1315
  let c128_i32_569 : BitVec 32 := 128#32
  let v1317 : BitVec 32 := Scalar.muli v1316 c128_i32_569
  v1317
def k0_mult40 : BitVec 32 :=
  let c0_i32_12 : BitVec 32 := 0#32
  let c16_i32_572 : BitVec 32 := 16#32
  let v1333 : BitVec 32 := Scalar.muli c0_i32_12 c16_i32_572
  let c13_i32 : BitVec 32 := 13#32
  let v1334 : BitVec 32 := Scalar.addi v1333 c13_i32
  let c128_i32_573 : BitVec 32 := 128#32
  let v1335 : BitVec 32 := Scalar.muli v1334 c128_i32_573
  v1335
def k0_mult41 : BitVec 32 :=
  let c0_i32_12 : BitVec 32 := 0#32
  let c16_i32_572 : BitVec 32 := 16#32
  let v1333 : BitVec 32 := Scalar.muli c0_i32_12 c16_i32_572
  let c13_i32 : BitVec 32 := 13#32
  let v1334 : BitVec 32 := Scalar.addi v1333 c13_i32
  let c1_i32_574 : BitVec 32 := 1#32
  let v1337 : BitVec 32 := Scalar.subi v1334 c1_i32_574
  let c0_i32_575 : BitVec 32 := 0#32
  let v1338 : BitVec 32 := Scalar.maxsi v1337 c0_i32_575
  let c128_i32_576 : BitVec 32 := 128#32
  let v1339 : BitVec 32 := Scalar.muli v1338 c128_i32_576
  v1339
def k0_mult42 : BitVec 32 :=
  let c0_i32_12 : BitVec 32 := 0#32
  let c16_i32_572 : BitVec 32 := 16#32
  let v1333 : BitVec 32 := Scalar.muli c0_i32_12 c16_i32_572
  let c13_i32 : BitVec 32 := 13#32
  let v1334 : BitVec 32 := Scalar.addi v1333 c13_i32
  let c0_i32_609 : BitVec 32 := 0#32
  let v1414 : BitVec 1 := Scalar.cmpi .eq v1334 c0_i32_609
  let c16_i32_611 : BitVec 32 := 16#32
  let c1_i32_610 : BitVec 32 := 1#32
  let v1415 : BitVec 32 := Scalar.subi v1334 c1_i32_610
  let v1416 : BitVec 32 := Scalar.select v1414 c16_i32_611 v1415
  let c128_i32_612 : BitVec 32 := 128#32
  let v1417 : BitVec 32 := Scalar.muli v1416 c128_i32_612
  v1417
def k0_mult43 : BitVec 32 :=
  let c0_i32_12 : BitVec 32 := 0#32
  let c16_i32_615 : BitVec 32 := 16#32
  let v1433 : BitVec 32 := Scalar.muli c0_i32_12 c16_i32_615
  let c14_i32 : BitVec 32 := 14#32
  let v1434 : BitVec 32 := Scalar.addi v1433 c14_i32
  let c128_i32_616 : BitVec 32 := 128#32
  let v1435 : BitVec 32 := Scalar.muli v1434 c128_i32_616
  v1435
def k0_mult44 : BitVec 32 :=
  let c0_i32_12 : BitVec 32 := 0#32
  let c16_i32_615 : BitVec 32 := 16#32
  let v1433 : BitVec 32 := Scalar.muli c0_i32_12 c16_i32_615
  let c14_i32 : BitVec 32 := 14#32
  let v1434 : BitVec 32 := Scalar.addi v1433 c14_i32
  let c1_i32_617 : BitVec 32 := 1#32
  let v1437 : BitVec 32 := Scalar.subi v1434 c1_i32_617
  let c0_i32_618 : BitVec 32 := 0#32
  let v1438 : BitVec 32 := Scalar.maxsi v1437 c0_i32_618
  let c128_i32_619 : BitVec 32 := 128#32
  let v1439 : BitVec 32 := Scalar.muli v1438 c128_i32_619
  v1439
def k0_mult45 : BitVec 32 :=
  let c0_i32_12 : BitVec 32 := 0#32
  let c16_i32_615 : BitVec 32 := 16#32
  let v1433 : BitVec 32 := Scalar.muli c0_i32_12 c16_i32_615
  let c14_i32 : BitVec 32 := 14#32
  let v1434 : BitVec 32 := Scalar.addi v1433 c14_i32
  let c0_i32_652 : BitVec 32 := 0#32
  let v1514 : BitVec 1 := Scalar.cmpi .eq v1434 c0_i32_652
  let c16_i32_654 : BitVec 32 := 16#32
  let c1_i32_653 : BitVec 32 := 1#32
  let v1515 : BitVec 32 := Scalar.subi v1434 c1_i32_653
  let v1516 : BitVec 32 := Scalar.select v1514 c16_i32_654 v1515
  let c128_i32_655 : BitVec 32 := 128#32
  let v1517 : BitVec 32 := Scalar.muli v1516 c128_i32_655
  v1517
def k0_mult46 : BitVec 32 :=
  let c0_i32_12 : BitVec 32 := 0#32
  let c16_i32_658 : BitVec 32 := 16#32
  let v1533 : BitVec 32 := Scalar.muli c0_i32_12 c16_i32_658
  let c15_i32 : BitVec 32 := 15#32
  let v1534 : BitVec 32 := Scalar.addi v1533 c15_i32
  let c128_i32_659 : BitVec 32 := 128#32
  let v1535 : BitVec 32 := Scalar.muli v1534 c128_i32_659
  v1535
def k0_mult47 : BitVec 32 :=
  let c0_i32_12 : BitVec 32 := 0#32
  let c16_i32_658 : BitVec 32 := 16#32
  let v1533 : BitVec 32 := Scalar.muli c0_i32_12 c16_i32_658
  let c15_i32 : BitVec 32 := 15#32
  let v1534 : BitVec 32 := Scalar.addi v1533 c15_i32
  let c1_i32_660 : BitVec 32 := 1#32
  let v1537 : BitVec 32 := Scalar.subi v1534 c1_i32_660
  let c0_i32_661 : BitVec 32 := 0#32
  let v1538 : BitVec 32 := Scalar.maxsi v1537 c0_i32_661
  let c128_i32_662 : BitVec 32 := 128#32
  let v1539 : BitVec 32 := Scalar.muli v1538 c128_i32_662
  v1539
def k0_mult48 : BitVec 32 :=
  let c0_i32_12 : BitVec 32 := 0#32
  let c16_i32_658 : BitVec 32 := 16#32
  let v1533 : BitVec 32 := Scalar.muli c0_i32_12 c16_i32_658
  let c15_i32 : BitVec 32 := 15#32
  let v1534 : BitVec 32 := Scalar.addi v1533 c15_i32
  let c0_i32_695 : BitVec 32 := 0#32
  let v1614 : BitVec 1 := Scalar.cmpi .eq v1534 c0_i32_695
  let c16_i32_697 : BitVec 32 := 16#32
  let c1_i32_696 : BitVec 32 := 1#32
  let v1615 : BitVec 32 := Scalar.subi v1534 c1_i32_696
  let v1616 : BitVec 32 := Scalar.select v1614 c16_i32_697 v1615
  let c128_i32_698 : BitVec 32 := 128#32
  let v1617 : BitVec 32 := Scalar.muli v1616 c128_i32_698
  v1617
def k0_mult49 : BitVec 32 :=
  let c0_i32_813 : BitVec 32 := 0#32
  let c16_i32_814 : BitVec 32 := 16#32
  let v1785 : BitVec 32 := Scalar.muli c0_i32_813 c16_i32_814
  let c0_i32_815 : BitVec 32 := 0#32
  let v1786 : BitVec 32 := Scalar.addi v1785 c0_i32_815
  let c128_i32_816 : BitVec 32 := 128#32
  let v1787 : BitVec 32 := Scalar.muli v1786 c128_i32_816
  v1787
def k0_mult50 : BitVec 32 :=
  let c0_i32_813 : BitVec 32 := 0#32
  let c16_i32_814 : BitVec 32 := 16#32
  let v1785 : BitVec 32 := Scalar.muli c0_i32_813 c16_i32_814
  let c0_i32_815 : BitVec 32 := 0#32
  let v1786 : BitVec 32 := Scalar.addi v1785 c0_i32_815
  let c1_i32_817 : BitVec 32 := 1#32
  let v1789 : BitVec 32 := Scalar.subi v1786 c1_i32_817
  let c0_i32_818 : BitVec 32 := 0#32
  let v1790 : BitVec 32 := Scalar.maxsi v1789 c0_i32_818
  let c128_i32_819 : BitVec 32 := 128#32
  let v1791 : BitVec 32 := Scalar.muli v1790 c128_i32_819
  v1791
def k0_off5 (c0_i32_815 : BitVec 32) : Fin 2 → Nat :=
  let c0_i32_813 : BitVec 32 := 0#32
  let c16_i32_814 : BitVec 32 := 16#32
  let v1785 : BitVec 32 := Scalar.muli c0_i32_813 c16_i32_814
  let v1786 : BitVec 32 := Scalar.addi v1785 c0_i32_815
  let c1_i32_817 : BitVec 32 := 1#32
  let v1789 : BitVec 32 := Scalar.subi v1786 c1_i32_817
  let c0_i32_818 : BitVec 32 := 0#32
  let v1790 : BitVec 32 := Scalar.maxsi v1789 c0_i32_818
  let c128_i32_819 : BitVec 32 := 128#32
  let v1791 : BitVec 32 := Scalar.muli v1790 c128_i32_819
  let v1792 : BitVec 32 := v1791
  let v1813 : Index := Scalar.indexCast v1792
  let c0_833 : Index := 0#32
  ![v1813.toNat, 0]
def k0_mult51 : BitVec 32 :=
  let c0_i32_813 : BitVec 32 := 0#32
  let c16_i32_814 : BitVec 32 := 16#32
  let v1785 : BitVec 32 := Scalar.muli c0_i32_813 c16_i32_814
  let c0_i32_815 : BitVec 32 := 0#32
  let v1786 : BitVec 32 := Scalar.addi v1785 c0_i32_815
  let c0_i32_847 : BitVec 32 := 0#32
  let v1853 : BitVec 1 := Scalar.cmpi .eq v1786 c0_i32_847
  let c16_i32_849 : BitVec 32 := 16#32
  let c1_i32_848 : BitVec 32 := 1#32
  let v1854 : BitVec 32 := Scalar.subi v1786 c1_i32_848
  let v1855 : BitVec 32 := Scalar.select v1853 c16_i32_849 v1854
  let c128_i32_850 : BitVec 32 := 128#32
  let v1856 : BitVec 32 := Scalar.muli v1855 c128_i32_850
  v1856
def k0_mult52 : BitVec 32 :=
  let c0_i32_813 : BitVec 32 := 0#32
  let c16_i32_853 : BitVec 32 := 16#32
  let v1872 : BitVec 32 := Scalar.muli c0_i32_813 c16_i32_853
  let c1_i32_854 : BitVec 32 := 1#32
  let v1873 : BitVec 32 := Scalar.addi v1872 c1_i32_854
  let c128_i32_855 : BitVec 32 := 128#32
  let v1874 : BitVec 32 := Scalar.muli v1873 c128_i32_855
  v1874
def k0_mult53 : BitVec 32 :=
  let c0_i32_813 : BitVec 32 := 0#32
  let c16_i32_853 : BitVec 32 := 16#32
  let v1872 : BitVec 32 := Scalar.muli c0_i32_813 c16_i32_853
  let c1_i32_854 : BitVec 32 := 1#32
  let v1873 : BitVec 32 := Scalar.addi v1872 c1_i32_854
  let c1_i32_856 : BitVec 32 := 1#32
  let v1876 : BitVec 32 := Scalar.subi v1873 c1_i32_856
  let c0_i32_857 : BitVec 32 := 0#32
  let v1877 : BitVec 32 := Scalar.maxsi v1876 c0_i32_857
  let c128_i32_858 : BitVec 32 := 128#32
  let v1878 : BitVec 32 := Scalar.muli v1877 c128_i32_858
  v1878
def k0_mult54 : BitVec 32 :=
  let c0_i32_813 : BitVec 32 := 0#32
  let c16_i32_853 : BitVec 32 := 16#32
  let v1872 : BitVec 32 := Scalar.muli c0_i32_813 c16_i32_853
  let c1_i32_854 : BitVec 32 := 1#32
  let v1873 : BitVec 32 := Scalar.addi v1872 c1_i32_854
  let c0_i32_886 : BitVec 32 := 0#32
  let v1940 : BitVec 1 := Scalar.cmpi .eq v1873 c0_i32_886
  let c16_i32_888 : BitVec 32 := 16#32
  let c1_i32_887 : BitVec 32 := 1#32
  let v1941 : BitVec 32 := Scalar.subi v1873 c1_i32_887
  let v1942 : BitVec 32 := Scalar.select v1940 c16_i32_888 v1941
  let c128_i32_889 : BitVec 32 := 128#32
  let v1943 : BitVec 32 := Scalar.muli v1942 c128_i32_889
  v1943
def k0_mult55 : BitVec 32 :=
  let c0_i32_813 : BitVec 32 := 0#32
  let c16_i32_892 : BitVec 32 := 16#32
  let v1959 : BitVec 32 := Scalar.muli c0_i32_813 c16_i32_892
  let c2_i32_893 : BitVec 32 := 2#32
  let v1960 : BitVec 32 := Scalar.addi v1959 c2_i32_893
  let c128_i32_894 : BitVec 32 := 128#32
  let v1961 : BitVec 32 := Scalar.muli v1960 c128_i32_894
  v1961
def k0_mult56 : BitVec 32 :=
  let c0_i32_813 : BitVec 32 := 0#32
  let c16_i32_892 : BitVec 32 := 16#32
  let v1959 : BitVec 32 := Scalar.muli c0_i32_813 c16_i32_892
  let c2_i32_893 : BitVec 32 := 2#32
  let v1960 : BitVec 32 := Scalar.addi v1959 c2_i32_893
  let c1_i32_895 : BitVec 32 := 1#32
  let v1963 : BitVec 32 := Scalar.subi v1960 c1_i32_895
  let c0_i32_896 : BitVec 32 := 0#32
  let v1964 : BitVec 32 := Scalar.maxsi v1963 c0_i32_896
  let c128_i32_897 : BitVec 32 := 128#32
  let v1965 : BitVec 32 := Scalar.muli v1964 c128_i32_897
  v1965
def k0_mult57 : BitVec 32 :=
  let c0_i32_813 : BitVec 32 := 0#32
  let c16_i32_892 : BitVec 32 := 16#32
  let v1959 : BitVec 32 := Scalar.muli c0_i32_813 c16_i32_892
  let c2_i32_893 : BitVec 32 := 2#32
  let v1960 : BitVec 32 := Scalar.addi v1959 c2_i32_893
  let c0_i32_925 : BitVec 32 := 0#32
  let v2027 : BitVec 1 := Scalar.cmpi .eq v1960 c0_i32_925
  let c16_i32_927 : BitVec 32 := 16#32
  let c1_i32_926 : BitVec 32 := 1#32
  let v2028 : BitVec 32 := Scalar.subi v1960 c1_i32_926
  let v2029 : BitVec 32 := Scalar.select v2027 c16_i32_927 v2028
  let c128_i32_928 : BitVec 32 := 128#32
  let v2030 : BitVec 32 := Scalar.muli v2029 c128_i32_928
  v2030
def k0_mult58 : BitVec 32 :=
  let c0_i32_813 : BitVec 32 := 0#32
  let c16_i32_931 : BitVec 32 := 16#32
  let v2046 : BitVec 32 := Scalar.muli c0_i32_813 c16_i32_931
  let c3_i32_932 : BitVec 32 := 3#32
  let v2047 : BitVec 32 := Scalar.addi v2046 c3_i32_932
  let c128_i32_933 : BitVec 32 := 128#32
  let v2048 : BitVec 32 := Scalar.muli v2047 c128_i32_933
  v2048
def k0_mult59 : BitVec 32 :=
  let c0_i32_813 : BitVec 32 := 0#32
  let c16_i32_931 : BitVec 32 := 16#32
  let v2046 : BitVec 32 := Scalar.muli c0_i32_813 c16_i32_931
  let c3_i32_932 : BitVec 32 := 3#32
  let v2047 : BitVec 32 := Scalar.addi v2046 c3_i32_932
  let c1_i32_934 : BitVec 32 := 1#32
  let v2050 : BitVec 32 := Scalar.subi v2047 c1_i32_934
  let c0_i32_935 : BitVec 32 := 0#32
  let v2051 : BitVec 32 := Scalar.maxsi v2050 c0_i32_935
  let c128_i32_936 : BitVec 32 := 128#32
  let v2052 : BitVec 32 := Scalar.muli v2051 c128_i32_936
  v2052
def k0_mult60 : BitVec 32 :=
  let c0_i32_813 : BitVec 32 := 0#32
  let c16_i32_931 : BitVec 32 := 16#32
  let v2046 : BitVec 32 := Scalar.muli c0_i32_813 c16_i32_931
  let c3_i32_932 : BitVec 32 := 3#32
  let v2047 : BitVec 32 := Scalar.addi v2046 c3_i32_932
  let c0_i32_964 : BitVec 32 := 0#32
  let v2114 : BitVec 1 := Scalar.cmpi .eq v2047 c0_i32_964
  let c16_i32_966 : BitVec 32 := 16#32
  let c1_i32_965 : BitVec 32 := 1#32
  let v2115 : BitVec 32 := Scalar.subi v2047 c1_i32_965
  let v2116 : BitVec 32 := Scalar.select v2114 c16_i32_966 v2115
  let c128_i32_967 : BitVec 32 := 128#32
  let v2117 : BitVec 32 := Scalar.muli v2116 c128_i32_967
  v2117
def k0_mult61 : BitVec 32 :=
  let c0_i32_813 : BitVec 32 := 0#32
  let c16_i32_970 : BitVec 32 := 16#32
  let v2133 : BitVec 32 := Scalar.muli c0_i32_813 c16_i32_970
  let c4_i32_971 : BitVec 32 := 4#32
  let v2134 : BitVec 32 := Scalar.addi v2133 c4_i32_971
  let c128_i32_972 : BitVec 32 := 128#32
  let v2135 : BitVec 32 := Scalar.muli v2134 c128_i32_972
  v2135
def k0_mult62 : BitVec 32 :=
  let c0_i32_813 : BitVec 32 := 0#32
  let c16_i32_970 : BitVec 32 := 16#32
  let v2133 : BitVec 32 := Scalar.muli c0_i32_813 c16_i32_970
  let c4_i32_971 : BitVec 32 := 4#32
  let v2134 : BitVec 32 := Scalar.addi v2133 c4_i32_971
  let c1_i32_973 : BitVec 32 := 1#32
  let v2137 : BitVec 32 := Scalar.subi v2134 c1_i32_973
  let c0_i32_974 : BitVec 32 := 0#32
  let v2138 : BitVec 32 := Scalar.maxsi v2137 c0_i32_974
  let c128_i32_975 : BitVec 32 := 128#32
  let v2139 : BitVec 32 := Scalar.muli v2138 c128_i32_975
  v2139
def k0_mult63 : BitVec 32 :=
  let c0_i32_813 : BitVec 32 := 0#32
  let c16_i32_970 : BitVec 32 := 16#32
  let v2133 : BitVec 32 := Scalar.muli c0_i32_813 c16_i32_970
  let c4_i32_971 : BitVec 32 := 4#32
  let v2134 : BitVec 32 := Scalar.addi v2133 c4_i32_971
  let c0_i32_1003 : BitVec 32 := 0#32
  let v2201 : BitVec 1 := Scalar.cmpi .eq v2134 c0_i32_1003
  let c16_i32_1005 : BitVec 32 := 16#32
  let c1_i32_1004 : BitVec 32 := 1#32
  let v2202 : BitVec 32 := Scalar.subi v2134 c1_i32_1004
  let v2203 : BitVec 32 := Scalar.select v2201 c16_i32_1005 v2202
  let c128_i32_1006 : BitVec 32 := 128#32
  let v2204 : BitVec 32 := Scalar.muli v2203 c128_i32_1006
  v2204
def k0_mult64 : BitVec 32 :=
  let c0_i32_813 : BitVec 32 := 0#32
  let c16_i32_1009 : BitVec 32 := 16#32
  let v2220 : BitVec 32 := Scalar.muli c0_i32_813 c16_i32_1009
  let c5_i32_1010 : BitVec 32 := 5#32
  let v2221 : BitVec 32 := Scalar.addi v2220 c5_i32_1010
  let c128_i32_1011 : BitVec 32 := 128#32
  let v2222 : BitVec 32 := Scalar.muli v2221 c128_i32_1011
  v2222
def k0_mult65 : BitVec 32 :=
  let c0_i32_813 : BitVec 32 := 0#32
  let c16_i32_1009 : BitVec 32 := 16#32
  let v2220 : BitVec 32 := Scalar.muli c0_i32_813 c16_i32_1009
  let c5_i32_1010 : BitVec 32 := 5#32
  let v2221 : BitVec 32 := Scalar.addi v2220 c5_i32_1010
  let c1_i32_1012 : BitVec 32 := 1#32
  let v2224 : BitVec 32 := Scalar.subi v2221 c1_i32_1012
  let c0_i32_1013 : BitVec 32 := 0#32
  let v2225 : BitVec 32 := Scalar.maxsi v2224 c0_i32_1013
  let c128_i32_1014 : BitVec 32 := 128#32
  let v2226 : BitVec 32 := Scalar.muli v2225 c128_i32_1014
  v2226
def k0_mult66 : BitVec 32 :=
  let c0_i32_813 : BitVec 32 := 0#32
  let c16_i32_1009 : BitVec 32 := 16#32
  let v2220 : BitVec 32 := Scalar.muli c0_i32_813 c16_i32_1009
  let c5_i32_1010 : BitVec 32 := 5#32
  let v2221 : BitVec 32 := Scalar.addi v2220 c5_i32_1010
  let c0_i32_1042 : BitVec 32 := 0#32
  let v2288 : BitVec 1 := Scalar.cmpi .eq v2221 c0_i32_1042
  let c16_i32_1044 : BitVec 32 := 16#32
  let c1_i32_1043 : BitVec 32 := 1#32
  let v2289 : BitVec 32 := Scalar.subi v2221 c1_i32_1043
  let v2290 : BitVec 32 := Scalar.select v2288 c16_i32_1044 v2289
  let c128_i32_1045 : BitVec 32 := 128#32
  let v2291 : BitVec 32 := Scalar.muli v2290 c128_i32_1045
  v2291
def k0_mult67 : BitVec 32 :=
  let c0_i32_813 : BitVec 32 := 0#32
  let c16_i32_1048 : BitVec 32 := 16#32
  let v2307 : BitVec 32 := Scalar.muli c0_i32_813 c16_i32_1048
  let c6_i32_1049 : BitVec 32 := 6#32
  let v2308 : BitVec 32 := Scalar.addi v2307 c6_i32_1049
  let c128_i32_1050 : BitVec 32 := 128#32
  let v2309 : BitVec 32 := Scalar.muli v2308 c128_i32_1050
  v2309
def k0_mult68 : BitVec 32 :=
  let c0_i32_813 : BitVec 32 := 0#32
  let c16_i32_1048 : BitVec 32 := 16#32
  let v2307 : BitVec 32 := Scalar.muli c0_i32_813 c16_i32_1048
  let c6_i32_1049 : BitVec 32 := 6#32
  let v2308 : BitVec 32 := Scalar.addi v2307 c6_i32_1049
  let c1_i32_1051 : BitVec 32 := 1#32
  let v2311 : BitVec 32 := Scalar.subi v2308 c1_i32_1051
  let c0_i32_1052 : BitVec 32 := 0#32
  let v2312 : BitVec 32 := Scalar.maxsi v2311 c0_i32_1052
  let c128_i32_1053 : BitVec 32 := 128#32
  let v2313 : BitVec 32 := Scalar.muli v2312 c128_i32_1053
  v2313
def k0_mult69 : BitVec 32 :=
  let c0_i32_813 : BitVec 32 := 0#32
  let c16_i32_1048 : BitVec 32 := 16#32
  let v2307 : BitVec 32 := Scalar.muli c0_i32_813 c16_i32_1048
  let c6_i32_1049 : BitVec 32 := 6#32
  let v2308 : BitVec 32 := Scalar.addi v2307 c6_i32_1049
  let c0_i32_1081 : BitVec 32 := 0#32
  let v2375 : BitVec 1 := Scalar.cmpi .eq v2308 c0_i32_1081
  let c16_i32_1083 : BitVec 32 := 16#32
  let c1_i32_1082 : BitVec 32 := 1#32
  let v2376 : BitVec 32 := Scalar.subi v2308 c1_i32_1082
  let v2377 : BitVec 32 := Scalar.select v2375 c16_i32_1083 v2376
  let c128_i32_1084 : BitVec 32 := 128#32
  let v2378 : BitVec 32 := Scalar.muli v2377 c128_i32_1084
  v2378
def k0_mult70 : BitVec 32 :=
  let c0_i32_813 : BitVec 32 := 0#32
  let c16_i32_1087 : BitVec 32 := 16#32
  let v2394 : BitVec 32 := Scalar.muli c0_i32_813 c16_i32_1087
  let c7_i32_1088 : BitVec 32 := 7#32
  let v2395 : BitVec 32 := Scalar.addi v2394 c7_i32_1088
  let c128_i32_1089 : BitVec 32 := 128#32
  let v2396 : BitVec 32 := Scalar.muli v2395 c128_i32_1089
  v2396
def k0_mult71 : BitVec 32 :=
  let c0_i32_813 : BitVec 32 := 0#32
  let c16_i32_1087 : BitVec 32 := 16#32
  let v2394 : BitVec 32 := Scalar.muli c0_i32_813 c16_i32_1087
  let c7_i32_1088 : BitVec 32 := 7#32
  let v2395 : BitVec 32 := Scalar.addi v2394 c7_i32_1088
  let c1_i32_1090 : BitVec 32 := 1#32
  let v2398 : BitVec 32 := Scalar.subi v2395 c1_i32_1090
  let c0_i32_1091 : BitVec 32 := 0#32
  let v2399 : BitVec 32 := Scalar.maxsi v2398 c0_i32_1091
  let c128_i32_1092 : BitVec 32 := 128#32
  let v2400 : BitVec 32 := Scalar.muli v2399 c128_i32_1092
  v2400
def k0_mult72 : BitVec 32 :=
  let c0_i32_813 : BitVec 32 := 0#32
  let c16_i32_1087 : BitVec 32 := 16#32
  let v2394 : BitVec 32 := Scalar.muli c0_i32_813 c16_i32_1087
  let c7_i32_1088 : BitVec 32 := 7#32
  let v2395 : BitVec 32 := Scalar.addi v2394 c7_i32_1088
  let c0_i32_1120 : BitVec 32 := 0#32
  let v2462 : BitVec 1 := Scalar.cmpi .eq v2395 c0_i32_1120
  let c16_i32_1122 : BitVec 32 := 16#32
  let c1_i32_1121 : BitVec 32 := 1#32
  let v2463 : BitVec 32 := Scalar.subi v2395 c1_i32_1121
  let v2464 : BitVec 32 := Scalar.select v2462 c16_i32_1122 v2463
  let c128_i32_1123 : BitVec 32 := 128#32
  let v2465 : BitVec 32 := Scalar.muli v2464 c128_i32_1123
  v2465
def k0_mult73 : BitVec 32 :=
  let c0_i32_813 : BitVec 32 := 0#32
  let c16_i32_1126 : BitVec 32 := 16#32
  let v2481 : BitVec 32 := Scalar.muli c0_i32_813 c16_i32_1126
  let c8_i32_1127 : BitVec 32 := 8#32
  let v2482 : BitVec 32 := Scalar.addi v2481 c8_i32_1127
  let c128_i32_1128 : BitVec 32 := 128#32
  let v2483 : BitVec 32 := Scalar.muli v2482 c128_i32_1128
  v2483
def k0_mult74 : BitVec 32 :=
  let c0_i32_813 : BitVec 32 := 0#32
  let c16_i32_1126 : BitVec 32 := 16#32
  let v2481 : BitVec 32 := Scalar.muli c0_i32_813 c16_i32_1126
  let c8_i32_1127 : BitVec 32 := 8#32
  let v2482 : BitVec 32 := Scalar.addi v2481 c8_i32_1127
  let c1_i32_1129 : BitVec 32 := 1#32
  let v2485 : BitVec 32 := Scalar.subi v2482 c1_i32_1129
  let c0_i32_1130 : BitVec 32 := 0#32
  let v2486 : BitVec 32 := Scalar.maxsi v2485 c0_i32_1130
  let c128_i32_1131 : BitVec 32 := 128#32
  let v2487 : BitVec 32 := Scalar.muli v2486 c128_i32_1131
  v2487
def k0_mult75 : BitVec 32 :=
  let c0_i32_813 : BitVec 32 := 0#32
  let c16_i32_1126 : BitVec 32 := 16#32
  let v2481 : BitVec 32 := Scalar.muli c0_i32_813 c16_i32_1126
  let c8_i32_1127 : BitVec 32 := 8#32
  let v2482 : BitVec 32 := Scalar.addi v2481 c8_i32_1127
  let c0_i32_1159 : BitVec 32 := 0#32
  let v2549 : BitVec 1 := Scalar.cmpi .eq v2482 c0_i32_1159
  let c16_i32_1161 : BitVec 32 := 16#32
  let c1_i32_1160 : BitVec 32 := 1#32
  let v2550 : BitVec 32 := Scalar.subi v2482 c1_i32_1160
  let v2551 : BitVec 32 := Scalar.select v2549 c16_i32_1161 v2550
  let c128_i32_1162 : BitVec 32 := 128#32
  let v2552 : BitVec 32 := Scalar.muli v2551 c128_i32_1162
  v2552
def k0_mult76 : BitVec 32 :=
  let c0_i32_813 : BitVec 32 := 0#32
  let c16_i32_1165 : BitVec 32 := 16#32
  let v2568 : BitVec 32 := Scalar.muli c0_i32_813 c16_i32_1165
  let c9_i32_1166 : BitVec 32 := 9#32
  let v2569 : BitVec 32 := Scalar.addi v2568 c9_i32_1166
  let c128_i32_1167 : BitVec 32 := 128#32
  let v2570 : BitVec 32 := Scalar.muli v2569 c128_i32_1167
  v2570
def k0_mult77 : BitVec 32 :=
  let c0_i32_813 : BitVec 32 := 0#32
  let c16_i32_1165 : BitVec 32 := 16#32
  let v2568 : BitVec 32 := Scalar.muli c0_i32_813 c16_i32_1165
  let c9_i32_1166 : BitVec 32 := 9#32
  let v2569 : BitVec 32 := Scalar.addi v2568 c9_i32_1166
  let c1_i32_1168 : BitVec 32 := 1#32
  let v2572 : BitVec 32 := Scalar.subi v2569 c1_i32_1168
  let c0_i32_1169 : BitVec 32 := 0#32
  let v2573 : BitVec 32 := Scalar.maxsi v2572 c0_i32_1169
  let c128_i32_1170 : BitVec 32 := 128#32
  let v2574 : BitVec 32 := Scalar.muli v2573 c128_i32_1170
  v2574
def k0_mult78 : BitVec 32 :=
  let c0_i32_813 : BitVec 32 := 0#32
  let c16_i32_1165 : BitVec 32 := 16#32
  let v2568 : BitVec 32 := Scalar.muli c0_i32_813 c16_i32_1165
  let c9_i32_1166 : BitVec 32 := 9#32
  let v2569 : BitVec 32 := Scalar.addi v2568 c9_i32_1166
  let c0_i32_1198 : BitVec 32 := 0#32
  let v2636 : BitVec 1 := Scalar.cmpi .eq v2569 c0_i32_1198
  let c16_i32_1200 : BitVec 32 := 16#32
  let c1_i32_1199 : BitVec 32 := 1#32
  let v2637 : BitVec 32 := Scalar.subi v2569 c1_i32_1199
  let v2638 : BitVec 32 := Scalar.select v2636 c16_i32_1200 v2637
  let c128_i32_1201 : BitVec 32 := 128#32
  let v2639 : BitVec 32 := Scalar.muli v2638 c128_i32_1201
  v2639
def k0_mult79 : BitVec 32 :=
  let c0_i32_813 : BitVec 32 := 0#32
  let c16_i32_1204 : BitVec 32 := 16#32
  let v2655 : BitVec 32 := Scalar.muli c0_i32_813 c16_i32_1204
  let c10_i32_1205 : BitVec 32 := 10#32
  let v2656 : BitVec 32 := Scalar.addi v2655 c10_i32_1205
  let c128_i32_1206 : BitVec 32 := 128#32
  let v2657 : BitVec 32 := Scalar.muli v2656 c128_i32_1206
  v2657
def k0_mult80 : BitVec 32 :=
  let c0_i32_813 : BitVec 32 := 0#32
  let c16_i32_1204 : BitVec 32 := 16#32
  let v2655 : BitVec 32 := Scalar.muli c0_i32_813 c16_i32_1204
  let c10_i32_1205 : BitVec 32 := 10#32
  let v2656 : BitVec 32 := Scalar.addi v2655 c10_i32_1205
  let c1_i32_1207 : BitVec 32 := 1#32
  let v2659 : BitVec 32 := Scalar.subi v2656 c1_i32_1207
  let c0_i32_1208 : BitVec 32 := 0#32
  let v2660 : BitVec 32 := Scalar.maxsi v2659 c0_i32_1208
  let c128_i32_1209 : BitVec 32 := 128#32
  let v2661 : BitVec 32 := Scalar.muli v2660 c128_i32_1209
  v2661
def k0_mult81 : BitVec 32 :=
  let c0_i32_813 : BitVec 32 := 0#32
  let c16_i32_1204 : BitVec 32 := 16#32
  let v2655 : BitVec 32 := Scalar.muli c0_i32_813 c16_i32_1204
  let c10_i32_1205 : BitVec 32 := 10#32
  let v2656 : BitVec 32 := Scalar.addi v2655 c10_i32_1205
  let c0_i32_1237 : BitVec 32 := 0#32
  let v2723 : BitVec 1 := Scalar.cmpi .eq v2656 c0_i32_1237
  let c16_i32_1239 : BitVec 32 := 16#32
  let c1_i32_1238 : BitVec 32 := 1#32
  let v2724 : BitVec 32 := Scalar.subi v2656 c1_i32_1238
  let v2725 : BitVec 32 := Scalar.select v2723 c16_i32_1239 v2724
  let c128_i32_1240 : BitVec 32 := 128#32
  let v2726 : BitVec 32 := Scalar.muli v2725 c128_i32_1240
  v2726
def k0_mult82 : BitVec 32 :=
  let c0_i32_813 : BitVec 32 := 0#32
  let c16_i32_1243 : BitVec 32 := 16#32
  let v2742 : BitVec 32 := Scalar.muli c0_i32_813 c16_i32_1243
  let c11_i32_1244 : BitVec 32 := 11#32
  let v2743 : BitVec 32 := Scalar.addi v2742 c11_i32_1244
  let c128_i32_1245 : BitVec 32 := 128#32
  let v2744 : BitVec 32 := Scalar.muli v2743 c128_i32_1245
  v2744
def k0_mult83 : BitVec 32 :=
  let c0_i32_813 : BitVec 32 := 0#32
  let c16_i32_1243 : BitVec 32 := 16#32
  let v2742 : BitVec 32 := Scalar.muli c0_i32_813 c16_i32_1243
  let c11_i32_1244 : BitVec 32 := 11#32
  let v2743 : BitVec 32 := Scalar.addi v2742 c11_i32_1244
  let c1_i32_1246 : BitVec 32 := 1#32
  let v2746 : BitVec 32 := Scalar.subi v2743 c1_i32_1246
  let c0_i32_1247 : BitVec 32 := 0#32
  let v2747 : BitVec 32 := Scalar.maxsi v2746 c0_i32_1247
  let c128_i32_1248 : BitVec 32 := 128#32
  let v2748 : BitVec 32 := Scalar.muli v2747 c128_i32_1248
  v2748
def k0_mult84 : BitVec 32 :=
  let c0_i32_813 : BitVec 32 := 0#32
  let c16_i32_1243 : BitVec 32 := 16#32
  let v2742 : BitVec 32 := Scalar.muli c0_i32_813 c16_i32_1243
  let c11_i32_1244 : BitVec 32 := 11#32
  let v2743 : BitVec 32 := Scalar.addi v2742 c11_i32_1244
  let c0_i32_1276 : BitVec 32 := 0#32
  let v2810 : BitVec 1 := Scalar.cmpi .eq v2743 c0_i32_1276
  let c16_i32_1278 : BitVec 32 := 16#32
  let c1_i32_1277 : BitVec 32 := 1#32
  let v2811 : BitVec 32 := Scalar.subi v2743 c1_i32_1277
  let v2812 : BitVec 32 := Scalar.select v2810 c16_i32_1278 v2811
  let c128_i32_1279 : BitVec 32 := 128#32
  let v2813 : BitVec 32 := Scalar.muli v2812 c128_i32_1279
  v2813
def k0_mult85 : BitVec 32 :=
  let c0_i32_813 : BitVec 32 := 0#32
  let c16_i32_1282 : BitVec 32 := 16#32
  let v2829 : BitVec 32 := Scalar.muli c0_i32_813 c16_i32_1282
  let c12_i32_1283 : BitVec 32 := 12#32
  let v2830 : BitVec 32 := Scalar.addi v2829 c12_i32_1283
  let c128_i32_1284 : BitVec 32 := 128#32
  let v2831 : BitVec 32 := Scalar.muli v2830 c128_i32_1284
  v2831
def k0_mult86 : BitVec 32 :=
  let c0_i32_813 : BitVec 32 := 0#32
  let c16_i32_1282 : BitVec 32 := 16#32
  let v2829 : BitVec 32 := Scalar.muli c0_i32_813 c16_i32_1282
  let c12_i32_1283 : BitVec 32 := 12#32
  let v2830 : BitVec 32 := Scalar.addi v2829 c12_i32_1283
  let c1_i32_1285 : BitVec 32 := 1#32
  let v2833 : BitVec 32 := Scalar.subi v2830 c1_i32_1285
  let c0_i32_1286 : BitVec 32 := 0#32
  let v2834 : BitVec 32 := Scalar.maxsi v2833 c0_i32_1286
  let c128_i32_1287 : BitVec 32 := 128#32
  let v2835 : BitVec 32 := Scalar.muli v2834 c128_i32_1287
  v2835
def k0_mult87 : BitVec 32 :=
  let c0_i32_813 : BitVec 32 := 0#32
  let c16_i32_1282 : BitVec 32 := 16#32
  let v2829 : BitVec 32 := Scalar.muli c0_i32_813 c16_i32_1282
  let c12_i32_1283 : BitVec 32 := 12#32
  let v2830 : BitVec 32 := Scalar.addi v2829 c12_i32_1283
  let c0_i32_1315 : BitVec 32 := 0#32
  let v2897 : BitVec 1 := Scalar.cmpi .eq v2830 c0_i32_1315
  let c16_i32_1317 : BitVec 32 := 16#32
  let c1_i32_1316 : BitVec 32 := 1#32
  let v2898 : BitVec 32 := Scalar.subi v2830 c1_i32_1316
  let v2899 : BitVec 32 := Scalar.select v2897 c16_i32_1317 v2898
  let c128_i32_1318 : BitVec 32 := 128#32
  let v2900 : BitVec 32 := Scalar.muli v2899 c128_i32_1318
  v2900
def k0_mult88 : BitVec 32 :=
  let c0_i32_813 : BitVec 32 := 0#32
  let c16_i32_1321 : BitVec 32 := 16#32
  let v2916 : BitVec 32 := Scalar.muli c0_i32_813 c16_i32_1321
  let c13_i32_1322 : BitVec 32 := 13#32
  let v2917 : BitVec 32 := Scalar.addi v2916 c13_i32_1322
  let c128_i32_1323 : BitVec 32 := 128#32
  let v2918 : BitVec 32 := Scalar.muli v2917 c128_i32_1323
  v2918
def k0_mult89 : BitVec 32 :=
  let c0_i32_813 : BitVec 32 := 0#32
  let c16_i32_1321 : BitVec 32 := 16#32
  let v2916 : BitVec 32 := Scalar.muli c0_i32_813 c16_i32_1321
  let c13_i32_1322 : BitVec 32 := 13#32
  let v2917 : BitVec 32 := Scalar.addi v2916 c13_i32_1322
  let c1_i32_1324 : BitVec 32 := 1#32
  let v2920 : BitVec 32 := Scalar.subi v2917 c1_i32_1324
  let c0_i32_1325 : BitVec 32 := 0#32
  let v2921 : BitVec 32 := Scalar.maxsi v2920 c0_i32_1325
  let c128_i32_1326 : BitVec 32 := 128#32
  let v2922 : BitVec 32 := Scalar.muli v2921 c128_i32_1326
  v2922
def k0_mult90 : BitVec 32 :=
  let c0_i32_813 : BitVec 32 := 0#32
  let c16_i32_1321 : BitVec 32 := 16#32
  let v2916 : BitVec 32 := Scalar.muli c0_i32_813 c16_i32_1321
  let c13_i32_1322 : BitVec 32 := 13#32
  let v2917 : BitVec 32 := Scalar.addi v2916 c13_i32_1322
  let c0_i32_1354 : BitVec 32 := 0#32
  let v2984 : BitVec 1 := Scalar.cmpi .eq v2917 c0_i32_1354
  let c16_i32_1356 : BitVec 32 := 16#32
  let c1_i32_1355 : BitVec 32 := 1#32
  let v2985 : BitVec 32 := Scalar.subi v2917 c1_i32_1355
  let v2986 : BitVec 32 := Scalar.select v2984 c16_i32_1356 v2985
  let c128_i32_1357 : BitVec 32 := 128#32
  let v2987 : BitVec 32 := Scalar.muli v2986 c128_i32_1357
  v2987
def k0_mult91 : BitVec 32 :=
  let c0_i32_813 : BitVec 32 := 0#32
  let c16_i32_1360 : BitVec 32 := 16#32
  let v3003 : BitVec 32 := Scalar.muli c0_i32_813 c16_i32_1360
  let c14_i32_1361 : BitVec 32 := 14#32
  let v3004 : BitVec 32 := Scalar.addi v3003 c14_i32_1361
  let c128_i32_1362 : BitVec 32 := 128#32
  let v3005 : BitVec 32 := Scalar.muli v3004 c128_i32_1362
  v3005
def k0_mult92 : BitVec 32 :=
  let c0_i32_813 : BitVec 32 := 0#32
  let c16_i32_1360 : BitVec 32 := 16#32
  let v3003 : BitVec 32 := Scalar.muli c0_i32_813 c16_i32_1360
  let c14_i32_1361 : BitVec 32 := 14#32
  let v3004 : BitVec 32 := Scalar.addi v3003 c14_i32_1361
  let c1_i32_1363 : BitVec 32 := 1#32
  let v3007 : BitVec 32 := Scalar.subi v3004 c1_i32_1363
  let c0_i32_1364 : BitVec 32 := 0#32
  let v3008 : BitVec 32 := Scalar.maxsi v3007 c0_i32_1364
  let c128_i32_1365 : BitVec 32 := 128#32
  let v3009 : BitVec 32 := Scalar.muli v3008 c128_i32_1365
  v3009
def k0_mult93 : BitVec 32 :=
  let c0_i32_813 : BitVec 32 := 0#32
  let c16_i32_1360 : BitVec 32 := 16#32
  let v3003 : BitVec 32 := Scalar.muli c0_i32_813 c16_i32_1360
  let c14_i32_1361 : BitVec 32 := 14#32
  let v3004 : BitVec 32 := Scalar.addi v3003 c14_i32_1361
  let c0_i32_1393 : BitVec 32 := 0#32
  let v3071 : BitVec 1 := Scalar.cmpi .eq v3004 c0_i32_1393
  let c16_i32_1395 : BitVec 32 := 16#32
  let c1_i32_1394 : BitVec 32 := 1#32
  let v3072 : BitVec 32 := Scalar.subi v3004 c1_i32_1394
  let v3073 : BitVec 32 := Scalar.select v3071 c16_i32_1395 v3072
  let c128_i32_1396 : BitVec 32 := 128#32
  let v3074 : BitVec 32 := Scalar.muli v3073 c128_i32_1396
  v3074
def k0_mult94 : BitVec 32 :=
  let c0_i32_813 : BitVec 32 := 0#32
  let c16_i32_1399 : BitVec 32 := 16#32
  let v3090 : BitVec 32 := Scalar.muli c0_i32_813 c16_i32_1399
  let c15_i32_1400 : BitVec 32 := 15#32
  let v3091 : BitVec 32 := Scalar.addi v3090 c15_i32_1400
  let c128_i32_1401 : BitVec 32 := 128#32
  let v3092 : BitVec 32 := Scalar.muli v3091 c128_i32_1401
  v3092
def k0_mult95 : BitVec 32 :=
  let c0_i32_813 : BitVec 32 := 0#32
  let c16_i32_1399 : BitVec 32 := 16#32
  let v3090 : BitVec 32 := Scalar.muli c0_i32_813 c16_i32_1399
  let c15_i32_1400 : BitVec 32 := 15#32
  let v3091 : BitVec 32 := Scalar.addi v3090 c15_i32_1400
  let c1_i32_1402 : BitVec 32 := 1#32
  let v3094 : BitVec 32 := Scalar.subi v3091 c1_i32_1402
  let c0_i32_1403 : BitVec 32 := 0#32
  let v3095 : BitVec 32 := Scalar.maxsi v3094 c0_i32_1403
  let c128_i32_1404 : BitVec 32 := 128#32
  let v3096 : BitVec 32 := Scalar.muli v3095 c128_i32_1404
  v3096
def k0_mult96 : BitVec 32 :=
  let c0_i32_813 : BitVec 32 := 0#32
  let c16_i32_1399 : BitVec 32 := 16#32
  let v3090 : BitVec 32 := Scalar.muli c0_i32_813 c16_i32_1399
  let c15_i32_1400 : BitVec 32 := 15#32
  let v3091 : BitVec 32 := Scalar.addi v3090 c15_i32_1400
  let c0_i32_1432 : BitVec 32 := 0#32
  let v3158 : BitVec 1 := Scalar.cmpi .eq v3091 c0_i32_1432
  let c16_i32_1434 : BitVec 32 := 16#32
  let c1_i32_1433 : BitVec 32 := 1#32
  let v3159 : BitVec 32 := Scalar.subi v3091 c1_i32_1433
  let v3160 : BitVec 32 := Scalar.select v3158 c16_i32_1434 v3159
  let c128_i32_1435 : BitVec 32 := 128#32
  let v3161 : BitVec 32 := Scalar.muli v3160 c128_i32_1435
  v3161
def k0_mult97 : BitVec 32 :=
  let c0_i32_1930 : BitVec 32 := 0#32
  let c16_i32_1931 : BitVec 32 := 16#32
  let v3785 : BitVec 32 := Scalar.muli c0_i32_1930 c16_i32_1931
  let c0_i32_1932 : BitVec 32 := 0#32
  let v3786 : BitVec 32 := Scalar.addi v3785 c0_i32_1932
  let c128_i32_1933 : BitVec 32 := 128#32
  let v3787 : BitVec 32 := Scalar.muli v3786 c128_i32_1933
  v3787
def k0_mult98 : BitVec 32 :=
  let c0_i32_1930 : BitVec 32 := 0#32
  let c16_i32_1931 : BitVec 32 := 16#32
  let v3785 : BitVec 32 := Scalar.muli c0_i32_1930 c16_i32_1931
  let c0_i32_1932 : BitVec 32 := 0#32
  let v3786 : BitVec 32 := Scalar.addi v3785 c0_i32_1932
  let c1_i32_1934 : BitVec 32 := 1#32
  let v3789 : BitVec 32 := Scalar.subi v3786 c1_i32_1934
  let c0_i32_1935 : BitVec 32 := 0#32
  let v3790 : BitVec 32 := Scalar.maxsi v3789 c0_i32_1935
  let c128_i32_1936 : BitVec 32 := 128#32
  let v3791 : BitVec 32 := Scalar.muli v3790 c128_i32_1936
  v3791
def k0_mult99 : BitVec 32 :=
  let c0_i32_1930 : BitVec 32 := 0#32
  let c16_i32_1931 : BitVec 32 := 16#32
  let v3785 : BitVec 32 := Scalar.muli c0_i32_1930 c16_i32_1931
  let c0_i32_1932 : BitVec 32 := 0#32
  let v3786 : BitVec 32 := Scalar.addi v3785 c0_i32_1932
  let c0_i32_1964 : BitVec 32 := 0#32
  let v3853 : BitVec 1 := Scalar.cmpi .eq v3786 c0_i32_1964
  let c16_i32_1966 : BitVec 32 := 16#32
  let c1_i32_1965 : BitVec 32 := 1#32
  let v3854 : BitVec 32 := Scalar.subi v3786 c1_i32_1965
  let v3855 : BitVec 32 := Scalar.select v3853 c16_i32_1966 v3854
  let c128_i32_1967 : BitVec 32 := 128#32
  let v3856 : BitVec 32 := Scalar.muli v3855 c128_i32_1967
  v3856
def k0_mult100 : BitVec 32 :=
  let c0_i32_1930 : BitVec 32 := 0#32
  let c16_i32_1970 : BitVec 32 := 16#32
  let v3872 : BitVec 32 := Scalar.muli c0_i32_1930 c16_i32_1970
  let c1_i32_1971 : BitVec 32 := 1#32
  let v3873 : BitVec 32 := Scalar.addi v3872 c1_i32_1971
  let c128_i32_1972 : BitVec 32 := 128#32
  let v3874 : BitVec 32 := Scalar.muli v3873 c128_i32_1972
  v3874
def k0_mult101 : BitVec 32 :=
  let c0_i32_1930 : BitVec 32 := 0#32
  let c16_i32_1970 : BitVec 32 := 16#32
  let v3872 : BitVec 32 := Scalar.muli c0_i32_1930 c16_i32_1970
  let c1_i32_1971 : BitVec 32 := 1#32
  let v3873 : BitVec 32 := Scalar.addi v3872 c1_i32_1971
  let c1_i32_1973 : BitVec 32 := 1#32
  let v3876 : BitVec 32 := Scalar.subi v3873 c1_i32_1973
  let c0_i32_1974 : BitVec 32 := 0#32
  let v3877 : BitVec 32 := Scalar.maxsi v3876 c0_i32_1974
  let c128_i32_1975 : BitVec 32 := 128#32
  let v3878 : BitVec 32 := Scalar.muli v3877 c128_i32_1975
  v3878
def k0_mult102 : BitVec 32 :=
  let c0_i32_1930 : BitVec 32 := 0#32
  let c16_i32_1970 : BitVec 32 := 16#32
  let v3872 : BitVec 32 := Scalar.muli c0_i32_1930 c16_i32_1970
  let c1_i32_1971 : BitVec 32 := 1#32
  let v3873 : BitVec 32 := Scalar.addi v3872 c1_i32_1971
  let c0_i32_2003 : BitVec 32 := 0#32
  let v3940 : BitVec 1 := Scalar.cmpi .eq v3873 c0_i32_2003
  let c16_i32_2005 : BitVec 32 := 16#32
  let c1_i32_2004 : BitVec 32 := 1#32
  let v3941 : BitVec 32 := Scalar.subi v3873 c1_i32_2004
  let v3942 : BitVec 32 := Scalar.select v3940 c16_i32_2005 v3941
  let c128_i32_2006 : BitVec 32 := 128#32
  let v3943 : BitVec 32 := Scalar.muli v3942 c128_i32_2006
  v3943
def k0_mult103 : BitVec 32 :=
  let c0_i32_1930 : BitVec 32 := 0#32
  let c16_i32_2009 : BitVec 32 := 16#32
  let v3959 : BitVec 32 := Scalar.muli c0_i32_1930 c16_i32_2009
  let c2_i32_2010 : BitVec 32 := 2#32
  let v3960 : BitVec 32 := Scalar.addi v3959 c2_i32_2010
  let c128_i32_2011 : BitVec 32 := 128#32
  let v3961 : BitVec 32 := Scalar.muli v3960 c128_i32_2011
  v3961
def k0_mult104 : BitVec 32 :=
  let c0_i32_1930 : BitVec 32 := 0#32
  let c16_i32_2009 : BitVec 32 := 16#32
  let v3959 : BitVec 32 := Scalar.muli c0_i32_1930 c16_i32_2009
  let c2_i32_2010 : BitVec 32 := 2#32
  let v3960 : BitVec 32 := Scalar.addi v3959 c2_i32_2010
  let c1_i32_2012 : BitVec 32 := 1#32
  let v3963 : BitVec 32 := Scalar.subi v3960 c1_i32_2012
  let c0_i32_2013 : BitVec 32 := 0#32
  let v3964 : BitVec 32 := Scalar.maxsi v3963 c0_i32_2013
  let c128_i32_2014 : BitVec 32 := 128#32
  let v3965 : BitVec 32 := Scalar.muli v3964 c128_i32_2014
  v3965
def k0_mult105 : BitVec 32 :=
  let c0_i32_1930 : BitVec 32 := 0#32
  let c16_i32_2009 : BitVec 32 := 16#32
  let v3959 : BitVec 32 := Scalar.muli c0_i32_1930 c16_i32_2009
  let c2_i32_2010 : BitVec 32 := 2#32
  let v3960 : BitVec 32 := Scalar.addi v3959 c2_i32_2010
  let c0_i32_2042 : BitVec 32 := 0#32
  let v4027 : BitVec 1 := Scalar.cmpi .eq v3960 c0_i32_2042
  let c16_i32_2044 : BitVec 32 := 16#32
  let c1_i32_2043 : BitVec 32 := 1#32
  let v4028 : BitVec 32 := Scalar.subi v3960 c1_i32_2043
  let v4029 : BitVec 32 := Scalar.select v4027 c16_i32_2044 v4028
  let c128_i32_2045 : BitVec 32 := 128#32
  let v4030 : BitVec 32 := Scalar.muli v4029 c128_i32_2045
  v4030
def k0_mult106 : BitVec 32 :=
  let c0_i32_1930 : BitVec 32 := 0#32
  let c16_i32_2048 : BitVec 32 := 16#32
  let v4046 : BitVec 32 := Scalar.muli c0_i32_1930 c16_i32_2048
  let c3_i32_2049 : BitVec 32 := 3#32
  let v4047 : BitVec 32 := Scalar.addi v4046 c3_i32_2049
  let c128_i32_2050 : BitVec 32 := 128#32
  let v4048 : BitVec 32 := Scalar.muli v4047 c128_i32_2050
  v4048
def k0_mult107 : BitVec 32 :=
  let c0_i32_1930 : BitVec 32 := 0#32
  let c16_i32_2048 : BitVec 32 := 16#32
  let v4046 : BitVec 32 := Scalar.muli c0_i32_1930 c16_i32_2048
  let c3_i32_2049 : BitVec 32 := 3#32
  let v4047 : BitVec 32 := Scalar.addi v4046 c3_i32_2049
  let c1_i32_2051 : BitVec 32 := 1#32
  let v4050 : BitVec 32 := Scalar.subi v4047 c1_i32_2051
  let c0_i32_2052 : BitVec 32 := 0#32
  let v4051 : BitVec 32 := Scalar.maxsi v4050 c0_i32_2052
  let c128_i32_2053 : BitVec 32 := 128#32
  let v4052 : BitVec 32 := Scalar.muli v4051 c128_i32_2053
  v4052
def k0_mult108 : BitVec 32 :=
  let c0_i32_1930 : BitVec 32 := 0#32
  let c16_i32_2048 : BitVec 32 := 16#32
  let v4046 : BitVec 32 := Scalar.muli c0_i32_1930 c16_i32_2048
  let c3_i32_2049 : BitVec 32 := 3#32
  let v4047 : BitVec 32 := Scalar.addi v4046 c3_i32_2049
  let c0_i32_2081 : BitVec 32 := 0#32
  let v4114 : BitVec 1 := Scalar.cmpi .eq v4047 c0_i32_2081
  let c16_i32_2083 : BitVec 32 := 16#32
  let c1_i32_2082 : BitVec 32 := 1#32
  let v4115 : BitVec 32 := Scalar.subi v4047 c1_i32_2082
  let v4116 : BitVec 32 := Scalar.select v4114 c16_i32_2083 v4115
  let c128_i32_2084 : BitVec 32 := 128#32
  let v4117 : BitVec 32 := Scalar.muli v4116 c128_i32_2084
  v4117
def k0_mult109 : BitVec 32 :=
  let c0_i32_1930 : BitVec 32 := 0#32
  let c16_i32_2087 : BitVec 32 := 16#32
  let v4133 : BitVec 32 := Scalar.muli c0_i32_1930 c16_i32_2087
  let c4_i32_2088 : BitVec 32 := 4#32
  let v4134 : BitVec 32 := Scalar.addi v4133 c4_i32_2088
  let c128_i32_2089 : BitVec 32 := 128#32
  let v4135 : BitVec 32 := Scalar.muli v4134 c128_i32_2089
  v4135
def k0_mult110 : BitVec 32 :=
  let c0_i32_1930 : BitVec 32 := 0#32
  let c16_i32_2087 : BitVec 32 := 16#32
  let v4133 : BitVec 32 := Scalar.muli c0_i32_1930 c16_i32_2087
  let c4_i32_2088 : BitVec 32 := 4#32
  let v4134 : BitVec 32 := Scalar.addi v4133 c4_i32_2088
  let c1_i32_2090 : BitVec 32 := 1#32
  let v4137 : BitVec 32 := Scalar.subi v4134 c1_i32_2090
  let c0_i32_2091 : BitVec 32 := 0#32
  let v4138 : BitVec 32 := Scalar.maxsi v4137 c0_i32_2091
  let c128_i32_2092 : BitVec 32 := 128#32
  let v4139 : BitVec 32 := Scalar.muli v4138 c128_i32_2092
  v4139
def k0_mult111 : BitVec 32 :=
  let c0_i32_1930 : BitVec 32 := 0#32
  let c16_i32_2087 : BitVec 32 := 16#32
  let v4133 : BitVec 32 := Scalar.muli c0_i32_1930 c16_i32_2087
  let c4_i32_2088 : BitVec 32 := 4#32
  let v4134 : BitVec 32 := Scalar.addi v4133 c4_i32_2088
  let c0_i32_2120 : BitVec 32 := 0#32
  let v4201 : BitVec 1 := Scalar.cmpi .eq v4134 c0_i32_2120
  let c16_i32_2122 : BitVec 32 := 16#32
  let c1_i32_2121 : BitVec 32 := 1#32
  let v4202 : BitVec 32 := Scalar.subi v4134 c1_i32_2121
  let v4203 : BitVec 32 := Scalar.select v4201 c16_i32_2122 v4202
  let c128_i32_2123 : BitVec 32 := 128#32
  let v4204 : BitVec 32 := Scalar.muli v4203 c128_i32_2123
  v4204
def k0_mult112 : BitVec 32 :=
  let c0_i32_1930 : BitVec 32 := 0#32
  let c16_i32_2126 : BitVec 32 := 16#32
  let v4220 : BitVec 32 := Scalar.muli c0_i32_1930 c16_i32_2126
  let c5_i32_2127 : BitVec 32 := 5#32
  let v4221 : BitVec 32 := Scalar.addi v4220 c5_i32_2127
  let c128_i32_2128 : BitVec 32 := 128#32
  let v4222 : BitVec 32 := Scalar.muli v4221 c128_i32_2128
  v4222
def k0_mult113 : BitVec 32 :=
  let c0_i32_1930 : BitVec 32 := 0#32
  let c16_i32_2126 : BitVec 32 := 16#32
  let v4220 : BitVec 32 := Scalar.muli c0_i32_1930 c16_i32_2126
  let c5_i32_2127 : BitVec 32 := 5#32
  let v4221 : BitVec 32 := Scalar.addi v4220 c5_i32_2127
  let c1_i32_2129 : BitVec 32 := 1#32
  let v4224 : BitVec 32 := Scalar.subi v4221 c1_i32_2129
  let c0_i32_2130 : BitVec 32 := 0#32
  let v4225 : BitVec 32 := Scalar.maxsi v4224 c0_i32_2130
  let c128_i32_2131 : BitVec 32 := 128#32
  let v4226 : BitVec 32 := Scalar.muli v4225 c128_i32_2131
  v4226
def k0_mult114 : BitVec 32 :=
  let c0_i32_1930 : BitVec 32 := 0#32
  let c16_i32_2126 : BitVec 32 := 16#32
  let v4220 : BitVec 32 := Scalar.muli c0_i32_1930 c16_i32_2126
  let c5_i32_2127 : BitVec 32 := 5#32
  let v4221 : BitVec 32 := Scalar.addi v4220 c5_i32_2127
  let c0_i32_2159 : BitVec 32 := 0#32
  let v4288 : BitVec 1 := Scalar.cmpi .eq v4221 c0_i32_2159
  let c16_i32_2161 : BitVec 32 := 16#32
  let c1_i32_2160 : BitVec 32 := 1#32
  let v4289 : BitVec 32 := Scalar.subi v4221 c1_i32_2160
  let v4290 : BitVec 32 := Scalar.select v4288 c16_i32_2161 v4289
  let c128_i32_2162 : BitVec 32 := 128#32
  let v4291 : BitVec 32 := Scalar.muli v4290 c128_i32_2162
  v4291
def k0_mult115 : BitVec 32 :=
  let c0_i32_1930 : BitVec 32 := 0#32
  let c16_i32_2165 : BitVec 32 := 16#32
  let v4307 : BitVec 32 := Scalar.muli c0_i32_1930 c16_i32_2165
  let c6_i32_2166 : BitVec 32 := 6#32
  let v4308 : BitVec 32 := Scalar.addi v4307 c6_i32_2166
  let c128_i32_2167 : BitVec 32 := 128#32
  let v4309 : BitVec 32 := Scalar.muli v4308 c128_i32_2167
  v4309
def k0_mult116 : BitVec 32 :=
  let c0_i32_1930 : BitVec 32 := 0#32
  let c16_i32_2165 : BitVec 32 := 16#32
  let v4307 : BitVec 32 := Scalar.muli c0_i32_1930 c16_i32_2165
  let c6_i32_2166 : BitVec 32 := 6#32
  let v4308 : BitVec 32 := Scalar.addi v4307 c6_i32_2166
  let c1_i32_2168 : BitVec 32 := 1#32
  let v4311 : BitVec 32 := Scalar.subi v4308 c1_i32_2168
  let c0_i32_2169 : BitVec 32 := 0#32
  let v4312 : BitVec 32 := Scalar.maxsi v4311 c0_i32_2169
  let c128_i32_2170 : BitVec 32 := 128#32
  let v4313 : BitVec 32 := Scalar.muli v4312 c128_i32_2170
  v4313
def k0_mult117 : BitVec 32 :=
  let c0_i32_1930 : BitVec 32 := 0#32
  let c16_i32_2165 : BitVec 32 := 16#32
  let v4307 : BitVec 32 := Scalar.muli c0_i32_1930 c16_i32_2165
  let c6_i32_2166 : BitVec 32 := 6#32
  let v4308 : BitVec 32 := Scalar.addi v4307 c6_i32_2166
  let c0_i32_2198 : BitVec 32 := 0#32
  let v4375 : BitVec 1 := Scalar.cmpi .eq v4308 c0_i32_2198
  let c16_i32_2200 : BitVec 32 := 16#32
  let c1_i32_2199 : BitVec 32 := 1#32
  let v4376 : BitVec 32 := Scalar.subi v4308 c1_i32_2199
  let v4377 : BitVec 32 := Scalar.select v4375 c16_i32_2200 v4376
  let c128_i32_2201 : BitVec 32 := 128#32
  let v4378 : BitVec 32 := Scalar.muli v4377 c128_i32_2201
  v4378
def k0_mult118 : BitVec 32 :=
  let c0_i32_1930 : BitVec 32 := 0#32
  let c16_i32_2204 : BitVec 32 := 16#32
  let v4394 : BitVec 32 := Scalar.muli c0_i32_1930 c16_i32_2204
  let c7_i32_2205 : BitVec 32 := 7#32
  let v4395 : BitVec 32 := Scalar.addi v4394 c7_i32_2205
  let c128_i32_2206 : BitVec 32 := 128#32
  let v4396 : BitVec 32 := Scalar.muli v4395 c128_i32_2206
  v4396
def k0_mult119 : BitVec 32 :=
  let c0_i32_1930 : BitVec 32 := 0#32
  let c16_i32_2204 : BitVec 32 := 16#32
  let v4394 : BitVec 32 := Scalar.muli c0_i32_1930 c16_i32_2204
  let c7_i32_2205 : BitVec 32 := 7#32
  let v4395 : BitVec 32 := Scalar.addi v4394 c7_i32_2205
  let c1_i32_2207 : BitVec 32 := 1#32
  let v4398 : BitVec 32 := Scalar.subi v4395 c1_i32_2207
  let c0_i32_2208 : BitVec 32 := 0#32
  let v4399 : BitVec 32 := Scalar.maxsi v4398 c0_i32_2208
  let c128_i32_2209 : BitVec 32 := 128#32
  let v4400 : BitVec 32 := Scalar.muli v4399 c128_i32_2209
  v4400
def k0_mult120 : BitVec 32 :=
  let c0_i32_1930 : BitVec 32 := 0#32
  let c16_i32_2204 : BitVec 32 := 16#32
  let v4394 : BitVec 32 := Scalar.muli c0_i32_1930 c16_i32_2204
  let c7_i32_2205 : BitVec 32 := 7#32
  let v4395 : BitVec 32 := Scalar.addi v4394 c7_i32_2205
  let c0_i32_2237 : BitVec 32 := 0#32
  let v4462 : BitVec 1 := Scalar.cmpi .eq v4395 c0_i32_2237
  let c16_i32_2239 : BitVec 32 := 16#32
  let c1_i32_2238 : BitVec 32 := 1#32
  let v4463 : BitVec 32 := Scalar.subi v4395 c1_i32_2238
  let v4464 : BitVec 32 := Scalar.select v4462 c16_i32_2239 v4463
  let c128_i32_2240 : BitVec 32 := 128#32
  let v4465 : BitVec 32 := Scalar.muli v4464 c128_i32_2240
  v4465
def k0_mult121 : BitVec 32 :=
  let c0_i32_1930 : BitVec 32 := 0#32
  let c16_i32_2243 : BitVec 32 := 16#32
  let v4481 : BitVec 32 := Scalar.muli c0_i32_1930 c16_i32_2243
  let c8_i32_2244 : BitVec 32 := 8#32
  let v4482 : BitVec 32 := Scalar.addi v4481 c8_i32_2244
  let c128_i32_2245 : BitVec 32 := 128#32
  let v4483 : BitVec 32 := Scalar.muli v4482 c128_i32_2245
  v4483
def k0_mult122 : BitVec 32 :=
  let c0_i32_1930 : BitVec 32 := 0#32
  let c16_i32_2243 : BitVec 32 := 16#32
  let v4481 : BitVec 32 := Scalar.muli c0_i32_1930 c16_i32_2243
  let c8_i32_2244 : BitVec 32 := 8#32
  let v4482 : BitVec 32 := Scalar.addi v4481 c8_i32_2244
  let c1_i32_2246 : BitVec 32 := 1#32
  let v4485 : BitVec 32 := Scalar.subi v4482 c1_i32_2246
  let c0_i32_2247 : BitVec 32 := 0#32
  let v4486 : BitVec 32 := Scalar.maxsi v4485 c0_i32_2247
  let c128_i32_2248 : BitVec 32 := 128#32
  let v4487 : BitVec 32 := Scalar.muli v4486 c128_i32_2248
  v4487
def k0_mult123 : BitVec 32 :=
  let c0_i32_1930 : BitVec 32 := 0#32
  let c16_i32_2243 : BitVec 32 := 16#32
  let v4481 : BitVec 32 := Scalar.muli c0_i32_1930 c16_i32_2243
  let c8_i32_2244 : BitVec 32 := 8#32
  let v4482 : BitVec 32 := Scalar.addi v4481 c8_i32_2244
  let c0_i32_2276 : BitVec 32 := 0#32
  let v4549 : BitVec 1 := Scalar.cmpi .eq v4482 c0_i32_2276
  let c16_i32_2278 : BitVec 32 := 16#32
  let c1_i32_2277 : BitVec 32 := 1#32
  let v4550 : BitVec 32 := Scalar.subi v4482 c1_i32_2277
  let v4551 : BitVec 32 := Scalar.select v4549 c16_i32_2278 v4550
  let c128_i32_2279 : BitVec 32 := 128#32
  let v4552 : BitVec 32 := Scalar.muli v4551 c128_i32_2279
  v4552
def k0_mult124 : BitVec 32 :=
  let c0_i32_1930 : BitVec 32 := 0#32
  let c16_i32_2282 : BitVec 32 := 16#32
  let v4568 : BitVec 32 := Scalar.muli c0_i32_1930 c16_i32_2282
  let c9_i32_2283 : BitVec 32 := 9#32
  let v4569 : BitVec 32 := Scalar.addi v4568 c9_i32_2283
  let c128_i32_2284 : BitVec 32 := 128#32
  let v4570 : BitVec 32 := Scalar.muli v4569 c128_i32_2284
  v4570
def k0_mult125 : BitVec 32 :=
  let c0_i32_1930 : BitVec 32 := 0#32
  let c16_i32_2282 : BitVec 32 := 16#32
  let v4568 : BitVec 32 := Scalar.muli c0_i32_1930 c16_i32_2282
  let c9_i32_2283 : BitVec 32 := 9#32
  let v4569 : BitVec 32 := Scalar.addi v4568 c9_i32_2283
  let c1_i32_2285 : BitVec 32 := 1#32
  let v4572 : BitVec 32 := Scalar.subi v4569 c1_i32_2285
  let c0_i32_2286 : BitVec 32 := 0#32
  let v4573 : BitVec 32 := Scalar.maxsi v4572 c0_i32_2286
  let c128_i32_2287 : BitVec 32 := 128#32
  let v4574 : BitVec 32 := Scalar.muli v4573 c128_i32_2287
  v4574
def k0_mult126 : BitVec 32 :=
  let c0_i32_1930 : BitVec 32 := 0#32
  let c16_i32_2282 : BitVec 32 := 16#32
  let v4568 : BitVec 32 := Scalar.muli c0_i32_1930 c16_i32_2282
  let c9_i32_2283 : BitVec 32 := 9#32
  let v4569 : BitVec 32 := Scalar.addi v4568 c9_i32_2283
  let c0_i32_2315 : BitVec 32 := 0#32
  let v4636 : BitVec 1 := Scalar.cmpi .eq v4569 c0_i32_2315
  let c16_i32_2317 : BitVec 32 := 16#32
  let c1_i32_2316 : BitVec 32 := 1#32
  let v4637 : BitVec 32 := Scalar.subi v4569 c1_i32_2316
  let v4638 : BitVec 32 := Scalar.select v4636 c16_i32_2317 v4637
  let c128_i32_2318 : BitVec 32 := 128#32
  let v4639 : BitVec 32 := Scalar.muli v4638 c128_i32_2318
  v4639
def k0_mult127 : BitVec 32 :=
  let c0_i32_1930 : BitVec 32 := 0#32
  let c16_i32_2321 : BitVec 32 := 16#32
  let v4655 : BitVec 32 := Scalar.muli c0_i32_1930 c16_i32_2321
  let c10_i32_2322 : BitVec 32 := 10#32
  let v4656 : BitVec 32 := Scalar.addi v4655 c10_i32_2322
  let c128_i32_2323 : BitVec 32 := 128#32
  let v4657 : BitVec 32 := Scalar.muli v4656 c128_i32_2323
  v4657
def k0_mult128 : BitVec 32 :=
  let c0_i32_1930 : BitVec 32 := 0#32
  let c16_i32_2321 : BitVec 32 := 16#32
  let v4655 : BitVec 32 := Scalar.muli c0_i32_1930 c16_i32_2321
  let c10_i32_2322 : BitVec 32 := 10#32
  let v4656 : BitVec 32 := Scalar.addi v4655 c10_i32_2322
  let c1_i32_2324 : BitVec 32 := 1#32
  let v4659 : BitVec 32 := Scalar.subi v4656 c1_i32_2324
  let c0_i32_2325 : BitVec 32 := 0#32
  let v4660 : BitVec 32 := Scalar.maxsi v4659 c0_i32_2325
  let c128_i32_2326 : BitVec 32 := 128#32
  let v4661 : BitVec 32 := Scalar.muli v4660 c128_i32_2326
  v4661
def k0_mult129 : BitVec 32 :=
  let c0_i32_1930 : BitVec 32 := 0#32
  let c16_i32_2321 : BitVec 32 := 16#32
  let v4655 : BitVec 32 := Scalar.muli c0_i32_1930 c16_i32_2321
  let c10_i32_2322 : BitVec 32 := 10#32
  let v4656 : BitVec 32 := Scalar.addi v4655 c10_i32_2322
  let c0_i32_2354 : BitVec 32 := 0#32
  let v4723 : BitVec 1 := Scalar.cmpi .eq v4656 c0_i32_2354
  let c16_i32_2356 : BitVec 32 := 16#32
  let c1_i32_2355 : BitVec 32 := 1#32
  let v4724 : BitVec 32 := Scalar.subi v4656 c1_i32_2355
  let v4725 : BitVec 32 := Scalar.select v4723 c16_i32_2356 v4724
  let c128_i32_2357 : BitVec 32 := 128#32
  let v4726 : BitVec 32 := Scalar.muli v4725 c128_i32_2357
  v4726
def k0_mult130 : BitVec 32 :=
  let c0_i32_1930 : BitVec 32 := 0#32
  let c16_i32_2360 : BitVec 32 := 16#32
  let v4742 : BitVec 32 := Scalar.muli c0_i32_1930 c16_i32_2360
  let c11_i32_2361 : BitVec 32 := 11#32
  let v4743 : BitVec 32 := Scalar.addi v4742 c11_i32_2361
  let c128_i32_2362 : BitVec 32 := 128#32
  let v4744 : BitVec 32 := Scalar.muli v4743 c128_i32_2362
  v4744
def k0_mult131 : BitVec 32 :=
  let c0_i32_1930 : BitVec 32 := 0#32
  let c16_i32_2360 : BitVec 32 := 16#32
  let v4742 : BitVec 32 := Scalar.muli c0_i32_1930 c16_i32_2360
  let c11_i32_2361 : BitVec 32 := 11#32
  let v4743 : BitVec 32 := Scalar.addi v4742 c11_i32_2361
  let c1_i32_2363 : BitVec 32 := 1#32
  let v4746 : BitVec 32 := Scalar.subi v4743 c1_i32_2363
  let c0_i32_2364 : BitVec 32 := 0#32
  let v4747 : BitVec 32 := Scalar.maxsi v4746 c0_i32_2364
  let c128_i32_2365 : BitVec 32 := 128#32
  let v4748 : BitVec 32 := Scalar.muli v4747 c128_i32_2365
  v4748
def k0_mult132 : BitVec 32 :=
  let c0_i32_1930 : BitVec 32 := 0#32
  let c16_i32_2360 : BitVec 32 := 16#32
  let v4742 : BitVec 32 := Scalar.muli c0_i32_1930 c16_i32_2360
  let c11_i32_2361 : BitVec 32 := 11#32
  let v4743 : BitVec 32 := Scalar.addi v4742 c11_i32_2361
  let c0_i32_2393 : BitVec 32 := 0#32
  let v4810 : BitVec 1 := Scalar.cmpi .eq v4743 c0_i32_2393
  let c16_i32_2395 : BitVec 32 := 16#32
  let c1_i32_2394 : BitVec 32 := 1#32
  let v4811 : BitVec 32 := Scalar.subi v4743 c1_i32_2394
  let v4812 : BitVec 32 := Scalar.select v4810 c16_i32_2395 v4811
  let c128_i32_2396 : BitVec 32 := 128#32
  let v4813 : BitVec 32 := Scalar.muli v4812 c128_i32_2396
  v4813
def k0_mult133 : BitVec 32 :=
  let c0_i32_1930 : BitVec 32 := 0#32
  let c16_i32_2399 : BitVec 32 := 16#32
  let v4829 : BitVec 32 := Scalar.muli c0_i32_1930 c16_i32_2399
  let c12_i32_2400 : BitVec 32 := 12#32
  let v4830 : BitVec 32 := Scalar.addi v4829 c12_i32_2400
  let c128_i32_2401 : BitVec 32 := 128#32
  let v4831 : BitVec 32 := Scalar.muli v4830 c128_i32_2401
  v4831
def k0_mult134 : BitVec 32 :=
  let c0_i32_1930 : BitVec 32 := 0#32
  let c16_i32_2399 : BitVec 32 := 16#32
  let v4829 : BitVec 32 := Scalar.muli c0_i32_1930 c16_i32_2399
  let c12_i32_2400 : BitVec 32 := 12#32
  let v4830 : BitVec 32 := Scalar.addi v4829 c12_i32_2400
  let c1_i32_2402 : BitVec 32 := 1#32
  let v4833 : BitVec 32 := Scalar.subi v4830 c1_i32_2402
  let c0_i32_2403 : BitVec 32 := 0#32
  let v4834 : BitVec 32 := Scalar.maxsi v4833 c0_i32_2403
  let c128_i32_2404 : BitVec 32 := 128#32
  let v4835 : BitVec 32 := Scalar.muli v4834 c128_i32_2404
  v4835
def k0_mult135 : BitVec 32 :=
  let c0_i32_1930 : BitVec 32 := 0#32
  let c16_i32_2399 : BitVec 32 := 16#32
  let v4829 : BitVec 32 := Scalar.muli c0_i32_1930 c16_i32_2399
  let c12_i32_2400 : BitVec 32 := 12#32
  let v4830 : BitVec 32 := Scalar.addi v4829 c12_i32_2400
  let c0_i32_2432 : BitVec 32 := 0#32
  let v4897 : BitVec 1 := Scalar.cmpi .eq v4830 c0_i32_2432
  let c16_i32_2434 : BitVec 32 := 16#32
  let c1_i32_2433 : BitVec 32 := 1#32
  let v4898 : BitVec 32 := Scalar.subi v4830 c1_i32_2433
  let v4899 : BitVec 32 := Scalar.select v4897 c16_i32_2434 v4898
  let c128_i32_2435 : BitVec 32 := 128#32
  let v4900 : BitVec 32 := Scalar.muli v4899 c128_i32_2435
  v4900
def k0_mult136 : BitVec 32 :=
  let c0_i32_1930 : BitVec 32 := 0#32
  let c16_i32_2438 : BitVec 32 := 16#32
  let v4916 : BitVec 32 := Scalar.muli c0_i32_1930 c16_i32_2438
  let c13_i32_2439 : BitVec 32 := 13#32
  let v4917 : BitVec 32 := Scalar.addi v4916 c13_i32_2439
  let c128_i32_2440 : BitVec 32 := 128#32
  let v4918 : BitVec 32 := Scalar.muli v4917 c128_i32_2440
  v4918
def k0_mult137 : BitVec 32 :=
  let c0_i32_1930 : BitVec 32 := 0#32
  let c16_i32_2438 : BitVec 32 := 16#32
  let v4916 : BitVec 32 := Scalar.muli c0_i32_1930 c16_i32_2438
  let c13_i32_2439 : BitVec 32 := 13#32
  let v4917 : BitVec 32 := Scalar.addi v4916 c13_i32_2439
  let c1_i32_2441 : BitVec 32 := 1#32
  let v4920 : BitVec 32 := Scalar.subi v4917 c1_i32_2441
  let c0_i32_2442 : BitVec 32 := 0#32
  let v4921 : BitVec 32 := Scalar.maxsi v4920 c0_i32_2442
  let c128_i32_2443 : BitVec 32 := 128#32
  let v4922 : BitVec 32 := Scalar.muli v4921 c128_i32_2443
  v4922
def k0_mult138 : BitVec 32 :=
  let c0_i32_1930 : BitVec 32 := 0#32
  let c16_i32_2438 : BitVec 32 := 16#32
  let v4916 : BitVec 32 := Scalar.muli c0_i32_1930 c16_i32_2438
  let c13_i32_2439 : BitVec 32 := 13#32
  let v4917 : BitVec 32 := Scalar.addi v4916 c13_i32_2439
  let c0_i32_2471 : BitVec 32 := 0#32
  let v4984 : BitVec 1 := Scalar.cmpi .eq v4917 c0_i32_2471
  let c16_i32_2473 : BitVec 32 := 16#32
  let c1_i32_2472 : BitVec 32 := 1#32
  let v4985 : BitVec 32 := Scalar.subi v4917 c1_i32_2472
  let v4986 : BitVec 32 := Scalar.select v4984 c16_i32_2473 v4985
  let c128_i32_2474 : BitVec 32 := 128#32
  let v4987 : BitVec 32 := Scalar.muli v4986 c128_i32_2474
  v4987
def k0_mult139 : BitVec 32 :=
  let c0_i32_1930 : BitVec 32 := 0#32
  let c16_i32_2477 : BitVec 32 := 16#32
  let v5003 : BitVec 32 := Scalar.muli c0_i32_1930 c16_i32_2477
  let c14_i32_2478 : BitVec 32 := 14#32
  let v5004 : BitVec 32 := Scalar.addi v5003 c14_i32_2478
  let c128_i32_2479 : BitVec 32 := 128#32
  let v5005 : BitVec 32 := Scalar.muli v5004 c128_i32_2479
  v5005
def k0_mult140 : BitVec 32 :=
  let c0_i32_1930 : BitVec 32 := 0#32
  let c16_i32_2477 : BitVec 32 := 16#32
  let v5003 : BitVec 32 := Scalar.muli c0_i32_1930 c16_i32_2477
  let c14_i32_2478 : BitVec 32 := 14#32
  let v5004 : BitVec 32 := Scalar.addi v5003 c14_i32_2478
  let c1_i32_2480 : BitVec 32 := 1#32
  let v5007 : BitVec 32 := Scalar.subi v5004 c1_i32_2480
  let c0_i32_2481 : BitVec 32 := 0#32
  let v5008 : BitVec 32 := Scalar.maxsi v5007 c0_i32_2481
  let c128_i32_2482 : BitVec 32 := 128#32
  let v5009 : BitVec 32 := Scalar.muli v5008 c128_i32_2482
  v5009
def k0_mult141 : BitVec 32 :=
  let c0_i32_1930 : BitVec 32 := 0#32
  let c16_i32_2477 : BitVec 32 := 16#32
  let v5003 : BitVec 32 := Scalar.muli c0_i32_1930 c16_i32_2477
  let c14_i32_2478 : BitVec 32 := 14#32
  let v5004 : BitVec 32 := Scalar.addi v5003 c14_i32_2478
  let c0_i32_2510 : BitVec 32 := 0#32
  let v5071 : BitVec 1 := Scalar.cmpi .eq v5004 c0_i32_2510
  let c16_i32_2512 : BitVec 32 := 16#32
  let c1_i32_2511 : BitVec 32 := 1#32
  let v5072 : BitVec 32 := Scalar.subi v5004 c1_i32_2511
  let v5073 : BitVec 32 := Scalar.select v5071 c16_i32_2512 v5072
  let c128_i32_2513 : BitVec 32 := 128#32
  let v5074 : BitVec 32 := Scalar.muli v5073 c128_i32_2513
  v5074
def k0_mult142 : BitVec 32 :=
  let c0_i32_1930 : BitVec 32 := 0#32
  let c16_i32_2516 : BitVec 32 := 16#32
  let v5090 : BitVec 32 := Scalar.muli c0_i32_1930 c16_i32_2516
  let c15_i32_2517 : BitVec 32 := 15#32
  let v5091 : BitVec 32 := Scalar.addi v5090 c15_i32_2517
  let c128_i32_2518 : BitVec 32 := 128#32
  let v5092 : BitVec 32 := Scalar.muli v5091 c128_i32_2518
  v5092
def k0_mult143 : BitVec 32 :=
  let c0_i32_1930 : BitVec 32 := 0#32
  let c16_i32_2516 : BitVec 32 := 16#32
  let v5090 : BitVec 32 := Scalar.muli c0_i32_1930 c16_i32_2516
  let c15_i32_2517 : BitVec 32 := 15#32
  let v5091 : BitVec 32 := Scalar.addi v5090 c15_i32_2517
  let c1_i32_2519 : BitVec 32 := 1#32
  let v5094 : BitVec 32 := Scalar.subi v5091 c1_i32_2519
  let c0_i32_2520 : BitVec 32 := 0#32
  let v5095 : BitVec 32 := Scalar.maxsi v5094 c0_i32_2520
  let c128_i32_2521 : BitVec 32 := 128#32
  let v5096 : BitVec 32 := Scalar.muli v5095 c128_i32_2521
  v5096
def k0_mult144 : BitVec 32 :=
  let c0_i32_1930 : BitVec 32 := 0#32
  let c16_i32_2516 : BitVec 32 := 16#32
  let v5090 : BitVec 32 := Scalar.muli c0_i32_1930 c16_i32_2516
  let c15_i32_2517 : BitVec 32 := 15#32
  let v5091 : BitVec 32 := Scalar.addi v5090 c15_i32_2517
  let c0_i32_2549 : BitVec 32 := 0#32
  let v5158 : BitVec 1 := Scalar.cmpi .eq v5091 c0_i32_2549
  let c16_i32_2551 : BitVec 32 := 16#32
  let c1_i32_2550 : BitVec 32 := 1#32
  let v5159 : BitVec 32 := Scalar.subi v5091 c1_i32_2550
  let v5160 : BitVec 32 := Scalar.select v5158 c16_i32_2551 v5159
  let c128_i32_2552 : BitVec 32 := 128#32
  let v5161 : BitVec 32 := Scalar.muli v5160 c128_i32_2552
  v5161
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S7x2048x2048 : Shape := ⟨3, ![7, 2048, 2048]⟩
abbrev S16x1x128 : Shape := ⟨3, ![16, 1, 128]⟩
abbrev S2048x2048 : Shape := ⟨2, ![2048, 2048]⟩
abbrev S3 : Shape := ⟨1, ![3]⟩
abbrev S1x2048x2048 : Shape := ⟨3, ![1, 2048, 2048]⟩
abbrev S2048x16x128 : Shape := ⟨3, ![2048, 16, 128]⟩
abbrev S16x2048x128 : Shape := ⟨3, ![16, 2048, 128]⟩
abbrev S16x1x1 : Shape := ⟨3, ![16, 1, 1]⟩
abbrev S16 : Shape := ⟨1, ![16]⟩
abbrev S3x2048x2048 : Shape := ⟨3, ![3, 2048, 2048]⟩
abbrev S3x1x1 : Shape := ⟨3, ![3, 1, 1]⟩
abbrev S_ : Shape := ⟨0, ![]⟩
abbrev S1x16 : Shape := ⟨2, ![1, 16]⟩
abbrev S3x1 : Shape := ⟨2, ![3, 1]⟩
abbrev S3x16 : Shape := ⟨2, ![3, 16]⟩
abbrev S3x16x1x1 : Shape := ⟨4, ![3, 16, 1, 1]⟩
abbrev S3x1x2048x2048 : Shape := ⟨4, ![3, 1, 2048, 2048]⟩
abbrev S3x16x2048x2048 : Shape := ⟨4, ![3, 16, 2048, 2048]⟩
abbrev S16x2048x2048 : Shape := ⟨3, ![16, 2048, 2048]⟩
abbrev S1x16x2048x2048 : Shape := ⟨4, ![1, 16, 2048, 2048]⟩
abbrev S3x16x2048 : Shape := ⟨3, ![3, 16, 2048]⟩
abbrev S3x16x2048x1 : Shape := ⟨4, ![3, 16, 2048, 1]⟩
abbrev S16x128x3x2048 : Shape := ⟨4, ![16, 128, 3, 2048]⟩
abbrev S3x16x2048x128 : Shape := ⟨4, ![3, 16, 2048, 128]⟩
abbrev S16x2048x1 : Shape := ⟨3, ![16, 2048, 1]⟩
abbrev S1x16x2048x1 : Shape := ⟨4, ![1, 16, 2048, 1]⟩
abbrev S16x2048 : Shape := ⟨2, ![16, 2048]⟩
abbrev S16x3x2048x2048 : Shape := ⟨4, ![16, 3, 2048, 2048]⟩
abbrev S16x128x2048 : Shape := ⟨3, ![16, 128, 2048]⟩

abbrev nBuf : Space → Nat
  | .hbm => 212
  | .vmem => 0
  | .smem => 0
  | _ => 0

abbrev hbmTy0_0 (i : Nat) : BufTy := match i % 128 with
  | 0 => ⟨S7x2048x2048, .f32⟩
  | 1 => ⟨S16x1x128, .f32⟩
  | 2 => ⟨S2048x2048, .f32⟩
  | 3 => ⟨S3, .i32⟩
  | 4 => ⟨S1x2048x2048, .f32⟩
  | 5 => ⟨S2048x2048, .f32⟩
  | 6 => ⟨S2048x16x128, .f32⟩
  | 7 => ⟨S16x2048x128, .f32⟩
  | 8 => ⟨S1x2048x2048, .f32⟩
  | 9 => ⟨S2048x2048, .f32⟩
  | 10 => ⟨S2048x16x128, .f32⟩
  | 11 => ⟨S16x2048x128, .f32⟩
  | 12 => ⟨S1x2048x2048, .f32⟩
  | 13 => ⟨S2048x2048, .f32⟩
  | 14 => ⟨S2048x16x128, .f32⟩
  | 15 => ⟨S16x2048x128, .f32⟩
  | 16 => ⟨S16x1x1, .f32⟩
  | 17 => ⟨S16, .f32⟩
  | 18 => ⟨S1x2048x2048, .i32⟩
  | 19 => ⟨S1x2048x2048, .i32⟩
  | 20 => ⟨S1x2048x2048, .i32⟩
  | 21 => ⟨S3x2048x2048, .i32⟩
  | 22 => ⟨S3x1x1, .i32⟩
  | 23 => ⟨S3x2048x2048, .i32⟩
  | 24 => ⟨S3x2048x2048, .i32⟩
  | 25 => ⟨S_, .i32⟩
  | 26 => ⟨S3x2048x2048, .i32⟩
  | 27 => ⟨S3x2048x2048, .i1⟩
  | 28 => ⟨S3x2048x2048, .i32⟩
  | 29 => ⟨S_, .i32⟩
  | 30 => ⟨S3x2048x2048, .i32⟩
  | 31 => ⟨S3x2048x2048, .i1⟩
  | 32 => ⟨S3x2048x2048, .i1⟩
  | 33 => ⟨S_, .i32⟩
  | 34 => ⟨S3x2048x2048, .i32⟩
  | 35 => ⟨S3x2048x2048, .i1⟩
  | 36 => ⟨S3x2048x2048, .i1⟩
  | 37 => ⟨S1x16, .f32⟩
  | 38 => ⟨S3, .f32⟩
  | 39 => ⟨S3x1, .f32⟩
  | 40 => ⟨S3x16, .f32⟩
  | 41 => ⟨S3x16, .f32⟩
  | 42 => ⟨S3x16, .f32⟩
  | 43 => ⟨S3x16x1x1, .f32⟩
  | 44 => ⟨S3x16x1x1, .f32⟩
  | 45 => ⟨S3x2048x2048, .f32⟩
  | 46 => ⟨S3x1x2048x2048, .f32⟩
  | 47 => ⟨S3x16x2048x2048, .f32⟩
  | 48 => ⟨S3x16x2048x2048, .f32⟩
  | 49 => ⟨S3x16x2048x2048, .f32⟩
  | 50 => ⟨S16x2048x2048, .f32⟩
  | 51 => ⟨S_, .f32⟩
  | 52 => ⟨S16x2048x2048, .f32⟩
  | 53 => ⟨S16x2048x2048, .f32⟩
  | 54 => ⟨S1x16x2048x2048, .f32⟩
  | 55 => ⟨S3x16x2048x2048, .f32⟩
  | 56 => ⟨S3x16x2048x2048, .f32⟩
  | 57 => ⟨S3x1x2048x2048, .i1⟩
  | 58 => ⟨S_, .f32⟩
  | 59 => ⟨S_, .f32⟩
  | 60 => ⟨S3x16x2048x2048, .i1⟩
  | 61 => ⟨S3x16x2048x2048, .f32⟩
  | 62 => ⟨S3x16x2048x2048, .f32⟩
  | 63 => ⟨S_, .f32⟩
  | 64 => ⟨S3x16x2048x2048, .f32⟩
  | 65 => ⟨S_, .f32⟩
  | 66 => ⟨S3x16x2048, .f32⟩
  | 67 => ⟨S3x16x2048x1, .f32⟩
  | 68 => ⟨S3x16x2048x2048, .f32⟩
  | 69 => ⟨S3x16x2048x2048, .i1⟩
  | 70 => ⟨S3x16x2048x2048, .f32⟩
  | 71 => ⟨S_, .f32⟩
  | 72 => ⟨S3x16x2048, .f32⟩
  | 73 => ⟨S3x16x2048x1, .f32⟩
  | 74 => ⟨S3x16x2048x2048, .f32⟩
  | 75 => ⟨S3x16x2048x2048, .f32⟩
  | 76 => ⟨S3x16x2048x2048, .f32⟩
  | 77 => ⟨S_, .f32⟩
  | 78 => ⟨S3x16x2048, .f32⟩
  | 79 => ⟨S3x16x2048x1, .f32⟩
  | 80 => ⟨S16x128x3x2048, .f32⟩
  | 81 => ⟨S3x16x2048x128, .f32⟩
  | 82 => ⟨S3x16x2048x128, .f32⟩
  | 83 => ⟨S3x16x2048x128, .f32⟩
  | 84 => ⟨S3x16x2048x1, .f32⟩
  | 85 => ⟨S_, .f32⟩
  | 86 => ⟨S3x16x2048x1, .f32⟩
  | 87 => ⟨S3x16x2048x1, .f32⟩
  | 88 => ⟨S3x16x2048x1, .f32⟩
  | 89 => ⟨S3x16x2048x1, .f32⟩
  | 90 => ⟨S_, .f32⟩
  | 91 => ⟨S16x2048x1, .f32⟩
  | 92 => ⟨S1x16x2048x1, .f32⟩
  | 93 => ⟨S3x16x2048x1, .f32⟩
  | 94 => ⟨S3x16x2048x1, .i1⟩
  | 95 => ⟨S3x16x2048x1, .f32⟩
  | 96 => ⟨S_, .f32⟩
  | 97 => ⟨S16x2048x1, .f32⟩
  | 98 => ⟨S_, .f32⟩
  | 99 => ⟨S16x2048x1, .f32⟩
  | 100 => ⟨S16x2048x1, .f32⟩
  | 101 => ⟨S_, .f32⟩
  | 102 => ⟨S16x2048x1, .f32⟩
  | 103 => ⟨S16x2048x1, .i1⟩
  | 104 => ⟨S_, .f32⟩
  | 105 => ⟨S16x2048x1, .f32⟩
  | 106 => ⟨S16x2048x1, .i1⟩
  | 107 => ⟨S_, .f32⟩
  | 108 => ⟨S16x2048x1, .f32⟩
  | 109 => ⟨S_, .f32⟩
  | 110 => ⟨S16x2048x1, .f32⟩
  | 111 => ⟨S_, .f32⟩
  | 112 => ⟨S16x2048x1, .f32⟩
  | 113 => ⟨S16x2048x1, .f32⟩
  | 114 => ⟨S16x2048x1, .f32⟩
  | 115 => ⟨S1x16x2048x1, .f32⟩
  | 116 => ⟨S3x16x2048x1, .f32⟩
  | 117 => ⟨S3x16x2048x1, .f32⟩
  | 118 => ⟨S3x16x2048x1, .f32⟩
  | 119 => ⟨S_, .f32⟩
  | 120 => ⟨S16x2048x1, .f32⟩
  | 121 => ⟨S1x16x2048x1, .f32⟩
  | 122 => ⟨S3x16x2048x1, .f32⟩
  | 123 => ⟨S3x16x2048x1, .f32⟩
  | 124 => ⟨S1x16x2048x1, .f32⟩
  | 125 => ⟨S_, .f32⟩
  | 126 => ⟨S1x16x2048x1, .f32⟩
  | 127 => ⟨S1x16x2048x1, .f32⟩
  | _ => ⟨S7x2048x2048, .f32⟩

abbrev hbmTy0_1 (i : Nat) : BufTy := match i % 128 with
  | 0 => ⟨S3x16x2048x128, .f32⟩
  | 1 => ⟨S3x16x2048x128, .f32⟩
  | 2 => ⟨S_, .f32⟩
  | 3 => ⟨S16x2048x128, .f32⟩
  | 4 => ⟨S2048x16x128, .f32⟩
  | 5 => ⟨S16x2048x128, .f32⟩
  | 6 => ⟨S3x16x2048x128, .f32⟩
  | 7 => ⟨S3x16x2048x128, .f32⟩
  | 8 => ⟨S3x16x2048x128, .f32⟩
  | 9 => ⟨S3x16x2048x128, .f32⟩
  | 10 => ⟨S_, .f32⟩
  | 11 => ⟨S3x16x2048, .f32⟩
  | 12 => ⟨S3x16x2048x1, .f32⟩
  | 13 => ⟨S3x16x2048x1, .f32⟩
  | 14 => ⟨S3x16x2048x1, .f32⟩
  | 15 => ⟨S3x16x2048x1, .f32⟩
  | 16 => ⟨S_, .f32⟩
  | 17 => ⟨S16x2048x1, .f32⟩
  | 18 => ⟨S1x16x2048x1, .f32⟩
  | 19 => ⟨S1x16x2048x1, .f32⟩
  | 20 => ⟨S3x16x2048x1, .f32⟩
  | 21 => ⟨S3x16x2048x1, .f32⟩
  | 22 => ⟨S_, .f32⟩
  | 23 => ⟨S16x2048, .f32⟩
  | 24 => ⟨S16x2048x1, .f32⟩
  | 25 => ⟨S3x16x2048x1, .f32⟩
  | 26 => ⟨S3x16x2048x1, .f32⟩
  | 27 => ⟨S3x16x2048x1, .f32⟩
  | 28 => ⟨S3x16x2048x1, .f32⟩
  | 29 => ⟨S3x16x2048x128, .f32⟩
  | 30 => ⟨S3x16x2048x128, .f32⟩
  | 31 => ⟨S3x16x2048x128, .f32⟩
  | 32 => ⟨S_, .f32⟩
  | 33 => ⟨S3x16x2048, .f32⟩
  | 34 => ⟨S3x16x2048x1, .f32⟩
  | 35 => ⟨S3x16x2048x1, .f32⟩
  | 36 => ⟨S3x16x2048x1, .f32⟩
  | 37 => ⟨S3x16x2048x128, .f32⟩
  | 38 => ⟨S3x16x2048x128, .f32⟩
  | 39 => ⟨S16x128x3x2048, .f32⟩
  | 40 => ⟨S16x3x2048x2048, .f32⟩
  | 41 => ⟨S3x16x2048x2048, .f32⟩
  | 42 => ⟨S16x128x2048, .f32⟩
  | 43 => ⟨S16x2048x128, .f32⟩
  | 44 => ⟨S_, .f32⟩
  | 45 => ⟨S3x16x2048, .f32⟩
  | 46 => ⟨S3x16x2048x2048, .f32⟩
  | 47 => ⟨S3x16x2048x2048, .f32⟩
  | 48 => ⟨S3x16x2048x2048, .f32⟩
  | 49 => ⟨S3x16x2048x2048, .f32⟩
  | 50 => ⟨S_, .f32⟩
  | 51 => ⟨S3x16x2048, .f32⟩
  | 52 => ⟨S3x16x2048x1, .f32⟩
  | 53 => ⟨S3x16x2048x1, .f32⟩
  | 54 => ⟨S_, .f32⟩
  | 55 => ⟨S3x16x2048, .f32⟩
  | 56 => ⟨S3x16x2048, .f32⟩
  | 57 => ⟨S3x16x2048x2048, .f32⟩
  | 58 => ⟨S3x16x2048x2048, .f32⟩
  | 59 => ⟨S3x16x2048x2048, .f32⟩
  | 60 => ⟨S_, .f32⟩
  | 61 => ⟨S3x16x2048x2048, .f32⟩
  | 62 => ⟨S3x16x2048x2048, .f32⟩
  | 63 => ⟨S_, .f32⟩
  | 64 => ⟨S16x2048x2048, .f32⟩
  | 65 => ⟨S1x16x2048x2048, .f32⟩
  | 66 => ⟨S_, .f32⟩
  | 67 => ⟨S16x2048x2048, .f32⟩
  | 68 => ⟨S_, .f32⟩
  | 69 => ⟨S16x2048x2048, .f32⟩
  | 70 => ⟨S16x2048x2048, .f32⟩
  | 71 => ⟨S16x2048x128, .f32⟩
  | 72 => ⟨S16x2048x128, .f32⟩
  | 73 => ⟨S2048x16x128, .f32⟩
  | 74 => ⟨S2048x2048, .f32⟩
  | 75 => ⟨S2048x16x128, .f32⟩
  | 76 => ⟨S2048x2048, .f32⟩
  | 77 => ⟨S2048x16x128, .f32⟩
  | 78 => ⟨S2048x2048, .f32⟩
  | 79 => ⟨S1x2048x2048, .f32⟩
  | 80 => ⟨S1x2048x2048, .f32⟩
  | 81 => ⟨S1x2048x2048, .f32⟩
  | 82 => ⟨S3x2048x2048, .f32⟩
  | 83 => ⟨S3x2048x2048, .bf16⟩
  | _ => ⟨S7x2048x2048, .f32⟩

abbrev hbmTy (i : Nat) : BufTy := match i / 128 with
  | 0 => hbmTy0_0 i
  | 1 => hbmTy0_1 i
  | _ => ⟨S7x2048x2048, .f32⟩

abbrev bufTy : (tb : Table) → Fin (tcTables nBuf tb) → BufTy
  | .hbm, ⟨i, _⟩ => hbmTy i
  | _, _ => ⟨S7x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_3 : Ref sig .tc := ⟨.hbm, 58, rfl⟩
abbrev main_call0_v0 : Ref sig .tc := ⟨.hbm, 59, rfl⟩
abbrev main_v50_1 : Ref sig .tc := ⟨.hbm, 60, rfl⟩
abbrev main_call0_v2 : Ref sig .tc := ⟨.hbm, 61, rfl⟩
abbrev main_v50_0 : Ref sig .tc := ⟨.hbm, 62, rfl⟩
abbrev main_call0_cst : Ref sig .tc := ⟨.hbm, 63, rfl⟩
abbrev main_v50_2 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_5 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_cst_10 : Ref sig .tc := ⟨.hbm, 98, rfl⟩
abbrev main_v78 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_cst_14 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_16 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_17 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_18 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_19 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_20 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_21 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_22 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_23 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_24 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_25 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_call1_cst : Ref sig .tc := ⟨.hbm, 188, rfl⟩
abbrev main_call1_v0 : Ref sig .tc := ⟨.hbm, 189, rfl⟩
abbrev main_v152 : Ref sig .tc := ⟨.hbm, 190, rfl⟩
abbrev main_cst_26 : Ref sig .tc := ⟨.hbm, 191, rfl⟩
abbrev main_v153 : Ref sig .tc := ⟨.hbm, 192, rfl⟩
abbrev main_v154 : Ref sig .tc := ⟨.hbm, 193, rfl⟩
abbrev main_cst_27 : Ref sig .tc := ⟨.hbm, 194, rfl⟩
abbrev main_v155 : Ref sig .tc := ⟨.hbm, 195, rfl⟩
abbrev main_cst_28 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩

abbrev nD : Nat := 1
abbrev τ : Topo := Topo.v7x

variable {F : FTy → Type} [FloatOps F]
-- ==== Kernel2.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x2048, .bf16⟩
  | .hbm, ⟨8, _⟩ => ⟨S8192x2048, .bf16⟩
  | .hbm, ⟨9, _⟩ => ⟨S2048x8192, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference2Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | .hbm, ⟨21, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩
abbrev S2048x512 : Shape := ⟨2, ![2048, 512]⟩
abbrev S256x2048 : Shape := ⟨2, ![256, 2048]⟩
abbrev S2048x256 : Shape := ⟨2, ![2048, 256]⟩

abbrev nBuf : Space → Nat
  | .hbm => 9
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x2048, .bf16⟩
  | .hbm, ⟨8, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S4x2048x2048 : Shape := ⟨3, ![4, 2048, 2048]⟩
abbrev S2048x8192 : Shape := ⟨2, ![2048, 8192]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S2048x8192, .bf16⟩
  | .hbm, ⟨3, _⟩ => ⟨S4x2048x2048, .bf16⟩
  | .hbm, ⟨4, _⟩ => ⟨S2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S4x2048x2048 : Shape := ⟨3, ![4, 2048, 2048]⟩
abbrev S2048x8192 : Shape := ⟨2, ![2048, 8192]⟩
abbrev S_ : Shape := ⟨0, ![]⟩
abbrev S2048x2048 : Shape := ⟨2, ![2048, 2048]⟩
abbrev S2048x4x2048 : Shape := ⟨3, ![2048, 4, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x4x2048, .f32⟩
  | .hbm, ⟨5, _⟩ => ⟨S2048x8192, .f32⟩
  | .hbm, ⟨6, _⟩ => ⟨S2048x8192, .f32⟩
  | .hbm, ⟨7, _⟩ => ⟨S2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2048x2048 : Shape := ⟨2, ![2048, 2048]⟩
abbrev S2048x8192 : Shape := ⟨2, ![2048, 8192]⟩
abbrev S4x2048x2048 : Shape := ⟨3, ![4, 2048, 2048]⟩
abbrev S2048x512 : Shape := ⟨2, ![2048, 512]⟩
abbrev S1x2048x512 : Shape := ⟨3, ![1, 2048, 512]⟩
abbrev S256x2048 : Shape := ⟨2, ![256, 2048]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S4x2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S2048x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference5Ideal.lean ====
abbrev S2048x2048 : Shape := ⟨2, ![2048, 2048]⟩
abbrev S2048x8192 : Shape := ⟨2, ![2048, 8192]⟩
abbrev S_ : Shape := ⟨0, ![]⟩
abbrev S4x2048x2048 : Shape := ⟨3, ![4, 2048, 2048]⟩
abbrev S2048x4x2048 : Shape := ⟨3, ![2048, 4, 2048]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S2048x2048 : Shape := ⟨2, ![2048, 2048]⟩
abbrev S4x2048x2048 : Shape := ⟨3, ![4, 2048, 2048]⟩
abbrev S2048x8192 : Shape := ⟨2, ![2048, 8192]⟩
abbrev S1x2048x512 : Shape := ⟨3, ![1, 2048, 512]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .f32⟩
  | .hbm, ⟨2, _⟩ => ⟨S2048x2048, .bf16⟩
  | .hbm, ⟨3, _⟩ => ⟨S4x2048x2048, .bf16⟩
  | .hbm, ⟨4, _⟩ => ⟨S2048x8192, .bf16⟩
  | .hbm, ⟨5, _⟩ => ⟨S2048x8192, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference6Ideal.lean ====
abbrev S2048x2048 : Shape := ⟨2, ![2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .f32⟩
  | .hbm, ⟨2, _⟩ => ⟨S2048x4x2048, .f32⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .bf16⟩
  | .hbm, ⟨10, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S2048x512 : Shape := ⟨2, ![2048, 512]⟩

abbrev nBuf : Space → Nat
  | .hbm => 10
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x8192, .bf16⟩
  | .hbm, ⟨8, _⟩ => ⟨S8192x2048, .bf16⟩
  | .hbm, ⟨9, _⟩ => ⟨S2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference7Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | .hbm, ⟨8, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel8.lean ====
abbrev S4x2048x3584 : Shape := ⟨3, ![4, 2048, 3584]⟩
abbrev S7x2048x2048 : Shape := ⟨3, ![7, 2048, 2048]⟩
abbrev S3x2048x2048 : Shape := ⟨3, ![3, 2048, 2048]⟩
abbrev S4x2048x2048 : Shape := ⟨3, ![4, 2048, 2048]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x3584, .f32⟩
  | .hbm, ⟨1, _⟩ => ⟨S7x2048x2048, .f32⟩
  | .hbm, ⟨2, _⟩ => ⟨S4x2048x3584, .bf16⟩
  | .hbm, ⟨3, _⟩ => ⟨S7x2048x2048, .bf16⟩
  | .hbm, ⟨4, _⟩ => ⟨S3x2048x2048, .bf16⟩
  | .hbm, ⟨5, _⟩ => ⟨S4x2048x2048, .bf16⟩
  | .hbm, ⟨6, _⟩ => ⟨S2048x2048, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x2048, .f32⟩
  | _, _ => ⟨S4x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 28], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c12_i32 : BitVec 32 := 12#32
  let v3 : BitVec 1 := Scalar.cmpi .slt arg2 c12_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c12_i32_2 : BitVec 32 := 12#32
  let v6 : BitVec 1 := Scalar.cmpi .sge arg2 c12_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.minsi arg2 c11_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg2 c12_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg2 c7_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg2 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]
-- ==== Reference8Ideal.lean ====
abbrev S4x2048x3584 : Shape := ⟨3, ![4, 2048, 3584]⟩
abbrev S7x2048x2048 : Shape := ⟨3, ![7, 2048, 2048]⟩
abbrev S_ : Shape := ⟨0, ![]⟩
abbrev S2048x2048 : Shape := ⟨2, ![2048, 2048]⟩
abbrev S2048x4x3584 : Shape := ⟨3, ![2048, 4, 3584]⟩
abbrev S2048x14336 : Shape := ⟨2, ![2048, 14336]⟩
abbrev S2048x7x2048 : Shape := ⟨3, ![2048, 7, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x3584, .f32⟩
  | .hbm, ⟨1, _⟩ => ⟨S7x2048x2048, .f32⟩
  | .hbm, ⟨2, _⟩ => ⟨S_, .f32⟩
  | .hbm, ⟨3, _⟩ => ⟨S2048x2048, .f32⟩
  | .hbm, ⟨4, _⟩ => ⟨S2048x4x3584, .f32⟩
  | .hbm, ⟨5, _⟩ => ⟨S2048x14336, .f32⟩
  | .hbm, ⟨6, _⟩ => ⟨S2048x14336, .f32⟩
  | .hbm, ⟨7, _⟩ => ⟨S2048x7x2048, .f32⟩
  | .hbm, ⟨8, _⟩ => ⟨S7x2048x2048, .f32⟩
  | .hbm, ⟨9, _⟩ => ⟨S2048x7x2048, .f32⟩
  | .hbm, ⟨10, _⟩ => ⟨S2048x14336, .f32⟩
  | .hbm, ⟨11, _⟩ => ⟨S2048x2048, .f32⟩
  | _, _ => ⟨S4x2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S2048x2048 : Shape := ⟨2, ![2048, 2048]⟩
abbrev S2048x512 : Shape := ⟨2, ![2048, 512]⟩
abbrev S256x2048 : Shape := ⟨2, ![256, 2048]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference9Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference10Ideal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S2048x2048 : Shape := ⟨2, ![2048, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference11Ideal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S2048x2048 : Shape := ⟨2, ![2048, 2048]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference12Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S2048x2048 : Shape := ⟨2, ![2048, 2048]⟩
abbrev S7x2048x2048 : Shape := ⟨3, ![7, 2048, 2048]⟩
abbrev S2048x256 : Shape := ⟨2, ![2048, 256]⟩
abbrev S1x2048x256 : Shape := ⟨3, ![1, 2048, 256]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S7x2048x2048, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .local _ .vmem, ⟨0, _⟩ => ⟨S2048x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  let c0_i32_0 : BitVec 32 := 0#32
  ![c5_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let c0_i32_0 : BitVec 32 := 0#32
  ![c6_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]
-- ==== Reference13Ideal.lean ====
abbrev S2048x2048 : Shape := ⟨2, ![2048, 2048]⟩
abbrev S7x2048x2048 : Shape := ⟨3, ![7, 2048, 2048]⟩
abbrev S1x2048x2048 : Shape := ⟨3, ![1, 2048, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S7x2048x2048, .f32⟩
  | .hbm, ⟨4, _⟩ => ⟨S2048x2048, .f32⟩
  | .hbm, ⟨5, _⟩ => ⟨S1x2048x2048, .f32⟩
  | .hbm, ⟨6, _⟩ => ⟨S2048x2048, .f32⟩
  | .hbm, ⟨7, _⟩ => ⟨S1x2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .bf16⟩
  | .hbm, ⟨29, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel14.lean ====
abbrev S2048x2048 : Shape := ⟨2, ![2048, 2048]⟩
abbrev S7x2048x2048 : Shape := ⟨3, ![7, 2048, 2048]⟩
abbrev S2x2048x2048 : Shape := ⟨3, ![2, 2048, 2048]⟩
abbrev S256x2048 : Shape := ⟨2, ![256, 2048]⟩
abbrev S2048x256 : Shape := ⟨2, ![2048, 256]⟩
abbrev S1x2048x256 : Shape := ⟨3, ![1, 2048, 256]⟩
abbrev S2x2048x256 : Shape := ⟨3, ![2, 2048, 256]⟩

abbrev nBuf : Space → Nat
  | .hbm => 12
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S7x2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2x2048x2048, .bf16⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2x2048x256, .bf16⟩
  | .local _ .vmem, ⟨16, _⟩ => ⟨S2x2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  let c0_i32_0 : BitVec 32 := 0#32
  ![c5_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let c0_i32_0 : BitVec 32 := 0#32
  ![c6_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S2x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]
-- ==== Reference14Ideal.lean ====
abbrev S2048x2048 : Shape := ⟨2, ![2048, 2048]⟩
abbrev S7x2048x2048 : Shape := ⟨3, ![7, 2048, 2048]⟩
abbrev S1x2048x2048 : Shape := ⟨3, ![1, 2048, 2048]⟩
abbrev S_ : Shape := ⟨0, ![]⟩
abbrev S2x2048x2048 : Shape := ⟨3, ![2, 2048, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S7x2048x2048, .f32⟩
  | .hbm, ⟨4, _⟩ => ⟨S2048x2048, .f32⟩
  | .hbm, ⟨5, _⟩ => ⟨S1x2048x2048, .f32⟩
  | .hbm, ⟨6, _⟩ => ⟨S2048x2048, .f32⟩
  | .hbm, ⟨7, _⟩ => ⟨S1x2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .bf16⟩
  | .hbm, ⟨45, _⟩ => ⟨S2048x2048, .bf16⟩
  | .hbm, ⟨46, _⟩ => ⟨S1x2048x2048, .f32⟩
  | .hbm, ⟨47, _⟩ => ⟨S1x2048x2048, .f32⟩
  | .hbm, ⟨48, _⟩ => ⟨S2x2048x2048, .f32⟩
  | .hbm, ⟨49, _⟩ => ⟨S2x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel15.lean ====
abbrev S2048x2048 : Shape := ⟨2, ![2048, 2048]⟩
abbrev S4x2048x2048 : Shape := ⟨3, ![4, 2048, 2048]⟩
abbrev S4x2048x3584 : Shape := ⟨3, ![4, 2048, 3584]⟩
abbrev S1x2048x512 : Shape := ⟨3, ![1, 2048, 512]⟩
abbrev S256x2048 : Shape := ⟨2, ![256, 2048]⟩
abbrev S2048x256 : Shape := ⟨2, ![2048, 256]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .f32⟩
  | .hbm, ⟨2, _⟩ => ⟨S4x2048x3584, .bf16⟩
  | .hbm, ⟨3, _⟩ => ⟨S2048x2048, .bf16⟩
  | .hbm, ⟨4, _⟩ => ⟨S4x2048x2048, .bf16⟩
  | .hbm, ⟨5, _⟩ => ⟨S4x2048x3584, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S2048x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c7_i32 : BitVec 32 := 7#32
  let v1 : BitVec 32 := Scalar.divsi v0 c7_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c7_i32 c0_i32_1
  let v8 : BitVec 32 := Scalar.extui v7
  let c0_i32_2 : BitVec 32 := 0#32
  let v9 : BitVec 1 := Scalar.cmpi .slt c7_i32 c0_i32_2
  let v10 : BitVec 32 := Scalar.extui v9
  let v11 : BitVec 32 := Scalar.subi v8 v10
  let v12 : BitVec 1 := Scalar.cmpi .ne v6 v11
  let v13 : BitVec 32 := Scalar.remsi v0 c7_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let v18 : BitVec 32 := Scalar.addi arg1 c12_i32_4
  let c7_i32_5 : BitVec 32 := 7#32
  let c0_i32_6 : BitVec 32 := 0#32
  let v19 : BitVec 1 := Scalar.cmpi .eq c7_i32_5 c0_i32_6
  let c1_i32_7 : BitVec 32 := 1#32
  let v20 : BitVec 32 := Scalar.select v19 c1_i32_7 c7_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference15Ideal.lean ====
abbrev S2048x2048 : Shape := ⟨2, ![2048, 2048]⟩
abbrev S4x2048x2048 : Shape := ⟨3, ![4, 2048, 2048]⟩
abbrev S4x2048x3584 : Shape := ⟨3, ![4, 2048, 3584]⟩
abbrev S_ : Shape := ⟨0, ![]⟩
abbrev S2048x8192 : Shape := ⟨2, ![2048, 8192]⟩
abbrev S2048x4x2048 : Shape := ⟨3, ![2048, 4, 2048]⟩
abbrev S8192x2048 : Shape := ⟨2, ![8192, 2048]⟩
abbrev S2048x4x3584 : Shape := ⟨3, ![2048, 4, 3584]⟩
abbrev S2048x14336 : Shape := ⟨2, ![2048, 14336]⟩
abbrev S2048x6144 : Shape := ⟨2, ![2048, 6144]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .f32⟩
  | .hbm, ⟨2, _⟩ => ⟨S4x2048x3584, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x4x2048, .f32⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x2048, .f32⟩
  | .hbm, ⟨11, _⟩ => ⟨S2048x8192, .f32⟩
  | .hbm, ⟨12, _⟩ => ⟨S2048x8192, .bf16⟩
  | .hbm, ⟨13, _⟩ => ⟨S2048x4x3584, .bf16⟩
  | .hbm, ⟨14, _⟩ => ⟨S2048x14336, .bf16⟩
  | .hbm, ⟨15, _⟩ => ⟨S2048x6144, .bf16⟩
  | .hbm, ⟨16, _⟩ => ⟨S2048x14336, .bf16⟩
  | .hbm, ⟨17, _⟩ => ⟨S2048x4x3584, .bf16⟩
  | .hbm, ⟨18, _⟩ => ⟨S4x2048x3584, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel16.lean ====
abbrev S2048x2048 : Shape := ⟨2, ![2048, 2048]⟩
abbrev S3x2048x2048 : Shape := ⟨3, ![3, 2048, 2048]⟩
abbrev S4x2048x3584 : Shape := ⟨3, ![4, 2048, 3584]⟩
abbrev S1x2048x512 : Shape := ⟨3, ![1, 2048, 512]⟩
abbrev S256x2048 : Shape := ⟨2, ![256, 2048]⟩
abbrev S2048x256 : Shape := ⟨2, ![2048, 256]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S3x2048x2048, .f32⟩
  | .hbm, ⟨2, _⟩ => ⟨S4x2048x3584, .bf16⟩
  | .hbm, ⟨3, _⟩ => ⟨S2048x2048, .bf16⟩
  | .hbm, ⟨4, _⟩ => ⟨S3x2048x2048, .bf16⟩
  | .hbm, ⟨5, _⟩ => ⟨S4x2048x3584, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S2048x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c7_i32 : BitVec 32 := 7#32
  let v1 : BitVec 32 := Scalar.divsi v0 c7_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c7_i32 c0_i32_2
  let v8 : BitVec 32 := Scalar.extui v7
  let c0_i32_3 : BitVec 32 := 0#32
  let v9 : BitVec 1 := Scalar.cmpi .slt c7_i32 c0_i32_3
  let v10 : BitVec 32 := Scalar.extui v9
  let v11 : BitVec 32 := Scalar.subi v8 v10
  let v12 : BitVec 1 := Scalar.cmpi .ne v6 v11
  let v13 : BitVec 32 := Scalar.remsi v0 c7_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c7_i32_6 : BitVec 32 := 7#32
  let c0_i32_7 : BitVec 32 := 0#32
  let v19 : BitVec 1 := Scalar.cmpi .eq c7_i32_6 c0_i32_7
  let c1_i32_8 : BitVec 32 := 1#32
  let v20 : BitVec 32 := Scalar.select v19 c1_i32_8 c7_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference16Ideal.lean ====
abbrev S2048x2048 : Shape := ⟨2, ![2048, 2048]⟩
abbrev S3x2048x2048 : Shape := ⟨3, ![3, 2048, 2048]⟩
abbrev S4x2048x3584 : Shape := ⟨3, ![4, 2048, 3584]⟩
abbrev S_ : Shape := ⟨0, ![]⟩
abbrev S2048x6144 : Shape := ⟨2, ![2048, 6144]⟩
abbrev S2048x3x2048 : Shape := ⟨3, ![2048, 3, 2048]⟩
abbrev S6144x2048 : Shape := ⟨2, ![6144, 2048]⟩
abbrev S2048x4x3584 : Shape := ⟨3, ![2048, 4, 3584]⟩
abbrev S2048x14336 : Shape := ⟨2, ![2048, 14336]⟩
abbrev S2048x8192 : Shape := ⟨2, ![2048, 8192]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S3x2048x2048, .f32⟩
  | .hbm, ⟨2, _⟩ => ⟨S4x2048x3584, .bf16⟩
  | .hbm, ⟨3, _⟩ => ⟨S_, .f32⟩
  | .hbm, ⟨4, _⟩ => ⟨S2048x6144, .f32⟩
  | .hbm, ⟨5, _⟩ => ⟨S2048x6144, .f32⟩
  | .hbm, ⟨6, _⟩ => ⟨S2048x3x2048, .f32⟩
  | .hbm, ⟨7, _⟩ => ⟨S3x2048x2048, .f32⟩
  | .hbm, ⟨8, _⟩ => ⟨S2048x3x2048, .f32⟩
  | .hbm, ⟨9, _⟩ => ⟨S2048x6144, .f32⟩
  | .hbm, ⟨10, _⟩ => ⟨S6144x2048, .f32⟩
  | .hbm, ⟨11, _⟩ => ⟨S2048x6144, .f32⟩
  | .hbm, ⟨12, _⟩ => ⟨S2048x6144, .bf16⟩
  | .hbm, ⟨13, _⟩ => ⟨S2048x4x3584, .bf16⟩
  | .hbm, ⟨14, _⟩ => ⟨S2048x14336, .bf16⟩
  | .hbm, ⟨15, _⟩ => ⟨S2048x8192, .bf16⟩
  | .hbm, ⟨16, _⟩ => ⟨S2048x14336, .bf16⟩
  | .hbm, ⟨17, _⟩ => ⟨S2048x4x3584, .bf16⟩
  | .hbm, ⟨18, _⟩ => ⟨S4x2048x3584, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel17.lean ====
abbrev S1 : Shape := ⟨1, ![1]⟩
abbrev S2048x2048 : Shape := ⟨2, ![2048, 2048]⟩
abbrev S4x2048x3584 : Shape := ⟨3, ![4, 2048, 3584]⟩
abbrev S7x2048x2048 : Shape := ⟨3, ![7, 2048, 2048]⟩
abbrev S1x2048x512 : Shape := ⟨3, ![1, 2048, 512]⟩
abbrev S2048x512 : Shape := ⟨2, ![2048, 512]⟩

abbrev nBuf : Space → Nat
  | .hbm => 6
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S4x2048x3584, .f32⟩
  | .hbm, ⟨2, _⟩ => ⟨S7x2048x2048, .f32⟩
  | .hbm, ⟨3, _⟩ => ⟨S2048x2048, .bf16⟩
  | .hbm, ⟨4, _⟩ => ⟨S4x2048x3584, .bf16⟩
  | .hbm, ⟨5, _⟩ => ⟨S7x2048x2048, .f32⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .f32⟩
  | .local _ .vmem, ⟨4, _⟩ => ⟨S1x2048x512, .f32⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.muli c7_i32 v0
  let v2 : BitVec 32 := Scalar.addi v1 arg0
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c4_i32_4 : BitVec 32 := 4#32
  let c0_i32_5 : BitVec 32 := 0#32
  let v20 : BitVec 1 := Scalar.cmpi .eq c4_i32_4 c0_i32_5
  let c1_i32_6 : BitVec 32 := 1#32
  let v21 : BitVec 32 := Scalar.select v20 c1_i32_6 c4_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let c0_i32_11 : BitVec 32 := 0#32
  ![v19.toNat, c0_i32_10.toNat, v29.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S1 : Shape := ⟨1, ![1]⟩
abbrev S2048x2048 : Shape := ⟨2, ![2048, 2048]⟩
abbrev S4x2048x3584 : Shape := ⟨3, ![4, 2048, 3584]⟩
abbrev S7x2048x2048 : Shape := ⟨3, ![7, 2048, 2048]⟩
abbrev S4x1 : Shape := ⟨2, ![4, 1]⟩
abbrev S4x3584 : Shape := ⟨2, ![4, 3584]⟩
abbrev S_ : Shape := ⟨0, ![]⟩
abbrev S7x1x2048 : Shape := ⟨3, ![7, 1, 2048]⟩
abbrev S2048x4x3584 : Shape := ⟨3, ![2048, 4, 3584]⟩
abbrev S2048x14336 : Shape := ⟨2, ![2048, 14336]⟩
abbrev S2048x7x2048 : Shape := ⟨3, ![2048, 7, 2048]⟩

abbrev nBuf : Space → Nat
  | .hbm => 17
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .f32⟩
  | .hbm, ⟨2, _⟩ => ⟨S4x2048x3584, .f32⟩
  | .hbm, ⟨3, _⟩ => ⟨S7x2048x2048, .f32⟩
  | .hbm, ⟨4, _⟩ => ⟨S4x1, .i32⟩
  | .hbm, ⟨5, _⟩ => ⟨S4x3584, .i32⟩
  | .hbm, ⟨6, _⟩ => ⟨S_, .i32⟩
  | .hbm, ⟨7, _⟩ => ⟨S4x3584, .i32⟩
  | .hbm, ⟨8, _⟩ => ⟨S4x3584, .i1⟩
  | .hbm, ⟨9, _⟩ => ⟨S7x1x2048, .i1⟩
  | .hbm, ⟨10, _⟩ => ⟨S2048x4x3584, .f32⟩
  | .hbm, ⟨11, _⟩ => ⟨S2048x14336, .f32⟩
  | .hbm, ⟨12, _⟩ => ⟨S2048x14336, .f32⟩
  | .hbm, ⟨13, _⟩ => ⟨S2048x7x2048, .f32⟩
  | .hbm, ⟨14, _⟩ => ⟨S7x2048x2048, .f32⟩
  | .hbm, ⟨15, _⟩ => ⟨S7x2048x2048, .i1⟩
  | .hbm, ⟨16, _⟩ => ⟨S7x2048x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.GDown.lean ====
/-
  The gradient of a product's right side, for the product after the squared ReLU: the kernel keeps its left block transposed
  while it goes along the columns of the right one.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack

@[expose] public section

set_option maxRecDepth 16384

noncomputable section

namespace Cert.GDown

open Cert.Kernel3Ideal Cert.Kernel3Ideal.Gen
open Idealize.ShloMosaic Idealize.ShloMosaic.TcCoe Idealize.SL.Sem

/-- The squared ReLU. -/
def hid (x : EReal) : EReal := max x 0 * max x 0

/-- The gradient at a row and a column: a column of the squared ReLU of `up` times a column of `ct`. -/
def grad (up : S2048x8192.Idx → EReal) (ct : S2048x2048.Idx → EReal) (i : S8192x2048.Idx) : EReal :=
  ∑ k : Fin 2048, hid (up (ix2 k (i 0))) * ct (ix2 k (i 1))

/-- A load of the whole buffer after several stores reads what they leave. -/
theorem whole_read {sig : RefSig} {κ : Kind} {sp : Space} {s : Shape} {e : EltTy} {Val : EltTy → Type} [∀ e, Nonempty (Val e)] (v : View sig κ sp s e)
    (L : List (View.Piece Val s e)) {off : Fin s.rank → ℕ} (inb : ∀ a, off a + s.size a ≤ s.size a) (h : ∀ a, off a = 0 := by decide) :
    v.readCov L (Rect.unit off s.size inb).toLoadRect = View.canon L :=
  (View.readCov_eq_canon' v L _).trans (View.ld_unit_lit inb (View.canon L) h)

/-- The block each window is at. -/
theorem idx : ∀ t : Fin cfg0.N, win0_0.index t = ![0, t.val / 4] ∧ win0_1.index t = ![0, t.val % 4]
    ∧ win0_2.index t = ![t.val / 4, t.val % 4] :=
  (by decide +kernel : ∀ t : Fin grid0.N, _)

variable (m : (ℓ : Loc nD τ sig) → Buf (Elt Ideal) ℓ)

/-- The host line before the call holds the squared ReLU. -/
theorem hid_entry (c : Dev nD) (i : S2048x8192.Idx) : V m c main_v2 i = hid (m ((c : Thread nD τ).loc main_arg0) i) := by
  simp only [V, hostOps0, hostOps0_1, List.flatten_cons, List.flatten_nil, List.append_nil, List.cons_append, List.nil_append]
  entry_read
  show ((max (m ((c : Thread nD τ).loc main_arg0) i) (Ideal.ofBits .f32 0x00000000#32) : EReal) * (max (m ((c : Thread nD τ).loc main_arg0) i) (Ideal.ofBits .f32 0x00000000#32) : EReal)) = _
  pointwise [hid]

/-- What the first point of a row of blocks leaves in the scratch: the left block transposed. -/
theorem turned (c : Dev nD) (t : Fin cfg0.N) (h : t.val % 4 = 0) (a b : Fin 2048) :
    (outsAt0 m c t.val t.isLt).2 (ix2 a b) = iblk m c 0 t (ix2 b a) := by
  rw [outsAt0_A m c t h]; dsimp only
  frame_out
  canon_tiles x hx
  all_goals (
    have e0 : a.val = (x 0).val := hx0
    first | have e1 : b.val = (x 1).val := hx1 | have e1 : b.val = _ + (x 1).val := hx1
    pointwise [k0_pay1, k0_pay2, k0_pay3, k0_pay4, k0_pay6, k0_pay7, k0_pay8, k0_pay9, k0_pay10]
    blk_point [])

/-- The scratch holds the left block transposed at every point. -/
theorem kept (c : Dev nD) : ∀ (n : ℕ) (h : n < cfg0.N) (a b : Fin 2048), (outsAt0 m c n h).2 (ix2 a b) = iblk m c 0 ⟨n, h⟩ (ix2 b a)
  | 0, h, a, b => turned m c ⟨0, h⟩ rfl a b
  | n + 1, h, a, b => by
    by_cases h0 : (n + 1) % 4 = 0
    · exact turned m c ⟨n + 1, h⟩ h0 a b
    · rw [outsAt0_B m c ⟨n + 1, h⟩ h0]
      refine (kept c n (Nat.lt_of_succ_lt h) a b).trans ?_
      have e := (idx ⟨n, Nat.lt_of_succ_lt h⟩).1.trans ((congrArg (fun q => ![0, q]) (show n / 4 = (n + 1) / 4 by omega)).trans (idx ⟨n + 1, h⟩).1.symm)
      blk_point [iblk, V, e]

/-- The product of a scratch that holds the left block transposed. -/
theorem product (c : Dev nD) (t : Fin cfg0.N) (s : FVec Ideal S2048x2048 .bf16) (hs : ∀ a b, s (ix2 a b) = iblk m c 0 t (ix2 b a)) (y) :
    k0_pay5 s (iblk m c 1 t) y
      = grad (m ((c : Thread nD τ).loc main_arg0)) (m ((c : Thread nD τ).loc main_arg1)) (((cfg0.win 2).blk t).view.emb y) := by
  pointwise [k0_pay5, grad, hs]
  blk_point [iblk, V, idx t]
  rw [hid_entry m c]
  congr 3
  blk_ext [idx t]

theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp; rw [after0_2]
  by_cases h : t.val % 4 = 0
  · have hs := turned m c t h
    rw [outsAt0_A m c t h] at hs ⊢; dsimp only at hs ⊢
    frame_out
    refine product m c t _ (fun a b => ?_) y
    refine Eq.trans ?_ (hs a b)
    frame_out
    exact congrFun (whole_read _ _ _) _
  · have hs := kept m c t.val t.isLt
    rw [outsAt0_B m c t h] at hs ⊢; dsimp only [sout0_B_0] at hs ⊢
    frame_out
    rw [read_unread_whole]
    exact product m c t _ hs y

/-- The reference's operations give the same gradient. -/
theorem reference_eq (up : FVec Ideal Cert.Reference3Ideal.S2048x8192 .f32) (ct : FVec Ideal Cert.Reference3Ideal.S2048x2048 .f32)
    (i : Cert.Reference3Ideal.S8192x2048.Idx) :
    (truncf .bf16 (transpose Cert.Reference3Ideal.S8192x2048 [1, 0]
      (Host.dotGeneral Cert.Reference3Ideal.dot_S2048x2048_S2048x8192_S2048x8192_0_0_1_1_n_n none ct
        (mulf (maximumf up (broadcastInDim Cert.Reference3Ideal.S2048x8192 ![] Cert.Reference3Ideal.Gen.bcast_S_S2048x8192 (constant Cert.Reference3Ideal.S_ .f32 0x00000000#32)))
          (maximumf up (broadcastInDim Cert.Reference3Ideal.S2048x8192 ![] Cert.Reference3Ideal.Gen.bcast_S_S2048x8192 (constant Cert.Reference3Ideal.S_ .f32 0x00000000#32)))))
      Cert.Reference3Ideal.Gen.transposes_S2048x8192_S8192x2048_1_0)
      Cert.Reference3Ideal.Gen.bitsLt_bf16_f32 : FVec Ideal Cert.Reference3Ideal.S8192x2048 .bf16) i = grad up ct i := by
  pointwise [grad, hid]
  exact Finset.sum_congr rfl fun k _ => mul_comm _ _

end Cert.GDown

end
-- ==== Proof.DHn.lean ====
/-
  The gradient of the left side of the product before the squared ReLU: four blocks of the contraction are added up in a
  scratch, and the last point stores the sum.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

namespace Cert.DHn

open Cert.Kernel4Ideal Cert.Kernel4Ideal.Gen
open Idealize.ShloMosaic Idealize.ShloMosaic.TcCoe Idealize.SL.Sem

/-- A column of the wide matrix, by its block of 2048 and its column in it. -/
def col (a : Fin 4) (b : Fin 2048) : Fin 8192 := ⟨a.val * 2048 + b.val, by omega⟩

/-- The gradient at a row and a column: the row of `ct` times the column's rows of the four blocks of `w`. -/
def grad (w : S4x2048x2048.Idx → EReal) (ct : S2048x8192.Idx → EReal) (i : S2048x2048.Idx) : EReal :=
  ∑ s : Fin 4, ∑ k : Fin 2048, ct (ix2 (i 0) (col s k)) * w (ix3 s (i 1) k)

/-- The block each window is at. -/
theorem idx : ∀ t : Fin cfg0.N, win0_0.index t = ![0, t.val % 4] ∧ win0_1.index t = ![t.val % 4, t.val / 4, 0]
    ∧ win0_2.index t = ![0, t.val / 4] :=
  (by decide +kernel : ∀ t : Fin grid0.N, _)

/-- A block of the contraction. -/
def part (x : S2048x2048.Idx → EReal) (w : S1x512x2048.Idx → EReal) (j : S2048x512.Idx) : EReal :=
  ∑ k : Fin 2048, x (ix2 (j 0) k) * w (ix3 0 (j 1) k)

/-- The first point's block. -/
theorem first (x w j) : k0_pay1 (F := Ideal) x w j = part x w j := by
  pointwise [k0_pay1, part]

/-- A later point's block, added to what the scratch holds. -/
theorem next (a x w j) : k0_pay2 (F := Ideal) a x w j = a j + part x w j := by
  pointwise [k0_pay2, part]

variable (m : (ℓ : Loc nD τ sig) → Buf (Elt Ideal) ℓ)

/-- The point that stores leaves in the result's block what it leaves in the scratch. -/
theorem stored (c : Dev nD) (t : Fin cfg0.N) (h : t.val % 4 = 3) : (outsAt0 m c t.val t.isLt).1 = (outsAt0 m c t.val t.isLt).2 := by
  rw [outsAt0_C m c t (by omega) (by omega) h]
  dsimp only
  frame_out

/-- A point after the first of its run adds its block to the scratch. -/
theorem step (c : Dev nD) (t : Fin cfg0.N) (h : ¬t.val % 4 = 0) (j) :
    (outsAt0 m c t.val t.isLt).2 j = (outsAt0 m c (t.val - 1) (Nat.lt_of_le_of_lt (Nat.sub_le _ _) t.isLt)).2 j + part (iblk m c 0 t) (iblk m c 1 t) j := by
  by_cases h3 : t.val % 4 = 3
  · rw [outsAt0_C m c t h (by omega) h3]
    dsimp only
    frame_out
    rw [next, read_unread_whole]
  · rw [outsAt0_B m c t h (by omega) h3]
    dsimp only
    frame_out
    rw [next, read_unread_whole]

/-- The first point of a run leaves its block in the scratch. -/
theorem start (c : Dev nD) (t : Fin cfg0.N) (h : t.val % 4 = 0) (j) :
    (outsAt0 m c t.val t.isLt).2 j = 0 + part (iblk m c 0 t) (iblk m c 1 t) j := by
  rw [outsAt0_A m c t h (by omega) (by omega), zero_add]
  dsimp only
  frame_out
  rw [first]

/-- The result array holds the gradient. -/
theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, stored m c t h3, Pipeline.eq_sum_fin_of_reset_step_apply_of_flush (fun n h => (outsAt0 m c n h).2) 4 (fun _ => 0)
    (fun t j => part (iblk m c 0 t) (iblk m c 1 t) j) (fun t h j => start m c t h j) (fun t h j => step m c t h j) t ((flush0_2 t).mp hf) _, zero_add]
  refine Fin.sum_fin_congr fun s => Fin.sum_fin_congr fun k => ?_
  blk_point [iblk, V, idx t, idx ⟨_, Pipeline.run_point_lt_of_flush t ((flush0_2 t).mp hf) s⟩]
  show (4 * (t.val / 4) + s.val) % 4 * 2048 + k.val = s.val * 2048 + k.val
  omega

/-- Indices with the same coordinates are the same. -/
theorem ix3_congr {a b c : ℕ} {i i' : Fin a} {j j' : Fin b} {k k' : Fin c} (hi : i = i') (hj : j = j') (hk : k = k') : ix3 i j k = ix3 i' j' k' := by
  subst hi hj hk; rfl

/-- The reference's operations give the same gradient. -/
theorem reference_eq (w : FVec Ideal Cert.Reference4Ideal.S4x2048x2048 .f32) (ct : FVec Ideal Cert.Reference4Ideal.S2048x8192 .f32)
    (i : Cert.Reference4Ideal.S2048x2048.Idx) :
    (Host.dotGeneral (F := Ideal) Cert.Reference4Ideal.dot_S2048x8192_S2048x8192_S2048x2048_1_1_0_0_n_n none ct
      (shapeCast Cert.Reference4Ideal.S2048x8192 (transpose Cert.Reference4Ideal.S2048x4x2048 [1, 0, 2] w
        Cert.Reference4Ideal.Gen.transposes_S4x2048x2048_S2048x4x2048_1_0_2) Cert.Reference4Ideal.Gen.shapeCasts_S2048x4x2048_S2048x8192)
      : FVec Ideal Cert.Reference4Ideal.S2048x2048 .f32) i = grad w ct i := by
  pointwise [grad]
  refine (Fin.sum_mul_add_congr fun s k hl => ?_).symm
  refine congrArg₂ (· * ·) rfl (congrArg w (ix3_congr (Fin.ext ?_) rfl (Fin.ext ?_)))
  · show s.val = (s.val * 2048 + k.val) / 2048
    omega
  · show k.val = (s.val * 2048 + k.val) % 2048
    omega

end Cert.DHn

end
-- ==== Proof.GInQkv.lean ====
/-
  The gradient of the input projection's matrix in the columns of q, k and v, written over an array given.
-/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack
public import proofs.«01_k».proof.Proof.GDown
public import proofs.«01_k».proof.Proof.DHn

@[expose] public section

set_option maxRecDepth 16384

noncomputable section

namespace Cert.GInQkv

open Cert.Kernel16Ideal Cert.Kernel16Ideal.Gen
open Idealize.ShloMosaic Idealize.ShloMosaic.TcCoe Idealize.SL.Sem

/-- The place of a column among the columns of all four parts. -/
def flat (i : S4x2048x3584.Idx) : ℕ := (i 0).val * 3584 + (i 2).val

/-- The slot and the column of it that a place is in. -/
def slot (n : ℕ) : Fin 3 := ⟨n % 6144 / 2048, by omega⟩

def col (n : ℕ) : Fin 2048 := ⟨n % 2048, by omega⟩

/-- The gradient at a part, a row and a column, and the array given where this call writes nothing. -/
def grad (xn : S2048x2048.Idx → EReal) (ct : S3x2048x2048.Idx → EReal) (g : S4x2048x3584.Idx → EReal) (i : S4x2048x3584.Idx) : EReal :=
  if flat i < 6144 then ∑ k : Fin 2048, xn (ix2 k (i 1)) * ct (ix3 (slot (flat i)) k (col (flat i))) else g i

/-- The block each window is at. -/
theorem idx : ∀ t : Fin cfg0.N, win0_0.index t = ![0, 0] ∧ win0_1.index t = ![t.val / 4, 0, t.val % 4]
    ∧ win0_2.index t = ![t.val / 7, 0, t.val % 7] :=
  (by decide +kernel : ∀ t : Fin grid0.N, _)

variable (m : (ℓ : Loc nD τ sig) → Buf (Elt Ideal) ℓ)

/-- What the first point leaves in the scratch: the left block transposed. -/
theorem turned (c : Dev nD) (t : Fin cfg0.N) (h : t.val % 12 = 0) (a b : Fin 2048) :
    (outsAt0 m c t.val t.isLt).2 (ix2 a b) = iblk m c 0 t (ix2 b a) := by
  rw [outsAt0_A m c t h]; dsimp only
  frame_out
  canon_tiles x hx
  all_goals (
    have e0 : a.val = (x 0).val := hx0
    first | have e1 : b.val = (x 1).val := hx1 | have e1 : b.val = _ + (x 1).val := hx1
    pointwise [k0_pay1, k0_pay2, k0_pay3, k0_pay4, k0_pay6, k0_pay7, k0_pay8, k0_pay9, k0_pay10]
    blk_point [])

/-- The scratch holds the left block transposed at every point. -/
theorem kept (c : Dev nD) : ∀ (n : ℕ) (h : n < cfg0.N) (a b : Fin 2048), (outsAt0 m c n h).2 (ix2 a b) = iblk m c 0 ⟨n, h⟩ (ix2 b a)
  | 0, h, a, b => turned m c ⟨0, h⟩ (Nat.zero_mod _) a b
  | n + 1, h, a, b => by
    by_cases h0 : (n + 1) % 12 = 0
    · exact turned m c ⟨n + 1, h⟩ h0 a b
    · rw [outsAt0_B m c ⟨n + 1, h⟩ h0]
      refine (kept c n (Nat.lt_of_succ_lt h) a b).trans ?_
      have e := (idx ⟨n, Nat.lt_of_succ_lt h⟩).1.trans (idx ⟨n + 1, h⟩).1.symm
      blk_point [iblk, V, e]

/-- The product of a scratch that holds the left block transposed. -/
theorem product (c : Dev nD) (t : Fin cfg0.N) (s : FVec Ideal S2048x2048 .bf16) (hs : ∀ a b, s (ix2 a b) = iblk m c 0 t (ix2 b a)) (y) :
    k0_pay5 s (iblk m c 1 t) y
      = grad (m ((c : Thread nD τ).loc main_arg0)) (m ((c : Thread nD τ).loc main_arg1)) (m ((c : Thread nD τ).loc main_arg2)) (((cfg0.win 2).blk t).view.emb y) := by
  have hN : t.val < 12 := lt_of_lt_of_eq t.isLt N_0
  have hf : flat (((cfg0.win 2).blk t).view.emb y) = t.val * 512 + (y 2).val := by
    unfold flat; blk_simp [idx t]; omega
  rw [grad, if_pos (by rw [hf]; idx_bounds y; omega), hf]
  pointwise [k0_pay5, hs]
  blk_point [iblk, V, idx t, slot, col]

/-- What the result's buffer holds before the run. -/
theorem entry (c : Dev nD) : V m c main_v2 = m ((c : Thread nD τ).loc main_arg2) := by
  entry_read; rfl

theorem final (c : Dev nD) : (dats m 0 c).arrAt 2 (cfgs 0).N
    = grad (m ((c : Thread nD τ).loc main_arg0)) (m ((c : Thread nD τ).loc main_arg1)) (m ((c : Thread nD τ).loc main_arg2)) := by
  refine (dats m 0 c).arrAt_eq_of_coversWhere_of_agree 2 _ (fun β => β (0 : Fin _) * 7 + β (2 : Fin _) < 12) (by decide +kernel) (fun t hf y => ?_) (fun j hj => ?_)
  · blk_simp; rw [after0_2]
    by_cases h : t.val % 12 = 0
    · have hs := turned m c t h
      rw [outsAt0_A m c t h] at hs ⊢; dsimp only at hs ⊢
      frame_out
      refine product m c t _ (fun a b => ?_) y
      refine Eq.trans ?_ (hs a b)
      frame_out
      exact congrFun (Cert.GDown.whole_read _ _ _) _
    · have hs := kept m c t.val t.isLt
      rw [outsAt0_B m c t h] at hs ⊢; dsimp only [sout0_B_0] at hs ⊢
      frame_out
      rw [read_unread_whole]
      exact product m c t _ hs y
  · refine (congrFun (entry m c) _).trans (Eq.symm (if_neg fun hc => hj ?_))
    have hc' : (j 0).val * 3584 + (j 2).val < 6144 := hc
    show (j 0).val / 1 * 7 + (j 2).val / 512 < 12
    have h2 : (j 2).val < 3584 := (j 2).isLt
    omega

/-- The reference's gradient, its columns side by side. -/
def refNew (xn : FVec Ideal Cert.Reference16Ideal.S2048x2048 .f32) (ct : FVec Ideal Cert.Reference16Ideal.S3x2048x2048 .f32) : FVec Ideal Cert.Reference16Ideal.S2048x6144 .bf16 :=
  truncf .bf16 (transpose Cert.Reference16Ideal.S2048x6144 [1, 0]
    (Host.dotGeneral Cert.Reference16Ideal.dot_S2048x6144_S2048x2048_S6144x2048_0_0_1_1_n_n none
      (shapeCast Cert.Reference16Ideal.S2048x6144 (transpose Cert.Reference16Ideal.S2048x3x2048 [1, 0, 2] ct Cert.Reference16Ideal.Gen.transposes_S3x2048x2048_S2048x3x2048_1_0_2)
        Cert.Reference16Ideal.Gen.shapeCasts_S2048x3x2048_S2048x6144) xn) Cert.Reference16Ideal.Gen.transposes_S6144x2048_S2048x6144_1_0) Cert.Reference16Ideal.Gen.bitsLt_bf16_f32

theorem refNew_apply (xn ct) (i : Cert.Reference16Ideal.S2048x6144.Idx) :
    refNew xn ct i = ∑ k : Fin 2048, xn (ix2 k (i 0)) * ct (ix3 (slot (i 1).val) k (col (i 1).val)) := by
  have hi : (i 1).val < 6144 := (i 1).isLt
  pointwise [refNew]
  refine Finset.sum_congr rfl fun k _ => (mul_comm _ _).trans (congrArg (xn (ix2 k (i 0)) * ·) (congrArg ct (Cert.DHn.ix3_congr (Fin.ext ?_) rfl rfl)))
  show (i 1).val / 2048 = (i 1).val % 6144 / 2048
  omega

/-- The reference's columns of the array given that stay. -/
def refOld (g : FVec Ideal Cert.Reference16Ideal.S4x2048x3584 .bf16) : FVec Ideal Cert.Reference16Ideal.S2048x8192 .bf16 :=
  extractStridedSlice Cert.Reference16Ideal.S2048x8192 ![0, 6144]
    (shapeCast Cert.Reference16Ideal.S2048x14336 (transpose Cert.Reference16Ideal.S2048x4x3584 [1, 0, 2] g Cert.Reference16Ideal.Gen.transposes_S4x2048x3584_S2048x4x3584_1_0_2)
      Cert.Reference16Ideal.Gen.shapeCasts_S2048x4x3584_S2048x14336) Cert.Reference16Ideal.Gen.slices_S2048x14336_S2048x8192_0_6144

/-- The part and the column of it that a place is in. -/
def fourth (n : ℕ) : Fin 4 := ⟨n % 14336 / 3584, by omega⟩

def within (n : ℕ) : Fin 3584 := ⟨n % 3584, by omega⟩

theorem refOld_apply (g) (i : Cert.Reference16Ideal.S2048x8192.Idx) : refOld g i = g (ix3 (fourth ((i 1).val + 6144)) (i 0) (within ((i 1).val + 6144))) := by
  have hi : (i 1).val < 8192 := (i 1).isLt
  pointwise [refOld]
  refine congrArg g (Cert.DHn.ix3_congr (Fin.ext ?_) rfl (Fin.ext ?_))
  · show (6144 + (i 1).val) / 3584 = ((i 1).val + 6144) % 14336 / 3584
    omega
  · show (6144 + (i 1).val) % 3584 = ((i 1).val + 6144) % 3584
    omega

/-- The reference's operations give the same array. -/
theorem reference_eq (xn : FVec Ideal Cert.Reference16Ideal.S2048x2048 .f32) (ct : FVec Ideal Cert.Reference16Ideal.S3x2048x2048 .f32)
    (g : FVec Ideal Cert.Reference16Ideal.S4x2048x3584 .bf16) (i : Cert.Reference16Ideal.S4x2048x3584.Idx) :
    (transpose Cert.Reference16Ideal.S4x2048x3584 [1, 0, 2] (shapeCast Cert.Reference16Ideal.S2048x4x3584
      (concatenate Cert.Reference16Ideal.S2048x14336 1 [⟨Cert.Reference16Ideal.S2048x6144, refNew xn ct⟩, ⟨Cert.Reference16Ideal.S2048x8192, refOld g⟩]
        Cert.Reference16Ideal.Gen.concatenates_S2048x6144_S2048x8192_S2048x14336_d1) Cert.Reference16Ideal.Gen.shapeCasts_S2048x14336_S2048x4x3584)
      Cert.Reference16Ideal.Gen.transposes_S2048x4x3584_S4x2048x3584_1_0_2 : FVec Ideal Cert.Reference16Ideal.S4x2048x3584 .bf16) i = grad xn ct g i := by
  pointwise []
  have h0 : (i 0).val < 4 := (i 0).isLt
  have h2 : (i 2).val < 3584 := (i 2).isLt
  by_cases hf : flat i < 6144
  · exact (dif_pos hf).trans ((refNew_apply xn ct _).trans (if_pos hf).symm)
  · refine (dif_neg hf).trans (Eq.trans ?_ (if_neg hf).symm)
    refine (refOld_apply g _).trans (congrArg g ((Cert.DHn.ix3_congr (Fin.ext ?_) rfl (Fin.ext ?_)).trans (ix3_eta i)))
    · show ((i 0).val * 3584 + (i 2).val - 6144 + 6144) % 14336 / 3584 = (i 0).val
      have hf' : ¬((i 0).val * 3584 + (i 2).val < 6144) := hf
      omega
    · show ((i 0).val * 3584 + (i 2).val - 6144 + 6144) % 3584 = (i 2).val
      have hf' : ¬((i 0).val * 3584 + (i 2).val < 6144) := hf
      omega

end Cert.GInQkv

end
-- ==== Proof.ProjIn.lean ====
/-
  The input projection: one part of its columns, the part's number read at run time, over an array given.
-/
module

public import proofs.«01_k».proof.Proof.Gen.Kernel17Ideal.Frame
public import proofs.«01_k».proof.Proof.Gen.Kernel17.Frame
public import proofs.«01_k».proof.Proof.Gen.Reference17Ideal.Run
public import proofs.«01_k».proof.Pre_is_part
public import Idealize.ShloMosaic.Lib.ReduceAll
public import Idealize.ShloMosaic.Lib.Pipeline.ValueKit
public import Idealize.ShloMosaic.Lib.Pipeline.ReadBack
public import proofs.«01_k».proof.Proof.GInQkv

@[expose] public section

set_option maxRecDepth 16384

noncomputable section

namespace Cert.ProjIn

open Idealize.ShloMosaic Idealize.ShloMosaic.TcCoe Idealize.SL.Sem
open Cert.GInQkv (fourth within)

section
open Cert.Pre_is_part

/-- The condition's shape facts. -/
theorem facts : Cert.Pre_is_part.Facts where
  bcast_S_S1 := by decide
  reducesTo_S1_S_d0 := by decide
  h_S_ := by decide

instance : Subsingleton S_.Idx := ⟨fun a b => funext fun i => i.elim0⟩

instance : Subsingleton S1.Idx := ⟨fun a b => funext fun i => by
  match i with
  | ⟨0, _⟩ => exact Subsingleton.elim (α := Fin 1) _ _⟩

theorem of_bit {b : Bool} (h : BitVec.ofBool b = 1#1) : b = true := by
  cases b
  · exact absurd h (by decide)
  · rfl

/-- A number that is at least zero and less than four is one of the four. -/
theorem word_cases (w : BitVec 32) (h0 : IntOp.cmpi .sge w 0#32 = 1#1) (h4 : IntOp.cmpi .slt w 4#32 = 1#1) : ∃ k : Fin 4, w = BitVec.ofNat 32 k.val := by
  have a : (0#32).sle w = true := of_bit h0
  have b : w.slt 4#32 = true := of_bit h4
  simp only [BitVec.sle, BitVec.slt, decide_eq_true_eq] at a b
  have c0 : (0#32).toInt = 0 := by decide
  have c4 : (4#32).toInt = 4 := by decide
  rw [c0] at a; rw [c4] at b
  have e := BitVec.toInt_eq_toNat_cond w
  have hl := w.isLt
  have hn : w.toNat < 4 := by split at e <;> omega
  exact ⟨⟨w.toNat, hn⟩, BitVec.eq_of_toNat_eq (by simp)⟩

/-- The condition read back: the table's number is one of the four. -/
theorem part {F : FTy → Type} [FloatOps F] [Cert.Pre_is_part.Facts] (s : IVec S1 32) (A : FVec F S2048x2048 .f32) (B : FVec F S4x2048x3584 .f32) (C : FVec F S7x2048x2048 .f32)
    (h : fn s A B C = fun _ => 1#1) : ∃ k : Fin 4, s = fun _ => BitVec.ofNat 32 k.val := by
  have h0 := congrFun h ix0
  unfold fn at h0
  have e := Host.reduce_andi_all _ _ _ _ _ h0 (ix1 0)
  obtain ⟨e0, e4⟩ := IntOp.andi_eq_one.1 e
  obtain ⟨k, hk⟩ := word_cases (s (ix1 0)) e0 e4
  exact ⟨k, funext fun x => (congrArg s (Subsingleton.elim x _)).trans hk⟩

end

/-- The four numbers as the first program's table. -/
def pinnedB (k : Fin 4) : Cert.Kernel17.pre0.Contents (Elt Bits) := fun | ⟨0, _⟩ => fun _ => BitVec.ofNat 32 k.val | ⟨_ + 1, h⟩ => absurd h (by simp)

theorem okB : ∀ k : Fin 4, Cert.Kernel17.ok0 (F := Bits) (pinnedB k) := by decide +kernel

open Cert.Kernel17Ideal Cert.Kernel17Ideal.Gen

/-- The four numbers as the idealized program's table. -/
def pinned (k : Fin 4) : pre0.Contents (Elt Ideal) := fun | ⟨0, _⟩ => fun _ => BitVec.ofNat 32 k.val | ⟨_ + 1, h⟩ => absurd h (by simp)

theorem ok : ∀ k : Fin 4, ok0 (F := Ideal) (pinned k) := by decide +kernel

/-- The block each window is at. -/
theorem idx_pinned : ∀ k : Fin 4, ∀ t : Fin grid0.N, (win0 ⟨pinned k, ok k⟩ 0).index t = ![0, 0] ∧ (win0 ⟨pinned k, ok k⟩ 1).index t = ![k.val, 0, t.val]
    ∧ (win0 ⟨pinned k, ok k⟩ 2).index t = ![(k.val * 7 + t.val) / 4, 0, (k.val * 7 + t.val) % 4] := by decide +kernel

/-- The blocks the result's window writes. -/
theorem covers_pinned : ∀ k : Fin 4, (win0 ⟨pinned k, ok k⟩ 2).CoversWhere (fun β => (β (0 : Fin _) * 4 + β (2 : Fin _)) / 7 = k.val) := by decide +kernel

theorem idx {p} (hp : ok0 (F := Ideal) p) {k : Fin 4} (h : p = pinned k) (t : Fin grid0.N) : (win0 ⟨p, hp⟩ 0).index t = ![0, 0] ∧ (win0 ⟨p, hp⟩ 1).index t = ![k.val, 0, t.val]
    ∧ (win0 ⟨p, hp⟩ 2).index t = ![(k.val * 7 + t.val) / 4, 0, (k.val * 7 + t.val) % 4] := by
  subst h; exact idx_pinned k t

theorem covers {p} (hp : ok0 (F := Ideal) p) {k : Fin 4} (h : p = pinned k) : (win0 ⟨p, hp⟩ 2).CoversWhere (fun β => (β (0 : Fin _) * 4 + β (2 : Fin _)) / 7 = k.val) := by
  subst h; exact covers_pinned k

/-- The place of a column among the columns of all seven slots. -/
def flat (i : S7x2048x2048.Idx) : ℕ := (i 0).val * 2048 + (i 2).val

/-- The projection at a slot, a row and a column of the part, and the array given in the other parts. -/
def result (k : ℕ) (xn : S2048x2048.Idx → EReal) (w : S4x2048x3584.Idx → EReal) (proj : S7x2048x2048.Idx → EReal) (i : S7x2048x2048.Idx) : EReal :=
  if flat i / 3584 = k then ∑ j : Fin 2048, xn (ix2 (i 1) j) * w (ix3 (fourth (flat i)) j (within (flat i))) else proj i

variable (m : (ℓ : Loc nD τ sig) → Buf (Elt Ideal) ℓ)

/-- What the result's buffer holds before the run. -/
theorem entry (c : Dev nD) : V m c main_v2 = m ((c : Thread nD τ).loc main_arg3) := by
  entry_read; rfl

theorem place (hO : Ok m) {k : Fin 4} (hk : tbl m = pinned k) (t : Fin (cfgM m hO).N) : ((cfgM m hO).win 0).index t = ![0, 0]
    ∧ ((cfgM m hO).win 1).index t = ![k.val, 0, t.val] ∧ ((cfgM m hO).win 2).index t = ![(k.val * 7 + t.val) / 4, 0, (k.val * 7 + t.val) % 4] :=
  idx hO hk t

/-- The product of a point's blocks. -/
theorem product (hO : Ok m) {k : Fin 4} (hk : tbl m = pinned k) (c : Dev nD) (t : Fin (cfgM m hO).N) (y : S1x2048x512.Idx) :
    k0_pay1 (iblk m hO c 0 t) (iblk m hO c 1 t) y
      = result k.val (m ((c : Thread nD τ).loc main_arg1)) (m ((c : Thread nD τ).loc main_arg2)) (m ((c : Thread nD τ).loc main_arg3)) ((((cfgM m hO).win 2).blk t).view.emb y) := by
  have hN : t.val < 7 := t.isLt
  have h2 : (y 2).val < 512 := (y 2).isLt
  have hf : flat ((((cfgM m hO).win 2).blk t).view.emb y) = (k.val * 7 + t.val) * 512 + (y 2).val := by
    unfold flat; blk_simp [place m hO hk t]; omega
  refine Eq.trans ?_ (if_pos (by rw [hf]; omega)).symm
  rw [hf]
  pointwise [k0_pay1]
  blk_point [iblk, V, place m hO hk t, fourth, within]

/-- What the body leaves is the product. -/
theorem leaves (hO : Ok m) (c : Dev nD) (t : Fin (cfgM m hO).N) : outsAt0 m hO c t = k0_pay1 (iblk m hO c 0 t) (iblk m hO c 1 t) := by
  unfold outsAt0
  generalize iblk m hO c 0 t = x0
  generalize iblk m hO c 1 t = x1
  frame_out
  exact congrArg₂ k0_pay1 (Memref.IsWhole.read_unread _ _) (Memref.IsWhole.read_unread _ _)

theorem cell_of {k : ℕ} (i : S7x2048x2048.Idx) (h : flat i / 3584 = k) : ((i 0).val / 1 * 4 + (i 2).val / 512) / 7 = k := by
  have h' : ((i 0).val * 2048 + (i 2).val) / 3584 = k := h
  have h2 : (i 2).val < 2048 := (i 2).isLt
  omega

theorem final (hO : Ok m) {k : Fin 4} (hk : tbl m = pinned k) (c : Dev nD) : (dats m hO 0 c).arrAt 2 (cfgM m hO).N
    = result k.val (m ((c : Thread nD τ).loc main_arg1)) (m ((c : Thread nD τ).loc main_arg2)) (m ((c : Thread nD τ).loc main_arg3)) := by
  refine (dats m hO 0 c).arrAt_eq_of_coversWhere_of_agree 2 _ _ (covers hO hk) (fun t hf y => ?_) (fun j hj => ?_)
  · blk_simp; rw [after0_2]
    rw [leaves]
    exact product m hO hk c t y
  · exact (congrFun (entry m c) _).trans (Eq.symm (if_neg fun hc => hj (cell_of j hc)))

/-- The table the region reads is the argument's number. -/
theorem table {k : Fin 4} (h : m ((0 : Dev nD), main_arg0) = fun _ => BitVec.ofNat 32 k.val) : tbl m = pinned k := by
  funext j
  match j with
  | ⟨0, _⟩ => exact (V_main_arg0 m 0).trans h

/-- The run: the result at what the blocks leave, the arguments kept. -/
theorem run (ρ : Dev nD → PrngReg) (hO : Ok m) {k : Fin 4} (hk : tbl m = pinned k) :
    θ_run defs (onTc (τ := τ) (main (F := Ideal))) ⟨m, fun _ => 0, ρ⟩ fun r => ∀ c : Dev nD,
      r.2.mem ((c : Thread nD τ).loc main_v2) = result k.val (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 2).trans (final m hO hk c), h.2 c⟩)
    (θ_run_and (run_main m ρ hO) (unchanged m ρ hO))

/-- The first program's table is the argument's number. -/
theorem tableB (m : (ℓ : Loc Cert.Kernel17.nD Cert.Kernel17.τ Cert.Kernel17.sig) → Buf (Elt Bits) ℓ) {k : Fin 4}
    (h : m ((0 : Dev Cert.Kernel17.nD), Cert.Kernel17.main_arg0) = fun _ => BitVec.ofNat 32 k.val) : Cert.Kernel17.Gen.tbl m = pinnedB k := by
  funext j
  match j with
  | ⟨0, _⟩ => exact (Cert.Kernel17.Gen.V_main_arg0 m 0).trans h

/-- The reference's projection of all four parts. -/
def refAll (xn : FVec Ideal Cert.Reference17Ideal.S2048x2048 .f32) (w : FVec Ideal Cert.Reference17Ideal.S4x2048x3584 .f32) : FVec Ideal Cert.Reference17Ideal.S7x2048x2048 .f32 :=
  transpose Cert.Reference17Ideal.S7x2048x2048 [1, 0, 2] (shapeCast Cert.Reference17Ideal.S2048x7x2048
    (Host.dotGeneral Cert.Reference17Ideal.dot_S2048x2048_S2048x14336_S2048x14336_1_0_0_1_n_n none xn
      (shapeCast Cert.Reference17Ideal.S2048x14336 (transpose Cert.Reference17Ideal.S2048x4x3584 [1, 0, 2] w Cert.Reference17Ideal.Gen.transposes_S4x2048x3584_S2048x4x3584_1_0_2)
        Cert.Reference17Ideal.Gen.shapeCasts_S2048x4x3584_S2048x14336)) Cert.Reference17Ideal.Gen.shapeCasts_S2048x14336_S2048x7x2048)
    Cert.Reference17Ideal.Gen.transposes_S2048x7x2048_S7x2048x2048_1_0_2

theorem refAll_apply (xn w) (i : Cert.Reference17Ideal.S7x2048x2048.Idx) :
    refAll xn w i = ∑ j : Fin 2048, xn (ix2 (i 1) j) * w (ix3 (fourth (flat i)) j (within (flat i))) := by
  have h0 : (i 0).val < 7 := (i 0).isLt
  have h2 : (i 2).val < 2048 := (i 2).isLt
  pointwise [refAll]
  refine Finset.sum_congr rfl fun j _ => congrArg (xn (ix2 (i 1) j) * ·) (congrArg w (Cert.DHn.ix3_congr (Fin.ext ?_) rfl (Fin.ext ?_)))
  · show ((i 0).val * 2048 + (i 2).val) / 3584 = ((i 0).val * 2048 + (i 2).val) % 14336 / 3584
    omega
  · show ((i 0).val * 2048 + (i 2).val) % 3584 = ((i 0).val * 2048 + (i 2).val) % 3584
    rfl

/-- Where the reference takes the projection: the places of the part. -/
def refMine (s : IVec Cert.Reference17Ideal.S1 32) : IVec Cert.Reference17Ideal.S7x1x2048 1 :=
  shapeCast Cert.Reference17Ideal.S7x1x2048 (cmpi .eq
    (broadcastInDim Cert.Reference17Ideal.S4x3584 ![0, 1] Cert.Reference17Ideal.Gen.bcast_S4x1_S4x3584_0_1 (iotaInDim Cert.Reference17Ideal.S4x1 32 0))
    (broadcastInDim Cert.Reference17Ideal.S4x3584 ![] Cert.Reference17Ideal.Gen.bcast_S_S4x3584 (shapeCast Cert.Reference17Ideal.S_ s Cert.Reference17Ideal.Gen.shapeCasts_S1_S_)))
    Cert.Reference17Ideal.Gen.shapeCasts_S4x3584_S7x1x2048

theorem refMine_apply (k : Fin 4) (i : Cert.Reference17Ideal.S7x2048x2048.Idx) :
    refMine (fun _ => BitVec.ofNat 32 k.val) (ix3 (i 0) 0 (i 2)) = BitVec.ofBool (decide (flat i / 3584 = k.val)) := by
  have h0 : (i 0).val < 7 := (i 0).isLt
  have h2 : (i 2).val < 2048 := (i 2).isLt
  have hk := k.isLt
  pointwise [refMine]
  show BitVec.ofBool (BitVec.ofNat 32 (flat i / 3584) == BitVec.ofNat 32 k.val) = _
  have hf : flat i < 14336 := by unfold flat; omega
  refine congrArg BitVec.ofBool (Bool.eq_iff_iff.2 ?_)
  rw [beq_iff_eq, decide_eq_true_eq]
  refine ⟨fun h => ?_, fun h => congrArg _ h⟩
  have e := congrArg BitVec.toNat h
  rw [BitVec.toNat_ofNat, BitVec.toNat_ofNat] at e
  omega

/-- The reference's operations give the same array. -/
theorem reference_eq (k : Fin 4) (xn : FVec Ideal Cert.Reference17Ideal.S2048x2048 .f32) (w : FVec Ideal Cert.Reference17Ideal.S4x2048x3584 .f32)
    (proj : FVec Ideal Cert.Reference17Ideal.S7x2048x2048 .f32) (i : Cert.Reference17Ideal.S7x2048x2048.Idx) :
    (select (broadcastInDim Cert.Reference17Ideal.S7x2048x2048 ![0, 1, 2] Cert.Reference17Ideal.Gen.bcast_S7x1x2048_S7x2048x2048_0_1_2 (refMine fun _ => BitVec.ofNat 32 k.val))
      (refAll xn w) proj : FVec Ideal Cert.Reference17Ideal.S7x2048x2048 .f32) i = result k.val xn w proj i := by
  pointwise []
  rw [refMine_apply]
  by_cases h : flat i / 3584 = k.val
  · rw [decide_eq_true h]
    exact (refAll_apply xn w i).trans (if_pos h).symm
  · rw [decide_eq_false h]
    exact (if_neg h).symm

end Cert.ProjIn

end
-- ==== Proof.DHid.lean ====
/-
  The gradient of the squared ReLU and of the product after it, with respect to the product's left side: what the kernel's tiles
  of 512 columns hold, and the array that they make up.
-/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.DHid

open Cert.Kernel2Ideal Cert.Kernel2Ideal.Gen
open Idealize.ShloMosaic Idealize.ShloMosaic.TcCoe Idealize.SL.Sem

/-- The gradient at a row and a column: the row of `ct` times the column's row of `w`, times twice the ReLU. -/
def grad (up : S2048x8192.Idx → EReal) (w : S8192x2048.Idx → EReal) (ct : S2048x2048.Idx → EReal) (i : S2048x8192.Idx) : EReal :=
  (∑ k : Fin 2048, ct (ix2 (i 0) k) * w (ix2 (i 1) k)) * (2 * max (up i) 0)

/-- The block each window is at. -/
theorem idx : ∀ t : Fin cfg0.N, win0_0.index t = ![0, 0] ∧ win0_1.index t = ![t.val, 0]
    ∧ win0_2.index t = ![0, t.val] ∧ win0_3.index t = ![0, t.val] :=
  (by decide +kernel : ∀ t : Fin grid0.N, _)

theorem two_f32 : Ideal.ofBits .f32 0x40000000#32 = 2 := by
  have h : Ideal.ofBits .f32 0x40000000#32 = ((8388608 * (2 ^ 22)⁻¹ : ℝ) : EReal) := by simp [Ideal.ofBits, Ideal.ieee]
  rw [h]; norm_num; rfl

variable (m : (ℓ : Loc nD τ sig) → Buf (Elt Ideal) ℓ)

/-- The host line before the call holds the ReLU. -/
theorem relu (c : Dev nD) (i : S2048x8192.Idx) : V m c main_v1 i = (max (m ((c : Thread nD τ).loc main_arg0) i) 0 : EReal) := by
  simp only [V, hostOps0, hostOps0_1, List.flatten_cons, List.flatten_nil, List.append_nil, List.cons_append, List.nil_append]
  entry_read
  show (max (m ((c : Thread nD τ).loc main_arg0) i) (Ideal.ofBits .f32 0x00000000#32) : EReal) = _
  pointwise []

/-- What a grid point stores is the gradient at the index where it lies. -/
theorem point (c : Dev nD) (t : Fin cfg0.N) (y) :
    k0_pay1 (iblk m c 0 t) (iblk m c 1 t) (iblk m c 2 t) y
      = grad (m ((c : Thread nD τ).loc main_arg0)) (m ((c : Thread nD τ).loc main_arg1)) (m ((c : Thread nD τ).loc main_arg2))
          (((cfg0.win 3).blk t).view.emb y) := by
  pointwise [k0_pay1, grad]
  blk_point [iblk, V, idx t]
  rw [two_f32, relu m c]
  congr 3
  blk_ext [idx t]

/-- The result array holds the gradient. -/
theorem final (c : Dev nD) : (dats m 0 c).arrAt 3 (cfgs 0).N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

/-- The reference's operations give the same gradient. -/
theorem reference_eq (up : FVec Ideal Cert.Reference2Ideal.S2048x8192 .f32) (w : FVec Ideal Cert.Reference2Ideal.S8192x2048 .f32)
    (ct : FVec Ideal Cert.Reference2Ideal.S2048x2048 .f32) (i : Cert.Reference2Ideal.S2048x8192.Idx) :
    (truncf .bf16 (select (cmpf .ogt up (broadcastInDim Cert.Reference2Ideal.S2048x8192 ![] Cert.Reference2Ideal.Gen.bcast_S_S2048x8192 (constant Cert.Reference2Ideal.S_ .f32 0x00000000#32)))
      (mulf (Host.dotGeneral Cert.Reference2Ideal.dot_S2048x2048_S8192x2048_S2048x8192_1_1_0_0_n_n none ct w)
        (mulf (broadcastInDim Cert.Reference2Ideal.S2048x8192 ![] Cert.Reference2Ideal.Gen.bcast_S_S2048x8192 (constant Cert.Reference2Ideal.S_ .f32 0x40000000#32))
          (maximumf up (broadcastInDim Cert.Reference2Ideal.S2048x8192 ![] Cert.Reference2Ideal.Gen.bcast_S_S2048x8192 (constant Cert.Reference2Ideal.S_ .f32 0x00000000#32)))))
      (broadcastInDim Cert.Reference2Ideal.S2048x8192 ![] Cert.Reference2Ideal.Gen.bcast_S_S2048x8192 (constant Cert.Reference2Ideal.S_ .f32 0x00000000#32)))
      Cert.Reference2Ideal.Gen.bitsLt_bf16_f32 : FVec Ideal Cert.Reference2Ideal.S2048x8192 .bf16) i = grad up w ct i := by
  pointwise [grad]
  rw [two_f32]
  by_cases h : 0 < up i
  · rw [if_pos h]
  · rw [if_neg h, max_eq_right (not_lt.mp h), mul_zero, mul_zero]

end Cert.DHid

end
-- ==== Proof.GUp.lean ====
/-
  The gradient of the right side of the product before the squared ReLU, its columns in four blocks: the kernel transposes the
  left side once and goes along the columns of the right one.
-/
module

public import proofs.«01_k».proof.Proof.Gen.Kernel5Ideal.Value
public import proofs.«01_k».proof.Proof.Gen.Reference5Ideal.Run
public import Idealize.ShloMosaic.Lib.Pipeline.ValueKit
public import proofs.«01_k».proof.Proof.GDown
public import Idealize.ShloMosaic.Lib.Pipeline.ReadBack

@[expose] public section

set_option maxRecDepth 16384

noncomputable section

namespace Cert.GUp

open Cert.Kernel5Ideal Cert.Kernel5Ideal.Gen
open Idealize.ShloMosaic Idealize.ShloMosaic.TcCoe Idealize.SL.Sem

/-- A column of the wide matrix, by its block of 2048 and its column in it. -/
def col (a : Fin 4) (b : Fin 2048) : Fin 8192 := ⟨a.val * 2048 + b.val, by omega⟩

/-- The gradient at a block, a row and a column: a column of `hn` times a column of `ct`. -/
def grad (hn : S2048x2048.Idx → EReal) (ct : S2048x8192.Idx → EReal) (i : S4x2048x2048.Idx) : EReal :=
  ∑ k : Fin 2048, hn (ix2 k (i 1)) * ct (ix2 k (col (i 0) (i 2)))

/-- The block each window is at. -/
theorem idx : ∀ t : Fin cfg0.N, win0_0.index t = ![0, 0] ∧ win0_1.index t = ![0, t.val]
    ∧ win0_2.index t = ![t.val / 4, 0, t.val % 4] :=
  (by decide +kernel : ∀ t : Fin grid0.N, _)

variable (m : (ℓ : Loc nD τ sig) → Buf (Elt Ideal) ℓ)

/-- What the first point of a row of blocks leaves in the scratch: the left block transposed. -/
theorem turned (c : Dev nD) (t : Fin cfg0.N) (h : t.val % 16 = 0) (a b : Fin 2048) :
    (outsAt0 m c t.val t.isLt).2 (ix2 a b) = iblk m c 0 t (ix2 b a) := by
  rw [outsAt0_A m c t h]; dsimp only
  frame_out
  canon_tiles x hx
  all_goals (
    have e0 : a.val = (x 0).val := hx0
    first | have e1 : b.val = (x 1).val := hx1 | have e1 : b.val = _ + (x 1).val := hx1
    pointwise [k0_pay1, k0_pay2, k0_pay3, k0_pay4, k0_pay6, k0_pay7, k0_pay8, k0_pay9, k0_pay10]
    blk_point [])

/-- The scratch holds the left block transposed at every point. -/
theorem kept (c : Dev nD) : ∀ (n : ℕ) (h : n < cfg0.N) (a b : Fin 2048), (outsAt0 m c n h).2 (ix2 a b) = iblk m c 0 ⟨n, h⟩ (ix2 b a)
  | 0, h, a, b => turned m c ⟨0, h⟩ (Nat.zero_mod _) a b
  | n + 1, h, a, b => by
    by_cases h0 : (n + 1) % 16 = 0
    · exact turned m c ⟨n + 1, h⟩ h0 a b
    · rw [outsAt0_B m c ⟨n + 1, h⟩ h0]
      refine (kept c n (Nat.lt_of_succ_lt h) a b).trans ?_
      have e := (idx ⟨n, Nat.lt_of_succ_lt h⟩).1.trans (idx ⟨n + 1, h⟩).1.symm
      blk_point [iblk, V, e]

/-- The product of a scratch that holds the left block transposed. -/
theorem product (c : Dev nD) (t : Fin cfg0.N) (s : FVec Ideal S2048x2048 .bf16) (hs : ∀ a b, s (ix2 a b) = iblk m c 0 t (ix2 b a)) (y) :
    k0_pay5 s (iblk m c 1 t) y
      = grad (m ((c : Thread nD τ).loc main_arg0)) (m ((c : Thread nD τ).loc main_arg1)) (((cfg0.win 2).blk t).view.emb y) := by
  pointwise [k0_pay5, grad, hs]
  blk_point [iblk, V, idx t]
  show t.val * 512 + (y 2).val = ((((cfg0.win 2).blk t).view.emb y) 0).val * 2048 + ((((cfg0.win 2).blk t).view.emb y) 2).val
  blk_simp [idx t]
  omega

theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp; rw [after0_2]
  by_cases h : t.val % 16 = 0
  · have hs := turned m c t h
    rw [outsAt0_A m c t h] at hs ⊢; dsimp only at hs ⊢
    frame_out
    refine product m c t _ (fun a b => ?_) y
    refine Eq.trans ?_ (hs a b)
    frame_out
    exact congrFun (Cert.GDown.whole_read _ _ _) _
  · have hs := kept m c t.val t.isLt
    rw [outsAt0_B m c t h] at hs ⊢; dsimp only [sout0_B_0] at hs ⊢
    frame_out
    rw [read_unread_whole]
    exact product m c t _ hs y

/-- The reference's operations give the same gradient. -/
theorem reference_eq (hn : FVec Ideal Cert.Reference5Ideal.S2048x2048 .f32) (ct : FVec Ideal Cert.Reference5Ideal.S2048x8192 .f32)
    (i : Cert.Reference5Ideal.S4x2048x2048.Idx) :
    (truncf .bf16 (transpose Cert.Reference5Ideal.S4x2048x2048 [1, 0, 2]
      (shapeCast Cert.Reference5Ideal.S2048x4x2048 (transpose Cert.Reference5Ideal.S2048x8192 [1, 0]
        (Host.dotGeneral Cert.Reference5Ideal.dot_S2048x8192_S2048x2048_S8192x2048_0_0_1_1_n_n none ct hn)
        Cert.Reference5Ideal.Gen.transposes_S8192x2048_S2048x8192_1_0) Cert.Reference5Ideal.Gen.shapeCasts_S2048x8192_S2048x4x2048)
      Cert.Reference5Ideal.Gen.transposes_S2048x4x2048_S4x2048x2048_1_0_2)
      Cert.Reference5Ideal.Gen.bitsLt_bf16_f32 : FVec Ideal Cert.Reference5Ideal.S4x2048x2048 .bf16) i = grad hn ct i := by
  pointwise [grad]
  exact Finset.sum_congr rfl fun k _ => mul_comm _ _

end Cert.GUp

end
-- ==== Proof.Up.lean ====
/-
  The product before the squared ReLU, forward: what the tiles of 512 columns hold of the ReLU and of its square, and the two
  arrays that they make up.
-/
module

public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.Up

open Cert.Kernel6Ideal Cert.Kernel6Ideal.Gen
open Idealize.ShloMosaic Idealize.ShloMosaic.TcCoe Idealize.SL.Sem

/-- The product at a row and a column; the columns of `w` are stored in four blocks of 2048. -/
def prod (hn : S2048x2048.Idx → EReal) (w : S4x2048x2048.Idx → EReal) (i : S2048x8192.Idx) : EReal :=
  ∑ k : Fin 2048, hn (ix2 (i 0) k) * w (ix3 ⟨(i 1).val / 2048, Nat.div_lt_of_lt_mul (i 1).isLt⟩ k ⟨(i 1).val % 2048, Nat.mod_lt _ (by decide)⟩)

/-- The ReLU of the product. -/
def relu (hn : S2048x2048.Idx → EReal) (w : S4x2048x2048.Idx → EReal) (i : S2048x8192.Idx) : EReal := max (prod hn w i) 0

/-- The square of the ReLU. -/
def hid (hn : S2048x2048.Idx → EReal) (w : S4x2048x2048.Idx → EReal) (i : S2048x8192.Idx) : EReal := relu hn w i * relu hn w i

/-- The block each window is at. -/
theorem idx : ∀ t : Fin cfg0.N, win0_0.index t = ![0, 0] ∧ win0_1.index t = ![t.val / 4, 0, t.val % 4]
    ∧ win0_2.index t = ![0, t.val] ∧ win0_3.index t = ![0, t.val] :=
  (by decide +kernel : ∀ t : Fin grid0.N, _)

variable (m : (ℓ : Loc nD τ sig) → Buf (Elt Ideal) ℓ)

/-- What a grid point computes is the ReLU at the index where it lies. -/
theorem point (c : Dev nD) (t : Fin cfg0.N) (y) :
    k0_pay1 (iblk m c 0 t) (iblk m c 1 t) y
      = relu (m ((c : Thread nD τ).loc main_arg0)) (m ((c : Thread nD τ).loc main_arg1)) (((cfg0.win 3).blk t).view.emb y) := by
  pointwise [k0_pay1, relu, prod]
  blk_point [iblk, V, idx t]
  all_goals (blk_simp [idx t]; omega)

/-- The two output windows are at the same block. -/
theorem same (t : Fin cfg0.N) (y) : ((cfg0.win 2).blk t).view.emb y = ((cfg0.win 3).blk t).view.emb y := by
  blk_ext [idx t]

/-- The first result array holds the square. -/
theorem final_hid (c : Dev nD) : (dats m 0 c).arrAt 2 (cfgs 0).N = hid (m ((c : Thread nD τ).loc main_arg0)) (m ((c : Thread nD τ).loc main_arg1)) := by
  refine (dats m 0 c).arrAt_eq_of_covers 2 _ (by decide +kernel) fun t hf y => ?_
  blk_simp; rw [after0_2]; frame_out
  show k0_pay1 (iblk m c 0 t) (iblk m c 1 t) y * k0_pay1 (iblk m c 0 t) (iblk m c 1 t) y = _
  rw [point m c t y, ← same t y]
  rfl

/-- The second result array holds the ReLU. -/
theorem final_relu (c : Dev nD) : (dats m 0 c).arrAt 3 (cfgs 0).N = relu (m ((c : Thread nD τ).loc main_arg0)) (m ((c : Thread nD τ).loc main_arg1)) := by
  refine (dats m 0 c).arrAt_eq_of_covers 3 _ (by decide +kernel) fun t hf y => ?_
  blk_simp; rw [after0_3]; frame_out
  exact point m c t y

/-- The reference's ReLU. -/
def refRelu (hn : FVec Ideal Cert.Reference6Ideal.S2048x2048 .f32) (w : FVec Ideal Cert.Reference6Ideal.S4x2048x2048 .f32) : FVec Ideal Cert.Reference6Ideal.S2048x8192 .f32 :=
  maximumf (Host.dotGeneral Cert.Reference6Ideal.dot_S2048x2048_S2048x8192_S2048x8192_1_0_0_1_n_n none hn (shapeCast _ (transpose Cert.Reference6Ideal.S2048x4x2048 [1, 0, 2] w
    Cert.Reference6Ideal.Gen.transposes_S4x2048x2048_S2048x4x2048_1_0_2) Cert.Reference6Ideal.Gen.shapeCasts_S2048x4x2048_S2048x8192))
    (broadcastInDim Cert.Reference6Ideal.S2048x8192 ![] Cert.Reference6Ideal.Gen.bcast_S_S2048x8192 (constant Cert.Reference6Ideal.S_ .f32 0x00000000#32))

/-- The reference's ReLU is the same. -/
theorem refRelu_eq (hn w) (i : S2048x8192.Idx) : refRelu hn w i = relu hn w i := by
  pointwise [refRelu, relu, prod]

/-- The reference's two results. -/
theorem reference_hid (hn w) (i : S2048x8192.Idx) :
    (truncf .bf16 (mulf (refRelu hn w) (refRelu hn w)) Cert.Reference6Ideal.Gen.bitsLt_bf16_f32 : FVec Ideal Cert.Reference6Ideal.S2048x8192 .bf16) i = hid hn w i := by
  show refRelu hn w i * refRelu hn w i = _
  rw [refRelu_eq]; rfl

theorem reference_relu (hn w) (i : S2048x8192.Idx) :
    (truncf .bf16 (refRelu hn w) Cert.Reference6Ideal.Gen.bitsLt_bf16_f32 : FVec Ideal Cert.Reference6Ideal.S2048x8192 .bf16) i = relu hn w i :=
  refRelu_eq hn w i

end Cert.Up

end
-- ==== Proof.Down.lean ====
/-
  The product after the squared ReLU and the residual: four blocks of the contraction are added up in a scratch, and the last
  point adds the residual.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack

@[expose] public section

set_option maxRecDepth 16384

noncomputable section

namespace Cert.Down

open Cert.Kernel7Ideal Cert.Kernel7Ideal.Gen
open Idealize.ShloMosaic Idealize.ShloMosaic.TcCoe Idealize.SL.Sem

/-- The squared ReLU. -/
def hid (x : EReal) : EReal := max x 0 * max x 0

/-- A column of the wide matrix, by its block of 2048 and its column in it. -/
def col (a : Fin 4) (b : Fin 2048) : Fin 8192 := ⟨a.val * 2048 + b.val, by omega⟩

/-- The result at a row and a column. -/
def res (up : S2048x8192.Idx → EReal) (w : S8192x2048.Idx → EReal) (h : S2048x2048.Idx → EReal) (i : S2048x2048.Idx) : EReal :=
  h i + ∑ s : Fin 4, ∑ k : Fin 2048, hid (up (ix2 (i 0) (col s k))) * w (ix2 (col s k) (i 1))

/-- The block each window is at. -/
theorem idx : ∀ t : Fin cfg0.N, win0_0.index t = ![0, t.val % 4] ∧ win0_1.index t = ![t.val % 4, t.val / 4]
    ∧ win0_2.index t = ![0, t.val / 4] ∧ win0_3.index t = ![0, t.val / 4] :=
  (by decide +kernel : ∀ t : Fin grid0.N, _)

/-- A block of the contraction. -/
def part (x : S2048x2048.Idx → EReal) (w : S2048x512.Idx → EReal) (j : S2048x512.Idx) : EReal :=
  ∑ k : Fin 2048, x (ix2 (j 0) k) * w (ix2 k (j 1))

/-- The first point's block. -/
theorem first (x w j) : k0_pay1 (F := Ideal) x w j = part x w j := by
  pointwise [k0_pay1, part]

/-- A later point's block, added to what the scratch holds. -/
theorem next (a x w j) : k0_pay2 (F := Ideal) a x w j = a j + part x w j := by
  pointwise [k0_pay2, part]

variable (m : (ℓ : Loc nD τ sig) → Buf (Elt Ideal) ℓ)

/-- The host line before the call holds the squared ReLU. -/
theorem hid_entry (c : Dev nD) (i : S2048x8192.Idx) : V m c main_v2 i = hid (m ((c : Thread nD τ).loc main_arg0) i) := by
  simp only [V, hostOps0, hostOps0_1, List.flatten_cons, List.flatten_nil, List.append_nil, List.cons_append, List.nil_append]
  entry_read
  show ((max (m ((c : Thread nD τ).loc main_arg0) i) (Ideal.ofBits .f32 0x00000000#32) : EReal) * (max (m ((c : Thread nD τ).loc main_arg0) i) (Ideal.ofBits .f32 0x00000000#32) : EReal)) = _
  pointwise [hid]

/-- The point that stores leaves in the result's block the residual plus what it leaves in the scratch. -/
theorem stored (c : Dev nD) (t : Fin cfg0.N) (h : t.val % 4 = 3) (j) :
    (outsAt0 m c t.val t.isLt).1 j = (show EReal from iblk m c 2 t j) + (show EReal from (outsAt0 m c t.val t.isLt).2 j) := by
  rw [outsAt0_C m c t (by omega) (by omega) h]
  dsimp only
  frame_out
  pointwise [k0_pay3]

/-- A point after the first of its run adds its block to the scratch. -/
theorem step (c : Dev nD) (t : Fin cfg0.N) (h : ¬t.val % 4 = 0) (j) :
    (outsAt0 m c t.val t.isLt).2 j = (outsAt0 m c (t.val - 1) (Nat.lt_of_le_of_lt (Nat.sub_le _ _) t.isLt)).2 j + part (iblk m c 0 t) (iblk m c 1 t) j := by
  by_cases h3 : t.val % 4 = 3
  · rw [outsAt0_C m c t h (by omega) h3]
    dsimp only
    frame_out
    rw [next, read_unread_whole]
  · rw [outsAt0_B m c t h (by omega) h3]
    dsimp only
    frame_out
    rw [next, read_unread_whole]

/-- The first point of a run leaves its block in the scratch. -/
theorem start (c : Dev nD) (t : Fin cfg0.N) (h : t.val % 4 = 0) (j) :
    (outsAt0 m c t.val t.isLt).2 j = 0 + part (iblk m c 0 t) (iblk m c 1 t) j := by
  rw [outsAt0_A m c t h (by omega) (by omega), zero_add]
  dsimp only
  frame_out
  rw [first]

/-- The result array holds the residual plus the product. -/
theorem final (c : Dev nD) : (dats m 0 c).arrAt 3 (cfgs 0).N = res (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  blk_simp
  rw [after0_3, stored m c t h3, Pipeline.eq_sum_fin_of_reset_step_apply_of_flush (fun n h => (outsAt0 m c n h).2) 4 (fun _ => 0)
    (fun t j => part (iblk m c 0 t) (iblk m c 1 t) j) (fun t h j => start m c t h j) (fun t h j => step m c t h j) t ((flush0_3 t).mp hf) _, zero_add]
  refine congr (congrArg _ ?_) (Fin.sum_fin_congr fun s => Fin.sum_fin_congr fun k => ?_)
  · blk_point [iblk, V, idx t]
  · have e : (4 * (t.val / 4) + s.val) % 4 = s.val := by omega
    have e' : (4 * (t.val / 4) + s.val) / 4 = t.val / 4 := by omega
    blk_point [iblk, V, idx t, idx ⟨_, Pipeline.run_point_lt_of_flush t ((flush0_3 t).mp hf) s⟩]
    · show _ = s.val * 2048 + k.val
      omega
    · rw [hid_entry m c]
      refine congrArg (fun x => hid (m ((c : Thread nD τ).loc main_arg0) x) * _) ?_
      blk_ext [idx t, idx ⟨_, Pipeline.run_point_lt_of_flush t ((flush0_3 t).mp hf) s⟩, col]

/-- The reference's operations give the same. -/
theorem reference_eq (up : FVec Ideal Cert.Reference7Ideal.S2048x8192 .f32) (w : FVec Ideal Cert.Reference7Ideal.S8192x2048 .f32)
    (h : FVec Ideal Cert.Reference7Ideal.S2048x2048 .f32) (i : Cert.Reference7Ideal.S2048x2048.Idx) :
    (addf h (Host.dotGeneral Cert.Reference7Ideal.dot_S2048x8192_S8192x2048_S2048x2048_1_0_0_1_n_n none
      (mulf (maximumf up (broadcastInDim Cert.Reference7Ideal.S2048x8192 ![] Cert.Reference7Ideal.Gen.bcast_S_S2048x8192 (constant Cert.Reference7Ideal.S_ .f32 0x00000000#32)))
        (maximumf up (broadcastInDim Cert.Reference7Ideal.S2048x8192 ![] Cert.Reference7Ideal.Gen.bcast_S_S2048x8192 (constant Cert.Reference7Ideal.S_ .f32 0x00000000#32)))) w)
      : FVec Ideal Cert.Reference7Ideal.S2048x2048 .f32) i = res up w h i := by
  pointwise [res, hid]
  refine congrArg _ (Fin.sum_mul_add_congr fun s k hl => ?_).symm
  rfl

end Cert.Down

end
-- ==== Proof.DXn.lean ====
/-
  The gradient of the input projection's left side: twenty-eight blocks of the contraction are added up in the result's block,
  the first twelve from the array of q, k and v, the others from the array of the other slots.
-/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import proofs.«01_k».proof.Proof.DHn

@[expose] public section

set_option maxRecDepth 16384

noncomputable section

namespace Cert.DXn

open Cert.Kernel8Ideal Cert.Kernel8Ideal.Gen
open Idealize.ShloMosaic Idealize.ShloMosaic.TcCoe Idealize.SL.Sem

/-- A column of a slot, by its block of 512 and its column in it. -/
def col (a : ℕ) (ha : a < 4) (b : Fin 512) : Fin 2048 := ⟨a * 512 + b.val, by omega⟩

/-- A column of a part of `w`, by its block of 512 and its column in it. -/
def colw (a : ℕ) (ha : a < 7) (b : Fin 512) : Fin 3584 := ⟨a * 512 + b.val, by omega⟩

/-- The gradient at a row and a column. -/
def grad (w : S4x2048x3584.Idx → EReal) (ct : S7x2048x2048.Idx → EReal) (i : S2048x2048.Idx) : EReal :=
  ∑ s : Fin 28, ∑ k : Fin 512, ct (ix3 ⟨s.val / 4, by omega⟩ (i 0) (col (s.val % 4) (by omega) k))
    * w (ix3 ⟨s.val / 7, by omega⟩ (i 1) (colw (s.val % 7) (by omega) k))

/-- The block each window is at. -/
theorem idx : ∀ t : Fin cfg0.N, win0_0.index t = ![min t.val 11 / 4, 0, min t.val 11 % 4]
    ∧ win0_1.index t = ![(t.val - 12) / 4, 0, (t.val - 12) % 4] ∧ win0_2.index t = ![t.val / 7, 0, t.val % 7]
    ∧ win0_3.index t = ![0, 0] :=
  (by decide +kernel : ∀ t : Fin grid0.N, _)

/-- A block of the contraction. -/
def part (x w : S1x2048x512.Idx → EReal) (j : S2048x2048.Idx) : EReal :=
  ∑ k : Fin 512, x (ix3 0 (j 0) k) * w (ix3 0 (j 1) k)

/-- A block, added to what the result's block holds. -/
theorem next (a x w j) : k0_pay2 (F := Ideal) a x w j = a j + part x w j := by
  pointwise [k0_pay2, part]

theorem next' (a x w j) : k0_pay3 (F := Ideal) a x w j = a j + part x w j := by
  pointwise [k0_pay3, part]

variable (m : (ℓ : Loc nD τ sig) → Buf (Elt Ideal) ℓ)

/-- The block of a grid point. -/
def term (c : Dev nD) (t : Fin cfg0.N) (j : S2048x2048.Idx) : EReal :=
  if t.val < 12 then part (iblk m c 0 t) (iblk m c 2 t) j else part (iblk m c 1 t) (iblk m c 2 t) j

/-- A point after the first adds its block. -/
theorem step (c : Dev nD) (t : Fin cfg0.N) (h : ¬t.val % 28 = 0) (j) :
    (outsAt0 m c t.val t.isLt) j = (outsAt0 m c (t.val - 1) (Nat.lt_of_le_of_lt (Nat.sub_le _ _) t.isLt)) j + term m c t j := by
  by_cases h1 : t.val < 12
  · rw [outsAt0_B m c t h h1 (by omega), term, if_pos h1]
    frame_out
    rw [next]
  · rw [outsAt0_C m c t h h1 (by omega), term, if_neg h1]
    frame_out
    rw [next']

/-- The first point leaves its block. -/
theorem start (c : Dev nD) (t : Fin cfg0.N) (h : t.val % 28 = 0) (j) :
    (outsAt0 m c t.val t.isLt) j = 0 + term m c t j := by
  have hN : t.val < 28 := lt_of_lt_of_eq t.isLt N_0
  rw [outsAt0_A m c t h (by omega) (by omega), term, if_pos (by omega)]
  frame_out
  rw [next]
  exact congrArg (fun x : EReal => x + part (iblk m c 0 t) (iblk m c 2 t) j) (by pointwise [k0_pay1])

/-- The result array holds the gradient. -/
theorem final (c : Dev nD) : (dats m 0 c).arrAt 3 (cfgs 0).N = grad (m ((c : Thread nD τ).loc main_arg0)) (m ((c : Thread nD τ).loc main_arg1)) := by
  refine (dats m 0 c).arrAt_eq_of_covers 3 _ (by decide +kernel) fun t hf y => ?_
  blk_simp
  rw [after0_3, Pipeline.eq_sum_fin_of_reset_step_apply_of_flush (fun n h => (outsAt0 m c n h)) 28 (fun _ => 0)
    (fun t j => term m c t j) (fun t h j => start m c t h j) (fun t h j => step m c t h j) t ((flush0_3 t).mp hf) _, zero_add]
  have ht : t.val / 28 = 0 := by have := lt_of_lt_of_eq t.isLt N_0; omega
  refine Fin.sum_fin_congr fun s => ?_
  dsimp only [term]
  split
  · rename_i hs
    refine Fin.sum_fin_congr fun k => ?_
    blk_point [iblk, V, idx t, idx ⟨_, Pipeline.run_point_lt_of_flush t ((flush0_3 t).mp hf) s⟩]
    all_goals first | (show _ = s.val % 7 * 512 + k.val; omega) | (show _ = s.val % 4 * 512 + k.val; omega)
  · rename_i hs
    refine Fin.sum_fin_congr fun k => ?_
    blk_point [iblk, V, idx t, idx ⟨_, Pipeline.run_point_lt_of_flush t ((flush0_3 t).mp hf) s⟩]
    all_goals first | (show _ = s.val % 7 * 512 + k.val; omega) | (show _ = s.val % 4 * 512 + k.val; omega)

/-- The reference's operations give the same gradient. -/
theorem reference_eq (w : FVec Ideal Cert.Reference8Ideal.S4x2048x3584 .f32) (ct : FVec Ideal Cert.Reference8Ideal.S7x2048x2048 .f32)
    (i : Cert.Reference8Ideal.S2048x2048.Idx) :
    (Host.dotGeneral (F := Ideal) Cert.Reference8Ideal.dot_S2048x14336_S2048x14336_S2048x2048_1_1_0_0_n_n none
      (shapeCast Cert.Reference8Ideal.S2048x14336 (transpose Cert.Reference8Ideal.S2048x7x2048 [1, 0, 2] ct
        Cert.Reference8Ideal.Gen.transposes_S7x2048x2048_S2048x7x2048_1_0_2) Cert.Reference8Ideal.Gen.shapeCasts_S2048x7x2048_S2048x14336)
      (shapeCast Cert.Reference8Ideal.S2048x14336 (transpose Cert.Reference8Ideal.S2048x4x3584 [1, 0, 2] w
        Cert.Reference8Ideal.Gen.transposes_S4x2048x3584_S2048x4x3584_1_0_2) Cert.Reference8Ideal.Gen.shapeCasts_S2048x4x3584_S2048x14336)
      : FVec Ideal Cert.Reference8Ideal.S2048x2048 .f32) i = grad w ct i := by
  pointwise [grad]
  refine (Fin.sum_mul_add_congr fun s k hl => ?_).symm
  refine congrArg₂ (· * ·) (congrArg ct (Cert.DHn.ix3_congr (Fin.ext ?_) rfl (Fin.ext ?_))) (congrArg w (Cert.DHn.ix3_congr (Fin.ext ?_) rfl (Fin.ext ?_)))
  · show s.val / 4 = (s.val * 512 + k.val) / 2048
    omega
  · show s.val % 4 * 512 + k.val = (s.val * 512 + k.val) % 2048
    omega
  · show s.val / 7 = (s.val * 512 + k.val) / 3584
    omega
  · show s.val % 7 * 512 + k.val = (s.val * 512 + k.val) % 3584
    omega

end Cert.DXn

end
-- ==== Proof.GSquare.lean ====
/-
  The gradient of a square product's right side: the kernel keeps its left block transposed while it goes along the columns of
  the right one.
-/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import proofs.«01_k».proof.Proof.GDown

@[expose] public section

set_option maxRecDepth 16384

noncomputable section

namespace Cert.GSquare

open Cert.Kernel9Ideal Cert.Kernel9Ideal.Gen
open Idealize.ShloMosaic Idealize.ShloMosaic.TcCoe Idealize.SL.Sem

/-- The gradient at a row and a column: a column of `x` times a column of `ct`. -/
def grad (x : S2048x2048.Idx → EReal) (ct : S2048x2048.Idx → EReal) (i : S2048x2048.Idx) : EReal :=
  ∑ k : Fin 2048, x (ix2 k (i 0)) * ct (ix2 k (i 1))

/-- The block each window is at. -/
theorem idx : ∀ t : Fin cfg0.N, win0_0.index t = ![0, 0] ∧ win0_1.index t = ![0, t.val]
    ∧ win0_2.index t = ![0, t.val] :=
  (by decide +kernel : ∀ t : Fin grid0.N, _)

variable (m : (ℓ : Loc nD τ sig) → Buf (Elt Ideal) ℓ)

/-- What the first point leaves in the scratch: the left block transposed. -/
theorem turned (c : Dev nD) (t : Fin cfg0.N) (h : t.val % 4 = 0) (a b : Fin 2048) :
    (outsAt0 m c t.val t.isLt).2 (ix2 a b) = iblk m c 0 t (ix2 b a) := by
  rw [outsAt0_A m c t h]; dsimp only
  frame_out
  canon_tiles x hx
  all_goals (
    have e0 : a.val = (x 0).val := hx0
    first | have e1 : b.val = (x 1).val := hx1 | have e1 : b.val = _ + (x 1).val := hx1
    pointwise [k0_pay1, k0_pay2, k0_pay3, k0_pay4, k0_pay6, k0_pay7, k0_pay8, k0_pay9, k0_pay10]
    blk_point [])

/-- The scratch holds the left block transposed at every point. -/
theorem kept (c : Dev nD) : ∀ (n : ℕ) (h : n < cfg0.N) (a b : Fin 2048), (outsAt0 m c n h).2 (ix2 a b) = iblk m c 0 ⟨n, h⟩ (ix2 b a)
  | 0, h, a, b => turned m c ⟨0, h⟩ (Nat.zero_mod _) a b
  | n + 1, h, a, b => by
    by_cases h0 : (n + 1) % 4 = 0
    · exact turned m c ⟨n + 1, h⟩ h0 a b
    · rw [outsAt0_B m c ⟨n + 1, h⟩ h0]
      refine (kept c n (Nat.lt_of_succ_lt h) a b).trans ?_
      have e := (idx ⟨n, Nat.lt_of_succ_lt h⟩).1.trans (idx ⟨n + 1, h⟩).1.symm
      blk_point [iblk, V, e]

/-- The product of a scratch that holds the left block transposed. -/
theorem product (c : Dev nD) (t : Fin cfg0.N) (s : FVec Ideal S2048x2048 .bf16) (hs : ∀ a b, s (ix2 a b) = iblk m c 0 t (ix2 b a)) (y) :
    k0_pay5 s (iblk m c 1 t) y
      = grad (m ((c : Thread nD τ).loc main_arg0)) (m ((c : Thread nD τ).loc main_arg1)) (((cfg0.win 2).blk t).view.emb y) := by
  pointwise [k0_pay5, grad, hs]
  blk_point [iblk, V, idx t]

theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp; rw [after0_2]
  by_cases h : t.val % 4 = 0
  · have hs := turned m c t h
    rw [outsAt0_A m c t h] at hs ⊢; dsimp only at hs ⊢
    frame_out
    refine product m c t _ (fun a b => ?_) y
    refine Eq.trans ?_ (hs a b)
    frame_out
    exact congrFun (Cert.GDown.whole_read _ _ _) _
  · have hs := kept m c t.val t.isLt
    rw [outsAt0_B m c t h] at hs ⊢; dsimp only [sout0_B_0] at hs ⊢
    frame_out
    rw [read_unread_whole]
    exact product m c t _ hs y

/-- The reference's operations give the same gradient. -/
theorem reference_eq (x ct : FVec Ideal Cert.Reference9Ideal.S2048x2048 .f32) (i : Cert.Reference9Ideal.S2048x2048.Idx) :
    (truncf .bf16 (transpose Cert.Reference9Ideal.S2048x2048 [1, 0]
      (Host.dotGeneral Cert.Reference9Ideal.dot_S2048x2048_S2048x2048_S2048x2048_0_0_1_1_n_n none ct x)
      Cert.Reference9Ideal.Gen.transposes_S2048x2048_S2048x2048_1_0)
      Cert.Reference9Ideal.Gen.bitsLt_bf16_f32 : FVec Ideal Cert.Reference9Ideal.S2048x2048 .bf16) i = grad x ct i := by
  pointwise [grad]
  exact Finset.sum_congr rfl fun k _ => mul_comm _ _

end Cert.GSquare

end
-- ==== Proof.DSquare.lean ====
/-
  The gradient of a square product's left side.
-/
module

public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

namespace Cert.DSquare

open Cert.Kernel10Ideal Cert.Kernel10Ideal.Gen
open Idealize.ShloMosaic Idealize.ShloMosaic.TcCoe Idealize.SL.Sem

/-- The gradient at a row and a column: a row of `ct` times a row of `w`. -/
def grad (w ct : S2048x2048.Idx → EReal) (i : S2048x2048.Idx) : EReal := ∑ k : Fin 2048, ct (ix2 (i 0) k) * w (ix2 (i 1) k)

/-- The block each window is at. -/
theorem idx : ∀ t : Fin cfg0.N, win0_0.index t = ![0, 0] ∧ win0_1.index t = ![t.val, 0] ∧ win0_2.index t = ![0, t.val] :=
  (by decide +kernel : ∀ t : Fin grid0.N, _)

variable (m : (ℓ : Loc nD τ sig) → Buf (Elt Ideal) ℓ)

/-- What a grid point stores is the gradient at the index where it lies. -/
theorem point (c : Dev nD) (t : Fin cfg0.N) (y) :
    k0_pay1 (iblk m c 0 t) (iblk m c 1 t) y
      = grad (m ((c : Thread nD τ).loc main_arg0)) (m ((c : Thread nD τ).loc main_arg1)) (((cfg0.win 2).blk t).view.emb y) := by
  pointwise [k0_pay1, grad]
  blk_point [iblk, V, idx t]

/-- The result array holds the gradient. -/
theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference's operation gives the same gradient. -/
theorem reference_eq (w ct : FVec Ideal Cert.Reference10Ideal.S2048x2048 .f32) (i : Cert.Reference10Ideal.S2048x2048.Idx) :
    (Host.dotGeneral (F := Ideal) Cert.Reference10Ideal.dot_S2048x2048_S2048x2048_S2048x2048_1_1_0_0_n_n none ct w
      : FVec Ideal Cert.Reference10Ideal.S2048x2048 .f32) i = grad w ct i := by
  pointwise [grad]

end Cert.DSquare

end
-- ==== Proof.Square.lean ====
/-
  A square product, forward.
-/
module

public import proofs.«01_k».proof.Proof.Gen.Kernel11Ideal.Value
public import proofs.«01_k».proof.Proof.Gen.Reference11Ideal.Run
public import Idealize.ShloMosaic.Lib.Pipeline.ValueKit

@[expose] public section

set_option maxRecDepth 16384

noncomputable section

namespace Cert.Square

open Cert.Kernel11Ideal Cert.Kernel11Ideal.Gen
open Idealize.ShloMosaic Idealize.ShloMosaic.TcCoe Idealize.SL.Sem

/-- The product at a row and a column. -/
def prod (x w : S2048x2048.Idx → EReal) (i : S2048x2048.Idx) : EReal := ∑ k : Fin 2048, x (ix2 (i 0) k) * w (ix2 k (i 1))

/-- The block each window is at. -/
theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ)

/-- What a grid point stores is the product at the index where it lies. -/
theorem point (c : Dev nD) (t : Fin cfg0.N) (y) :
    k0_pay1 (iblk m c 0 t) (iblk m c 1 t) y
      = prod (m ((c : Thread nD τ).loc main_arg0)) (m ((c : Thread nD τ).loc main_arg1)) (((cfg0.win 2).blk t).view.emb y) := by
  pointwise [k0_pay1, prod]
  blk_point [iblk, V, idx t]

/-- The result array holds the product. -/
theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The reference's operations give the same product. -/
theorem reference_eq (x w : FVec Ideal Cert.Reference11Ideal.S2048x2048 .f32) (i : Cert.Reference11Ideal.S2048x2048.Idx) :
    (truncf .bf16 (Host.dotGeneral (F := Ideal) Cert.Reference11Ideal.dot_S2048x2048_S2048x2048_S2048x2048_1_0_0_1_n_n none x w)
      Cert.Reference11Ideal.Gen.bitsLt_bf16_f32 : FVec Ideal Cert.Reference11Ideal.S2048x2048 .bf16) i = prod x w i := by
  pointwise [prod]

end Cert.Square

end
-- ==== Proof.Resid.lean ====
/-
  A square product and the residual.
-/
module

public import proofs.«01_k».proof.Proof.Gen.Kernel12Ideal.Value
public import proofs.«01_k».proof.Proof.Gen.Reference12Ideal.Run
public import Idealize.ShloMosaic.Lib.Pipeline.ValueKit

@[expose] public section

set_option maxRecDepth 16384

noncomputable section

namespace Cert.Resid

open Cert.Kernel12Ideal Cert.Kernel12Ideal.Gen
open Idealize.ShloMosaic Idealize.ShloMosaic.TcCoe Idealize.SL.Sem

/-- The result at a row and a column. -/
def res (x w h : S2048x2048.Idx → EReal) (i : S2048x2048.Idx) : EReal := h i + ∑ k : Fin 2048, x (ix2 (i 0) k) * w (ix2 k (i 1))

/-- The block each window is at. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

variable (m : (ℓ : Loc nD τ sig) → Buf (Elt Ideal) ℓ)

/-- What a grid point stores is the result at the index where it lies. -/
theorem point (c : Dev nD) (t : Fin cfg0.N) (y) :
    k0_pay1 (iblk m c 0 t) (iblk m c 1 t) (iblk m c 2 t) y
      = res (m ((c : Thread nD τ).loc main_arg0)) (m ((c : Thread nD τ).loc main_arg1)) (m ((c : Thread nD τ).loc main_arg2)) (((cfg0.win 3).blk t).view.emb y) := by
  pointwise [k0_pay1, res]
  blk_point [iblk, V, idx t]

/-- The result array holds the result. -/
theorem final (c : Dev nD) : (dats m 0 c).arrAt 3 (cfgs 0).N = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

/-- The reference's operations give the same. -/
theorem reference_eq (x w h : FVec Ideal Cert.Reference12Ideal.S2048x2048 .f32) (i : Cert.Reference12Ideal.S2048x2048.Idx) :
    (addf h (Host.dotGeneral (F := Ideal) Cert.Reference12Ideal.dot_S2048x2048_S2048x2048_S2048x2048_1_0_0_1_n_n none x w)
      : FVec Ideal Cert.Reference12Ideal.S2048x2048 .f32) i = res x w h i := by
  pointwise [res]

end Cert.Resid

end
-- ==== Proof.Merge.lean ====
/-
  The gated merge of the two branches: the second branch's product, and the sum of the branches times the sigmoids of their
  gates.
-/
module

public import proofs.«01_k».proof.Proof.Gen.Kernel13Ideal.Value
public import proofs.«01_k».proof.Proof.Gen.Reference13Ideal.Run
public import Idealize.ShloMosaic.Lib.Pipeline.ValueKit

@[expose] public section

set_option maxRecDepth 16384

noncomputable section

namespace Cert.Merge

open Cert.Kernel13Ideal Cert.Kernel13Ideal.Gen
open Idealize.ShloMosaic Idealize.ShloMosaic.TcCoe Idealize.SL.Sem

/-- The sigmoid. -/
def sigmoid (x : EReal) : EReal := Ideal.div 1 (1 + Ideal.exp (-x))

theorem logistic_eq (x : EReal) : Ideal.logistic x = sigmoid x := rfl

/-- The second branch's product at a row and a column. -/
def prod (y w : S2048x2048.Idx → EReal) (i : S2048x2048.Idx) : EReal := ∑ k : Fin 2048, y (ix2 (i 0) k) * w (ix2 k (i 1))

/-- The merged value at a row and a column. -/
def merged (y w pa : S2048x2048.Idx → EReal) (proj : S7x2048x2048.Idx → EReal) (i : S2048x2048.Idx) : EReal :=
  sigmoid (proj (ix3 5 (i 0) (i 1))) * pa i + sigmoid (proj (ix3 6 (i 0) (i 1))) * prod y w i

/-- The block each window is at. -/
theorem idx : ∀ t : Fin cfg0.N, win0_0.index t = ![0, 0] ∧ win0_1.index t = ![0, t.val] ∧ win0_2.index t = ![0, t.val]
    ∧ win0_3.index t = ![5, 0, t.val] ∧ win0_4.index t = ![6, 0, t.val] ∧ win0_5.index t = ![0, t.val] ∧ win0_6.index t = ![0, t.val] :=
  (by decide +kernel : ∀ t : Fin grid0.N, _)

variable (m : (ℓ : Loc nD τ sig) → Buf (Elt Ideal) ℓ)

/-- What a grid point computes of the product is the product at the index where it lies. -/
theorem point (c : Dev nD) (t : Fin cfg0.N) (y) :
    k0_pay1 (iblk m c 0 t) (iblk m c 1 t) y
      = prod (m ((c : Thread nD τ).loc main_arg0)) (m ((c : Thread nD τ).loc main_arg1)) (((cfg0.win 6).blk t).view.emb y) := by
  pointwise [k0_pay1, prod]
  blk_point [iblk, V, idx t]

/-- The two output windows are at the same block. -/
theorem same (t : Fin cfg0.N) (y) : ((cfg0.win 5).blk t).view.emb y = ((cfg0.win 6).blk t).view.emb y := by
  blk_ext [idx t]

/-- What a grid point stores is the merged value at the index where it lies. -/
theorem point_merged (c : Dev nD) (t : Fin cfg0.N) (y) :
    k0_pay2 (iblk m c 0 t) (iblk m c 1 t) (iblk m c 3 t) (iblk m c 2 t) (iblk m c 4 t) y
      = merged (m ((c : Thread nD τ).loc main_arg0)) (m ((c : Thread nD τ).loc main_arg1)) (m ((c : Thread nD τ).loc main_arg2)) (m ((c : Thread nD τ).loc main_arg3))
          (((cfg0.win 5).blk t).view.emb y) := by
  pointwise [k0_pay2, merged]
  simp only [logistic_eq]
  rw [point m c t y, same t y]
  blk_point [iblk, V, idx t]

/-- The first result array holds the merged values. -/
theorem final_merged (c : Dev nD) : (dats m 0 c).arrAt 5 (cfgs 0).N
    = merged (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_merged m c t y

/-- The second result array holds the product. -/
theorem final_prod (c : Dev nD) : (dats m 0 c).arrAt 6 (cfgs 0).N = prod (m ((c : Thread nD τ).loc main_arg0)) (m ((c : Thread nD τ).loc main_arg1)) := by
  refine (dats m 0 c).arrAt_eq_of_covers 6 _ (by decide +kernel) fun t hf y => ?_
  blk_simp; rw [after0_6]; frame_out
  exact point m c t y

/-- The reference's sigmoid of an array. -/
def refSig (x : FVec Ideal Cert.Reference13Ideal.S2048x2048 .f32) : FVec Ideal Cert.Reference13Ideal.S2048x2048 .f32 :=
  Host.divf (broadcastInDim Cert.Reference13Ideal.S2048x2048 ![] Cert.Reference13Ideal.Gen.bcast_S_S2048x2048 (constant Cert.Reference13Ideal.S_ .f32 0x3F800000#32))
    (addf (broadcastInDim Cert.Reference13Ideal.S2048x2048 ![] Cert.Reference13Ideal.Gen.bcast_S_S2048x2048 (constant Cert.Reference13Ideal.S_ .f32 0x3F800000#32)) (Host.exp (Host.negf x)))

theorem refSig_apply (x : FVec Ideal S2048x2048 .f32) (i : S2048x2048.Idx) : refSig x i = sigmoid (x i) := by
  pointwise [refSig, sigmoid]

/-- The reference's gates: two slots of the projection. -/
def gate5 (proj : FVec Ideal Cert.Reference13Ideal.S7x2048x2048 .f32) : FVec Ideal Cert.Reference13Ideal.S2048x2048 .f32 :=
  shapeCast _ (extractStridedSlice Cert.Reference13Ideal.S1x2048x2048 ![5, 0, 0] proj Cert.Reference13Ideal.Gen.slices_S7x2048x2048_S1x2048x2048_5_0_0) Cert.Reference13Ideal.Gen.shapeCasts_S1x2048x2048_S2048x2048

def gate6 (proj : FVec Ideal Cert.Reference13Ideal.S7x2048x2048 .f32) : FVec Ideal Cert.Reference13Ideal.S2048x2048 .f32 :=
  shapeCast _ (extractStridedSlice Cert.Reference13Ideal.S1x2048x2048 ![6, 0, 0] proj Cert.Reference13Ideal.Gen.slices_S7x2048x2048_S1x2048x2048_6_0_0) Cert.Reference13Ideal.Gen.shapeCasts_S1x2048x2048_S2048x2048

theorem gate5_apply (proj i) : gate5 proj i = proj (ix3 5 (i 0) (i 1)) := by
  pointwise [gate5]

theorem gate6_apply (proj i) : gate6 proj i = proj (ix3 6 (i 0) (i 1)) := by
  pointwise [gate6]

/-- The reference's product. -/
def refProd (y w : FVec Ideal Cert.Reference13Ideal.S2048x2048 .f32) : FVec Ideal Cert.Reference13Ideal.S2048x2048 .f32 :=
  Host.dotGeneral Cert.Reference13Ideal.dot_S2048x2048_S2048x2048_S2048x2048_1_0_0_1_n_n none y w

theorem refProd_apply (y w i) : refProd y w i = prod y w i := by
  pointwise [refProd, prod]

/-- The reference's two results. -/
theorem reference_merged (y w pa proj) (i : S2048x2048.Idx) :
    (truncf .bf16 (addf (mulf (refSig (gate5 proj)) pa) (mulf (refSig (gate6 proj)) (refProd y w))) Cert.Reference13Ideal.Gen.bitsLt_bf16_f32
      : FVec Ideal Cert.Reference13Ideal.S2048x2048 .bf16) i = merged y w pa proj i := by
  show refSig (gate5 proj) i * pa i + refSig (gate6 proj) i * refProd y w i = _
  rw [refSig_apply, refSig_apply, gate5_apply, gate6_apply, refProd_apply]
  rfl

theorem reference_prod (y w) (i : S2048x2048.Idx) :
    (truncf .bf16 (refProd y w) Cert.Reference13Ideal.Gen.bitsLt_bf16_f32 : FVec Ideal Cert.Reference13Ideal.S2048x2048 .bf16) i = prod y w i :=
  refProd_apply y w i

end Cert.Merge

end
-- ==== Proof.DMerge.lean ====
/-
  The gradient of the gated merge and of the product after it, with respect to both branches and both gates.
-/
module

public import proofs.«01_k».proof.Proof.Gen.Kernel14Ideal.Value
public import proofs.«01_k».proof.Proof.Gen.Reference14Ideal.Run
public import Idealize.ShloMosaic.Lib.Pipeline.ValueKit
public import proofs.«01_k».proof.Proof.Merge

@[expose] public section

set_option maxRecDepth 16384

noncomputable section

namespace Cert.DMerge

open Cert.Kernel14Ideal Cert.Kernel14Ideal.Gen
open Idealize.ShloMosaic Idealize.ShloMosaic.TcCoe Idealize.SL.Sem

open Cert.Merge (sigmoid)

/-- The gradient of the merged array at a row and a column. -/
def up (w ct : S2048x2048.Idx → EReal) (i : S2048x2048.Idx) : EReal := ∑ k : Fin 2048, ct (ix2 (i 0) k) * w (ix2 (i 1) k)

/-- The gradient of a branch whose gate is slot `n`. -/
def branch (n : Fin 7) (w : S2048x2048.Idx → EReal) (proj : S7x2048x2048.Idx → EReal) (ct : S2048x2048.Idx → EReal) (i : S2048x2048.Idx) : EReal :=
  up w ct i * sigmoid (proj (ix3 n (i 0) (i 1)))

/-- The gradient of a gate, slot `n`, of the branch `p`. -/
def gate (n : Fin 7) (w p : S2048x2048.Idx → EReal) (proj : S7x2048x2048.Idx → EReal) (ct : S2048x2048.Idx → EReal) (i : S2048x2048.Idx) : EReal :=
  up w ct i * p i * (sigmoid (proj (ix3 n (i 0) (i 1))) * (1 - sigmoid (proj (ix3 n (i 0) (i 1)))))

/-- The gradients of both gates. -/
def gates (w pa pl : S2048x2048.Idx → EReal) (proj : S7x2048x2048.Idx → EReal) (ct : S2048x2048.Idx → EReal) (i : S2x2048x2048.Idx) : EReal :=
  if (i 0).val < 1 then gate 5 w pa proj ct (ix2 (i 1) (i 2)) else gate 6 w pl proj ct (ix2 (i 1) (i 2))

/-- The block each window is at. -/
theorem idx : ∀ t : Fin cfg0.N, win0_0.index t = ![0, 0] ∧ win0_1.index t = ![t.val, 0] ∧ win0_2.index t = ![0, t.val] ∧ win0_3.index t = ![0, t.val]
    ∧ win0_4.index t = ![5, 0, t.val] ∧ win0_5.index t = ![6, 0, t.val] ∧ win0_6.index t = ![0, t.val] ∧ win0_7.index t = ![0, t.val]
    ∧ win0_8.index t = ![0, 0, t.val] :=
  (by decide +kernel : ∀ t : Fin grid0.N, _)

variable (m : (ℓ : Loc nD τ sig) → Buf (Elt Ideal) ℓ)

/-- What a grid point computes of the product is the product at the index where it lies. -/
theorem point (c : Dev nD) (t : Fin cfg0.N) (y) :
    k0_pay2 (iblk m c 0 t) (iblk m c 1 t) y
      = up (m ((c : Thread nD τ).loc main_arg0)) (m ((c : Thread nD τ).loc main_arg4)) (((cfg0.win 6).blk t).view.emb y) := by
  pointwise [k0_pay2, up]
  blk_point [iblk, V, idx t]

/-- The output windows of the branches are at the same block. -/
theorem same (t : Fin cfg0.N) (y) : ((cfg0.win 7).blk t).view.emb y = ((cfg0.win 6).blk t).view.emb y := by
  blk_ext [idx t]

/-- The first result array holds the gradient of the first branch. -/
theorem final_attn (c : Dev nD) : (dats m 0 c).arrAt 6 (cfgs 0).N
    = branch 5 (m ((c : Thread nD τ).loc main_arg0)) (m ((c : Thread nD τ).loc main_arg3)) (m ((c : Thread nD τ).loc main_arg4)) := by
  refine (dats m 0 c).arrAt_eq_of_covers 6 _ (by decide +kernel) fun t hf y => ?_
  blk_simp; rw [after0_6]; frame_out
  pointwise [k0_pay5, k0_pay3, branch]
  simp only [Cert.Merge.logistic_eq]
  rw [point m c t y]
  blk_point [iblk, V, idx t]

/-- The second result array holds the gradient of the second branch. -/
theorem final_lru (c : Dev nD) : (dats m 0 c).arrAt 7 (cfgs 0).N
    = branch 6 (m ((c : Thread nD τ).loc main_arg0)) (m ((c : Thread nD τ).loc main_arg3)) (m ((c : Thread nD τ).loc main_arg4)) := by
  refine (dats m 0 c).arrAt_eq_of_covers 7 _ (by decide +kernel) fun t hf y => ?_
  blk_simp; rw [after0_7]; frame_out
  pointwise [k0_pay6, k0_pay4, branch]
  simp only [Cert.Merge.logistic_eq]
  rw [point m c t y, same t y]
  blk_point [iblk, V, idx t]

/-- The third result array holds the gradients of the gates. -/
theorem final_gates (c : Dev nD) : (dats m 0 c).arrAt 8 (cfgs 0).N
    = gates (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp; rw [after0_8]; frame_out
  have e0 : ((((cfg0.win 8).blk t).view.emb y) 0).val = (y 0).val := by
    blk_simp [idx t]
  canon_tiles x hx
  · refine Eq.trans ?_ (if_neg (show ¬((((cfg0.win 8).blk t).view.emb y) 0).val < 1 from fun h => absurd (lt_of_eq_of_lt e0.symm h) (by omega))).symm
    pointwise [k0_pay1, k0_pay4, k0_pay8, gate]
    simp only [Cert.Merge.logistic_eq]
    rw [point m c t (ix2 (x 1) (x 2))]
    blk_point [iblk, V, idx t]
  · refine Eq.trans ?_ (if_pos (show ((((cfg0.win 8).blk t).view.emb y) 0).val < 1 from lt_of_eq_of_lt e0 (by omega))).symm
    pointwise [k0_pay7, k0_pay3, gate]
    simp only [Cert.Merge.logistic_eq]
    rw [point m c t (ix2 (x 1) (x 2))]
    blk_point [iblk, V, idx t]

/-- The reference's product. -/
def refUp (w ct : FVec Ideal Cert.Reference14Ideal.S2048x2048 .f32) : FVec Ideal Cert.Reference14Ideal.S2048x2048 .f32 :=
  Host.dotGeneral Cert.Reference14Ideal.dot_S2048x2048_S2048x2048_S2048x2048_1_1_0_0_n_n none ct w

theorem refUp_apply (w ct i) : refUp w ct i = up w ct i := by
  pointwise [refUp, up]

open Cert.Merge (refSig refSig_apply gate5 gate6 gate5_apply gate6_apply)

/-- The reference's gradients of the branches. -/
theorem reference_attn (w proj ct) (i : S2048x2048.Idx) :
    (truncf .bf16 (mulf (refSig (gate5 proj)) (refUp w ct)) Cert.Reference14Ideal.Gen.bitsLt_bf16_f32 : FVec Ideal Cert.Reference14Ideal.S2048x2048 .bf16) i = branch 5 w proj ct i := by
  show refSig (gate5 proj) i * refUp w ct i = _
  rw [refSig_apply, gate5_apply, refUp_apply, mul_comm]
  rfl

theorem reference_lru (w proj ct) (i : S2048x2048.Idx) :
    (truncf .bf16 (mulf (refSig (gate6 proj)) (refUp w ct)) Cert.Reference14Ideal.Gen.bitsLt_bf16_f32 : FVec Ideal Cert.Reference14Ideal.S2048x2048 .bf16) i = branch 6 w proj ct i := by
  show refSig (gate6 proj) i * refUp w ct i = _
  rw [refSig_apply, gate6_apply, refUp_apply, mul_comm]
  rfl

/-- The derivative of the sigmoid, as the reference computes it. -/
def refSlope (x : FVec Ideal Cert.Reference14Ideal.S2048x2048 .f32) : FVec Ideal Cert.Reference14Ideal.S2048x2048 .f32 :=
  mulf (refSig x) (subf (broadcastInDim Cert.Reference14Ideal.S2048x2048 ![] Cert.Reference14Ideal.Gen.bcast_S_S2048x2048 (constant Cert.Reference14Ideal.S_ .f32 0x3F800000#32)) (refSig x))

theorem refSlope_apply (x : FVec Ideal S2048x2048 .f32) (i : S2048x2048.Idx) : refSlope x i = sigmoid (x i) * (1 - sigmoid (x i)) := by
  pointwise [refSlope, refSig_apply]

/-- The reference's gradient of a gate, as one slot of an array. -/
def refGate (w ct p x : FVec Ideal Cert.Reference14Ideal.S2048x2048 .f32) : FVec Ideal Cert.Reference14Ideal.S1x2048x2048 .f32 :=
  broadcastInDim Cert.Reference14Ideal.S1x2048x2048 ![1, 2] Cert.Reference14Ideal.Gen.bcast_S2048x2048_S1x2048x2048_1_2 (mulf (mulf (refUp w ct) p) (refSlope x))

theorem refGate_apply (w ct p x i) : refGate w ct p x i = up w ct (ix2 (i 1) (i 2)) * p (ix2 (i 1) (i 2)) * (sigmoid (x (ix2 (i 1) (i 2))) * (1 - sigmoid (x (ix2 (i 1) (i 2))))) := by
  pointwise [refGate, refUp_apply, refSlope_apply]

theorem reference_gates (w pa pl proj ct) (i : Cert.Reference14Ideal.S2x2048x2048.Idx) :
    (truncf .bf16 (concatenate Cert.Reference14Ideal.S2x2048x2048 0 [⟨Cert.Reference14Ideal.S1x2048x2048, refGate w ct pa (gate5 proj)⟩, ⟨Cert.Reference14Ideal.S1x2048x2048, refGate w ct pl (gate6 proj)⟩]
      Cert.Reference14Ideal.Gen.concatenates_S1x2048x2048_S1x2048x2048_S2x2048x2048_d0) Cert.Reference14Ideal.Gen.bitsLt_bf16_f32 : FVec Ideal Cert.Reference14Ideal.S2x2048x2048 .bf16) i
      = gates w pa pl proj ct i := by
  pointwise [gates, refGate_apply, gate5_apply, gate6_apply, gate]
  by_cases h : (i 0).val < 1
  · exact (dif_pos h).trans (if_pos h).symm
  · exact (dif_neg h).trans (if_neg h).symm

end Cert.DMerge

end
-- ==== Proof.GInRest.lean ====
/-
  The gradient of the input projection's matrix in the columns after those of q, k and v, written over the array that holds the
  others.
-/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack
public import proofs.«01_k».proof.Proof.GDown
public import proofs.«01_k».proof.Proof.DHn

@[expose] public section

set_option maxRecDepth 16384

noncomputable section

namespace Cert.GInRest

open Cert.Kernel15Ideal Cert.Kernel15Ideal.Gen
open Idealize.ShloMosaic Idealize.ShloMosaic.TcCoe Idealize.SL.Sem

/-- The place of a column among the columns of all four parts. -/
def flat (i : S4x2048x3584.Idx) : ℕ := (i 0).val * 3584 + (i 2).val

/-- The slot and the column of it that a place is in. -/
def slot (n : ℕ) : Fin 4 := ⟨n % 8192 / 2048, by omega⟩

def col (n : ℕ) : Fin 2048 := ⟨n % 2048, by omega⟩

/-- The gradient at a part, a row and a column, and the array given where this call writes nothing. -/
def grad (xn : S2048x2048.Idx → EReal) (ct : S4x2048x2048.Idx → EReal) (g : S4x2048x3584.Idx → EReal) (i : S4x2048x3584.Idx) : EReal :=
  if 6144 ≤ flat i then ∑ k : Fin 2048, xn (ix2 k (i 1)) * ct (ix3 (slot (flat i - 6144)) k (col (flat i - 6144))) else g i

/-- The block each window is at. -/
theorem idx : ∀ t : Fin cfg0.N, win0_0.index t = ![0, 0] ∧ win0_1.index t = ![t.val / 4, 0, t.val % 4]
    ∧ win0_2.index t = ![(t.val + 12) / 7, 0, (t.val + 12) % 7] :=
  (by decide +kernel : ∀ t : Fin grid0.N, _)

variable (m : (ℓ : Loc nD τ sig) → Buf (Elt Ideal) ℓ)

/-- What the first point leaves in the scratch: the left block transposed. -/
theorem turned (c : Dev nD) (t : Fin cfg0.N) (h : t.val % 16 = 0) (a b : Fin 2048) :
    (outsAt0 m c t.val t.isLt).2 (ix2 a b) = iblk m c 0 t (ix2 b a) := by
  rw [outsAt0_A m c t h]; dsimp only
  frame_out
  canon_tiles x hx
  all_goals (
    have e0 : a.val = (x 0).val := hx0
    first | have e1 : b.val = (x 1).val := hx1 | have e1 : b.val = _ + (x 1).val := hx1
    pointwise [k0_pay1, k0_pay2, k0_pay3, k0_pay4, k0_pay6, k0_pay7, k0_pay8, k0_pay9, k0_pay10]
    blk_point [])

/-- The scratch holds the left block transposed at every point. -/
theorem kept (c : Dev nD) : ∀ (n : ℕ) (h : n < cfg0.N) (a b : Fin 2048), (outsAt0 m c n h).2 (ix2 a b) = iblk m c 0 ⟨n, h⟩ (ix2 b a)
  | 0, h, a, b => turned m c ⟨0, h⟩ (Nat.zero_mod _) a b
  | n + 1, h, a, b => by
    by_cases h0 : (n + 1) % 16 = 0
    · exact turned m c ⟨n + 1, h⟩ h0 a b
    · rw [outsAt0_B m c ⟨n + 1, h⟩ h0]
      refine (kept c n (Nat.lt_of_succ_lt h) a b).trans ?_
      have e := (idx ⟨n, Nat.lt_of_succ_lt h⟩).1.trans (idx ⟨n + 1, h⟩).1.symm
      blk_point [iblk, V, e]

/-- The product of a scratch that holds the left block transposed. -/
theorem product (c : Dev nD) (t : Fin cfg0.N) (s : FVec Ideal S2048x2048 .bf16) (hs : ∀ a b, s (ix2 a b) = iblk m c 0 t (ix2 b a)) (y) :
    k0_pay5 s (iblk m c 1 t) y
      = grad (m ((c : Thread nD τ).loc main_arg0)) (m ((c : Thread nD τ).loc main_arg1)) (m ((c : Thread nD τ).loc main_arg2)) (((cfg0.win 2).blk t).view.emb y) := by
  have hN : t.val < 16 := lt_of_lt_of_eq t.isLt N_0
  have hf : flat (((cfg0.win 2).blk t).view.emb y) = t.val * 512 + (y 2).val + 6144 := by
    unfold flat; blk_simp [idx t]; omega
  rw [grad, if_pos (by rw [hf]; idx_bounds y; omega), hf, Nat.add_sub_cancel]
  pointwise [k0_pay5, hs]
  blk_point [iblk, V, idx t, slot, col]

/-- What the result's buffer holds before the run. -/
theorem entry (c : Dev nD) : V m c main_v2 = m ((c : Thread nD τ).loc main_arg2) := by
  entry_read; rfl

theorem final (c : Dev nD) : (dats m 0 c).arrAt 2 (cfgs 0).N
    = grad (m ((c : Thread nD τ).loc main_arg0)) (m ((c : Thread nD τ).loc main_arg1)) (m ((c : Thread nD τ).loc main_arg2)) := by
  refine (dats m 0 c).arrAt_eq_of_coversWhere_of_agree 2 _ (fun β => 12 ≤ β (0 : Fin _) * 7 + β (2 : Fin _)) (by decide +kernel) (fun t hf y => ?_) (fun j hj => ?_)
  · blk_simp; rw [after0_2]
    by_cases h : t.val % 16 = 0
    · have hs := turned m c t h
      rw [outsAt0_A m c t h] at hs ⊢; dsimp only at hs ⊢
      frame_out
      refine product m c t _ (fun a b => ?_) y
      refine Eq.trans ?_ (hs a b)
      frame_out
      exact congrFun (Cert.GDown.whole_read _ _ _) _
    · have hs := kept m c t.val t.isLt
      rw [outsAt0_B m c t h] at hs ⊢; dsimp only [sout0_B_0] at hs ⊢
      frame_out
      rw [read_unread_whole]
      exact product m c t _ hs y
  · refine (congrFun (entry m c) _).trans (Eq.symm (if_neg fun hc => hj ?_))
    have hc' : 6144 ≤ (j 0).val * 3584 + (j 2).val := hc
    show 12 ≤ (j 0).val / 1 * 7 + (j 2).val / 512
    have h2 : (j 2).val < 3584 := (j 2).isLt
    omega

/-- The reference's gradient, its columns side by side. -/
def refNew (xn : FVec Ideal Cert.Reference15Ideal.S2048x2048 .f32) (ct : FVec Ideal Cert.Reference15Ideal.S4x2048x2048 .f32) : FVec Ideal Cert.Reference15Ideal.S2048x8192 .bf16 :=
  truncf .bf16 (transpose Cert.Reference15Ideal.S2048x8192 [1, 0]
    (Host.dotGeneral Cert.Reference15Ideal.dot_S2048x8192_S2048x2048_S8192x2048_0_0_1_1_n_n none
      (shapeCast Cert.Reference15Ideal.S2048x8192 (transpose Cert.Reference15Ideal.S2048x4x2048 [1, 0, 2] ct Cert.Reference15Ideal.Gen.transposes_S4x2048x2048_S2048x4x2048_1_0_2)
        Cert.Reference15Ideal.Gen.shapeCasts_S2048x4x2048_S2048x8192) xn) Cert.Reference15Ideal.Gen.transposes_S8192x2048_S2048x8192_1_0) Cert.Reference15Ideal.Gen.bitsLt_bf16_f32

theorem refNew_apply (xn ct) (i : Cert.Reference15Ideal.S2048x8192.Idx) :
    refNew xn ct i = ∑ k : Fin 2048, xn (ix2 k (i 0)) * ct (ix3 (slot (i 1).val) k (col (i 1).val)) := by
  have hi : (i 1).val < 8192 := (i 1).isLt
  pointwise [refNew]
  refine Finset.sum_congr rfl fun k _ => (mul_comm _ _).trans (congrArg (xn (ix2 k (i 0)) * ·) (congrArg ct (Cert.DHn.ix3_congr (Fin.ext ?_) rfl rfl)))
  show (i 1).val / 2048 = (i 1).val % 8192 / 2048
  omega

/-- The reference's columns of the array given that stay. -/
def refOld (g : FVec Ideal Cert.Reference15Ideal.S4x2048x3584 .bf16) : FVec Ideal Cert.Reference15Ideal.S2048x6144 .bf16 :=
  extractStridedSlice Cert.Reference15Ideal.S2048x6144 ![0, 0]
    (shapeCast Cert.Reference15Ideal.S2048x14336 (transpose Cert.Reference15Ideal.S2048x4x3584 [1, 0, 2] g Cert.Reference15Ideal.Gen.transposes_S4x2048x3584_S2048x4x3584_1_0_2)
      Cert.Reference15Ideal.Gen.shapeCasts_S2048x4x3584_S2048x14336) Cert.Reference15Ideal.Gen.slices_S2048x14336_S2048x6144_0_0

/-- The part and the column of it that a place is in. -/
def fourth (n : ℕ) : Fin 4 := ⟨n % 14336 / 3584, by omega⟩

def within (n : ℕ) : Fin 3584 := ⟨n % 3584, by omega⟩

theorem refOld_apply (g) (i : Cert.Reference15Ideal.S2048x6144.Idx) : refOld g i = g (ix3 (fourth ((i 1).val)) (i 0) (within ((i 1).val))) := by
  have hi : (i 1).val < 6144 := (i 1).isLt
  pointwise [refOld]
  refine congrArg g (Cert.DHn.ix3_congr (Fin.ext ?_) rfl rfl)
  show (i 1).val / 3584 = (i 1).val % 14336 / 3584
  omega

/-- The reference's operations give the same array. -/
theorem reference_eq (xn : FVec Ideal Cert.Reference15Ideal.S2048x2048 .f32) (ct : FVec Ideal Cert.Reference15Ideal.S4x2048x2048 .f32)
    (g : FVec Ideal Cert.Reference15Ideal.S4x2048x3584 .bf16) (i : Cert.Reference15Ideal.S4x2048x3584.Idx) :
    (transpose Cert.Reference15Ideal.S4x2048x3584 [1, 0, 2] (shapeCast Cert.Reference15Ideal.S2048x4x3584
      (concatenate Cert.Reference15Ideal.S2048x14336 1 [⟨Cert.Reference15Ideal.S2048x6144, refOld g⟩, ⟨Cert.Reference15Ideal.S2048x8192, refNew xn ct⟩]
        Cert.Reference15Ideal.Gen.concatenates_S2048x6144_S2048x8192_S2048x14336_d1) Cert.Reference15Ideal.Gen.shapeCasts_S2048x14336_S2048x4x3584)
      Cert.Reference15Ideal.Gen.transposes_S2048x4x3584_S4x2048x3584_1_0_2 : FVec Ideal Cert.Reference15Ideal.S4x2048x3584 .bf16) i = grad xn ct g i := by
  pointwise []
  have h0 : (i 0).val < 4 := (i 0).isLt
  have h2 : (i 2).val < 3584 := (i 2).isLt
  by_cases hf : 6144 ≤ flat i
  · exact (dif_neg (not_lt.mpr hf)).trans ((refNew_apply xn ct _).trans (if_pos hf).symm)
  · refine (dif_pos (not_le.mp hf)).trans (Eq.trans ?_ (if_neg hf).symm)
    refine (refOld_apply g _).trans (congrArg g ((Cert.DHn.ix3_congr (Fin.ext ?_) rfl (Fin.ext ?_)).trans (ix3_eta i)))
    · show ((i 0).val * 3584 + (i 2).val) % 14336 / 3584 = (i 0).val
      have hf' : ¬(6144 ≤ (i 0).val * 3584 + (i 2).val) := hf
      omega
    · show ((i 0).val * 3584 + (i 2).val) % 3584 = (i 2).val
      have hf' : ¬(6144 ≤ (i 0).val * 3584 + (i 2).val) := hf
      omega

end Cert.GInRest

end
-- ==== Proof.Shape.lean ====
/-
  The attention backward body restated as a short program: the streams' copies, sixteen blocks a dilation and the strided
  accumulation, each one definition called many times, and the equation of this program with the printed one.
-/
module

public import proofs.«01_k».proof.KernelIdeal
public import Idealize.ShloMosaic.Lib.Tactic.ProgEq

@[expose] public section

noncomputable section

namespace Cert.AttnBwd

open Idealize.ShloMosaic Idealize.SL.Sem
open Cert.KernelIdeal

variable {F : FTy → Type} [FloatOps F]
variable [Facts]
open Facts₀ Facts

/-- The first key of block `t`'s window that its stream has: the second half of the window at the first block of a stream. -/
def firstOf (nblk : BitVec 32) (t : Nat) : BitVec 32 :=
  let v33 : BitVec 32 := Scalar.addi (Scalar.muli 0#32 16#32) (BitVec.ofNat 32 t)
  let v41 : BitVec 32 := Scalar.select (Scalar.cmpi .eq nblk 0#32) 1#32 nblk
  let v42 : BitVec 32 := Scalar.remsi v33 v41
  let v47 : BitVec 1 := Scalar.andi (Scalar.xori (Scalar.cmpi .slt v42 0#32) (Scalar.cmpi .slt v41 0#32)) (Scalar.cmpi .ne v42 0#32)
  Scalar.select (Scalar.cmpi .eq (Scalar.select v47 (Scalar.addi v42 v41) v42) 0#32) 128#32 0#32

/-- The lower and upper halves of a window's 256 rows. -/
def lo (x : FVec F S256x128 .f32) : FVec F S128x128 .f32 := extractStridedSlice S128x128 ![0, 0] x slices_S256x128_o0_0_S128x128
def hi (x : FVec F S256x128 .f32) : FVec F S128x128 .f32 := extractStridedSlice S128x128 ![128, 0] x slices_S256x128_o128_0_S128x128

/-- A block's probabilities, from the saved log-sum of the scores. -/
def blkP (jj : IVec S128x256 32) (band : IVec S128x256 1) (bias : FVec F S128x256 .f32) (first : BitVec 32) (q : FVec F S128x128 .bf16)
    (lse : FVec F S128x128 .f32) (kk : FVec F S256x128 .bf16) : FVec F S128x256 .f32 :=
  select (andi band (cmpi .sge jj (broadcast S128x256 first)))
    (exp (subf (addf (mulf (matmul dot_S128x128_S256x128_S128x256_1_1_0_0_n_n none q kk (constant S128x256 .f32 0x00000000#32))
        (broadcast S128x256 (Scalar.ofBits .f32 0x3DB504F3#32 : F .f32))) bias)
      (concatenate S128x256 1 [⟨S128x128, lse⟩, ⟨S128x128, lse⟩] concatenates_S128x128_S128x128_S128x256_d1)))
    (broadcast S128x256 (Scalar.ofBits .f32 0x00000000#32 : F .f32))

/-- A block's gradient of the scores. -/
def blkDs (jj : IVec S128x256 32) (band : IVec S128x256 1) (bias : FVec F S128x256 .f32) (first : BitVec 32) (q dob : FVec F S128x128 .bf16)
    (lse dl : FVec F S128x128 .f32) (kk vv : FVec F S256x128 .bf16) : FVec F S128x256 .f32 :=
  mulf (blkP jj band bias first q lse kk)
    (subf (matmul dot_S128x128_S256x128_S128x256_1_1_0_0_n_n none dob vv (constant S128x256 .f32 0x00000000#32))
      (concatenate S128x256 1 [⟨S128x128, dl⟩, ⟨S128x128, dl⟩] concatenates_S128x128_S128x128_S128x256_d1))

/-- A block's part of the gradient of its window's values, -/
def blkDv (jj : IVec S128x256 32) (band : IVec S128x256 1) (bias : FVec F S128x256 .f32) (first : BitVec 32) (q dob : FVec F S128x128 .bf16)
    (lse : FVec F S128x128 .f32) (kk : FVec F S256x128 .bf16) : FVec F S256x128 .f32 :=
  matmul dot_S128x256_S128x128_S256x128_0_0_1_1_n_n none (truncf .bf16 (blkP jj band bias first q lse kk) bitsLt_bf16_f32) dob
    (constant S256x128 .f32 0x00000000#32)

/-- of its window's keys, -/
def blkDk (jj : IVec S128x256 32) (band : IVec S128x256 1) (bias : FVec F S128x256 .f32) (first : BitVec 32) (q dob : FVec F S128x128 .bf16)
    (lse dl : FVec F S128x128 .f32) (kk vv : FVec F S256x128 .bf16) : FVec F S256x128 .f32 :=
  mulf (matmul dot_S128x256_S128x128_S256x128_0_0_1_1_n_n none (truncf .bf16 (blkDs jj band bias first q dob lse dl kk vv) bitsLt_bf16_f32) q
    (constant S256x128 .f32 0x00000000#32)) (broadcast S256x128 (Scalar.ofBits .f32 0x3DB504F3#32 : F .f32))

/-- and the gradient of its queries. -/
def blkDq (jj : IVec S128x256 32) (band : IVec S128x256 1) (bias : FVec F S128x256 .f32) (first : BitVec 32) (q dob : FVec F S128x128 .bf16)
    (lse dl : FVec F S128x128 .f32) (kk vv : FVec F S256x128 .bf16) : FVec F S128x128 .f32 :=
  mulf (matmul dot_S128x256_S256x128_S128x128_1_0_0_1_n_n none (truncf .bf16 (blkDs jj band bias first q dob lse dl kk vv) bitsLt_bf16_f32) kk
    (constant S128x128 .f32 0x00000000#32)) (broadcast S128x128 (Scalar.ofBits .f32 0x3DB504F3#32 : F .f32))

/-- The positions of a window's keys, -/
def jjV : IVec S128x256 32 := iota .tc S128x256 32 [1] iota_S128x256_d1_w32
/-- how far each key lies behind each query, -/
def diffV : IVec S128x256 32 :=
  subi (addi (broadcast S128x256 128#32) (iota .tc S128x256 32 [0] iota_S128x256_d0_w32)) (iota .tc S128x256 32 [1] iota_S128x256_d1_w32)
/-- the window of the keys that a query sees, -/
def bandV : IVec S128x256 1 := andi (cmpi .sge diffV (broadcast S128x256 0#32)) (cmpi .sle diffV (broadcast S128x256 128#32))
/-- and the bias that a head's slope and a dilation's factor give the scores. -/
def biasV (slope : FVec F S1x1 .f32) (fac : F .f32) : FVec F S128x256 .f32 :=
  mulf (broadcastTo S128x256 (subf (broadcast S1x1 (Scalar.ofBits .f32 0x00000000#32 : F .f32)) (mulf slope (broadcast S1x1 fac))) broadcasts_S1x1_S128x256)
    (sitofp .f32 diffV)
/-- The carry before the first block. -/
def zeroV : FVec F S128x128 .f32 := broadcast S128x128 (Scalar.ofBits .f32 0x00000000#32 : F .f32)

/-- Block `t` of the first dilation: the loads from the windows, and the three stores. -/
def blkA (arg1 arg2 arg3 : Memref sig .tc .vmem S1x2048x128 .f32) (arg6 arg7 arg15 arg19 : Memref sig .tc .vmem S2048x128 .f32)
    (arg20 arg21 : Memref sig .tc .vmem S2176x128 .f32) (jj : IVec S128x256 32) (band : IVec S128x256 1) (bias : FVec F S128x256 .f32)
    (t : Nat) (ht : t < 16) (ck cv : FVec F S128x128 .f32) : Prog (TpuEff nD τ sig (Elt F) Λ₀ .tc) (FVec F S128x128 .f32 × FVec F S128x128 .f32) := do
  let first : BitVec 32 := firstOf 16#32 t
  let q0' : Vec F S1x128x128 .f32 ← Prog.lift (.load arg1 (Rect.unit (s := S1x2048x128) (k0_off1 (BitVec.ofNat 32 t)) S1x128x128.size (k0_off1_inb ⟨t, ht⟩)).toLoadRect (View.loadsAt_vmem h_S1x128x128))
  have q0 : FVec F S128x128 .f32 := shapeCast S128x128 q0' shapeCasts_S1x128x128_S128x128
  let do0 : Vec F S128x128 .f32 ← Prog.lift (.load arg7 (Rect.unit (s := S2048x128) (k0_off2 (BitVec.ofNat 32 t)) S128x128.size (k0_off2_inb ⟨t, ht⟩)).toLoadRect (View.loadsAt_vmem h_S128x128))
  let lse₀ : Vec F S128x128 .f32 ← Prog.lift (.load arg6 (Rect.unit (s := S2048x128) (k0_off2 (BitVec.ofNat 32 t)) S128x128.size (k0_off2_inb ⟨t, ht⟩)).toLoadRect (View.loadsAt_vmem h_S128x128))
  have lse : FVec F S128x128 .f32 := shapeCast S128x128 lse₀ shapeCasts_S128x128_S128x128
  let dl : Vec F S128x128 .f32 ← Prog.lift (.load arg15 (Rect.unit (s := S2048x128) (k0_off2 (BitVec.ofNat 32 t)) S128x128.size (k0_off2_inb ⟨t, ht⟩)).toLoadRect (View.loadsAt_vmem h_S128x128))
  let k0' : Vec F S1x128x128 .f32 ← Prog.lift (.load arg2 (Rect.unit (s := S1x2048x128) (k0_off3 (BitVec.ofNat 32 t)) S1x128x128.size (k0_off3_inb ⟨t, ht⟩)).toLoadRect (View.loadsAt_vmem h_S1x128x128))
  have k0 : FVec F S128x128 .f32 := shapeCast S128x128 k0' shapeCasts_S1x128x128_S128x128
  let k1' : Vec F S1x128x128 .f32 ← Prog.lift (.load arg2 (Rect.unit (s := S1x2048x128) (k0_off1 (BitVec.ofNat 32 t)) S1x128x128.size (k0_off1_inb ⟨t, ht⟩)).toLoadRect (View.loadsAt_vmem h_S1x128x128))
  have k1 : FVec F S128x128 .f32 := shapeCast S128x128 k1' shapeCasts_S1x128x128_S128x128
  let v0' : Vec F S1x128x128 .f32 ← Prog.lift (.load arg3 (Rect.unit (s := S1x2048x128) (k0_off3 (BitVec.ofNat 32 t)) S1x128x128.size (k0_off3_inb ⟨t, ht⟩)).toLoadRect (View.loadsAt_vmem h_S1x128x128))
  have v0 : FVec F S128x128 .f32 := shapeCast S128x128 v0' shapeCasts_S1x128x128_S128x128
  let v1' : Vec F S1x128x128 .f32 ← Prog.lift (.load arg3 (Rect.unit (s := S1x2048x128) (k0_off1 (BitVec.ofNat 32 t)) S1x128x128.size (k0_off1_inb ⟨t, ht⟩)).toLoadRect (View.loadsAt_vmem h_S1x128x128))
  have v1 : FVec F S128x128 .f32 := shapeCast S128x128 v1' shapeCasts_S1x128x128_S128x128
  have q : FVec F S128x128 .bf16 := truncf .bf16 q0 bitsLt_bf16_f32
  have dob : FVec F S128x128 .bf16 := truncf .bf16 do0 bitsLt_bf16_f32
  have kk : FVec F S256x128 .bf16 := truncf .bf16 (concatenate S256x128 0 [⟨S128x128, k0⟩, ⟨S128x128, k1⟩] concatenates_S128x128_S128x128_S256x128_d0) bitsLt_bf16_f32
  have vv : FVec F S256x128 .bf16 := truncf .bf16 (concatenate S256x128 0 [⟨S128x128, v0⟩, ⟨S128x128, v1⟩] concatenates_S128x128_S128x128_S256x128_d0) bitsLt_bf16_f32
  let _ : Vec F S128x128 .f32 ← Prog.lift (.load arg19 (Rect.unit (s := S2048x128) (k0_off2 (BitVec.ofNat 32 t)) S128x128.size (k0_off2_inb ⟨t, ht⟩)).toLoadRect (View.loadsAt_vmem h_S128x128))
  Prog.lift (.store arg19 (Rect.unit (s := S2048x128) (k0_off2 (BitVec.ofNat 32 t)) S128x128.size (k0_off2_inb ⟨t, ht⟩)) (shapeCast S128x128 (blkDq jj band bias first q dob lse dl kk vv) shapeCasts_S128x128_S128x128) Finset.univ (View.stores_vmem_bits_univ h_S128x128 rfl) (.inl rfl))
  let _ : Vec F S128x128 .f32 ← Prog.lift (.load arg20 (Rect.unit (s := S2176x128) (k0_off4 (BitVec.ofNat 32 t)) S128x128.size (k0_off4_inb ⟨t, ht⟩)).toLoadRect (View.loadsAt_vmem h_S128x128))
  Prog.lift (.store arg20 (Rect.unit (s := S2176x128) (k0_off4 (BitVec.ofNat 32 t)) S128x128.size (k0_off4_inb ⟨t, ht⟩)) (shapeCast S128x128 (addf ck (lo (blkDk jj band bias first q dob lse dl kk vv))) shapeCasts_S128x128_S128x128) Finset.univ (View.stores_vmem_bits_univ h_S128x128 rfl) (.inl rfl))
  let _ : Vec F S128x128 .f32 ← Prog.lift (.load arg21 (Rect.unit (s := S2176x128) (k0_off4 (BitVec.ofNat 32 t)) S128x128.size (k0_off4_inb ⟨t, ht⟩)).toLoadRect (View.loadsAt_vmem h_S128x128))
  Prog.lift (.store arg21 (Rect.unit (s := S2176x128) (k0_off4 (BitVec.ofNat 32 t)) S128x128.size (k0_off4_inb ⟨t, ht⟩)) (shapeCast S128x128 (addf cv (lo (blkDv jj band bias first q dob lse kk))) shapeCasts_S128x128_S128x128) Finset.univ (View.stores_vmem_bits_univ h_S128x128 rfl) (.inl rfl))
  pure (hi (blkDk jj band bias first q dob lse dl kk vv), hi (blkDv jj band bias first q dob lse kk))

/-- Block `t` of a later dilation: the loads from the gathered streams, and the three stores. -/
def blkB (arg9 arg10 arg11 arg12 : Memref sig .tc .vmem S2048x128 .bf16) (arg13 arg14 arg16 : Memref sig .tc .vmem S2048x128 .f32)
    (arg17 arg18 : Memref sig .tc .vmem S2176x128 .f32) (jj : IVec S128x256 32) (band : IVec S128x256 1) (bias : FVec F S128x256 .f32)
    (nblk : BitVec 32) (t : Nat) (ht : t < 16) (ck cv : FVec F S128x128 .f32) : Prog (TpuEff nD τ sig (Elt F) Λ₀ .tc) (FVec F S128x128 .f32 × FVec F S128x128 .f32) := do
  let first : BitVec 32 := firstOf nblk t
  let q : Vec F S128x128 .bf16 ← Prog.lift (.load arg9 (Rect.unit (s := S2048x128) (k0_off2 (BitVec.ofNat 32 t)) S128x128.size (k0_off2_inb ⟨t, ht⟩)).toLoadRect (View.loadsAt_vmem h_S128x128))
  let dob : Vec F S128x128 .bf16 ← Prog.lift (.load arg12 (Rect.unit (s := S2048x128) (k0_off2 (BitVec.ofNat 32 t)) S128x128.size (k0_off2_inb ⟨t, ht⟩)).toLoadRect (View.loadsAt_vmem h_S128x128))
  let lse : Vec F S128x128 .f32 ← Prog.lift (.load arg13 (Rect.unit (s := S2048x128) (k0_off2 (BitVec.ofNat 32 t)) S128x128.size (k0_off2_inb ⟨t, ht⟩)).toLoadRect (View.loadsAt_vmem h_S128x128))
  let dl : Vec F S128x128 .f32 ← Prog.lift (.load arg14 (Rect.unit (s := S2048x128) (k0_off2 (BitVec.ofNat 32 t)) S128x128.size (k0_off2_inb ⟨t, ht⟩)).toLoadRect (View.loadsAt_vmem h_S128x128))
  let k0 : Vec F S128x128 .bf16 ← Prog.lift (.load arg10 (Rect.unit (s := S2048x128) (k0_off5 (BitVec.ofNat 32 t)) S128x128.size (k0_off5_inb ⟨t, ht⟩)).toLoadRect (View.loadsAt_vmem h_S128x128))
  let k1 : Vec F S128x128 .bf16 ← Prog.lift (.load arg10 (Rect.unit (s := S2048x128) (k0_off2 (BitVec.ofNat 32 t)) S128x128.size (k0_off2_inb ⟨t, ht⟩)).toLoadRect (View.loadsAt_vmem h_S128x128))
  let v0 : Vec F S128x128 .bf16 ← Prog.lift (.load arg11 (Rect.unit (s := S2048x128) (k0_off5 (BitVec.ofNat 32 t)) S128x128.size (k0_off5_inb ⟨t, ht⟩)).toLoadRect (View.loadsAt_vmem h_S128x128))
  let v1 : Vec F S128x128 .bf16 ← Prog.lift (.load arg11 (Rect.unit (s := S2048x128) (k0_off2 (BitVec.ofNat 32 t)) S128x128.size (k0_off2_inb ⟨t, ht⟩)).toLoadRect (View.loadsAt_vmem h_S128x128))
  have kk : FVec F S256x128 .bf16 := concatenate S256x128 0 [⟨S128x128, k0⟩, ⟨S128x128, k1⟩] concatenates_S128x128_S128x128_S256x128_d0
  have vv : FVec F S256x128 .bf16 := concatenate S256x128 0 [⟨S128x128, v0⟩, ⟨S128x128, v1⟩] concatenates_S128x128_S128x128_S256x128_d0
  let _ : Vec F S128x128 .f32 ← Prog.lift (.load arg16 (Rect.unit (s := S2048x128) (k0_off2 (BitVec.ofNat 32 t)) S128x128.size (k0_off2_inb ⟨t, ht⟩)).toLoadRect (View.loadsAt_vmem h_S128x128))
  Prog.lift (.store arg16 (Rect.unit (s := S2048x128) (k0_off2 (BitVec.ofNat 32 t)) S128x128.size (k0_off2_inb ⟨t, ht⟩)) (shapeCast S128x128 (blkDq jj band bias first q dob lse dl kk vv) shapeCasts_S128x128_S128x128) Finset.univ (View.stores_vmem_bits_univ h_S128x128 rfl) (.inl rfl))
  let _ : Vec F S128x128 .f32 ← Prog.lift (.load arg17 (Rect.unit (s := S2176x128) (k0_off4 (BitVec.ofNat 32 t)) S128x128.size (k0_off4_inb ⟨t, ht⟩)).toLoadRect (View.loadsAt_vmem h_S128x128))
  Prog.lift (.store arg17 (Rect.unit (s := S2176x128) (k0_off4 (BitVec.ofNat 32 t)) S128x128.size (k0_off4_inb ⟨t, ht⟩)) (shapeCast S128x128 (addf ck (lo (blkDk jj band bias first q dob lse dl kk vv))) shapeCasts_S128x128_S128x128) Finset.univ (View.stores_vmem_bits_univ h_S128x128 rfl) (.inl rfl))
  let _ : Vec F S128x128 .f32 ← Prog.lift (.load arg18 (Rect.unit (s := S2176x128) (k0_off4 (BitVec.ofNat 32 t)) S128x128.size (k0_off4_inb ⟨t, ht⟩)).toLoadRect (View.loadsAt_vmem h_S128x128))
  Prog.lift (.store arg18 (Rect.unit (s := S2176x128) (k0_off4 (BitVec.ofNat 32 t)) S128x128.size (k0_off4_inb ⟨t, ht⟩)) (shapeCast S128x128 (addf cv (lo (blkDv jj band bias first q dob lse kk))) shapeCasts_S128x128_S128x128) Finset.univ (View.stores_vmem_bits_univ h_S128x128 rfl) (.inl rfl))
  pure (hi (blkDk jj band bias first q dob lse dl kk vv), hi (blkDv jj band bias first q dob lse kk))

/-- The last block's carry, stored. -/
def tail (arg20 arg21 : Memref sig .tc .vmem S2176x128 .f32) (c : FVec F S128x128 .f32 × FVec F S128x128 .f32) : Prog (TpuEff nD τ sig (Elt F) Λ₀ .tc) PUnit := do
  let _ : Vec F S128x128 .f32 ← Prog.lift (.load arg20 (Rect.unit (s := S2176x128) ![1920, 0] S128x128.size inb_S2176x128_S128x128_1920_0).toLoadRect (View.loadsAt_vmem h_S128x128))
  Prog.lift (.store arg20 (Rect.unit (s := S2176x128) ![1920, 0] S128x128.size inb_S2176x128_S128x128_1920_0) (shapeCast S128x128 c.1 shapeCasts_S128x128_S128x128) Finset.univ (View.stores_vmem_bits_univ h_S128x128 rfl) (.inl rfl))
  let _ : Vec F S128x128 .f32 ← Prog.lift (.load arg21 (Rect.unit (s := S2176x128) ![1920, 0] S128x128.size inb_S2176x128_S128x128_1920_0).toLoadRect (View.loadsAt_vmem h_S128x128))
  Prog.lift (.store arg21 (Rect.unit (s := S2176x128) ![1920, 0] S128x128.size inb_S2176x128_S128x128_1920_0) (shapeCast S128x128 c.2 shapeCasts_S128x128_S128x128) Finset.univ (View.stores_vmem_bits_univ h_S128x128 rfl) (.inl rfl))

/-- The row sums of the product of the output and its cotangent, broadcast over the lanes. -/
def deltaV (dy : Vec F S2048x128 .f32) (o : Vec F S2048x128 .bf16) : FVec F S2048x128 .f32 :=
  broadcastTo S2048x128 (shapeCast S2048x1 (shapeCast S2048x1
    (multiReduction .add [1] S2048 (mulf dy (extf .f32 (shapeCast S2048x128 o shapeCasts_S2048x128_S2048x128) bitsLt_bf16_f32)) 0x00000000#32 reduces_S2048x128_S2048 (.inl rfl) rfl)
    shapeCasts_S2048_S2048x1) shapeCasts_S2048x1_S2048x1) broadcasts_S2048x1_S2048x128

/-- The head's slope is loaded and the row sums are stored. -/
def initP (arg4 : Memref sig .tc .vmem S1x1x128 .f32) (arg5 : Memref sig .tc .vmem S2048x128 .bf16) (arg7 arg15 : Memref sig .tc .vmem S2048x128 .f32) :
    Prog (TpuEff nD τ sig (Elt F) Λ₀ .tc) (FVec F S1x1 .f32) := do
  let v0 : Vec F S1x1x128 .f32 ← Prog.lift (.load arg4 (Rect.unit (s := S1x1x128) ![0, 0, 0] S1x1x128.size inb_S1x1x128_S1x1x128_0_0_0).toLoadRect (View.loadsAt_vmem h_S1x1x128))
  let v3 : Vec F S2048x128 .f32 ← Prog.lift (.load arg7 (Rect.unit (s := S2048x128) ![0, 0] S2048x128.size inb_S2048x128_S2048x128_0_0).toLoadRect (View.loadsAt_vmem h_S2048x128))
  let v4 : Vec F S2048x128 .bf16 ← Prog.lift (.load arg5 (Rect.unit (s := S2048x128) ![0, 0] S2048x128.size inb_S2048x128_S2048x128_0_0).toLoadRect (View.loadsAt_vmem h_S2048x128))
  let _ : Vec F S2048x128 .f32 ← Prog.lift (.load arg15 (Rect.unit (s := S2048x128) ![0, 0] S2048x128.size inb_S2048x128_S2048x128_0_0).toLoadRect (View.loadsAt_vmem h_S2048x128))
  Prog.lift (.store arg15 (Rect.unit (s := S2048x128) ![0, 0] S2048x128.size inb_S2048x128_S2048x128_0_0) (shapeCast S2048x128 (deltaV v3 v4) shapeCasts_S2048x128_S2048x128) Finset.univ (View.stores_vmem_bits_univ h_S2048x128 rfl) (.inl rfl))
  pure (extractStridedSlice S1x1 ![0, 0] (shapeCast S1x128 v0 shapeCasts_S1x1x128_S1x128) slices_S1x128_o0_0_S1x1)

/-- One slot of the result: a sum of 2048 rows, rounded. -/
def outP2048 (arg8 : Memref sig .tc .vmem S3x2048x128 .bf16) (arg19 : Memref sig .tc .vmem S2048x128 .f32) (k : Nat)
    (hn : ∀ a, (![0, 0] : Fin 2 → Nat) a + S2048x128.size a ≤ S2048x128.size a)
    (hk : ∀ a, (![k, 0, 0] : Fin 3 → Nat) a + S1x2048x128.size a ≤ S3x2048x128.size a)
    (hs : (arg8.access (Rect.unit (s := S3x2048x128) ![k, 0, 0] S1x2048x128.size hk)).Stores Finset.univ) : Prog (TpuEff nD τ sig (Elt F) Λ₀ .tc) PUnit := do
  let v : Vec F S2048x128 .f32 ← Prog.lift (.load arg19 (Rect.unit (s := S2048x128) ![0, 0] S2048x128.size hn).toLoadRect (View.loadsAt_vmem h_S2048x128))
  let _ : Vec F S1x2048x128 .bf16 ← Prog.lift (.load arg8 (Rect.unit (s := S3x2048x128) ![k, 0, 0] S1x2048x128.size hk).toLoadRect (View.loadsAt_vmem h_S1x2048x128))
  Prog.lift (.store arg8 (Rect.unit (s := S3x2048x128) ![k, 0, 0] S1x2048x128.size hk) (shapeCast S1x2048x128 (truncf .bf16 v bitsLt_bf16_f32) shapeCasts_S2048x128_S1x2048x128) Finset.univ hs (.inl rfl))

/-- One slot of the result: a sum of 2176 rows, rounded. -/
def outP2176 (arg8 : Memref sig .tc .vmem S3x2048x128 .bf16) (arg19 : Memref sig .tc .vmem S2176x128 .f32) (k : Nat)
    (hn : ∀ a, (![0, 0] : Fin 2 → Nat) a + S2048x128.size a ≤ S2176x128.size a)
    (hk : ∀ a, (![k, 0, 0] : Fin 3 → Nat) a + S1x2048x128.size a ≤ S3x2048x128.size a)
    (hs : (arg8.access (Rect.unit (s := S3x2048x128) ![k, 0, 0] S1x2048x128.size hk)).Stores Finset.univ) : Prog (TpuEff nD τ sig (Elt F) Λ₀ .tc) PUnit := do
  let v : Vec F S2048x128 .f32 ← Prog.lift (.load arg19 (Rect.unit (s := S2176x128) ![0, 0] S2048x128.size hn).toLoadRect (View.loadsAt_vmem h_S2048x128))
  let _ : Vec F S1x2048x128 .bf16 ← Prog.lift (.load arg8 (Rect.unit (s := S3x2048x128) ![k, 0, 0] S1x2048x128.size hk).toLoadRect (View.loadsAt_vmem h_S1x2048x128))
  Prog.lift (.store arg8 (Rect.unit (s := S3x2048x128) ![k, 0, 0] S1x2048x128.size hk) (shapeCast S1x2048x128 (truncf .bf16 v bitsLt_bf16_f32) shapeCasts_S2048x128_S1x2048x128) Finset.univ hs (.inl rfl))

/-- Segment `r` of a window into a rounded stream, at dilation 4: rows `r`, `r + 4`, … put at row `o`. -/
def cp4_3b (src : Memref sig .tc .vmem S1x2048x128 .f32) (dst : Memref sig .tc .vmem S2048x128 .bf16) (r o : Nat)
    (hr : ∀ a, S1x512x128.size a = 0 ∨ (![0, r, 0] : Fin 3 → Nat) a + (![1, 4, 1] : Fin 3 → Nat) a * (S1x512x128.size a - 1) < S1x2048x128.size a)
    (ho : ∀ a, (![o, 0] : Fin 2 → Nat) a + S512x128.size a ≤ S2048x128.size a)
    (hs : (dst.access (Rect.unit (s := S2048x128) ![o, 0] S512x128.size ho)).Stores Finset.univ)
    : Prog (TpuEff nD τ sig (Elt F) Λ₀ .tc) PUnit := do
  let v : Vec F S1x512x128 .f32 ← Prog.lift (.load src (⟨![0, r, 0], S1x512x128.size, ![1, 4, 1], hr⟩ : LoadRect S1x2048x128) (View.loadsAt_vmem h_S1x512x128))
  let _ : Vec F S512x128 .bf16 ← Prog.lift (.load dst (Rect.unit (s := S2048x128) ![o, 0] S512x128.size ho).toLoadRect (View.loadsAt_vmem h_S512x128))
  Prog.lift (.store dst (Rect.unit (s := S2048x128) ![o, 0] S512x128.size ho) (shapeCast S512x128 (truncf .bf16 (shapeCast S512x128 v shapeCasts_S1x512x128_S512x128) bitsLt_bf16_f32) shapeCasts_S512x128_S512x128) Finset.univ hs (.inl rfl))

/-- Segment `r` of the cotangent into a rounded stream, at dilation 4: rows `r`, `r + 4`, … put at row `o`. -/
def cp4_2b (src : Memref sig .tc .vmem S2048x128 .f32) (dst : Memref sig .tc .vmem S2048x128 .bf16) (r o : Nat)
    (hr : ∀ a, S512x128.size a = 0 ∨ (![r, 0] : Fin 2 → Nat) a + (![4, 1] : Fin 2 → Nat) a * (S512x128.size a - 1) < S2048x128.size a)
    (ho : ∀ a, (![o, 0] : Fin 2 → Nat) a + S512x128.size a ≤ S2048x128.size a)
    (hs : (dst.access (Rect.unit (s := S2048x128) ![o, 0] S512x128.size ho)).Stores Finset.univ)
    : Prog (TpuEff nD τ sig (Elt F) Λ₀ .tc) PUnit := do
  let v : Vec F S512x128 .f32 ← Prog.lift (.load src (⟨![r, 0], S512x128.size, ![4, 1], hr⟩ : LoadRect S2048x128) (View.loadsAt_vmem h_S512x128))
  let _ : Vec F S512x128 .bf16 ← Prog.lift (.load dst (Rect.unit (s := S2048x128) ![o, 0] S512x128.size ho).toLoadRect (View.loadsAt_vmem h_S512x128))
  Prog.lift (.store dst (Rect.unit (s := S2048x128) ![o, 0] S512x128.size ho) (shapeCast S512x128 (truncf .bf16 (v) bitsLt_bf16_f32) shapeCasts_S512x128_S512x128) Finset.univ hs (.inl rfl))

/-- Segment `r` of an f32 operand into its stream, at dilation 4: rows `r`, `r + 4`, … put at row `o`. -/
def cp4_2f (src : Memref sig .tc .vmem S2048x128 .f32) (dst : Memref sig .tc .vmem S2048x128 .f32) (r o : Nat)
    (hr : ∀ a, S512x128.size a = 0 ∨ (![r, 0] : Fin 2 → Nat) a + (![4, 1] : Fin 2 → Nat) a * (S512x128.size a - 1) < S2048x128.size a)
    (ho : ∀ a, (![o, 0] : Fin 2 → Nat) a + S512x128.size a ≤ S2048x128.size a)
    : Prog (TpuEff nD τ sig (Elt F) Λ₀ .tc) PUnit := do
  let v : Vec F S512x128 .f32 ← Prog.lift (.load src (⟨![r, 0], S512x128.size, ![4, 1], hr⟩ : LoadRect S2048x128) (View.loadsAt_vmem h_S512x128))
  let _ : Vec F S512x128 .f32 ← Prog.lift (.load dst (Rect.unit (s := S2048x128) ![o, 0] S512x128.size ho).toLoadRect (View.loadsAt_vmem h_S512x128))
  Prog.lift (.store dst (Rect.unit (s := S2048x128) ![o, 0] S512x128.size ho) (shapeCast S512x128 (v) shapeCasts_S512x128_S512x128) Finset.univ (View.stores_vmem_bits_univ h_S512x128 rfl) (.inl rfl))

/-- Segment `r` of the log-sum of exponentials, read through a cast to its own shape, into its stream, at dilation 4: rows `r`, `r + 4`, … put at row `o`. -/
def cp4_2g (src : Memref sig .tc .vmem S2048x128 .f32) (dst : Memref sig .tc .vmem S2048x128 .f32) (r o : Nat)
    (hr : ∀ a, S512x128.size a = 0 ∨ (![r, 0] : Fin 2 → Nat) a + (![4, 1] : Fin 2 → Nat) a * (S512x128.size a - 1) < S2048x128.size a)
    (ho : ∀ a, (![o, 0] : Fin 2 → Nat) a + S512x128.size a ≤ S2048x128.size a)
    : Prog (TpuEff nD τ sig (Elt F) Λ₀ .tc) PUnit := do
  let v : Vec F S512x128 .f32 ← Prog.lift (.load src (⟨![r, 0], S512x128.size, ![4, 1], hr⟩ : LoadRect S2048x128) (View.loadsAt_vmem h_S512x128))
  let _ : Vec F S512x128 .f32 ← Prog.lift (.load dst (Rect.unit (s := S2048x128) ![o, 0] S512x128.size ho).toLoadRect (View.loadsAt_vmem h_S512x128))
  Prog.lift (.store dst (Rect.unit (s := S2048x128) ![o, 0] S512x128.size ho) (shapeCast S512x128 (shapeCast S512x128 v shapeCasts_S512x128_S512x128) shapeCasts_S512x128_S512x128) Finset.univ (View.stores_vmem_bits_univ h_S512x128 rfl) (.inl rfl))

/-- Segment `r` of a dilation's part, added at rows `r`, `r + 4`, … of the sum of 2048 rows. -/
def ac4_2048 (acc part : Memref sig .tc .vmem S2048x128 .f32) (r o : Nat)
    (hr : ∀ a, S512x128.size a = 0 ∨ (![r, 0] : Fin 2 → Nat) a + (![4, 1] : Fin 2 → Nat) a * (S512x128.size a - 1) < S2048x128.size a)
    (ho : ∀ a, (![o, 0] : Fin 2 → Nat) a + S512x128.size a ≤ S2048x128.size a) : Prog (TpuEff nD τ sig (Elt F) Λ₀ .tc) PUnit := do
  let x : Vec F S512x128 .f32 ← Prog.lift (.load acc (⟨![r, 0], S512x128.size, ![4, 1], hr⟩ : LoadRect S2048x128) (View.loadsAt_vmem h_S512x128))
  let y : Vec F S512x128 .f32 ← Prog.lift (.load part (Rect.unit (s := S2048x128) ![o, 0] S512x128.size ho).toLoadRect (View.loadsAt_vmem h_S512x128))
  let _ : Vec F S512x128 .f32 ← Prog.lift (.load acc (⟨![r, 0], S512x128.size, ![4, 1], hr⟩ : LoadRect S2048x128) (View.loadsAt_vmem h_S512x128))
  Prog.lift (.store acc ⟨(⟨![r, 0], S512x128.size, ![4, 1], hr⟩ : LoadRect S2048x128), spos_4_1⟩ (shapeCast S512x128 (addf x y) shapeCasts_S512x128_S512x128) Finset.univ (View.stores_vmem_bits_univ h_S512x128 rfl) (.inl rfl))

/-- Segment `r` of a dilation's part, added at rows `r`, `r + 4`, … of the sum of 2176 rows. -/
def ac4_2176 (acc part : Memref sig .tc .vmem S2176x128 .f32) (r o : Nat)
    (hr : ∀ a, S512x128.size a = 0 ∨ (![r, 0] : Fin 2 → Nat) a + (![4, 1] : Fin 2 → Nat) a * (S512x128.size a - 1) < S2176x128.size a)
    (ho : ∀ a, (![o, 0] : Fin 2 → Nat) a + S512x128.size a ≤ S2176x128.size a) : Prog (TpuEff nD τ sig (Elt F) Λ₀ .tc) PUnit := do
  let x : Vec F S512x128 .f32 ← Prog.lift (.load acc (⟨![r, 0], S512x128.size, ![4, 1], hr⟩ : LoadRect S2176x128) (View.loadsAt_vmem h_S512x128))
  let y : Vec F S512x128 .f32 ← Prog.lift (.load part (Rect.unit (s := S2176x128) ![o, 0] S512x128.size ho).toLoadRect (View.loadsAt_vmem h_S512x128))
  let _ : Vec F S512x128 .f32 ← Prog.lift (.load acc (⟨![r, 0], S512x128.size, ![4, 1], hr⟩ : LoadRect S2176x128) (View.loadsAt_vmem h_S512x128))
  Prog.lift (.store acc ⟨(⟨![r, 0], S512x128.size, ![4, 1], hr⟩ : LoadRect S2176x128), spos_4_1⟩ (shapeCast S512x128 (addf x y) shapeCasts_S512x128_S512x128) Finset.univ (View.stores_vmem_bits_univ h_S512x128 rfl) (.inl rfl))

/-- The whole stream, its 4 segments. -/
def st4_3b (src : Memref sig .tc .vmem S1x2048x128 .f32) (dst : Memref sig .tc .vmem S2048x128 .bf16) (hdst : dst.IsWhole) : Prog (TpuEff nD τ sig (Elt F) Λ₀ .tc) PUnit := do
  cp4_3b src dst 0 0 inb_S1x2048x128_S1x512x128_0_0_0_s_1_4_1 inb_S2048x128_S512x128_0_0 (View.stores_vmem h_S512x128 (hdst.storeExact_slice rfl _ packedbf16_S2048x128_S512x128_0_0) (fun _ => rfl))
  cp4_3b src dst 1 512 inb_S1x2048x128_S1x512x128_0_1_0_s_1_4_1 inb_S2048x128_S512x128_512_0 (View.stores_vmem h_S512x128 (hdst.storeExact_slice rfl _ packedbf16_S2048x128_S512x128_512_0) (fun _ => rfl))
  cp4_3b src dst 2 1024 inb_S1x2048x128_S1x512x128_0_2_0_s_1_4_1 inb_S2048x128_S512x128_1024_0 (View.stores_vmem h_S512x128 (hdst.storeExact_slice rfl _ packedbf16_S2048x128_S512x128_1024_0) (fun _ => rfl))
  cp4_3b src dst 3 1536 inb_S1x2048x128_S1x512x128_0_3_0_s_1_4_1 inb_S2048x128_S512x128_1536_0 (View.stores_vmem h_S512x128 (hdst.storeExact_slice rfl _ packedbf16_S2048x128_S512x128_1536_0) (fun _ => rfl))

/-- The whole stream, its 4 segments. -/
def st4_2b (src : Memref sig .tc .vmem S2048x128 .f32) (dst : Memref sig .tc .vmem S2048x128 .bf16) (hdst : dst.IsWhole) : Prog (TpuEff nD τ sig (Elt F) Λ₀ .tc) PUnit := do
  cp4_2b src dst 0 0 inb_S2048x128_S512x128_0_0_s_4_1 inb_S2048x128_S512x128_0_0 (View.stores_vmem h_S512x128 (hdst.storeExact_slice rfl _ packedbf16_S2048x128_S512x128_0_0) (fun _ => rfl))
  cp4_2b src dst 1 512 inb_S2048x128_S512x128_1_0_s_4_1 inb_S2048x128_S512x128_512_0 (View.stores_vmem h_S512x128 (hdst.storeExact_slice rfl _ packedbf16_S2048x128_S512x128_512_0) (fun _ => rfl))
  cp4_2b src dst 2 1024 inb_S2048x128_S512x128_2_0_s_4_1 inb_S2048x128_S512x128_1024_0 (View.stores_vmem h_S512x128 (hdst.storeExact_slice rfl _ packedbf16_S2048x128_S512x128_1024_0) (fun _ => rfl))
  cp4_2b src dst 3 1536 inb_S2048x128_S512x128_3_0_s_4_1 inb_S2048x128_S512x128_1536_0 (View.stores_vmem h_S512x128 (hdst.storeExact_slice rfl _ packedbf16_S2048x128_S512x128_1536_0) (fun _ => rfl))

/-- The whole stream, its 4 segments. -/
def st4_2f (src : Memref sig .tc .vmem S2048x128 .f32) (dst : Memref sig .tc .vmem S2048x128 .f32) : Prog (TpuEff nD τ sig (Elt F) Λ₀ .tc) PUnit := do
  cp4_2f src dst 0 0 inb_S2048x128_S512x128_0_0_s_4_1 inb_S2048x128_S512x128_0_0
  cp4_2f src dst 1 512 inb_S2048x128_S512x128_1_0_s_4_1 inb_S2048x128_S512x128_512_0
  cp4_2f src dst 2 1024 inb_S2048x128_S512x128_2_0_s_4_1 inb_S2048x128_S512x128_1024_0
  cp4_2f src dst 3 1536 inb_S2048x128_S512x128_3_0_s_4_1 inb_S2048x128_S512x128_1536_0

/-- The whole stream, its 4 segments. -/
def st4_2g (src : Memref sig .tc .vmem S2048x128 .f32) (dst : Memref sig .tc .vmem S2048x128 .f32) : Prog (TpuEff nD τ sig (Elt F) Λ₀ .tc) PUnit := do
  cp4_2g src dst 0 0 inb_S2048x128_S512x128_0_0_s_4_1 inb_S2048x128_S512x128_0_0
  cp4_2g src dst 1 512 inb_S2048x128_S512x128_1_0_s_4_1 inb_S2048x128_S512x128_512_0
  cp4_2g src dst 2 1024 inb_S2048x128_S512x128_2_0_s_4_1 inb_S2048x128_S512x128_1024_0
  cp4_2g src dst 3 1536 inb_S2048x128_S512x128_3_0_s_4_1 inb_S2048x128_S512x128_1536_0

/-- A dilation's part added to the sum, its 4 segments. -/
def acc4_2048 (acc part : Memref sig .tc .vmem S2048x128 .f32) : Prog (TpuEff nD τ sig (Elt F) Λ₀ .tc) PUnit := do
  ac4_2048 acc part 0 0 inb_S2048x128_S512x128_0_0_s_4_1 inb_S2048x128_S512x128_0_0
  ac4_2048 acc part 1 512 inb_S2048x128_S512x128_1_0_s_4_1 inb_S2048x128_S512x128_512_0
  ac4_2048 acc part 2 1024 inb_S2048x128_S512x128_2_0_s_4_1 inb_S2048x128_S512x128_1024_0
  ac4_2048 acc part 3 1536 inb_S2048x128_S512x128_3_0_s_4_1 inb_S2048x128_S512x128_1536_0

/-- A dilation's part added to the sum, its 4 segments. -/
def acc4_2176 (acc part : Memref sig .tc .vmem S2176x128 .f32) : Prog (TpuEff nD τ sig (Elt F) Λ₀ .tc) PUnit := do
  ac4_2176 acc part 0 0 inb_S2176x128_S512x128_0_0_s_4_1 inb_S2176x128_S512x128_0_0
  ac4_2176 acc part 1 512 inb_S2176x128_S512x128_1_0_s_4_1 inb_S2176x128_S512x128_512_0
  ac4_2176 acc part 2 1024 inb_S2176x128_S512x128_2_0_s_4_1 inb_S2176x128_S512x128_1024_0
  ac4_2176 acc part 3 1536 inb_S2176x128_S512x128_3_0_s_4_1 inb_S2176x128_S512x128_1536_0

/-- Segment `r` of a window into a rounded stream, at dilation 16: rows `r`, `r + 16`, … put at row `o`. -/
def cp16_3b (src : Memref sig .tc .vmem S1x2048x128 .f32) (dst : Memref sig .tc .vmem S2048x128 .bf16) (r o : Nat)
    (hr : ∀ a, S1x128x128.size a = 0 ∨ (![0, r, 0] : Fin 3 → Nat) a + (![1, 16, 1] : Fin 3 → Nat) a * (S1x128x128.size a - 1) < S1x2048x128.size a)
    (ho : ∀ a, (![o, 0] : Fin 2 → Nat) a + S128x128.size a ≤ S2048x128.size a)
    (hs : (dst.access (Rect.unit (s := S2048x128) ![o, 0] S128x128.size ho)).Stores Finset.univ)
    : Prog (TpuEff nD τ sig (Elt F) Λ₀ .tc) PUnit := do
  let v : Vec F S1x128x128 .f32 ← Prog.lift (.load src (⟨![0, r, 0], S1x128x128.size, ![1, 16, 1], hr⟩ : LoadRect S1x2048x128) (View.loadsAt_vmem h_S1x128x128))
  let _ : Vec F S128x128 .bf16 ← Prog.lift (.load dst (Rect.unit (s := S2048x128) ![o, 0] S128x128.size ho).toLoadRect (View.loadsAt_vmem h_S128x128))
  Prog.lift (.store dst (Rect.unit (s := S2048x128) ![o, 0] S128x128.size ho) (shapeCast S128x128 (truncf .bf16 (shapeCast S128x128 v shapeCasts_S1x128x128_S128x128) bitsLt_bf16_f32) shapeCasts_S128x128_S128x128) Finset.univ hs (.inl rfl))

/-- Segment `r` of the cotangent into a rounded stream, at dilation 16: rows `r`, `r + 16`, … put at row `o`. -/
def cp16_2b (src : Memref sig .tc .vmem S2048x128 .f32) (dst : Memref sig .tc .vmem S2048x128 .bf16) (r o : Nat)
    (hr : ∀ a, S128x128.size a = 0 ∨ (![r, 0] : Fin 2 → Nat) a + (![16, 1] : Fin 2 → Nat) a * (S128x128.size a - 1) < S2048x128.size a)
    (ho : ∀ a, (![o, 0] : Fin 2 → Nat) a + S128x128.size a ≤ S2048x128.size a)
    (hs : (dst.access (Rect.unit (s := S2048x128) ![o, 0] S128x128.size ho)).Stores Finset.univ)
    : Prog (TpuEff nD τ sig (Elt F) Λ₀ .tc) PUnit := do
  let v : Vec F S128x128 .f32 ← Prog.lift (.load src (⟨![r, 0], S128x128.size, ![16, 1], hr⟩ : LoadRect S2048x128) (View.loadsAt_vmem h_S128x128))
  let _ : Vec F S128x128 .bf16 ← Prog.lift (.load dst (Rect.unit (s := S2048x128) ![o, 0] S128x128.size ho).toLoadRect (View.loadsAt_vmem h_S128x128))
  Prog.lift (.store dst (Rect.unit (s := S2048x128) ![o, 0] S128x128.size ho) (shapeCast S128x128 (truncf .bf16 (v) bitsLt_bf16_f32) shapeCasts_S128x128_S128x128) Finset.univ hs (.inl rfl))

/-- Segment `r` of an f32 operand into its stream, at dilation 16: rows `r`, `r + 16`, … put at row `o`. -/
def cp16_2f (src : Memref sig .tc .vmem S2048x128 .f32) (dst : Memref sig .tc .vmem S2048x128 .f32) (r o : Nat)
    (hr : ∀ a, S128x128.size a = 0 ∨ (![r, 0] : Fin 2 → Nat) a + (![16, 1] : Fin 2 → Nat) a * (S128x128.size a - 1) < S2048x128.size a)
    (ho : ∀ a, (![o, 0] : Fin 2 → Nat) a + S128x128.size a ≤ S2048x128.size a)
    : Prog (TpuEff nD τ sig (Elt F) Λ₀ .tc) PUnit := do
  let v : Vec F S128x128 .f32 ← Prog.lift (.load src (⟨![r, 0], S128x128.size, ![16, 1], hr⟩ : LoadRect S2048x128) (View.loadsAt_vmem h_S128x128))
  let _ : Vec F S128x128 .f32 ← Prog.lift (.load dst (Rect.unit (s := S2048x128) ![o, 0] S128x128.size ho).toLoadRect (View.loadsAt_vmem h_S128x128))
  Prog.lift (.store dst (Rect.unit (s := S2048x128) ![o, 0] S128x128.size ho) (shapeCast S128x128 (v) shapeCasts_S128x128_S128x128) Finset.univ (View.stores_vmem_bits_univ h_S128x128 rfl) (.inl rfl))

/-- Segment `r` of the log-sum of exponentials, read through a cast to its own shape, into its stream, at dilation 16: rows `r`, `r + 16`, … put at row `o`. -/
def cp16_2g (src : Memref sig .tc .vmem S2048x128 .f32) (dst : Memref sig .tc .vmem S2048x128 .f32) (r o : Nat)
    (hr : ∀ a, S128x128.size a = 0 ∨ (![r, 0] : Fin 2 → Nat) a + (![16, 1] : Fin 2 → Nat) a * (S128x128.size a - 1) < S2048x128.size a)
    (ho : ∀ a, (![o, 0] : Fin 2 → Nat) a + S128x128.size a ≤ S2048x128.size a)
    : Prog (TpuEff nD τ sig (Elt F) Λ₀ .tc) PUnit := do
  let v : Vec F S128x128 .f32 ← Prog.lift (.load src (⟨![r, 0], S128x128.size, ![16, 1], hr⟩ : LoadRect S2048x128) (View.loadsAt_vmem h_S128x128))
  let _ : Vec F S128x128 .f32 ← Prog.lift (.load dst (Rect.unit (s := S2048x128) ![o, 0] S128x128.size ho).toLoadRect (View.loadsAt_vmem h_S128x128))
  Prog.lift (.store dst (Rect.unit (s := S2048x128) ![o, 0] S128x128.size ho) (shapeCast S128x128 (shapeCast S128x128 v shapeCasts_S128x128_S128x128) shapeCasts_S128x128_S128x128) Finset.univ (View.stores_vmem_bits_univ h_S128x128 rfl) (.inl rfl))

/-- Segment `r` of a dilation's part, added at rows `r`, `r + 16`, … of the sum of 2048 rows. -/
def ac16_2048 (acc part : Memref sig .tc .vmem S2048x128 .f32) (r o : Nat)
    (hr : ∀ a, S128x128.size a = 0 ∨ (![r, 0] : Fin 2 → Nat) a + (![16, 1] : Fin 2 → Nat) a * (S128x128.size a - 1) < S2048x128.size a)
    (ho : ∀ a, (![o, 0] : Fin 2 → Nat) a + S128x128.size a ≤ S2048x128.size a) : Prog (TpuEff nD τ sig (Elt F) Λ₀ .tc) PUnit := do
  let x : Vec F S128x128 .f32 ← Prog.lift (.load acc (⟨![r, 0], S128x128.size, ![16, 1], hr⟩ : LoadRect S2048x128) (View.loadsAt_vmem h_S128x128))
  let y : Vec F S128x128 .f32 ← Prog.lift (.load part (Rect.unit (s := S2048x128) ![o, 0] S128x128.size ho).toLoadRect (View.loadsAt_vmem h_S128x128))
  let _ : Vec F S128x128 .f32 ← Prog.lift (.load acc (⟨![r, 0], S128x128.size, ![16, 1], hr⟩ : LoadRect S2048x128) (View.loadsAt_vmem h_S128x128))
  Prog.lift (.store acc ⟨(⟨![r, 0], S128x128.size, ![16, 1], hr⟩ : LoadRect S2048x128), spos_16_1⟩ (shapeCast S128x128 (addf x y) shapeCasts_S128x128_S128x128) Finset.univ (View.stores_vmem_bits_univ h_S128x128 rfl) (.inl rfl))

/-- Segment `r` of a dilation's part, added at rows `r`, `r + 16`, … of the sum of 2176 rows. -/
def ac16_2176 (acc part : Memref sig .tc .vmem S2176x128 .f32) (r o : Nat)
    (hr : ∀ a, S128x128.size a = 0 ∨ (![r, 0] : Fin 2 → Nat) a + (![16, 1] : Fin 2 → Nat) a * (S128x128.size a - 1) < S2176x128.size a)
    (ho : ∀ a, (![o, 0] : Fin 2 → Nat) a + S128x128.size a ≤ S2176x128.size a) : Prog (TpuEff nD τ sig (Elt F) Λ₀ .tc) PUnit := do
  let x : Vec F S128x128 .f32 ← Prog.lift (.load acc (⟨![r, 0], S128x128.size, ![16, 1], hr⟩ : LoadRect S2176x128) (View.loadsAt_vmem h_S128x128))
  let y : Vec F S128x128 .f32 ← Prog.lift (.load part (Rect.unit (s := S2176x128) ![o, 0] S128x128.size ho).toLoadRect (View.loadsAt_vmem h_S128x128))
  let _ : Vec F S128x128 .f32 ← Prog.lift (.load acc (⟨![r, 0], S128x128.size, ![16, 1], hr⟩ : LoadRect S2176x128) (View.loadsAt_vmem h_S128x128))
  Prog.lift (.store acc ⟨(⟨![r, 0], S128x128.size, ![16, 1], hr⟩ : LoadRect S2176x128), spos_16_1⟩ (shapeCast S128x128 (addf x y) shapeCasts_S128x128_S128x128) Finset.univ (View.stores_vmem_bits_univ h_S128x128 rfl) (.inl rfl))

/-- The whole stream, its 16 segments. -/
def st16_3b (src : Memref sig .tc .vmem S1x2048x128 .f32) (dst : Memref sig .tc .vmem S2048x128 .bf16) (hdst : dst.IsWhole) : Prog (TpuEff nD τ sig (Elt F) Λ₀ .tc) PUnit := do
  cp16_3b src dst 0 0 inb_S1x2048x128_S1x128x128_0_0_0_s_1_16_1 inb_S2048x128_S128x128_0_0 (View.stores_vmem h_S128x128 (hdst.storeExact_slice rfl _ packedbf16_S2048x128_S128x128_0_0) (fun _ => rfl))
  cp16_3b src dst 1 128 inb_S1x2048x128_S1x128x128_0_1_0_s_1_16_1 inb_S2048x128_S128x128_128_0 (View.stores_vmem h_S128x128 (hdst.storeExact_slice rfl _ packedbf16_S2048x128_S128x128_128_0) (fun _ => rfl))
  cp16_3b src dst 2 256 inb_S1x2048x128_S1x128x128_0_2_0_s_1_16_1 inb_S2048x128_S128x128_256_0 (View.stores_vmem h_S128x128 (hdst.storeExact_slice rfl _ packedbf16_S2048x128_S128x128_256_0) (fun _ => rfl))
  cp16_3b src dst 3 384 inb_S1x2048x128_S1x128x128_0_3_0_s_1_16_1 inb_S2048x128_S128x128_384_0 (View.stores_vmem h_S128x128 (hdst.storeExact_slice rfl _ packedbf16_S2048x128_S128x128_384_0) (fun _ => rfl))
  cp16_3b src dst 4 512 inb_S1x2048x128_S1x128x128_0_4_0_s_1_16_1 inb_S2048x128_S128x128_512_0 (View.stores_vmem h_S128x128 (hdst.storeExact_slice rfl _ packedbf16_S2048x128_S128x128_512_0) (fun _ => rfl))
  cp16_3b src dst 5 640 inb_S1x2048x128_S1x128x128_0_5_0_s_1_16_1 inb_S2048x128_S128x128_640_0 (View.stores_vmem h_S128x128 (hdst.storeExact_slice rfl _ packedbf16_S2048x128_S128x128_640_0) (fun _ => rfl))
  cp16_3b src dst 6 768 inb_S1x2048x128_S1x128x128_0_6_0_s_1_16_1 inb_S2048x128_S128x128_768_0 (View.stores_vmem h_S128x128 (hdst.storeExact_slice rfl _ packedbf16_S2048x128_S128x128_768_0) (fun _ => rfl))
  cp16_3b src dst 7 896 inb_S1x2048x128_S1x128x128_0_7_0_s_1_16_1 inb_S2048x128_S128x128_896_0 (View.stores_vmem h_S128x128 (hdst.storeExact_slice rfl _ packedbf16_S2048x128_S128x128_896_0) (fun _ => rfl))
  cp16_3b src dst 8 1024 inb_S1x2048x128_S1x128x128_0_8_0_s_1_16_1 inb_S2048x128_S128x128_1024_0 (View.stores_vmem h_S128x128 (hdst.storeExact_slice rfl _ packedbf16_S2048x128_S128x128_1024_0) (fun _ => rfl))
  cp16_3b src dst 9 1152 inb_S1x2048x128_S1x128x128_0_9_0_s_1_16_1 inb_S2048x128_S128x128_1152_0 (View.stores_vmem h_S128x128 (hdst.storeExact_slice rfl _ packedbf16_S2048x128_S128x128_1152_0) (fun _ => rfl))
  cp16_3b src dst 10 1280 inb_S1x2048x128_S1x128x128_0_10_0_s_1_16_1 inb_S2048x128_S128x128_1280_0 (View.stores_vmem h_S128x128 (hdst.storeExact_slice rfl _ packedbf16_S2048x128_S128x128_1280_0) (fun _ => rfl))
  cp16_3b src dst 11 1408 inb_S1x2048x128_S1x128x128_0_11_0_s_1_16_1 inb_S2048x128_S128x128_1408_0 (View.stores_vmem h_S128x128 (hdst.storeExact_slice rfl _ packedbf16_S2048x128_S128x128_1408_0) (fun _ => rfl))
  cp16_3b src dst 12 1536 inb_S1x2048x128_S1x128x128_0_12_0_s_1_16_1 inb_S2048x128_S128x128_1536_0 (View.stores_vmem h_S128x128 (hdst.storeExact_slice rfl _ packedbf16_S2048x128_S128x128_1536_0) (fun _ => rfl))
  cp16_3b src dst 13 1664 inb_S1x2048x128_S1x128x128_0_13_0_s_1_16_1 inb_S2048x128_S128x128_1664_0 (View.stores_vmem h_S128x128 (hdst.storeExact_slice rfl _ packedbf16_S2048x128_S128x128_1664_0) (fun _ => rfl))
  cp16_3b src dst 14 1792 inb_S1x2048x128_S1x128x128_0_14_0_s_1_16_1 inb_S2048x128_S128x128_1792_0 (View.stores_vmem h_S128x128 (hdst.storeExact_slice rfl _ packedbf16_S2048x128_S128x128_1792_0) (fun _ => rfl))
  cp16_3b src dst 15 1920 inb_S1x2048x128_S1x128x128_0_15_0_s_1_16_1 inb_S2048x128_S128x128_1920_0 (View.stores_vmem h_S128x128 (hdst.storeExact_slice rfl _ packedbf16_S2048x128_S128x128_1920_0) (fun _ => rfl))

/-- The whole stream, its 16 segments. -/
def st16_2b (src : Memref sig .tc .vmem S2048x128 .f32) (dst : Memref sig .tc .vmem S2048x128 .bf16) (hdst : dst.IsWhole) : Prog (TpuEff nD τ sig (Elt F) Λ₀ .tc) PUnit := do
  cp16_2b src dst 0 0 inb_S2048x128_S128x128_0_0_s_16_1 inb_S2048x128_S128x128_0_0 (View.stores_vmem h_S128x128 (hdst.storeExact_slice rfl _ packedbf16_S2048x128_S128x128_0_0) (fun _ => rfl))
  cp16_2b src dst 1 128 inb_S2048x128_S128x128_1_0_s_16_1 inb_S2048x128_S128x128_128_0 (View.stores_vmem h_S128x128 (hdst.storeExact_slice rfl _ packedbf16_S2048x128_S128x128_128_0) (fun _ => rfl))
  cp16_2b src dst 2 256 inb_S2048x128_S128x128_2_0_s_16_1 inb_S2048x128_S128x128_256_0 (View.stores_vmem h_S128x128 (hdst.storeExact_slice rfl _ packedbf16_S2048x128_S128x128_256_0) (fun _ => rfl))
  cp16_2b src dst 3 384 inb_S2048x128_S128x128_3_0_s_16_1 inb_S2048x128_S128x128_384_0 (View.stores_vmem h_S128x128 (hdst.storeExact_slice rfl _ packedbf16_S2048x128_S128x128_384_0) (fun _ => rfl))
  cp16_2b src dst 4 512 inb_S2048x128_S128x128_4_0_s_16_1 inb_S2048x128_S128x128_512_0 (View.stores_vmem h_S128x128 (hdst.storeExact_slice rfl _ packedbf16_S2048x128_S128x128_512_0) (fun _ => rfl))
  cp16_2b src dst 5 640 inb_S2048x128_S128x128_5_0_s_16_1 inb_S2048x128_S128x128_640_0 (View.stores_vmem h_S128x128 (hdst.storeExact_slice rfl _ packedbf16_S2048x128_S128x128_640_0) (fun _ => rfl))
  cp16_2b src dst 6 768 inb_S2048x128_S128x128_6_0_s_16_1 inb_S2048x128_S128x128_768_0 (View.stores_vmem h_S128x128 (hdst.storeExact_slice rfl _ packedbf16_S2048x128_S128x128_768_0) (fun _ => rfl))
  cp16_2b src dst 7 896 inb_S2048x128_S128x128_7_0_s_16_1 inb_S2048x128_S128x128_896_0 (View.stores_vmem h_S128x128 (hdst.storeExact_slice rfl _ packedbf16_S2048x128_S128x128_896_0) (fun _ => rfl))
  cp16_2b src dst 8 1024 inb_S2048x128_S128x128_8_0_s_16_1 inb_S2048x128_S128x128_1024_0 (View.stores_vmem h_S128x128 (hdst.storeExact_slice rfl _ packedbf16_S2048x128_S128x128_1024_0) (fun _ => rfl))
  cp16_2b src dst 9 1152 inb_S2048x128_S128x128_9_0_s_16_1 inb_S2048x128_S128x128_1152_0 (View.stores_vmem h_S128x128 (hdst.storeExact_slice rfl _ packedbf16_S2048x128_S128x128_1152_0) (fun _ => rfl))
  cp16_2b src dst 10 1280 inb_S2048x128_S128x128_10_0_s_16_1 inb_S2048x128_S128x128_1280_0 (View.stores_vmem h_S128x128 (hdst.storeExact_slice rfl _ packedbf16_S2048x128_S128x128_1280_0) (fun _ => rfl))
  cp16_2b src dst 11 1408 inb_S2048x128_S128x128_11_0_s_16_1 inb_S2048x128_S128x128_1408_0 (View.stores_vmem h_S128x128 (hdst.storeExact_slice rfl _ packedbf16_S2048x128_S128x128_1408_0) (fun _ => rfl))
  cp16_2b src dst 12 1536 inb_S2048x128_S128x128_12_0_s_16_1 inb_S2048x128_S128x128_1536_0 (View.stores_vmem h_S128x128 (hdst.storeExact_slice rfl _ packedbf16_S2048x128_S128x128_1536_0) (fun _ => rfl))
  cp16_2b src dst 13 1664 inb_S2048x128_S128x128_13_0_s_16_1 inb_S2048x128_S128x128_1664_0 (View.stores_vmem h_S128x128 (hdst.storeExact_slice rfl _ packedbf16_S2048x128_S128x128_1664_0) (fun _ => rfl))
  cp16_2b src dst 14 1792 inb_S2048x128_S128x128_14_0_s_16_1 inb_S2048x128_S128x128_1792_0 (View.stores_vmem h_S128x128 (hdst.storeExact_slice rfl _ packedbf16_S2048x128_S128x128_1792_0) (fun _ => rfl))
  cp16_2b src dst 15 1920 inb_S2048x128_S128x128_15_0_s_16_1 inb_S2048x128_S128x128_1920_0 (View.stores_vmem h_S128x128 (hdst.storeExact_slice rfl _ packedbf16_S2048x128_S128x128_1920_0) (fun _ => rfl))

/-- The whole stream, its 16 segments. -/
def st16_2f (src : Memref sig .tc .vmem S2048x128 .f32) (dst : Memref sig .tc .vmem S2048x128 .f32) : Prog (TpuEff nD τ sig (Elt F) Λ₀ .tc) PUnit := do
  cp16_2f src dst 0 0 inb_S2048x128_S128x128_0_0_s_16_1 inb_S2048x128_S128x128_0_0
  cp16_2f src dst 1 128 inb_S2048x128_S128x128_1_0_s_16_1 inb_S2048x128_S128x128_128_0
  cp16_2f src dst 2 256 inb_S2048x128_S128x128_2_0_s_16_1 inb_S2048x128_S128x128_256_0
  cp16_2f src dst 3 384 inb_S2048x128_S128x128_3_0_s_16_1 inb_S2048x128_S128x128_384_0
  cp16_2f src dst 4 512 inb_S2048x128_S128x128_4_0_s_16_1 inb_S2048x128_S128x128_512_0
  cp16_2f src dst 5 640 inb_S2048x128_S128x128_5_0_s_16_1 inb_S2048x128_S128x128_640_0
  cp16_2f src dst 6 768 inb_S2048x128_S128x128_6_0_s_16_1 inb_S2048x128_S128x128_768_0
  cp16_2f src dst 7 896 inb_S2048x128_S128x128_7_0_s_16_1 inb_S2048x128_S128x128_896_0
  cp16_2f src dst 8 1024 inb_S2048x128_S128x128_8_0_s_16_1 inb_S2048x128_S128x128_1024_0
  cp16_2f src dst 9 1152 inb_S2048x128_S128x128_9_0_s_16_1 inb_S2048x128_S128x128_1152_0
  cp16_2f src dst 10 1280 inb_S2048x128_S128x128_10_0_s_16_1 inb_S2048x128_S128x128_1280_0
  cp16_2f src dst 11 1408 inb_S2048x128_S128x128_11_0_s_16_1 inb_S2048x128_S128x128_1408_0
  cp16_2f src dst 12 1536 inb_S2048x128_S128x128_12_0_s_16_1 inb_S2048x128_S128x128_1536_0
  cp16_2f src dst 13 1664 inb_S2048x128_S128x128_13_0_s_16_1 inb_S2048x128_S128x128_1664_0
  cp16_2f src dst 14 1792 inb_S2048x128_S128x128_14_0_s_16_1 inb_S2048x128_S128x128_1792_0
  cp16_2f src dst 15 1920 inb_S2048x128_S128x128_15_0_s_16_1 inb_S2048x128_S128x128_1920_0

/-- The whole stream, its 16 segments. -/
def st16_2g (src : Memref sig .tc .vmem S2048x128 .f32) (dst : Memref sig .tc .vmem S2048x128 .f32) : Prog (TpuEff nD τ sig (Elt F) Λ₀ .tc) PUnit := do
  cp16_2g src dst 0 0 inb_S2048x128_S128x128_0_0_s_16_1 inb_S2048x128_S128x128_0_0
  cp16_2g src dst 1 128 inb_S2048x128_S128x128_1_0_s_16_1 inb_S2048x128_S128x128_128_0
  cp16_2g src dst 2 256 inb_S2048x128_S128x128_2_0_s_16_1 inb_S2048x128_S128x128_256_0
  cp16_2g src dst 3 384 inb_S2048x128_S128x128_3_0_s_16_1 inb_S2048x128_S128x128_384_0
  cp16_2g src dst 4 512 inb_S2048x128_S128x128_4_0_s_16_1 inb_S2048x128_S128x128_512_0
  cp16_2g src dst 5 640 inb_S2048x128_S128x128_5_0_s_16_1 inb_S2048x128_S128x128_640_0
  cp16_2g src dst 6 768 inb_S2048x128_S128x128_6_0_s_16_1 inb_S2048x128_S128x128_768_0
  cp16_2g src dst 7 896 inb_S2048x128_S128x128_7_0_s_16_1 inb_S2048x128_S128x128_896_0
  cp16_2g src dst 8 1024 inb_S2048x128_S128x128_8_0_s_16_1 inb_S2048x128_S128x128_1024_0
  cp16_2g src dst 9 1152 inb_S2048x128_S128x128_9_0_s_16_1 inb_S2048x128_S128x128_1152_0
  cp16_2g src dst 10 1280 inb_S2048x128_S128x128_10_0_s_16_1 inb_S2048x128_S128x128_1280_0
  cp16_2g src dst 11 1408 inb_S2048x128_S128x128_11_0_s_16_1 inb_S2048x128_S128x128_1408_0
  cp16_2g src dst 12 1536 inb_S2048x128_S128x128_12_0_s_16_1 inb_S2048x128_S128x128_1536_0
  cp16_2g src dst 13 1664 inb_S2048x128_S128x128_13_0_s_16_1 inb_S2048x128_S128x128_1664_0
  cp16_2g src dst 14 1792 inb_S2048x128_S128x128_14_0_s_16_1 inb_S2048x128_S128x128_1792_0
  cp16_2g src dst 15 1920 inb_S2048x128_S128x128_15_0_s_16_1 inb_S2048x128_S128x128_1920_0

/-- A dilation's part added to the sum, its 16 segments. -/
def acc16_2048 (acc part : Memref sig .tc .vmem S2048x128 .f32) : Prog (TpuEff nD τ sig (Elt F) Λ₀ .tc) PUnit := do
  ac16_2048 acc part 0 0 inb_S2048x128_S128x128_0_0_s_16_1 inb_S2048x128_S128x128_0_0
  ac16_2048 acc part 1 128 inb_S2048x128_S128x128_1_0_s_16_1 inb_S2048x128_S128x128_128_0
  ac16_2048 acc part 2 256 inb_S2048x128_S128x128_2_0_s_16_1 inb_S2048x128_S128x128_256_0
  ac16_2048 acc part 3 384 inb_S2048x128_S128x128_3_0_s_16_1 inb_S2048x128_S128x128_384_0
  ac16_2048 acc part 4 512 inb_S2048x128_S128x128_4_0_s_16_1 inb_S2048x128_S128x128_512_0
  ac16_2048 acc part 5 640 inb_S2048x128_S128x128_5_0_s_16_1 inb_S2048x128_S128x128_640_0
  ac16_2048 acc part 6 768 inb_S2048x128_S128x128_6_0_s_16_1 inb_S2048x128_S128x128_768_0
  ac16_2048 acc part 7 896 inb_S2048x128_S128x128_7_0_s_16_1 inb_S2048x128_S128x128_896_0
  ac16_2048 acc part 8 1024 inb_S2048x128_S128x128_8_0_s_16_1 inb_S2048x128_S128x128_1024_0
  ac16_2048 acc part 9 1152 inb_S2048x128_S128x128_9_0_s_16_1 inb_S2048x128_S128x128_1152_0
  ac16_2048 acc part 10 1280 inb_S2048x128_S128x128_10_0_s_16_1 inb_S2048x128_S128x128_1280_0
  ac16_2048 acc part 11 1408 inb_S2048x128_S128x128_11_0_s_16_1 inb_S2048x128_S128x128_1408_0
  ac16_2048 acc part 12 1536 inb_S2048x128_S128x128_12_0_s_16_1 inb_S2048x128_S128x128_1536_0
  ac16_2048 acc part 13 1664 inb_S2048x128_S128x128_13_0_s_16_1 inb_S2048x128_S128x128_1664_0
  ac16_2048 acc part 14 1792 inb_S2048x128_S128x128_14_0_s_16_1 inb_S2048x128_S128x128_1792_0
  ac16_2048 acc part 15 1920 inb_S2048x128_S128x128_15_0_s_16_1 inb_S2048x128_S128x128_1920_0

/-- A dilation's part added to the sum, its 16 segments. -/
def acc16_2176 (acc part : Memref sig .tc .vmem S2176x128 .f32) : Prog (TpuEff nD τ sig (Elt F) Λ₀ .tc) PUnit := do
  ac16_2176 acc part 0 0 inb_S2176x128_S128x128_0_0_s_16_1 inb_S2176x128_S128x128_0_0
  ac16_2176 acc part 1 128 inb_S2176x128_S128x128_1_0_s_16_1 inb_S2176x128_S128x128_128_0
  ac16_2176 acc part 2 256 inb_S2176x128_S128x128_2_0_s_16_1 inb_S2176x128_S128x128_256_0
  ac16_2176 acc part 3 384 inb_S2176x128_S128x128_3_0_s_16_1 inb_S2176x128_S128x128_384_0
  ac16_2176 acc part 4 512 inb_S2176x128_S128x128_4_0_s_16_1 inb_S2176x128_S128x128_512_0
  ac16_2176 acc part 5 640 inb_S2176x128_S128x128_5_0_s_16_1 inb_S2176x128_S128x128_640_0
  ac16_2176 acc part 6 768 inb_S2176x128_S128x128_6_0_s_16_1 inb_S2176x128_S128x128_768_0
  ac16_2176 acc part 7 896 inb_S2176x128_S128x128_7_0_s_16_1 inb_S2176x128_S128x128_896_0
  ac16_2176 acc part 8 1024 inb_S2176x128_S128x128_8_0_s_16_1 inb_S2176x128_S128x128_1024_0
  ac16_2176 acc part 9 1152 inb_S2176x128_S128x128_9_0_s_16_1 inb_S2176x128_S128x128_1152_0
  ac16_2176 acc part 10 1280 inb_S2176x128_S128x128_10_0_s_16_1 inb_S2176x128_S128x128_1280_0
  ac16_2176 acc part 11 1408 inb_S2176x128_S128x128_11_0_s_16_1 inb_S2176x128_S128x128_1408_0
  ac16_2176 acc part 12 1536 inb_S2176x128_S128x128_12_0_s_16_1 inb_S2176x128_S128x128_1536_0
  ac16_2176 acc part 13 1664 inb_S2176x128_S128x128_13_0_s_16_1 inb_S2176x128_S128x128_1664_0
  ac16_2176 acc part 14 1792 inb_S2176x128_S128x128_14_0_s_16_1 inb_S2176x128_S128x128_1792_0
  ac16_2176 acc part 15 1920 inb_S2176x128_S128x128_15_0_s_16_1 inb_S2176x128_S128x128_1920_0

/-- The sixteen blocks of the first dilation, the carry handed on. -/
def blksA (arg1 arg2 arg3 : Memref sig .tc .vmem S1x2048x128 .f32) (arg6 arg7 arg15 arg19 : Memref sig .tc .vmem S2048x128 .f32)
    (arg20 arg21 : Memref sig .tc .vmem S2176x128 .f32) (jj : IVec S128x256 32) (band : IVec S128x256 1) (bias : FVec F S128x256 .f32) :
    Prog (TpuEff nD τ sig (Elt F) Λ₀ .tc) PUnit := do
  let c0 ← blkA arg1 arg2 arg3 arg6 arg7 arg15 arg19 arg20 arg21 jj band bias 0 (by decide) zeroV zeroV
  let c1 ← blkA arg1 arg2 arg3 arg6 arg7 arg15 arg19 arg20 arg21 jj band bias 1 (by decide) c0.1 c0.2
  let c2 ← blkA arg1 arg2 arg3 arg6 arg7 arg15 arg19 arg20 arg21 jj band bias 2 (by decide) c1.1 c1.2
  let c3 ← blkA arg1 arg2 arg3 arg6 arg7 arg15 arg19 arg20 arg21 jj band bias 3 (by decide) c2.1 c2.2
  let c4 ← blkA arg1 arg2 arg3 arg6 arg7 arg15 arg19 arg20 arg21 jj band bias 4 (by decide) c3.1 c3.2
  let c5 ← blkA arg1 arg2 arg3 arg6 arg7 arg15 arg19 arg20 arg21 jj band bias 5 (by decide) c4.1 c4.2
  let c6 ← blkA arg1 arg2 arg3 arg6 arg7 arg15 arg19 arg20 arg21 jj band bias 6 (by decide) c5.1 c5.2
  let c7 ← blkA arg1 arg2 arg3 arg6 arg7 arg15 arg19 arg20 arg21 jj band bias 7 (by decide) c6.1 c6.2
  let c8 ← blkA arg1 arg2 arg3 arg6 arg7 arg15 arg19 arg20 arg21 jj band bias 8 (by decide) c7.1 c7.2
  let c9 ← blkA arg1 arg2 arg3 arg6 arg7 arg15 arg19 arg20 arg21 jj band bias 9 (by decide) c8.1 c8.2
  let c10 ← blkA arg1 arg2 arg3 arg6 arg7 arg15 arg19 arg20 arg21 jj band bias 10 (by decide) c9.1 c9.2
  let c11 ← blkA arg1 arg2 arg3 arg6 arg7 arg15 arg19 arg20 arg21 jj band bias 11 (by decide) c10.1 c10.2
  let c12 ← blkA arg1 arg2 arg3 arg6 arg7 arg15 arg19 arg20 arg21 jj band bias 12 (by decide) c11.1 c11.2
  let c13 ← blkA arg1 arg2 arg3 arg6 arg7 arg15 arg19 arg20 arg21 jj band bias 13 (by decide) c12.1 c12.2
  let c14 ← blkA arg1 arg2 arg3 arg6 arg7 arg15 arg19 arg20 arg21 jj band bias 14 (by decide) c13.1 c13.2
  let c15 ← blkA arg1 arg2 arg3 arg6 arg7 arg15 arg19 arg20 arg21 jj band bias 15 (by decide) c14.1 c14.2
  tail arg20 arg21 c15

/-- The sixteen blocks of a later dilation. -/
def blksB (arg9 arg10 arg11 arg12 : Memref sig .tc .vmem S2048x128 .bf16) (arg13 arg14 arg16 : Memref sig .tc .vmem S2048x128 .f32)
    (arg17 arg18 : Memref sig .tc .vmem S2176x128 .f32) (jj : IVec S128x256 32) (band : IVec S128x256 1) (bias : FVec F S128x256 .f32)
    (nblk : BitVec 32) : Prog (TpuEff nD τ sig (Elt F) Λ₀ .tc) PUnit := do
  let c0 ← blkB arg9 arg10 arg11 arg12 arg13 arg14 arg16 arg17 arg18 jj band bias nblk 0 (by decide) zeroV zeroV
  let c1 ← blkB arg9 arg10 arg11 arg12 arg13 arg14 arg16 arg17 arg18 jj band bias nblk 1 (by decide) c0.1 c0.2
  let c2 ← blkB arg9 arg10 arg11 arg12 arg13 arg14 arg16 arg17 arg18 jj band bias nblk 2 (by decide) c1.1 c1.2
  let c3 ← blkB arg9 arg10 arg11 arg12 arg13 arg14 arg16 arg17 arg18 jj band bias nblk 3 (by decide) c2.1 c2.2
  let c4 ← blkB arg9 arg10 arg11 arg12 arg13 arg14 arg16 arg17 arg18 jj band bias nblk 4 (by decide) c3.1 c3.2
  let c5 ← blkB arg9 arg10 arg11 arg12 arg13 arg14 arg16 arg17 arg18 jj band bias nblk 5 (by decide) c4.1 c4.2
  let c6 ← blkB arg9 arg10 arg11 arg12 arg13 arg14 arg16 arg17 arg18 jj band bias nblk 6 (by decide) c5.1 c5.2
  let c7 ← blkB arg9 arg10 arg11 arg12 arg13 arg14 arg16 arg17 arg18 jj band bias nblk 7 (by decide) c6.1 c6.2
  let c8 ← blkB arg9 arg10 arg11 arg12 arg13 arg14 arg16 arg17 arg18 jj band bias nblk 8 (by decide) c7.1 c7.2
  let c9 ← blkB arg9 arg10 arg11 arg12 arg13 arg14 arg16 arg17 arg18 jj band bias nblk 9 (by decide) c8.1 c8.2
  let c10 ← blkB arg9 arg10 arg11 arg12 arg13 arg14 arg16 arg17 arg18 jj band bias nblk 10 (by decide) c9.1 c9.2
  let c11 ← blkB arg9 arg10 arg11 arg12 arg13 arg14 arg16 arg17 arg18 jj band bias nblk 11 (by decide) c10.1 c10.2
  let c12 ← blkB arg9 arg10 arg11 arg12 arg13 arg14 arg16 arg17 arg18 jj band bias nblk 12 (by decide) c11.1 c11.2
  let c13 ← blkB arg9 arg10 arg11 arg12 arg13 arg14 arg16 arg17 arg18 jj band bias nblk 13 (by decide) c12.1 c12.2
  let c14 ← blkB arg9 arg10 arg11 arg12 arg13 arg14 arg16 arg17 arg18 jj band bias nblk 14 (by decide) c13.1 c13.2
  let c15 ← blkB arg9 arg10 arg11 arg12 arg13 arg14 arg16 arg17 arg18 jj band bias nblk 15 (by decide) c14.1 c14.2
  tail arg17 arg18 c15

/-- The whole body. -/
def body (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x1x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S3x2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2176x128 .f32) (harg17 : arg17.IsWhole) (arg18 : Memref sig .tc .vmem S2176x128 .f32) (harg18 : arg18.IsWhole) (arg19 : Memref sig .tc .vmem S2048x128 .f32) (harg19 : arg19.IsWhole) (arg20 : Memref sig .tc .vmem S2176x128 .f32) (harg20 : arg20.IsWhole) (arg21 : Memref sig .tc .vmem S2176x128 .f32) (harg21 : arg21.IsWhole) : Prog (TpuEff nD τ sig (Elt F) Λ₀ .tc) PUnit := do
  let slope ← initP arg4 arg5 arg7 arg15
  blksA arg1 arg2 arg3 arg6 arg7 arg15 arg19 arg20 arg21 jjV bandV (biasV slope (Scalar.ofBits .f32 0x3F800000#32))
  st4_3b arg1 arg9 harg9
  st4_3b arg2 arg10 harg10
  st4_3b arg3 arg11 harg11
  st4_2b arg7 arg12 harg12
  st4_2g arg6 arg13
  st4_2f arg15 arg14
  blksB arg9 arg10 arg11 arg12 arg13 arg14 arg16 arg17 arg18 jjV bandV (biasV slope (Scalar.ofBits .f32 0x40800000#32)) 4#32
  acc4_2048 arg19 arg16
  acc4_2176 arg20 arg17
  acc4_2176 arg21 arg18
  st16_3b arg1 arg9 harg9
  st16_3b arg2 arg10 harg10
  st16_3b arg3 arg11 harg11
  st16_2b arg7 arg12 harg12
  st16_2g arg6 arg13
  st16_2f arg15 arg14
  blksB arg9 arg10 arg11 arg12 arg13 arg14 arg16 arg17 arg18 jjV bandV (biasV slope (Scalar.ofBits .f32 0x41800000#32)) 1#32
  acc16_2048 arg19 arg16
  acc16_2176 arg20 arg17
  acc16_2176 arg21 arg18
  outP2048 arg8 arg19 0 inb_S2048x128_S2048x128_0_0 inb_S3x2048x128_S1x2048x128_0_0_0 (View.stores_vmem h_S1x2048x128 (harg8.storeExact_slice rfl _ packedbf16_S3x2048x128_S1x2048x128_0_0_0) (fun _ => rfl))
  outP2176 arg8 arg20 1 inb_S2176x128_S2048x128_0_0 inb_S3x2048x128_S1x2048x128_1_0_0 (View.stores_vmem h_S1x2048x128 (harg8.storeExact_slice rfl _ packedbf16_S3x2048x128_S1x2048x128_1_0_0) (fun _ => rfl))
  outP2176 arg8 arg21 2 inb_S2176x128_S2048x128_0_0 inb_S3x2048x128_S1x2048x128_2_0_0 (View.stores_vmem h_S1x2048x128 (harg8.storeExact_slice rfl _ packedbf16_S3x2048x128_S1x2048x128_2_0_0) (fun _ => rfl))
  pure PUnit.unit

end Cert.AttnBwd

end
-- ==== Proof.Mem.lean ====
/-
  Programs of loads and stores over named buffers, run as functions of the buffers' contents: `Runs p x a x'` says that `p`, from
  the contents `x`, returns `a` and leaves `x'`. Every buffer is given by a handle (`Hd`), so that the rest of a proof is about
  contents alone.
-/
module

public import Idealize.ShloMosaic.Lib.Memref
public import Idealize.ShloMosaic.Lib.Writes
public import Idealize.ShloMosaic.Rules.Step
public import Idealize.ShloMosaic.Lib.Tactic

@[expose] public section

noncomputable section

namespace Cert.Mem

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Put

variable {s : Shape} {α : Type}

/-- Contents `X` with the payload `w` put at the places of the rectangle `r`. -/
def putR (r : Rect s) (w : r.shape.Idx → α) (X : s.Idx → α) : s.Idx → α :=
  open Classical in fun y => if h : ∃ j, r.emb j = y then w h.choose else X y

/-- A place of the rectangle holds the payload. -/
theorem putR_emb (r : Rect s) (w : r.shape.Idx → α) (X : s.Idx → α) (j : r.shape.Idx) : putR r w X (r.emb j) = w j := by
  unfold putR
  have h : ∃ j', r.emb j' = r.emb j := ⟨j, rfl⟩
  rw [dif_pos h, r.emb.injective h.choose_spec]

/-- The payload at a place told by its coordinates. -/
theorem putR_hit (r : Rect s) (w : r.shape.Idx → α) (X : s.Idx → α) (y : s.Idx) (j : r.shape.Idx)
    (h : ∀ a, r.off a + r.stride a * (j a).val = (y a).val) : putR r w X y = w j := by
  obtain rfl : r.emb j = y := funext fun a => Fin.ext (h a)
  exact putR_emb r w X j

/-- Any other place keeps what it held. -/
theorem putR_miss (r : Rect s) (w : r.shape.Idx → α) (X : s.Idx → α) (y : s.Idx) (h : ∀ j, r.emb j ≠ y) : putR r w X y = X y := by
  unfold putR
  rw [dif_neg (fun ⟨j, hj⟩ => h j hj)]

/-- A place that one axis tells apart from a unit-stride rectangle keeps what it held. -/
theorem putR_miss_unit (off size : Fin s.rank → ℕ) (inb) (w : (Rect.unit (s := s) off size inb).shape.Idx → α) (X : s.Idx → α) (y : s.Idx)
    (a : Fin s.rank) (h : (y a).val < off a ∨ off a + size a ≤ (y a).val) : putR (Rect.unit off size inb) w X y = X y := by
  refine putR_miss _ _ _ _ fun j hj => ?_
  have e : off a + 1 * (j a).val = (y a).val := congrArg (fun z => (z a : Fin _).val) hj
  have hl : (j a).val < size a := (j a).isLt
  omega

end Put

variable {nD : Nat} {τ : Topo} {sig : RefSig} {Ix : Type} [DecidableEq Ix]
variable {Val : EltTy → Type} {Name : Type} [DecidableEq Name] {U : Type} [URA U] {Lvl : Type} {Λ : Labels}

/-- What a view reads after an unmasked store. -/
theorem read_store {κ : Kind} {sp : Space} {s : Shape} {e : EltTy} (v : View sig κ sp s e) (r : Rect s) (f : v.ty.Contents Val) (w : r.shape.Idx → Val e) :
    v.read Val (v.writes Val f [⟨r, w⟩]) = putR r w (v.read Val f) := by
  funext y
  by_cases h : ∃ j, r.emb j = y
  · obtain ⟨j, rfl⟩ := h
    rw [View.read_writes_cons_emb, putR_emb]
  · rw [putR_miss r w _ y (fun j hj => h ⟨j, hj⟩)]
    refine View.read_writes_apply_of_forall_not_mem v f y _ fun p hp => ?_
    obtain rfl := List.mem_singleton.mp hp
    intro hy
    obtain ⟨j, hj⟩ := r.exists_idx_of_mem hy
    exact h ⟨j, hj⟩

variable [Preorder Lvl] {defs : Defs nD τ sig Val Λ} (𝒱 : Variants) (c : Dev nD) (bd : Option 𝒱.V) (E : Set Name)

section Step
variable {cs : CoreSpace} {s : Shape} {e : EltTy} {α : Type}

/-- A load through a memref owned at `X` returns `X` at the rectangle's places. -/
theorem wp_load_owns {Q : α → sProp (MT nD τ sig Ix Val Name U Lvl)} {m : Memref sig .tc cs s e} {r : LoadRect s} {hl : m.view.LoadsAt r} {k : (r.shape.Idx → Val e) → Prog (TpuEff nD τ sig Val Λ .tc) α}
    {q : PosShare TreeShare} {X : s.Idx → Val e} :
    (owns (c : Thread nD τ) m q X : sProp (MT nD τ sig Ix Val Name U Lvl)) ⊢ iprop((owns (c : Thread nD τ) m q X -∗ wp frame (wpE defs 𝒱 (c : Thread nD τ) bd) E (k fun j => X (r.idx j)) Q)
      -∗ wp frame (wpE defs 𝒱 (c : Thread nD τ) bd) E (.op (.load m r hl) k) Q) := by
  unfold owns
  iintro ⟨%f, %hf, H⟩ HK
  subst hf
  iapply (wp_load 𝒱 (c : Thread nD τ) bd E (Γ := .empty) (Q := Q) (m := m) (r := r) (hl := hl) (k := k) (S := m.view.set) (f := f)
    (View.setOn_subset_set _ _)) $$ H
  iintro H
  iapply HK
  iexists f
  isplitr; · ipureintro; rfl
  iexact H

/-- A store through a memref owned at `X` leaves it owned at `X` with the payload put. -/
theorem wp_store_owns {Q : α → sProp (MT nD τ sig Ix Val Name U Lvl)} {m : Memref sig .tc cs s e} {r : Rect s} {w : r.shape.Idx → Val e}
    {hx : (m.access r).Stores Finset.univ} {hm : Finset.univ = Finset.univ ∨ ∀ a, r.stride a = 1}
    {k : PUnit → Prog (TpuEff nD τ sig Val Λ .tc) α} {X : s.Idx → Val e} :
    (owns (c : Thread nD τ) m fullShare X : sProp (MT nD τ sig Ix Val Name U Lvl)) ⊢ iprop((owns (c : Thread nD τ) m fullShare (putR r w X) -∗ wp frame (wpE defs 𝒱 (c : Thread nD τ) bd) E (k ⟨⟩) Q)
      -∗ wp frame (wpE defs 𝒱 (c : Thread nD τ) bd) E (.op (.store m r w Finset.univ hx hm) k) Q) := by
  unfold owns
  iintro ⟨%f, %hf, H⟩ HK
  subst hf
  iapply (wp_store_writes₀ 𝒱 (c : Thread nD τ) bd E (Q := Q) (m := m) (r := r) (w := w) (hx := hx) (hm := hm) (k := k) (S := m.view.set) (f := f)
    (by rw [← View.setOn_univ]; exact Memref.setOn_access_subset _ _ _)) $$ H
  iintro H
  iapply HK
  iexists (m.view.writes Val f [⟨r, w⟩])
  isplitr; · ipureintro; exact read_store _ _ _ _
  iexact H

end Step

/-- A handle on one buffer of a state: what the state says of it, the state with it changed, and that the state's assertion
    gives the buffer up and takes it back. -/
structure Hd {σ : Type} (held : σ → sProp (MT nD τ sig Ix Val Name U Lvl)) {cs : CoreSpace} {s : Shape} {e : EltTy} (m : Memref sig .tc cs s e) where
  get : σ → s.Idx → Val e
  set : σ → (s.Idx → Val e) → σ
  set_get : ∀ x, set x (get x) = x
  get_set : ∀ x X, get (set x X) = X
  set_set : ∀ x X Y, set (set x X) Y = set x Y
  acc : ∀ x, held x ⊢ iprop(owns (c : Thread nD τ) m fullShare (get x) ∗ ∀ X, owns (c : Thread nD τ) m fullShare X -∗ held (set x X))

variable {σ : Type} (held : σ → sProp (MT nD τ sig Ix Val Name U Lvl))

/-- From the contents `x` the program returns `a` and leaves `x'`. -/
def Runs (defs : Defs nD τ sig Val Λ) {α : Type} (p : Prog (TpuEff nD τ sig Val Λ .tc) α) (x : σ) (a : α) (x' : σ) : Prop :=
  ∀ Q : α → sProp (MT nD τ sig Ix Val Name U Lvl), held x ⊢ iprop((held x' -∗ Q a) -∗ wp frame (wpE defs 𝒱 (c : Thread nD τ) bd) E p Q)

variable {held} {𝒱} {c} {bd} {E}

/-- A returned value. -/
theorem Runs.pure {α : Type} (a : α) (x : σ) : Runs 𝒱 c bd E held defs (Pure.pure a) x a x := fun Q => by
  iintro H HQ
  iapply (le_wp_ret _ _ _ a Q)
  iapply HQ $$ H

/-- One program after another. -/
theorem Runs.bind {α β : Type} {p : Prog (TpuEff nD τ sig Val Λ .tc) α} {k : α → Prog (TpuEff nD τ sig Val Λ .tc) β} {x x' x'' : σ} {a : α} {b : β}
    (hp : Runs 𝒱 c bd E held defs p x a x') (hk : Runs 𝒱 c bd E held defs (k a) x' b x'') : Runs 𝒱 c bd E held defs (p >>= k) x b x'' := fun Q => by
  rw [wp_bind]
  iintro H HQ
  iapply (hp _) $$ H
  iintro H
  iapply (hk Q) $$ H
  iexact HQ

/-- A load, whose buffer has a handle. -/
theorem Runs.load {cs : CoreSpace} {s : Shape} {e : EltTy} {m : Memref sig .tc cs s e} (h : Hd c held m) (r : LoadRect s) (hl : m.view.LoadsAt r) (x : σ) :
    Runs 𝒱 c bd E held defs (Prog.lift (.load m r hl)) x (fun j => h.get x (r.idx j)) x := fun Q => by
  iintro H HQ
  ihave H := (h.acc x) $$ H
  icases H with ⟨Ho, Hb⟩
  iapply (wp_load_owns 𝒱 c bd E (Q := Q) (m := m) (r := r) (hl := hl) (k := Prog.ret) (X := h.get x)) $$ Ho
  iintro Ho
  iapply (le_wp_ret _ _ _ _ Q)
  iapply HQ
  ihave H := Hb $$ Ho
  rw [h.set_get]
  iexact H

/-- An unmasked store, whose buffer has a handle. -/
theorem Runs.store {cs : CoreSpace} {s : Shape} {e : EltTy} {m : Memref sig .tc cs s e} (h : Hd c held m) (r : Rect s) (w : r.shape.Idx → Val e)
    (hx : (m.access r).Stores Finset.univ) (hm : Finset.univ = Finset.univ ∨ ∀ a, r.stride a = 1) (x : σ) :
    Runs 𝒱 c bd E held defs (Prog.lift (.store m r w Finset.univ hx hm)) x ⟨⟩ (h.set x (putR r w (h.get x))) := fun Q => by
  iintro H HQ
  ihave H := (h.acc x) $$ H
  icases H with ⟨Ho, Hb⟩
  iapply (wp_store_owns 𝒱 c bd E (Q := Q) (m := m) (r := r) (w := w) (hx := hx) (hm := hm) (k := Prog.ret) (X := h.get x)) $$ Ho
  iintro Ho
  iapply (le_wp_ret _ _ _ _ Q)
  iapply HQ
  iapply Hb $$ Ho

/-- A second store to the same buffer. -/
theorem Runs.store_set {cs : CoreSpace} {s : Shape} {e : EltTy} {m : Memref sig .tc cs s e} (h : Hd c held m) (r : Rect s) (w : r.shape.Idx → Val e)
    (hx : (m.access r).Stores Finset.univ) (hm : Finset.univ = Finset.univ ∨ ∀ a, r.stride a = 1) (x : σ) (X : s.Idx → Val e) :
    Runs 𝒱 c bd E held defs (Prog.lift (.store m r w Finset.univ hx hm)) (h.set x X) ⟨⟩ (h.set x (putR r w X)) := by
  have e := Runs.store (𝒱 := 𝒱) (bd := bd) (E := E) (defs := defs) h r w hx hm (h.set x X)
  rwa [h.get_set, h.set_set] at e

/-- A program that changes one buffer alone, from where it stands. -/
theorem Runs.at_get {cs : CoreSpace} {s : Shape} {e : EltTy} {m : Memref sig .tc cs s e} (h : Hd c held m) {α : Type}
    {p : Prog (TpuEff nD τ sig Val Λ .tc) α} {x x' : σ} {a : α} (hp : Runs 𝒱 c bd E held defs p (h.set x (h.get x)) a x') :
    Runs 𝒱 c bd E held defs p x a x' := by rwa [h.set_get] at hp

end Cert.Mem

end
-- ==== Proof.Steps.lean ====
/-
  The pieces of the attention backward body, run: what each copy of a stream's segment and each strided accumulation leaves.
-/
module

public import proofs.«01_k».proof.Proof.Shape
public import proofs.«01_k».proof.Proof.Mem
public import Idealize.ShloMosaic.Lib.Pipeline.Value

@[expose] public section

noncomputable section

namespace Cert.AttnBwd

open Idealize.ShloMosaic Idealize.ShloMosaic.TcCoe
open Idealize.SL Idealize.SL.RA Idealize.SL.BI
open Idealize.SL.Sem
open Cert.KernelIdeal Cert.Mem
open Facts₀ Facts

variable {F : FTy → Type} [FloatOps F] [Facts]
variable {Ix : Type} [DecidableEq Ix] {Name : Type} [DecidableEq Name] {U : Type} [URA U] {Lvl : Type} [Preorder Lvl]
variable {defs : Defs nD τ sig (Elt F) Λ₀} {𝒱 : Variants} {c : Dev nD} {bd : Option 𝒱.V} {E : Set Name}
variable {σ : Type} {held : σ → sProp (MT nD τ sig Ix (Elt F) Name U Lvl)}

/-- The row of a dilation's stream that row `y` is read from: the streams' segments are the rows of one residue. -/
def perm (d : Nat) (y : S2048x128.Idx) : S2048x128.Idx :=
  Shape.pair (d := ![2048, 128]) ⟨((y 0).val % (2048 / d) * d + (y 0).val / (2048 / d)) % 2048, Nat.mod_lt _ (by decide)⟩ (y 1)

/-- The place of the stream where a row's part lies. -/
def unperm (d : Nat) (y : S2048x128.Idx) : S2048x128.Idx :=
  Shape.pair (d := ![2048, 128]) ⟨((y 0).val % d * (2048 / d) + (y 0).val / d) % 2048, Nat.mod_lt _ (by decide)⟩ (y 1)

/-- A window of one slot, its slot dropped. -/
def sq {α : Type} (x : S1x2048x128.Idx → α) : S2048x128.Idx → α := fun y => x (Fin.cons ⟨0, Nat.one_pos⟩ y)

/-- A row of the 2048 in a buffer of 2176. -/
def wide (y : S2048x128.Idx) : S2176x128.Idx := Shape.pair (d := ![2176, 128]) ⟨(y 0).val, Nat.lt_trans (show (y 0).val < 2048 from (y 0).isLt) (by decide)⟩ (y 1)

/-- One segment copied: the rows below it stay, its own rows are the stream's. -/
theorem cp4_3b_step {src : Memref sig .tc .vmem S1x2048x128 .f32} {dst : Memref sig .tc .vmem S2048x128 .bf16} (hs : Hd c held src) (hd : Hd c held dst)
    (hind : ∀ x X, hs.get (hd.set x X) = hs.get x) (r o : Nat) (hr' : r < 4) (ho' : o = 512 * r)
    (hr : ∀ a, S1x512x128.size a = 0 ∨ (![0, r, 0] : Fin 3 → Nat) a + (![1, 4, 1] : Fin 3 → Nat) a * (S1x512x128.size a - 1) < S1x2048x128.size a)
    (ho : ∀ a, (![o, 0] : Fin 2 → Nat) a + S512x128.size a ≤ S2048x128.size a)
    (hst : (dst.access (Rect.unit (s := S2048x128) ![o, 0] S512x128.size ho)).Stores Finset.univ)
    (x : σ) (X : S2048x128.Idx → Elt F .bf16)
    (hX : ∀ y : S2048x128.Idx, (y 0).val < o → X y = FloatOps.truncf .bf16 bitsLt_bf16_f32 ((sq (hs.get x)) (perm 4 y))) :
    ∃ X' : S2048x128.Idx → Elt F .bf16, Runs 𝒱 c bd E held defs (cp4_3b src dst r o hr ho hst) (hd.set x X) ⟨⟩ (hd.set x X')
      ∧ ∀ y : S2048x128.Idx, (y 0).val < o + 512 → X' y = FloatOps.truncf .bf16 bitsLt_bf16_f32 ((sq (hs.get x)) (perm 4 y)) := by
  refine ⟨_, (Runs.load hs _ _ _).bind ((Runs.load hd _ _ _).bind (Runs.store_set hd _ _ _ _ x X)), fun y hy => ?_⟩
  by_cases hlt : (y 0).val < o
  · rw [putR_miss_unit _ _ _ _ _ y (0 : Fin 2) (Or.inl (by simpa using hlt))]
    exact hX y hlt
  · have h1 : (y 1).val < 128 := (y 1).isLt
    have h0 : (y 0).val < 2048 := (y 0).isLt
    rw [putR_hit _ _ _ y (Shape.pair (d := ![512, 128]) ⟨(y 0).val - o, show (y 0).val - o < 512 by omega⟩ (y 1))
      (fun a => by match a with | ⟨0, _⟩ => exact (show o + 1 * ((y 0).val - o) = (y 0).val by omega) | ⟨1, _⟩ => exact (show 0 + 1 * (y 1).val = (y 1).val by omega))]
    rw [shapeCast_self]
    simp only [hind]
    refine congrArg (FloatOps.truncf .bf16 bitsLt_bf16_f32) ?_
    refine (shapeCast_dropUnit_apply ![512, 128] _ _ _).trans ?_
    refine congrArg _ (funext fun a => Fin.ext ?_)
    match a with
    | ⟨0, _⟩ => rfl
    | ⟨1, _⟩ => exact (show r + 4 * ((y 0).val - o) = ((y 0).val % 512 * 4 + (y 0).val / 512) % 2048 by
        have hq : (y 0).val / 512 = r := by omega
        have hm : (y 0).val % 512 = (y 0).val - o := by omega
        rw [hq, hm]; omega)
    | ⟨2, _⟩ => exact (show 0 + 1 * (y 1).val = (y 1).val by omega)

/-- The whole stream copied. -/
theorem st4_3b_runs {src : Memref sig .tc .vmem S1x2048x128 .f32} {dst : Memref sig .tc .vmem S2048x128 .bf16} (hs : Hd c held src) (hd : Hd c held dst)
    (hind : ∀ x X, hs.get (hd.set x X) = hs.get x) (hdst : dst.IsWhole) (x : σ) :
    Runs 𝒱 c bd E held defs (st4_3b src dst hdst) x ⟨⟩ (hd.set x fun y => FloatOps.truncf .bf16 bitsLt_bf16_f32 ((sq (hs.get x)) (perm 4 y))) := by
  refine Runs.at_get hd ?_
  have h0 : ∀ y : S2048x128.Idx, (y 0).val < 0 → hd.get x y = FloatOps.truncf .bf16 bitsLt_bf16_f32 ((sq (hs.get x)) (perm 4 y)) := fun y h => absurd h (Nat.not_lt_zero _)
  generalize hd.get x = X0 at h0 ⊢
  obtain ⟨X1, r0, h1⟩ := cp4_3b_step (𝒱 := 𝒱) (bd := bd) (E := E) (defs := defs) hs hd hind 0 0 (by decide) rfl inb_S1x2048x128_S1x512x128_0_0_0_s_1_4_1 inb_S2048x128_S512x128_0_0 (View.stores_vmem h_S512x128 (hdst.storeExact_slice rfl _ packedbf16_S2048x128_S512x128_0_0) (fun _ => rfl)) x X0 h0
  obtain ⟨X2, r1, h2⟩ := cp4_3b_step (𝒱 := 𝒱) (bd := bd) (E := E) (defs := defs) hs hd hind 1 512 (by decide) rfl inb_S1x2048x128_S1x512x128_0_1_0_s_1_4_1 inb_S2048x128_S512x128_512_0 (View.stores_vmem h_S512x128 (hdst.storeExact_slice rfl _ packedbf16_S2048x128_S512x128_512_0) (fun _ => rfl)) x X1 h1
  obtain ⟨X3, r2, h3⟩ := cp4_3b_step (𝒱 := 𝒱) (bd := bd) (E := E) (defs := defs) hs hd hind 2 1024 (by decide) rfl inb_S1x2048x128_S1x512x128_0_2_0_s_1_4_1 inb_S2048x128_S512x128_1024_0 (View.stores_vmem h_S512x128 (hdst.storeExact_slice rfl _ packedbf16_S2048x128_S512x128_1024_0) (fun _ => rfl)) x X2 h2
  obtain ⟨X4, r3, h4⟩ := cp4_3b_step (𝒱 := 𝒱) (bd := bd) (E := E) (defs := defs) hs hd hind 3 1536 (by decide) rfl inb_S1x2048x128_S1x512x128_0_3_0_s_1_4_1 inb_S2048x128_S512x128_1536_0 (View.stores_vmem h_S512x128 (hdst.storeExact_slice rfl _ packedbf16_S2048x128_S512x128_1536_0) (fun _ => rfl)) x X3 h3
  have e : X4 = fun y => FloatOps.truncf .bf16 bitsLt_bf16_f32 ((sq (hs.get x)) (perm 4 y)) := funext fun y => h4 y (show (y 0).val < 2048 from (y 0).isLt)
  subst e
  exact r0.bind <| r1.bind <| r2.bind <| r3

/-- One segment copied: the rows below it stay, its own rows are the stream's. -/
theorem cp4_2b_step {src : Memref sig .tc .vmem S2048x128 .f32} {dst : Memref sig .tc .vmem S2048x128 .bf16} (hs : Hd c held src) (hd : Hd c held dst)
    (hind : ∀ x X, hs.get (hd.set x X) = hs.get x) (r o : Nat) (hr' : r < 4) (ho' : o = 512 * r)
    (hr : ∀ a, S512x128.size a = 0 ∨ (![r, 0] : Fin 2 → Nat) a + (![4, 1] : Fin 2 → Nat) a * (S512x128.size a - 1) < S2048x128.size a)
    (ho : ∀ a, (![o, 0] : Fin 2 → Nat) a + S512x128.size a ≤ S2048x128.size a)
    (hst : (dst.access (Rect.unit (s := S2048x128) ![o, 0] S512x128.size ho)).Stores Finset.univ)
    (x : σ) (X : S2048x128.Idx → Elt F .bf16)
    (hX : ∀ y : S2048x128.Idx, (y 0).val < o → X y = FloatOps.truncf .bf16 bitsLt_bf16_f32 ((hs.get x) (perm 4 y))) :
    ∃ X' : S2048x128.Idx → Elt F .bf16, Runs 𝒱 c bd E held defs (cp4_2b src dst r o hr ho hst) (hd.set x X) ⟨⟩ (hd.set x X')
      ∧ ∀ y : S2048x128.Idx, (y 0).val < o + 512 → X' y = FloatOps.truncf .bf16 bitsLt_bf16_f32 ((hs.get x) (perm 4 y)) := by
  refine ⟨_, (Runs.load hs _ _ _).bind ((Runs.load hd _ _ _).bind (Runs.store_set hd _ _ _ _ x X)), fun y hy => ?_⟩
  by_cases hlt : (y 0).val < o
  · rw [putR_miss_unit _ _ _ _ _ y (0 : Fin 2) (Or.inl (by simpa using hlt))]
    exact hX y hlt
  · have h1 : (y 1).val < 128 := (y 1).isLt
    have h0 : (y 0).val < 2048 := (y 0).isLt
    rw [putR_hit _ _ _ y (Shape.pair (d := ![512, 128]) ⟨(y 0).val - o, show (y 0).val - o < 512 by omega⟩ (y 1))
      (fun a => by match a with | ⟨0, _⟩ => exact (show o + 1 * ((y 0).val - o) = (y 0).val by omega) | ⟨1, _⟩ => exact (show 0 + 1 * (y 1).val = (y 1).val by omega))]
    rw [shapeCast_self]
    simp only [hind]
    refine congrArg (fun z => FloatOps.truncf .bf16 bitsLt_bf16_f32 (hs.get x z)) (funext fun a => Fin.ext ?_)
    match a with
    | ⟨0, _⟩ => exact (show r + 4 * ((y 0).val - o) = ((y 0).val % 512 * 4 + (y 0).val / 512) % 2048 by
        have hq : (y 0).val / 512 = r := by omega
        have hm : (y 0).val % 512 = (y 0).val - o := by omega
        rw [hq, hm]; omega)
    | ⟨1, _⟩ => exact (show 0 + 1 * (y 1).val = (y 1).val by omega)

/-- The whole stream copied. -/
theorem st4_2b_runs {src : Memref sig .tc .vmem S2048x128 .f32} {dst : Memref sig .tc .vmem S2048x128 .bf16} (hs : Hd c held src) (hd : Hd c held dst)
    (hind : ∀ x X, hs.get (hd.set x X) = hs.get x) (hdst : dst.IsWhole) (x : σ) :
    Runs 𝒱 c bd E held defs (st4_2b src dst hdst) x ⟨⟩ (hd.set x fun y => FloatOps.truncf .bf16 bitsLt_bf16_f32 ((hs.get x) (perm 4 y))) := by
  refine Runs.at_get hd ?_
  have h0 : ∀ y : S2048x128.Idx, (y 0).val < 0 → hd.get x y = FloatOps.truncf .bf16 bitsLt_bf16_f32 ((hs.get x) (perm 4 y)) := fun y h => absurd h (Nat.not_lt_zero _)
  generalize hd.get x = X0 at h0 ⊢
  obtain ⟨X1, r0, h1⟩ := cp4_2b_step (𝒱 := 𝒱) (bd := bd) (E := E) (defs := defs) hs hd hind 0 0 (by decide) rfl inb_S2048x128_S512x128_0_0_s_4_1 inb_S2048x128_S512x128_0_0 (View.stores_vmem h_S512x128 (hdst.storeExact_slice rfl _ packedbf16_S2048x128_S512x128_0_0) (fun _ => rfl)) x X0 h0
  obtain ⟨X2, r1, h2⟩ := cp4_2b_step (𝒱 := 𝒱) (bd := bd) (E := E) (defs := defs) hs hd hind 1 512 (by decide) rfl inb_S2048x128_S512x128_1_0_s_4_1 inb_S2048x128_S512x128_512_0 (View.stores_vmem h_S512x128 (hdst.storeExact_slice rfl _ packedbf16_S2048x128_S512x128_512_0) (fun _ => rfl)) x X1 h1
  obtain ⟨X3, r2, h3⟩ := cp4_2b_step (𝒱 := 𝒱) (bd := bd) (E := E) (defs := defs) hs hd hind 2 1024 (by decide) rfl inb_S2048x128_S512x128_2_0_s_4_1 inb_S2048x128_S512x128_1024_0 (View.stores_vmem h_S512x128 (hdst.storeExact_slice rfl _ packedbf16_S2048x128_S512x128_1024_0) (fun _ => rfl)) x X2 h2
  obtain ⟨X4, r3, h4⟩ := cp4_2b_step (𝒱 := 𝒱) (bd := bd) (E := E) (defs := defs) hs hd hind 3 1536 (by decide) rfl inb_S2048x128_S512x128_3_0_s_4_1 inb_S2048x128_S512x128_1536_0 (View.stores_vmem h_S512x128 (hdst.storeExact_slice rfl _ packedbf16_S2048x128_S512x128_1536_0) (fun _ => rfl)) x X3 h3
  have e : X4 = fun y => FloatOps.truncf .bf16 bitsLt_bf16_f32 ((hs.get x) (perm 4 y)) := funext fun y => h4 y (show (y 0).val < 2048 from (y 0).isLt)
  subst e
  exact r0.bind <| r1.bind <| r2.bind <| r3

/-- One segment copied: the rows below it stay, its own rows are the stream's. -/
theorem cp4_2f_step {src : Memref sig .tc .vmem S2048x128 .f32} {dst : Memref sig .tc .vmem S2048x128 .f32} (hs : Hd c held src) (hd : Hd c held dst)
    (hind : ∀ x X, hs.get (hd.set x X) = hs.get x) (r o : Nat) (hr' : r < 4) (ho' : o = 512 * r)
    (hr : ∀ a, S512x128.size a = 0 ∨ (![r, 0] : Fin 2 → Nat) a + (![4, 1] : Fin 2 → Nat) a * (S512x128.size a - 1) < S2048x128.size a)
    (ho : ∀ a, (![o, 0] : Fin 2 → Nat) a + S512x128.size a ≤ S2048x128.size a)
    (x : σ) (X : S2048x128.Idx → Elt F .f32)
    (hX : ∀ y : S2048x128.Idx, (y 0).val < o → X y = (hs.get x) (perm 4 y)) :
    ∃ X' : S2048x128.Idx → Elt F .f32, Runs 𝒱 c bd E held defs (cp4_2f src dst r o hr ho) (hd.set x X) ⟨⟩ (hd.set x X')
      ∧ ∀ y : S2048x128.Idx, (y 0).val < o + 512 → X' y = (hs.get x) (perm 4 y) := by
  refine ⟨_, (Runs.load hs _ _ _).bind ((Runs.load hd _ _ _).bind (Runs.store_set hd _ _ _ _ x X)), fun y hy => ?_⟩
  by_cases hlt : (y 0).val < o
  · rw [putR_miss_unit _ _ _ _ _ y (0 : Fin 2) (Or.inl (by simpa using hlt))]
    exact hX y hlt
  · have h1 : (y 1).val < 128 := (y 1).isLt
    have h0 : (y 0).val < 2048 := (y 0).isLt
    rw [putR_hit _ _ _ y (Shape.pair (d := ![512, 128]) ⟨(y 0).val - o, show (y 0).val - o < 512 by omega⟩ (y 1))
      (fun a => by match a with | ⟨0, _⟩ => exact (show o + 1 * ((y 0).val - o) = (y 0).val by omega) | ⟨1, _⟩ => exact (show 0 + 1 * (y 1).val = (y 1).val by omega))]
    rw [shapeCast_self]
    simp only [hind]
    refine congrArg _ (funext fun a => Fin.ext ?_)
    match a with
    | ⟨0, _⟩ => exact (show r + 4 * ((y 0).val - o) = ((y 0).val % 512 * 4 + (y 0).val / 512) % 2048 by
        have hq : (y 0).val / 512 = r := by omega
        have hm : (y 0).val % 512 = (y 0).val - o := by omega
        rw [hq, hm]; omega)
    | ⟨1, _⟩ => exact (show 0 + 1 * (y 1).val = (y 1).val by omega)

/-- The whole stream copied. -/
theorem st4_2f_runs {src : Memref sig .tc .vmem S2048x128 .f32} {dst : Memref sig .tc .vmem S2048x128 .f32} (hs : Hd c held src) (hd : Hd c held dst)
    (hind : ∀ x X, hs.get (hd.set x X) = hs.get x) (x : σ) :
    Runs 𝒱 c bd E held defs (st4_2f src dst) x ⟨⟩ (hd.set x fun y => (hs.get x) (perm 4 y)) := by
  refine Runs.at_get hd ?_
  have h0 : ∀ y : S2048x128.Idx, (y 0).val < 0 → hd.get x y = (hs.get x) (perm 4 y) := fun y h => absurd h (Nat.not_lt_zero _)
  generalize hd.get x = X0 at h0 ⊢
  obtain ⟨X1, r0, h1⟩ := cp4_2f_step (𝒱 := 𝒱) (bd := bd) (E := E) (defs := defs) hs hd hind 0 0 (by decide) rfl inb_S2048x128_S512x128_0_0_s_4_1 inb_S2048x128_S512x128_0_0 x X0 h0
  obtain ⟨X2, r1, h2⟩ := cp4_2f_step (𝒱 := 𝒱) (bd := bd) (E := E) (defs := defs) hs hd hind 1 512 (by decide) rfl inb_S2048x128_S512x128_1_0_s_4_1 inb_S2048x128_S512x128_512_0 x X1 h1
  obtain ⟨X3, r2, h3⟩ := cp4_2f_step (𝒱 := 𝒱) (bd := bd) (E := E) (defs := defs) hs hd hind 2 1024 (by decide) rfl inb_S2048x128_S512x128_2_0_s_4_1 inb_S2048x128_S512x128_1024_0 x X2 h2
  obtain ⟨X4, r3, h4⟩ := cp4_2f_step (𝒱 := 𝒱) (bd := bd) (E := E) (defs := defs) hs hd hind 3 1536 (by decide) rfl inb_S2048x128_S512x128_3_0_s_4_1 inb_S2048x128_S512x128_1536_0 x X3 h3
  have e : X4 = fun y => (hs.get x) (perm 4 y) := funext fun y => h4 y (show (y 0).val < 2048 from (y 0).isLt)
  subst e
  exact r0.bind <| r1.bind <| r2.bind <| r3

/-- The stream whose rows are read through a cast to their own shape is the same copy. -/
theorem st4_2g_eq (src : Memref sig .tc .vmem S2048x128 .f32) (dst : Memref sig .tc .vmem S2048x128 .f32) :
    st4_2g (F := F) src dst = st4_2f src dst := by
  simp only [st4_2g, st4_2f, cp4_2g, cp4_2f, shapeCast_self]

/-- The whole stream copied through the cast. -/
theorem st4_2g_runs {src : Memref sig .tc .vmem S2048x128 .f32} {dst : Memref sig .tc .vmem S2048x128 .f32} (hs : Hd c held src) (hd : Hd c held dst)
    (hind : ∀ x X, hs.get (hd.set x X) = hs.get x) (x : σ) :
    Runs 𝒱 c bd E held defs (st4_2g src dst) x ⟨⟩ (hd.set x fun y => (hs.get x) (perm 4 y)) := by
  rw [st4_2g_eq]
  exact st4_2f_runs hs hd hind x

/-- One segment's part added at its strided rows. -/
theorem ac4_2048_step {acc part : Memref sig .tc .vmem S2048x128 .f32} (ha : Hd c held acc) (hp : Hd c held part)
    (hind : ∀ x X, hp.get (ha.set x X) = hp.get x) (r o : Nat) (hr' : r < 4) (ho' : o = 512 * r)
    (hr : ∀ a, S512x128.size a = 0 ∨ (![r, 0] : Fin 2 → Nat) a + (![4, 1] : Fin 2 → Nat) a * (S512x128.size a - 1) < S2048x128.size a)
    (ho : ∀ a, (![o, 0] : Fin 2 → Nat) a + S512x128.size a ≤ S2048x128.size a)
    (x : σ) (A P : S2048x128.Idx → Elt F .f32) (hP : ∀ y, hp.get x y = P y) (X : S2048x128.Idx → Elt F .f32)
    (hX : ∀ y : S2048x128.Idx, X y = if (y 0).val % 4 < r then FloatOps.addf (A y) (P (unperm 4 y)) else A y) :
    ∃ X' : S2048x128.Idx → Elt F .f32, Runs 𝒱 c bd E held defs (ac4_2048 acc part r o hr ho) (ha.set x X) ⟨⟩ (ha.set x X')
      ∧ ∀ y : S2048x128.Idx, X' y = if (y 0).val % 4 < r + 1 then FloatOps.addf (A y) (P (unperm 4 y)) else A y := by
  refine ⟨_, (Runs.load ha _ _ _).bind ((Runs.load hp _ _ _).bind ((Runs.load ha _ _ _).bind (Runs.store_set ha _ _ _ _ x X))), fun y => ?_⟩
  have h1 : (y 1).val < 128 := (y 1).isLt
  have h0 : (y 0).val < 2048 := (y 0).isLt
  by_cases hlt : (y 0).val % 4 = r
  · rw [putR_hit _ _ _ y (Shape.pair (d := ![512, 128]) ⟨(y 0).val / 4, show (y 0).val / 4 < 512 by omega⟩ (y 1))
      (fun a => by match a with | ⟨0, _⟩ => exact (show r + 4 * ((y 0).val / 4) = (y 0).val by omega) | ⟨1, _⟩ => exact (show 0 + 1 * (y 1).val = (y 1).val by omega))]
    rw [shapeCast_self, if_pos (by omega)]
    simp only [hind, ha.get_set]
    refine congrArg₂ FloatOps.addf ?_ ?_
    · refine Eq.trans (congrArg X (funext fun a => Fin.ext ?_)) ((hX y).trans (if_neg (by omega)))
      match a with
    | ⟨0, _⟩ => exact (show r + 4 * ((y 0).val / 4) = (y 0).val by omega) | ⟨1, _⟩ => exact (show 0 + 1 * (y 1).val = (y 1).val by omega)
    · refine Eq.trans (congrArg (hp.get x) (funext fun a => Fin.ext ?_)) (hP (unperm 4 y))
      match a with | ⟨0, _⟩ => exact (show o + 1 * ((y 0).val / 4) = ((y 0).val % 4 * 512 + (y 0).val / 4) % 2048 by omega) | ⟨1, _⟩ => exact (show 0 + 1 * (y 1).val = (y 1).val by omega)
  · rw [putR_miss]
    · rw [hX y]
      by_cases h : (y 0).val % 4 < r
      · rw [if_pos h, if_pos (by omega)]
      · rw [if_neg h, if_neg (by omega)]
    · intro j hj
      have e : r + 4 * (j 0).val = (y 0).val := congrArg (fun z : S2048x128.Idx => (z 0).val) hj
      omega

/-- A dilation's part added: every row gets its own. -/
theorem acc4_2048_runs {acc part : Memref sig .tc .vmem S2048x128 .f32} (ha : Hd c held acc) (hp : Hd c held part)
    (hind : ∀ x X, hp.get (ha.set x X) = hp.get x) (x : σ) (A P : S2048x128.Idx → Elt F .f32) (hA : ∀ y, ha.get x y = A y)
    (hP : ∀ y, hp.get x y = P y) :
    ∃ X' : S2048x128.Idx → Elt F .f32, Runs 𝒱 c bd E held defs (acc4_2048 acc part) x ⟨⟩ (ha.set x X')
      ∧ ∀ y : S2048x128.Idx, X' y = FloatOps.addf (A y) (P (unperm 4 y)) := by
  have h0 : ∀ y : S2048x128.Idx, ha.get x y = if (y 0).val % 4 < 0 then FloatOps.addf (A y) (P (unperm 4 y)) else A y :=
    fun y => (hA y).trans (if_neg (Nat.not_lt_zero _)).symm
  suffices h : ∃ X' : S2048x128.Idx → Elt F .f32, Runs 𝒱 c bd E held defs (acc4_2048 acc part) (ha.set x (ha.get x)) ⟨⟩ (ha.set x X')
      ∧ ∀ y : S2048x128.Idx, X' y = FloatOps.addf (A y) (P (unperm 4 y)) by
    obtain ⟨X', h, h'⟩ := h
    exact ⟨X', Runs.at_get ha h, h'⟩
  generalize ha.get x = X0 at h0 ⊢
  obtain ⟨X1, r0, h1⟩ := ac4_2048_step (𝒱 := 𝒱) (bd := bd) (E := E) (defs := defs) ha hp hind 0 0 (by decide) rfl inb_S2048x128_S512x128_0_0_s_4_1 inb_S2048x128_S512x128_0_0 x A P hP X0 h0
  obtain ⟨X2, r1, h2⟩ := ac4_2048_step (𝒱 := 𝒱) (bd := bd) (E := E) (defs := defs) ha hp hind 1 512 (by decide) rfl inb_S2048x128_S512x128_1_0_s_4_1 inb_S2048x128_S512x128_512_0 x A P hP X1 h1
  obtain ⟨X3, r2, h3⟩ := ac4_2048_step (𝒱 := 𝒱) (bd := bd) (E := E) (defs := defs) ha hp hind 2 1024 (by decide) rfl inb_S2048x128_S512x128_2_0_s_4_1 inb_S2048x128_S512x128_1024_0 x A P hP X2 h2
  obtain ⟨X4, r3, h4⟩ := ac4_2048_step (𝒱 := 𝒱) (bd := bd) (E := E) (defs := defs) ha hp hind 3 1536 (by decide) rfl inb_S2048x128_S512x128_3_0_s_4_1 inb_S2048x128_S512x128_1536_0 x A P hP X3 h3
  exact ⟨X4, r0.bind <| r1.bind <| r2.bind <| r3, fun y => (h4 y).trans (if_pos (Nat.mod_lt _ (by decide)))⟩

/-- One segment's part added at its strided rows. -/
theorem ac4_2176_step {acc part : Memref sig .tc .vmem S2176x128 .f32} (ha : Hd c held acc) (hp : Hd c held part)
    (hind : ∀ x X, hp.get (ha.set x X) = hp.get x) (r o : Nat) (hr' : r < 4) (ho' : o = 512 * r)
    (hr : ∀ a, S512x128.size a = 0 ∨ (![r, 0] : Fin 2 → Nat) a + (![4, 1] : Fin 2 → Nat) a * (S512x128.size a - 1) < S2176x128.size a)
    (ho : ∀ a, (![o, 0] : Fin 2 → Nat) a + S512x128.size a ≤ S2176x128.size a)
    (x : σ) (A P : S2048x128.Idx → Elt F .f32) (hP : ∀ y, hp.get x (wide y) = P y) (X : S2176x128.Idx → Elt F .f32)
    (hX : ∀ y : S2048x128.Idx, X (wide y) = if (y 0).val % 4 < r then FloatOps.addf (A y) (P (unperm 4 y)) else A y) :
    ∃ X' : S2176x128.Idx → Elt F .f32, Runs 𝒱 c bd E held defs (ac4_2176 acc part r o hr ho) (ha.set x X) ⟨⟩ (ha.set x X')
      ∧ ∀ y : S2048x128.Idx, X' (wide y) = if (y 0).val % 4 < r + 1 then FloatOps.addf (A y) (P (unperm 4 y)) else A y := by
  refine ⟨_, (Runs.load ha _ _ _).bind ((Runs.load hp _ _ _).bind ((Runs.load ha _ _ _).bind (Runs.store_set ha _ _ _ _ x X))), fun y => ?_⟩
  have h1 : (y 1).val < 128 := (y 1).isLt
  have h0 : (y 0).val < 2048 := (y 0).isLt
  by_cases hlt : (y 0).val % 4 = r
  · rw [putR_hit _ _ _ (wide y) (Shape.pair (d := ![512, 128]) ⟨(y 0).val / 4, show (y 0).val / 4 < 512 by omega⟩ (y 1))
      (fun a => by match a with | ⟨0, _⟩ => exact (show r + 4 * ((y 0).val / 4) = (y 0).val by omega) | ⟨1, _⟩ => exact (show 0 + 1 * (y 1).val = (y 1).val by omega))]
    rw [shapeCast_self, if_pos (by omega)]
    simp only [hind, ha.get_set]
    refine congrArg₂ FloatOps.addf ?_ ?_
    · refine Eq.trans (congrArg X (funext fun a => Fin.ext ?_)) ((hX y).trans (if_neg (by omega)))
      match a with
    | ⟨0, _⟩ => exact (show r + 4 * ((y 0).val / 4) = (y 0).val by omega) | ⟨1, _⟩ => exact (show 0 + 1 * (y 1).val = (y 1).val by omega)
    · refine Eq.trans (congrArg (hp.get x) (funext fun a => Fin.ext ?_)) (hP (unperm 4 y))
      match a with | ⟨0, _⟩ => exact (show o + 1 * ((y 0).val / 4) = ((y 0).val % 4 * 512 + (y 0).val / 4) % 2048 by omega) | ⟨1, _⟩ => exact (show 0 + 1 * (y 1).val = (y 1).val by omega)
  · rw [putR_miss]
    · rw [hX y]
      by_cases h : (y 0).val % 4 < r
      · rw [if_pos h, if_pos (by omega)]
      · rw [if_neg h, if_neg (by omega)]
    · intro j hj
      have e : r + 4 * (j 0).val = (y 0).val := congrArg (fun z : S2176x128.Idx => (z 0).val) hj
      omega

/-- A dilation's part added: every row gets its own. -/
theorem acc4_2176_runs {acc part : Memref sig .tc .vmem S2176x128 .f32} (ha : Hd c held acc) (hp : Hd c held part)
    (hind : ∀ x X, hp.get (ha.set x X) = hp.get x) (x : σ) (A P : S2048x128.Idx → Elt F .f32) (hA : ∀ y, ha.get x (wide y) = A y)
    (hP : ∀ y, hp.get x (wide y) = P y) :
    ∃ X' : S2176x128.Idx → Elt F .f32, Runs 𝒱 c bd E held defs (acc4_2176 acc part) x ⟨⟩ (ha.set x X')
      ∧ ∀ y : S2048x128.Idx, X' (wide y) = FloatOps.addf (A y) (P (unperm 4 y)) := by
  have h0 : ∀ y : S2048x128.Idx, ha.get x (wide y) = if (y 0).val % 4 < 0 then FloatOps.addf (A y) (P (unperm 4 y)) else A y :=
    fun y => (hA y).trans (if_neg (Nat.not_lt_zero _)).symm
  suffices h : ∃ X' : S2176x128.Idx → Elt F .f32, Runs 𝒱 c bd E held defs (acc4_2176 acc part) (ha.set x (ha.get x)) ⟨⟩ (ha.set x X')
      ∧ ∀ y : S2048x128.Idx, X' (wide y) = FloatOps.addf (A y) (P (unperm 4 y)) by
    obtain ⟨X', h, h'⟩ := h
    exact ⟨X', Runs.at_get ha h, h'⟩
  generalize ha.get x = X0 at h0 ⊢
  obtain ⟨X1, r0, h1⟩ := ac4_2176_step (𝒱 := 𝒱) (bd := bd) (E := E) (defs := defs) ha hp hind 0 0 (by decide) rfl inb_S2176x128_S512x128_0_0_s_4_1 inb_S2176x128_S512x128_0_0 x A P hP X0 h0
  obtain ⟨X2, r1, h2⟩ := ac4_2176_step (𝒱 := 𝒱) (bd := bd) (E := E) (defs := defs) ha hp hind 1 512 (by decide) rfl inb_S2176x128_S512x128_1_0_s_4_1 inb_S2176x128_S512x128_512_0 x A P hP X1 h1
  obtain ⟨X3, r2, h3⟩ := ac4_2176_step (𝒱 := 𝒱) (bd := bd) (E := E) (defs := defs) ha hp hind 2 1024 (by decide) rfl inb_S2176x128_S512x128_2_0_s_4_1 inb_S2176x128_S512x128_1024_0 x A P hP X2 h2
  obtain ⟨X4, r3, h4⟩ := ac4_2176_step (𝒱 := 𝒱) (bd := bd) (E := E) (defs := defs) ha hp hind 3 1536 (by decide) rfl inb_S2176x128_S512x128_3_0_s_4_1 inb_S2176x128_S512x128_1536_0 x A P hP X3 h3
  exact ⟨X4, r0.bind <| r1.bind <| r2.bind <| r3, fun y => (h4 y).trans (if_pos (Nat.mod_lt _ (by decide)))⟩

/-- One segment copied: the rows below it stay, its own rows are the stream's. -/
theorem cp16_3b_step {src : Memref sig .tc .vmem S1x2048x128 .f32} {dst : Memref sig .tc .vmem S2048x128 .bf16} (hs : Hd c held src) (hd : Hd c held dst)
    (hind : ∀ x X, hs.get (hd.set x X) = hs.get x) (r o : Nat) (hr' : r < 16) (ho' : o = 128 * r)
    (hr : ∀ a, S1x128x128.size a = 0 ∨ (![0, r, 0] : Fin 3 → Nat) a + (![1, 16, 1] : Fin 3 → Nat) a * (S1x128x128.size a - 1) < S1x2048x128.size a)
    (ho : ∀ a, (![o, 0] : Fin 2 → Nat) a + S128x128.size a ≤ S2048x128.size a)
    (hst : (dst.access (Rect.unit (s := S2048x128) ![o, 0] S128x128.size ho)).Stores Finset.univ)
    (x : σ) (X : S2048x128.Idx → Elt F .bf16)
    (hX : ∀ y : S2048x128.Idx, (y 0).val < o → X y = FloatOps.truncf .bf16 bitsLt_bf16_f32 ((sq (hs.get x)) (perm 16 y))) :
    ∃ X' : S2048x128.Idx → Elt F .bf16, Runs 𝒱 c bd E held defs (cp16_3b src dst r o hr ho hst) (hd.set x X) ⟨⟩ (hd.set x X')
      ∧ ∀ y : S2048x128.Idx, (y 0).val < o + 128 → X' y = FloatOps.truncf .bf16 bitsLt_bf16_f32 ((sq (hs.get x)) (perm 16 y)) := by
  refine ⟨_, (Runs.load hs _ _ _).bind ((Runs.load hd _ _ _).bind (Runs.store_set hd _ _ _ _ x X)), fun y hy => ?_⟩
  by_cases hlt : (y 0).val < o
  · rw [putR_miss_unit _ _ _ _ _ y (0 : Fin 2) (Or.inl (by simpa using hlt))]
    exact hX y hlt
  · have h1 : (y 1).val < 128 := (y 1).isLt
    have h0 : (y 0).val < 2048 := (y 0).isLt
    rw [putR_hit _ _ _ y (Shape.pair (d := ![128, 128]) ⟨(y 0).val - o, show (y 0).val - o < 128 by omega⟩ (y 1))
      (fun a => by match a with | ⟨0, _⟩ => exact (show o + 1 * ((y 0).val - o) = (y 0).val by omega) | ⟨1, _⟩ => exact (show 0 + 1 * (y 1).val = (y 1).val by omega))]
    rw [shapeCast_self]
    simp only [hind]
    refine congrArg (FloatOps.truncf .bf16 bitsLt_bf16_f32) ?_
    refine (shapeCast_dropUnit_apply ![128, 128] _ _ _).trans ?_
    refine congrArg _ (funext fun a => Fin.ext ?_)
    match a with
    | ⟨0, _⟩ => rfl
    | ⟨1, _⟩ => exact (show r + 16 * ((y 0).val - o) = ((y 0).val % 128 * 16 + (y 0).val / 128) % 2048 by
        have hq : (y 0).val / 128 = r := by omega
        have hm : (y 0).val % 128 = (y 0).val - o := by omega
        rw [hq, hm]; omega)
    | ⟨2, _⟩ => exact (show 0 + 1 * (y 1).val = (y 1).val by omega)

/-- The whole stream copied. -/
theorem st16_3b_runs {src : Memref sig .tc .vmem S1x2048x128 .f32} {dst : Memref sig .tc .vmem S2048x128 .bf16} (hs : Hd c held src) (hd : Hd c held dst)
    (hind : ∀ x X, hs.get (hd.set x X) = hs.get x) (hdst : dst.IsWhole) (x : σ) :
    Runs 𝒱 c bd E held defs (st16_3b src dst hdst) x ⟨⟩ (hd.set x fun y => FloatOps.truncf .bf16 bitsLt_bf16_f32 ((sq (hs.get x)) (perm 16 y))) := by
  refine Runs.at_get hd ?_
  have h0 : ∀ y : S2048x128.Idx, (y 0).val < 0 → hd.get x y = FloatOps.truncf .bf16 bitsLt_bf16_f32 ((sq (hs.get x)) (perm 16 y)) := fun y h => absurd h (Nat.not_lt_zero _)
  generalize hd.get x = X0 at h0 ⊢
  obtain ⟨X1, r0, h1⟩ := cp16_3b_step (𝒱 := 𝒱) (bd := bd) (E := E) (defs := defs) hs hd hind 0 0 (by decide) rfl inb_S1x2048x128_S1x128x128_0_0_0_s_1_16_1 inb_S2048x128_S128x128_0_0 (View.stores_vmem h_S128x128 (hdst.storeExact_slice rfl _ packedbf16_S2048x128_S128x128_0_0) (fun _ => rfl)) x X0 h0
  obtain ⟨X2, r1, h2⟩ := cp16_3b_step (𝒱 := 𝒱) (bd := bd) (E := E) (defs := defs) hs hd hind 1 128 (by decide) rfl inb_S1x2048x128_S1x128x128_0_1_0_s_1_16_1 inb_S2048x128_S128x128_128_0 (View.stores_vmem h_S128x128 (hdst.storeExact_slice rfl _ packedbf16_S2048x128_S128x128_128_0) (fun _ => rfl)) x X1 h1
  obtain ⟨X3, r2, h3⟩ := cp16_3b_step (𝒱 := 𝒱) (bd := bd) (E := E) (defs := defs) hs hd hind 2 256 (by decide) rfl inb_S1x2048x128_S1x128x128_0_2_0_s_1_16_1 inb_S2048x128_S128x128_256_0 (View.stores_vmem h_S128x128 (hdst.storeExact_slice rfl _ packedbf16_S2048x128_S128x128_256_0) (fun _ => rfl)) x X2 h2
  obtain ⟨X4, r3, h4⟩ := cp16_3b_step (𝒱 := 𝒱) (bd := bd) (E := E) (defs := defs) hs hd hind 3 384 (by decide) rfl inb_S1x2048x128_S1x128x128_0_3_0_s_1_16_1 inb_S2048x128_S128x128_384_0 (View.stores_vmem h_S128x128 (hdst.storeExact_slice rfl _ packedbf16_S2048x128_S128x128_384_0) (fun _ => rfl)) x X3 h3
  obtain ⟨X5, r4, h5⟩ := cp16_3b_step (𝒱 := 𝒱) (bd := bd) (E := E) (defs := defs) hs hd hind 4 512 (by decide) rfl inb_S1x2048x128_S1x128x128_0_4_0_s_1_16_1 inb_S2048x128_S128x128_512_0 (View.stores_vmem h_S128x128 (hdst.storeExact_slice rfl _ packedbf16_S2048x128_S128x128_512_0) (fun _ => rfl)) x X4 h4
  obtain ⟨X6, r5, h6⟩ := cp16_3b_step (𝒱 := 𝒱) (bd := bd) (E := E) (defs := defs) hs hd hind 5 640 (by decide) rfl inb_S1x2048x128_S1x128x128_0_5_0_s_1_16_1 inb_S2048x128_S128x128_640_0 (View.stores_vmem h_S128x128 (hdst.storeExact_slice rfl _ packedbf16_S2048x128_S128x128_640_0) (fun _ => rfl)) x X5 h5
  obtain ⟨X7, r6, h7⟩ := cp16_3b_step (𝒱 := 𝒱) (bd := bd) (E := E) (defs := defs) hs hd hind 6 768 (by decide) rfl inb_S1x2048x128_S1x128x128_0_6_0_s_1_16_1 inb_S2048x128_S128x128_768_0 (View.stores_vmem h_S128x128 (hdst.storeExact_slice rfl _ packedbf16_S2048x128_S128x128_768_0) (fun _ => rfl)) x X6 h6
  obtain ⟨X8, r7, h8⟩ := cp16_3b_step (𝒱 := 𝒱) (bd := bd) (E := E) (defs := defs) hs hd hind 7 896 (by decide) rfl inb_S1x2048x128_S1x128x128_0_7_0_s_1_16_1 inb_S2048x128_S128x128_896_0 (View.stores_vmem h_S128x128 (hdst.storeExact_slice rfl _ packedbf16_S2048x128_S128x128_896_0) (fun _ => rfl)) x X7 h7
  obtain ⟨X9, r8, h9⟩ := cp16_3b_step (𝒱 := 𝒱) (bd := bd) (E := E) (defs := defs) hs hd hind 8 1024 (by decide) rfl inb_S1x2048x128_S1x128x128_0_8_0_s_1_16_1 inb_S2048x128_S128x128_1024_0 (View.stores_vmem h_S128x128 (hdst.storeExact_slice rfl _ packedbf16_S2048x128_S128x128_1024_0) (fun _ => rfl)) x X8 h8
  obtain ⟨X10, r9, h10⟩ := cp16_3b_step (𝒱 := 𝒱) (bd := bd) (E := E) (defs := defs) hs hd hind 9 1152 (by decide) rfl inb_S1x2048x128_S1x128x128_0_9_0_s_1_16_1 inb_S2048x128_S128x128_1152_0 (View.stores_vmem h_S128x128 (hdst.storeExact_slice rfl _ packedbf16_S2048x128_S128x128_1152_0) (fun _ => rfl)) x X9 h9
  obtain ⟨X11, r10, h11⟩ := cp16_3b_step (𝒱 := 𝒱) (bd := bd) (E := E) (defs := defs) hs hd hind 10 1280 (by decide) rfl inb_S1x2048x128_S1x128x128_0_10_0_s_1_16_1 inb_S2048x128_S128x128_1280_0 (View.stores_vmem h_S128x128 (hdst.storeExact_slice rfl _ packedbf16_S2048x128_S128x128_1280_0) (fun _ => rfl)) x X10 h10
  obtain ⟨X12, r11, h12⟩ := cp16_3b_step (𝒱 := 𝒱) (bd := bd) (E := E) (defs := defs) hs hd hind 11 1408 (by decide) rfl inb_S1x2048x128_S1x128x128_0_11_0_s_1_16_1 inb_S2048x128_S128x128_1408_0 (View.stores_vmem h_S128x128 (hdst.storeExact_slice rfl _ packedbf16_S2048x128_S128x128_1408_0) (fun _ => rfl)) x X11 h11
  obtain ⟨X13, r12, h13⟩ := cp16_3b_step (𝒱 := 𝒱) (bd := bd) (E := E) (defs := defs) hs hd hind 12 1536 (by decide) rfl inb_S1x2048x128_S1x128x128_0_12_0_s_1_16_1 inb_S2048x128_S128x128_1536_0 (View.stores_vmem h_S128x128 (hdst.storeExact_slice rfl _ packedbf16_S2048x128_S128x128_1536_0) (fun _ => rfl)) x X12 h12
  obtain ⟨X14, r13, h14⟩ := cp16_3b_step (𝒱 := 𝒱) (bd := bd) (E := E) (defs := defs) hs hd hind 13 1664 (by decide) rfl inb_S1x2048x128_S1x128x128_0_13_0_s_1_16_1 inb_S2048x128_S128x128_1664_0 (View.stores_vmem h_S128x128 (hdst.storeExact_slice rfl _ packedbf16_S2048x128_S128x128_1664_0) (fun _ => rfl)) x X13 h13
  obtain ⟨X15, r14, h15⟩ := cp16_3b_step (𝒱 := 𝒱) (bd := bd) (E := E) (defs := defs) hs hd hind 14 1792 (by decide) rfl inb_S1x2048x128_S1x128x128_0_14_0_s_1_16_1 inb_S2048x128_S128x128_1792_0 (View.stores_vmem h_S128x128 (hdst.storeExact_slice rfl _ packedbf16_S2048x128_S128x128_1792_0) (fun _ => rfl)) x X14 h14
  obtain ⟨X16, r15, h16⟩ := cp16_3b_step (𝒱 := 𝒱) (bd := bd) (E := E) (defs := defs) hs hd hind 15 1920 (by decide) rfl inb_S1x2048x128_S1x128x128_0_15_0_s_1_16_1 inb_S2048x128_S128x128_1920_0 (View.stores_vmem h_S128x128 (hdst.storeExact_slice rfl _ packedbf16_S2048x128_S128x128_1920_0) (fun _ => rfl)) x X15 h15
  have e : X16 = fun y => FloatOps.truncf .bf16 bitsLt_bf16_f32 ((sq (hs.get x)) (perm 16 y)) := funext fun y => h16 y (show (y 0).val < 2048 from (y 0).isLt)
  subst e
  exact r0.bind <| r1.bind <| r2.bind <| r3.bind <| r4.bind <| r5.bind <| r6.bind <| r7.bind <| r8.bind <| r9.bind <| r10.bind <| r11.bind <| r12.bind <| r13.bind <| r14.bind <| r15

/-- One segment copied: the rows below it stay, its own rows are the stream's. -/
theorem cp16_2b_step {src : Memref sig .tc .vmem S2048x128 .f32} {dst : Memref sig .tc .vmem S2048x128 .bf16} (hs : Hd c held src) (hd : Hd c held dst)
    (hind : ∀ x X, hs.get (hd.set x X) = hs.get x) (r o : Nat) (hr' : r < 16) (ho' : o = 128 * r)
    (hr : ∀ a, S128x128.size a = 0 ∨ (![r, 0] : Fin 2 → Nat) a + (![16, 1] : Fin 2 → Nat) a * (S128x128.size a - 1) < S2048x128.size a)
    (ho : ∀ a, (![o, 0] : Fin 2 → Nat) a + S128x128.size a ≤ S2048x128.size a)
    (hst : (dst.access (Rect.unit (s := S2048x128) ![o, 0] S128x128.size ho)).Stores Finset.univ)
    (x : σ) (X : S2048x128.Idx → Elt F .bf16)
    (hX : ∀ y : S2048x128.Idx, (y 0).val < o → X y = FloatOps.truncf .bf16 bitsLt_bf16_f32 ((hs.get x) (perm 16 y))) :
    ∃ X' : S2048x128.Idx → Elt F .bf16, Runs 𝒱 c bd E held defs (cp16_2b src dst r o hr ho hst) (hd.set x X) ⟨⟩ (hd.set x X')
      ∧ ∀ y : S2048x128.Idx, (y 0).val < o + 128 → X' y = FloatOps.truncf .bf16 bitsLt_bf16_f32 ((hs.get x) (perm 16 y)) := by
  refine ⟨_, (Runs.load hs _ _ _).bind ((Runs.load hd _ _ _).bind (Runs.store_set hd _ _ _ _ x X)), fun y hy => ?_⟩
  by_cases hlt : (y 0).val < o
  · rw [putR_miss_unit _ _ _ _ _ y (0 : Fin 2) (Or.inl (by simpa using hlt))]
    exact hX y hlt
  · have h1 : (y 1).val < 128 := (y 1).isLt
    have h0 : (y 0).val < 2048 := (y 0).isLt
    rw [putR_hit _ _ _ y (Shape.pair (d := ![128, 128]) ⟨(y 0).val - o, show (y 0).val - o < 128 by omega⟩ (y 1))
      (fun a => by match a with | ⟨0, _⟩ => exact (show o + 1 * ((y 0).val - o) = (y 0).val by omega) | ⟨1, _⟩ => exact (show 0 + 1 * (y 1).val = (y 1).val by omega))]
    rw [shapeCast_self]
    simp only [hind]
    refine congrArg (fun z => FloatOps.truncf .bf16 bitsLt_bf16_f32 (hs.get x z)) (funext fun a => Fin.ext ?_)
    match a with
    | ⟨0, _⟩ => exact (show r + 16 * ((y 0).val - o) = ((y 0).val % 128 * 16 + (y 0).val / 128) % 2048 by
        have hq : (y 0).val / 128 = r := by omega
        have hm : (y 0).val % 128 = (y 0).val - o := by omega
        rw [hq, hm]; omega)
    | ⟨1, _⟩ => exact (show 0 + 1 * (y 1).val = (y 1).val by omega)

/-- The whole stream copied. -/
theorem st16_2b_runs {src : Memref sig .tc .vmem S2048x128 .f32} {dst : Memref sig .tc .vmem S2048x128 .bf16} (hs : Hd c held src) (hd : Hd c held dst)
    (hind : ∀ x X, hs.get (hd.set x X) = hs.get x) (hdst : dst.IsWhole) (x : σ) :
    Runs 𝒱 c bd E held defs (st16_2b src dst hdst) x ⟨⟩ (hd.set x fun y => FloatOps.truncf .bf16 bitsLt_bf16_f32 ((hs.get x) (perm 16 y))) := by
  refine Runs.at_get hd ?_
  have h0 : ∀ y : S2048x128.Idx, (y 0).val < 0 → hd.get x y = FloatOps.truncf .bf16 bitsLt_bf16_f32 ((hs.get x) (perm 16 y)) := fun y h => absurd h (Nat.not_lt_zero _)
  generalize hd.get x = X0 at h0 ⊢
  obtain ⟨X1, r0, h1⟩ := cp16_2b_step (𝒱 := 𝒱) (bd := bd) (E := E) (defs := defs) hs hd hind 0 0 (by decide) rfl inb_S2048x128_S128x128_0_0_s_16_1 inb_S2048x128_S128x128_0_0 (View.stores_vmem h_S128x128 (hdst.storeExact_slice rfl _ packedbf16_S2048x128_S128x128_0_0) (fun _ => rfl)) x X0 h0
  obtain ⟨X2, r1, h2⟩ := cp16_2b_step (𝒱 := 𝒱) (bd := bd) (E := E) (defs := defs) hs hd hind 1 128 (by decide) rfl inb_S2048x128_S128x128_1_0_s_16_1 inb_S2048x128_S128x128_128_0 (View.stores_vmem h_S128x128 (hdst.storeExact_slice rfl _ packedbf16_S2048x128_S128x128_128_0) (fun _ => rfl)) x X1 h1
  obtain ⟨X3, r2, h3⟩ := cp16_2b_step (𝒱 := 𝒱) (bd := bd) (E := E) (defs := defs) hs hd hind 2 256 (by decide) rfl inb_S2048x128_S128x128_2_0_s_16_1 inb_S2048x128_S128x128_256_0 (View.stores_vmem h_S128x128 (hdst.storeExact_slice rfl _ packedbf16_S2048x128_S128x128_256_0) (fun _ => rfl)) x X2 h2
  obtain ⟨X4, r3, h4⟩ := cp16_2b_step (𝒱 := 𝒱) (bd := bd) (E := E) (defs := defs) hs hd hind 3 384 (by decide) rfl inb_S2048x128_S128x128_3_0_s_16_1 inb_S2048x128_S128x128_384_0 (View.stores_vmem h_S128x128 (hdst.storeExact_slice rfl _ packedbf16_S2048x128_S128x128_384_0) (fun _ => rfl)) x X3 h3
  obtain ⟨X5, r4, h5⟩ := cp16_2b_step (𝒱 := 𝒱) (bd := bd) (E := E) (defs := defs) hs hd hind 4 512 (by decide) rfl inb_S2048x128_S128x128_4_0_s_16_1 inb_S2048x128_S128x128_512_0 (View.stores_vmem h_S128x128 (hdst.storeExact_slice rfl _ packedbf16_S2048x128_S128x128_512_0) (fun _ => rfl)) x X4 h4
  obtain ⟨X6, r5, h6⟩ := cp16_2b_step (𝒱 := 𝒱) (bd := bd) (E := E) (defs := defs) hs hd hind 5 640 (by decide) rfl inb_S2048x128_S128x128_5_0_s_16_1 inb_S2048x128_S128x128_640_0 (View.stores_vmem h_S128x128 (hdst.storeExact_slice rfl _ packedbf16_S2048x128_S128x128_640_0) (fun _ => rfl)) x X5 h5
  obtain ⟨X7, r6, h7⟩ := cp16_2b_step (𝒱 := 𝒱) (bd := bd) (E := E) (defs := defs) hs hd hind 6 768 (by decide) rfl inb_S2048x128_S128x128_6_0_s_16_1 inb_S2048x128_S128x128_768_0 (View.stores_vmem h_S128x128 (hdst.storeExact_slice rfl _ packedbf16_S2048x128_S128x128_768_0) (fun _ => rfl)) x X6 h6
  obtain ⟨X8, r7, h8⟩ := cp16_2b_step (𝒱 := 𝒱) (bd := bd) (E := E) (defs := defs) hs hd hind 7 896 (by decide) rfl inb_S2048x128_S128x128_7_0_s_16_1 inb_S2048x128_S128x128_896_0 (View.stores_vmem h_S128x128 (hdst.storeExact_slice rfl _ packedbf16_S2048x128_S128x128_896_0) (fun _ => rfl)) x X7 h7
  obtain ⟨X9, r8, h9⟩ := cp16_2b_step (𝒱 := 𝒱) (bd := bd) (E := E) (defs := defs) hs hd hind 8 1024 (by decide) rfl inb_S2048x128_S128x128_8_0_s_16_1 inb_S2048x128_S128x128_1024_0 (View.stores_vmem h_S128x128 (hdst.storeExact_slice rfl _ packedbf16_S2048x128_S128x128_1024_0) (fun _ => rfl)) x X8 h8
  obtain ⟨X10, r9, h10⟩ := cp16_2b_step (𝒱 := 𝒱) (bd := bd) (E := E) (defs := defs) hs hd hind 9 1152 (by decide) rfl inb_S2048x128_S128x128_9_0_s_16_1 inb_S2048x128_S128x128_1152_0 (View.stores_vmem h_S128x128 (hdst.storeExact_slice rfl _ packedbf16_S2048x128_S128x128_1152_0) (fun _ => rfl)) x X9 h9
  obtain ⟨X11, r10, h11⟩ := cp16_2b_step (𝒱 := 𝒱) (bd := bd) (E := E) (defs := defs) hs hd hind 10 1280 (by decide) rfl inb_S2048x128_S128x128_10_0_s_16_1 inb_S2048x128_S128x128_1280_0 (View.stores_vmem h_S128x128 (hdst.storeExact_slice rfl _ packedbf16_S2048x128_S128x128_1280_0) (fun _ => rfl)) x X10 h10
  obtain ⟨X12, r11, h12⟩ := cp16_2b_step (𝒱 := 𝒱) (bd := bd) (E := E) (defs := defs) hs hd hind 11 1408 (by decide) rfl inb_S2048x128_S128x128_11_0_s_16_1 inb_S2048x128_S128x128_1408_0 (View.stores_vmem h_S128x128 (hdst.storeExact_slice rfl _ packedbf16_S2048x128_S128x128_1408_0) (fun _ => rfl)) x X11 h11
  obtain ⟨X13, r12, h13⟩ := cp16_2b_step (𝒱 := 𝒱) (bd := bd) (E := E) (defs := defs) hs hd hind 12 1536 (by decide) rfl inb_S2048x128_S128x128_12_0_s_16_1 inb_S2048x128_S128x128_1536_0 (View.stores_vmem h_S128x128 (hdst.storeExact_slice rfl _ packedbf16_S2048x128_S128x128_1536_0) (fun _ => rfl)) x X12 h12
  obtain ⟨X14, r13, h14⟩ := cp16_2b_step (𝒱 := 𝒱) (bd := bd) (E := E) (defs := defs) hs hd hind 13 1664 (by decide) rfl inb_S2048x128_S128x128_13_0_s_16_1 inb_S2048x128_S128x128_1664_0 (View.stores_vmem h_S128x128 (hdst.storeExact_slice rfl _ packedbf16_S2048x128_S128x128_1664_0) (fun _ => rfl)) x X13 h13
  obtain ⟨X15, r14, h15⟩ := cp16_2b_step (𝒱 := 𝒱) (bd := bd) (E := E) (defs := defs) hs hd hind 14 1792 (by decide) rfl inb_S2048x128_S128x128_14_0_s_16_1 inb_S2048x128_S128x128_1792_0 (View.stores_vmem h_S128x128 (hdst.storeExact_slice rfl _ packedbf16_S2048x128_S128x128_1792_0) (fun _ => rfl)) x X14 h14
  obtain ⟨X16, r15, h16⟩ := cp16_2b_step (𝒱 := 𝒱) (bd := bd) (E := E) (defs := defs) hs hd hind 15 1920 (by decide) rfl inb_S2048x128_S128x128_15_0_s_16_1 inb_S2048x128_S128x128_1920_0 (View.stores_vmem h_S128x128 (hdst.storeExact_slice rfl _ packedbf16_S2048x128_S128x128_1920_0) (fun _ => rfl)) x X15 h15
  have e : X16 = fun y => FloatOps.truncf .bf16 bitsLt_bf16_f32 ((hs.get x) (perm 16 y)) := funext fun y => h16 y (show (y 0).val < 2048 from (y 0).isLt)
  subst e
  exact r0.bind <| r1.bind <| r2.bind <| r3.bind <| r4.bind <| r5.bind <| r6.bind <| r7.bind <| r8.bind <| r9.bind <| r10.bind <| r11.bind <| r12.bind <| r13.bind <| r14.bind <| r15

/-- One segment copied: the rows below it stay, its own rows are the stream's. -/
theorem cp16_2f_step {src : Memref sig .tc .vmem S2048x128 .f32} {dst : Memref sig .tc .vmem S2048x128 .f32} (hs : Hd c held src) (hd : Hd c held dst)
    (hind : ∀ x X, hs.get (hd.set x X) = hs.get x) (r o : Nat) (hr' : r < 16) (ho' : o = 128 * r)
    (hr : ∀ a, S128x128.size a = 0 ∨ (![r, 0] : Fin 2 → Nat) a + (![16, 1] : Fin 2 → Nat) a * (S128x128.size a - 1) < S2048x128.size a)
    (ho : ∀ a, (![o, 0] : Fin 2 → Nat) a + S128x128.size a ≤ S2048x128.size a)
    (x : σ) (X : S2048x128.Idx → Elt F .f32)
    (hX : ∀ y : S2048x128.Idx, (y 0).val < o → X y = (hs.get x) (perm 16 y)) :
    ∃ X' : S2048x128.Idx → Elt F .f32, Runs 𝒱 c bd E held defs (cp16_2f src dst r o hr ho) (hd.set x X) ⟨⟩ (hd.set x X')
      ∧ ∀ y : S2048x128.Idx, (y 0).val < o + 128 → X' y = (hs.get x) (perm 16 y) := by
  refine ⟨_, (Runs.load hs _ _ _).bind ((Runs.load hd _ _ _).bind (Runs.store_set hd _ _ _ _ x X)), fun y hy => ?_⟩
  by_cases hlt : (y 0).val < o
  · rw [putR_miss_unit _ _ _ _ _ y (0 : Fin 2) (Or.inl (by simpa using hlt))]
    exact hX y hlt
  · have h1 : (y 1).val < 128 := (y 1).isLt
    have h0 : (y 0).val < 2048 := (y 0).isLt
    rw [putR_hit _ _ _ y (Shape.pair (d := ![128, 128]) ⟨(y 0).val - o, show (y 0).val - o < 128 by omega⟩ (y 1))
      (fun a => by match a with | ⟨0, _⟩ => exact (show o + 1 * ((y 0).val - o) = (y 0).val by omega) | ⟨1, _⟩ => exact (show 0 + 1 * (y 1).val = (y 1).val by omega))]
    rw [shapeCast_self]
    simp only [hind]
    refine congrArg _ (funext fun a => Fin.ext ?_)
    match a with
    | ⟨0, _⟩ => exact (show r + 16 * ((y 0).val - o) = ((y 0).val % 128 * 16 + (y 0).val / 128) % 2048 by
        have hq : (y 0).val / 128 = r := by omega
        have hm : (y 0).val % 128 = (y 0).val - o := by omega
        rw [hq, hm]; omega)
    | ⟨1, _⟩ => exact (show 0 + 1 * (y 1).val = (y 1).val by omega)

/-- The whole stream copied. -/
theorem st16_2f_runs {src : Memref sig .tc .vmem S2048x128 .f32} {dst : Memref sig .tc .vmem S2048x128 .f32} (hs : Hd c held src) (hd : Hd c held dst)
    (hind : ∀ x X, hs.get (hd.set x X) = hs.get x) (x : σ) :
    Runs 𝒱 c bd E held defs (st16_2f src dst) x ⟨⟩ (hd.set x fun y => (hs.get x) (perm 16 y)) := by
  refine Runs.at_get hd ?_
  have h0 : ∀ y : S2048x128.Idx, (y 0).val < 0 → hd.get x y = (hs.get x) (perm 16 y) := fun y h => absurd h (Nat.not_lt_zero _)
  generalize hd.get x = X0 at h0 ⊢
  obtain ⟨X1, r0, h1⟩ := cp16_2f_step (𝒱 := 𝒱) (bd := bd) (E := E) (defs := defs) hs hd hind 0 0 (by decide) rfl inb_S2048x128_S128x128_0_0_s_16_1 inb_S2048x128_S128x128_0_0 x X0 h0
  obtain ⟨X2, r1, h2⟩ := cp16_2f_step (𝒱 := 𝒱) (bd := bd) (E := E) (defs := defs) hs hd hind 1 128 (by decide) rfl inb_S2048x128_S128x128_1_0_s_16_1 inb_S2048x128_S128x128_128_0 x X1 h1
  obtain ⟨X3, r2, h3⟩ := cp16_2f_step (𝒱 := 𝒱) (bd := bd) (E := E) (defs := defs) hs hd hind 2 256 (by decide) rfl inb_S2048x128_S128x128_2_0_s_16_1 inb_S2048x128_S128x128_256_0 x X2 h2
  obtain ⟨X4, r3, h4⟩ := cp16_2f_step (𝒱 := 𝒱) (bd := bd) (E := E) (defs := defs) hs hd hind 3 384 (by decide) rfl inb_S2048x128_S128x128_3_0_s_16_1 inb_S2048x128_S128x128_384_0 x X3 h3
  obtain ⟨X5, r4, h5⟩ := cp16_2f_step (𝒱 := 𝒱) (bd := bd) (E := E) (defs := defs) hs hd hind 4 512 (by decide) rfl inb_S2048x128_S128x128_4_0_s_16_1 inb_S2048x128_S128x128_512_0 x X4 h4
  obtain ⟨X6, r5, h6⟩ := cp16_2f_step (𝒱 := 𝒱) (bd := bd) (E := E) (defs := defs) hs hd hind 5 640 (by decide) rfl inb_S2048x128_S128x128_5_0_s_16_1 inb_S2048x128_S128x128_640_0 x X5 h5
  obtain ⟨X7, r6, h7⟩ := cp16_2f_step (𝒱 := 𝒱) (bd := bd) (E := E) (defs := defs) hs hd hind 6 768 (by decide) rfl inb_S2048x128_S128x128_6_0_s_16_1 inb_S2048x128_S128x128_768_0 x X6 h6
  obtain ⟨X8, r7, h8⟩ := cp16_2f_step (𝒱 := 𝒱) (bd := bd) (E := E) (defs := defs) hs hd hind 7 896 (by decide) rfl inb_S2048x128_S128x128_7_0_s_16_1 inb_S2048x128_S128x128_896_0 x X7 h7
  obtain ⟨X9, r8, h9⟩ := cp16_2f_step (𝒱 := 𝒱) (bd := bd) (E := E) (defs := defs) hs hd hind 8 1024 (by decide) rfl inb_S2048x128_S128x128_8_0_s_16_1 inb_S2048x128_S128x128_1024_0 x X8 h8
  obtain ⟨X10, r9, h10⟩ := cp16_2f_step (𝒱 := 𝒱) (bd := bd) (E := E) (defs := defs) hs hd hind 9 1152 (by decide) rfl inb_S2048x128_S128x128_9_0_s_16_1 inb_S2048x128_S128x128_1152_0 x X9 h9
  obtain ⟨X11, r10, h11⟩ := cp16_2f_step (𝒱 := 𝒱) (bd := bd) (E := E) (defs := defs) hs hd hind 10 1280 (by decide) rfl inb_S2048x128_S128x128_10_0_s_16_1 inb_S2048x128_S128x128_1280_0 x X10 h10
  obtain ⟨X12, r11, h12⟩ := cp16_2f_step (𝒱 := 𝒱) (bd := bd) (E := E) (defs := defs) hs hd hind 11 1408 (by decide) rfl inb_S2048x128_S128x128_11_0_s_16_1 inb_S2048x128_S128x128_1408_0 x X11 h11
  obtain ⟨X13, r12, h13⟩ := cp16_2f_step (𝒱 := 𝒱) (bd := bd) (E := E) (defs := defs) hs hd hind 12 1536 (by decide) rfl inb_S2048x128_S128x128_12_0_s_16_1 inb_S2048x128_S128x128_1536_0 x X12 h12
  obtain ⟨X14, r13, h14⟩ := cp16_2f_step (𝒱 := 𝒱) (bd := bd) (E := E) (defs := defs) hs hd hind 13 1664 (by decide) rfl inb_S2048x128_S128x128_13_0_s_16_1 inb_S2048x128_S128x128_1664_0 x X13 h13
  obtain ⟨X15, r14, h15⟩ := cp16_2f_step (𝒱 := 𝒱) (bd := bd) (E := E) (defs := defs) hs hd hind 14 1792 (by decide) rfl inb_S2048x128_S128x128_14_0_s_16_1 inb_S2048x128_S128x128_1792_0 x X14 h14
  obtain ⟨X16, r15, h16⟩ := cp16_2f_step (𝒱 := 𝒱) (bd := bd) (E := E) (defs := defs) hs hd hind 15 1920 (by decide) rfl inb_S2048x128_S128x128_15_0_s_16_1 inb_S2048x128_S128x128_1920_0 x X15 h15
  have e : X16 = fun y => (hs.get x) (perm 16 y) := funext fun y => h16 y (show (y 0).val < 2048 from (y 0).isLt)
  subst e
  exact r0.bind <| r1.bind <| r2.bind <| r3.bind <| r4.bind <| r5.bind <| r6.bind <| r7.bind <| r8.bind <| r9.bind <| r10.bind <| r11.bind <| r12.bind <| r13.bind <| r14.bind <| r15

/-- The stream whose rows are read through a cast to their own shape is the same copy. -/
theorem st16_2g_eq (src : Memref sig .tc .vmem S2048x128 .f32) (dst : Memref sig .tc .vmem S2048x128 .f32) :
    st16_2g (F := F) src dst = st16_2f src dst := by
  simp only [st16_2g, st16_2f, cp16_2g, cp16_2f, shapeCast_self]

/-- The whole stream copied through the cast. -/
theorem st16_2g_runs {src : Memref sig .tc .vmem S2048x128 .f32} {dst : Memref sig .tc .vmem S2048x128 .f32} (hs : Hd c held src) (hd : Hd c held dst)
    (hind : ∀ x X, hs.get (hd.set x X) = hs.get x) (x : σ) :
    Runs 𝒱 c bd E held defs (st16_2g src dst) x ⟨⟩ (hd.set x fun y => (hs.get x) (perm 16 y)) := by
  rw [st16_2g_eq]
  exact st16_2f_runs hs hd hind x

/-- One segment's part added at its strided rows. -/
theorem ac16_2048_step {acc part : Memref sig .tc .vmem S2048x128 .f32} (ha : Hd c held acc) (hp : Hd c held part)
    (hind : ∀ x X, hp.get (ha.set x X) = hp.get x) (r o : Nat) (hr' : r < 16) (ho' : o = 128 * r)
    (hr : ∀ a, S128x128.size a = 0 ∨ (![r, 0] : Fin 2 → Nat) a + (![16, 1] : Fin 2 → Nat) a * (S128x128.size a - 1) < S2048x128.size a)
    (ho : ∀ a, (![o, 0] : Fin 2 → Nat) a + S128x128.size a ≤ S2048x128.size a)
    (x : σ) (A P : S2048x128.Idx → Elt F .f32) (hP : ∀ y, hp.get x y = P y) (X : S2048x128.Idx → Elt F .f32)
    (hX : ∀ y : S2048x128.Idx, X y = if (y 0).val % 16 < r then FloatOps.addf (A y) (P (unperm 16 y)) else A y) :
    ∃ X' : S2048x128.Idx → Elt F .f32, Runs 𝒱 c bd E held defs (ac16_2048 acc part r o hr ho) (ha.set x X) ⟨⟩ (ha.set x X')
      ∧ ∀ y : S2048x128.Idx, X' y = if (y 0).val % 16 < r + 1 then FloatOps.addf (A y) (P (unperm 16 y)) else A y := by
  refine ⟨_, (Runs.load ha _ _ _).bind ((Runs.load hp _ _ _).bind ((Runs.load ha _ _ _).bind (Runs.store_set ha _ _ _ _ x X))), fun y => ?_⟩
  have h1 : (y 1).val < 128 := (y 1).isLt
  have h0 : (y 0).val < 2048 := (y 0).isLt
  by_cases hlt : (y 0).val % 16 = r
  · rw [putR_hit _ _ _ y (Shape.pair (d := ![128, 128]) ⟨(y 0).val / 16, show (y 0).val / 16 < 128 by omega⟩ (y 1))
      (fun a => by match a with | ⟨0, _⟩ => exact (show r + 16 * ((y 0).val / 16) = (y 0).val by omega) | ⟨1, _⟩ => exact (show 0 + 1 * (y 1).val = (y 1).val by omega))]
    rw [shapeCast_self, if_pos (by omega)]
    simp only [hind, ha.get_set]
    refine congrArg₂ FloatOps.addf ?_ ?_
    · refine Eq.trans (congrArg X (funext fun a => Fin.ext ?_)) ((hX y).trans (if_neg (by omega)))
      match a with
    | ⟨0, _⟩ => exact (show r + 16 * ((y 0).val / 16) = (y 0).val by omega) | ⟨1, _⟩ => exact (show 0 + 1 * (y 1).val = (y 1).val by omega)
    · refine Eq.trans (congrArg (hp.get x) (funext fun a => Fin.ext ?_)) (hP (unperm 16 y))
      match a with | ⟨0, _⟩ => exact (show o + 1 * ((y 0).val / 16) = ((y 0).val % 16 * 128 + (y 0).val / 16) % 2048 by omega) | ⟨1, _⟩ => exact (show 0 + 1 * (y 1).val = (y 1).val by omega)
  · rw [putR_miss]
    · rw [hX y]
      by_cases h : (y 0).val % 16 < r
      · rw [if_pos h, if_pos (by omega)]
      · rw [if_neg h, if_neg (by omega)]
    · intro j hj
      have e : r + 16 * (j 0).val = (y 0).val := congrArg (fun z : S2048x128.Idx => (z 0).val) hj
      omega

/-- A dilation's part added: every row gets its own. -/
theorem acc16_2048_runs {acc part : Memref sig .tc .vmem S2048x128 .f32} (ha : Hd c held acc) (hp : Hd c held part)
    (hind : ∀ x X, hp.get (ha.set x X) = hp.get x) (x : σ) (A P : S2048x128.Idx → Elt F .f32) (hA : ∀ y, ha.get x y = A y)
    (hP : ∀ y, hp.get x y = P y) :
    ∃ X' : S2048x128.Idx → Elt F .f32, Runs 𝒱 c bd E held defs (acc16_2048 acc part) x ⟨⟩ (ha.set x X')
      ∧ ∀ y : S2048x128.Idx, X' y = FloatOps.addf (A y) (P (unperm 16 y)) := by
  have h0 : ∀ y : S2048x128.Idx, ha.get x y = if (y 0).val % 16 < 0 then FloatOps.addf (A y) (P (unperm 16 y)) else A y :=
    fun y => (hA y).trans (if_neg (Nat.not_lt_zero _)).symm
  suffices h : ∃ X' : S2048x128.Idx → Elt F .f32, Runs 𝒱 c bd E held defs (acc16_2048 acc part) (ha.set x (ha.get x)) ⟨⟩ (ha.set x X')
      ∧ ∀ y : S2048x128.Idx, X' y = FloatOps.addf (A y) (P (unperm 16 y)) by
    obtain ⟨X', h, h'⟩ := h
    exact ⟨X', Runs.at_get ha h, h'⟩
  generalize ha.get x = X0 at h0 ⊢
  obtain ⟨X1, r0, h1⟩ := ac16_2048_step (𝒱 := 𝒱) (bd := bd) (E := E) (defs := defs) ha hp hind 0 0 (by decide) rfl inb_S2048x128_S128x128_0_0_s_16_1 inb_S2048x128_S128x128_0_0 x A P hP X0 h0
  obtain ⟨X2, r1, h2⟩ := ac16_2048_step (𝒱 := 𝒱) (bd := bd) (E := E) (defs := defs) ha hp hind 1 128 (by decide) rfl inb_S2048x128_S128x128_1_0_s_16_1 inb_S2048x128_S128x128_128_0 x A P hP X1 h1
  obtain ⟨X3, r2, h3⟩ := ac16_2048_step (𝒱 := 𝒱) (bd := bd) (E := E) (defs := defs) ha hp hind 2 256 (by decide) rfl inb_S2048x128_S128x128_2_0_s_16_1 inb_S2048x128_S128x128_256_0 x A P hP X2 h2
  obtain ⟨X4, r3, h4⟩ := ac16_2048_step (𝒱 := 𝒱) (bd := bd) (E := E) (defs := defs) ha hp hind 3 384 (by decide) rfl inb_S2048x128_S128x128_3_0_s_16_1 inb_S2048x128_S128x128_384_0 x A P hP X3 h3
  obtain ⟨X5, r4, h5⟩ := ac16_2048_step (𝒱 := 𝒱) (bd := bd) (E := E) (defs := defs) ha hp hind 4 512 (by decide) rfl inb_S2048x128_S128x128_4_0_s_16_1 inb_S2048x128_S128x128_512_0 x A P hP X4 h4
  obtain ⟨X6, r5, h6⟩ := ac16_2048_step (𝒱 := 𝒱) (bd := bd) (E := E) (defs := defs) ha hp hind 5 640 (by decide) rfl inb_S2048x128_S128x128_5_0_s_16_1 inb_S2048x128_S128x128_640_0 x A P hP X5 h5
  obtain ⟨X7, r6, h7⟩ := ac16_2048_step (𝒱 := 𝒱) (bd := bd) (E := E) (defs := defs) ha hp hind 6 768 (by decide) rfl inb_S2048x128_S128x128_6_0_s_16_1 inb_S2048x128_S128x128_768_0 x A P hP X6 h6
  obtain ⟨X8, r7, h8⟩ := ac16_2048_step (𝒱 := 𝒱) (bd := bd) (E := E) (defs := defs) ha hp hind 7 896 (by decide) rfl inb_S2048x128_S128x128_7_0_s_16_1 inb_S2048x128_S128x128_896_0 x A P hP X7 h7
  obtain ⟨X9, r8, h9⟩ := ac16_2048_step (𝒱 := 𝒱) (bd := bd) (E := E) (defs := defs) ha hp hind 8 1024 (by decide) rfl inb_S2048x128_S128x128_8_0_s_16_1 inb_S2048x128_S128x128_1024_0 x A P hP X8 h8
  obtain ⟨X10, r9, h10⟩ := ac16_2048_step (𝒱 := 𝒱) (bd := bd) (E := E) (defs := defs) ha hp hind 9 1152 (by decide) rfl inb_S2048x128_S128x128_9_0_s_16_1 inb_S2048x128_S128x128_1152_0 x A P hP X9 h9
  obtain ⟨X11, r10, h11⟩ := ac16_2048_step (𝒱 := 𝒱) (bd := bd) (E := E) (defs := defs) ha hp hind 10 1280 (by decide) rfl inb_S2048x128_S128x128_10_0_s_16_1 inb_S2048x128_S128x128_1280_0 x A P hP X10 h10
  obtain ⟨X12, r11, h12⟩ := ac16_2048_step (𝒱 := 𝒱) (bd := bd) (E := E) (defs := defs) ha hp hind 11 1408 (by decide) rfl inb_S2048x128_S128x128_11_0_s_16_1 inb_S2048x128_S128x128_1408_0 x A P hP X11 h11
  obtain ⟨X13, r12, h13⟩ := ac16_2048_step (𝒱 := 𝒱) (bd := bd) (E := E) (defs := defs) ha hp hind 12 1536 (by decide) rfl inb_S2048x128_S128x128_12_0_s_16_1 inb_S2048x128_S128x128_1536_0 x A P hP X12 h12
  obtain ⟨X14, r13, h14⟩ := ac16_2048_step (𝒱 := 𝒱) (bd := bd) (E := E) (defs := defs) ha hp hind 13 1664 (by decide) rfl inb_S2048x128_S128x128_13_0_s_16_1 inb_S2048x128_S128x128_1664_0 x A P hP X13 h13
  obtain ⟨X15, r14, h15⟩ := ac16_2048_step (𝒱 := 𝒱) (bd := bd) (E := E) (defs := defs) ha hp hind 14 1792 (by decide) rfl inb_S2048x128_S128x128_14_0_s_16_1 inb_S2048x128_S128x128_1792_0 x A P hP X14 h14
  obtain ⟨X16, r15, h16⟩ := ac16_2048_step (𝒱 := 𝒱) (bd := bd) (E := E) (defs := defs) ha hp hind 15 1920 (by decide) rfl inb_S2048x128_S128x128_15_0_s_16_1 inb_S2048x128_S128x128_1920_0 x A P hP X15 h15
  exact ⟨X16, r0.bind <| r1.bind <| r2.bind <| r3.bind <| r4.bind <| r5.bind <| r6.bind <| r7.bind <| r8.bind <| r9.bind <| r10.bind <| r11.bind <| r12.bind <| r13.bind <| r14.bind <| r15, fun y => (h16 y).trans (if_pos (Nat.mod_lt _ (by decide)))⟩

/-- One segment's part added at its strided rows. -/
theorem ac16_2176_step {acc part : Memref sig .tc .vmem S2176x128 .f32} (ha : Hd c held acc) (hp : Hd c held part)
    (hind : ∀ x X, hp.get (ha.set x X) = hp.get x) (r o : Nat) (hr' : r < 16) (ho' : o = 128 * r)
    (hr : ∀ a, S128x128.size a = 0 ∨ (![r, 0] : Fin 2 → Nat) a + (![16, 1] : Fin 2 → Nat) a * (S128x128.size a - 1) < S2176x128.size a)
    (ho : ∀ a, (![o, 0] : Fin 2 → Nat) a + S128x128.size a ≤ S2176x128.size a)
    (x : σ) (A P : S2048x128.Idx → Elt F .f32) (hP : ∀ y, hp.get x (wide y) = P y) (X : S2176x128.Idx → Elt F .f32)
    (hX : ∀ y : S2048x128.Idx, X (wide y) = if (y 0).val % 16 < r then FloatOps.addf (A y) (P (unperm 16 y)) else A y) :
    ∃ X' : S2176x128.Idx → Elt F .f32, Runs 𝒱 c bd E held defs (ac16_2176 acc part r o hr ho) (ha.set x X) ⟨⟩ (ha.set x X')
      ∧ ∀ y : S2048x128.Idx, X' (wide y) = if (y 0).val % 16 < r + 1 then FloatOps.addf (A y) (P (unperm 16 y)) else A y := by
  refine ⟨_, (Runs.load ha _ _ _).bind ((Runs.load hp _ _ _).bind ((Runs.load ha _ _ _).bind (Runs.store_set ha _ _ _ _ x X))), fun y => ?_⟩
  have h1 : (y 1).val < 128 := (y 1).isLt
  have h0 : (y 0).val < 2048 := (y 0).isLt
  by_cases hlt : (y 0).val % 16 = r
  · rw [putR_hit _ _ _ (wide y) (Shape.pair (d := ![128, 128]) ⟨(y 0).val / 16, show (y 0).val / 16 < 128 by omega⟩ (y 1))
      (fun a => by match a with | ⟨0, _⟩ => exact (show r + 16 * ((y 0).val / 16) = (y 0).val by omega) | ⟨1, _⟩ => exact (show 0 + 1 * (y 1).val = (y 1).val by omega))]
    rw [shapeCast_self, if_pos (by omega)]
    simp only [hind, ha.get_set]
    refine congrArg₂ FloatOps.addf ?_ ?_
    · refine Eq.trans (congrArg X (funext fun a => Fin.ext ?_)) ((hX y).trans (if_neg (by omega)))
      match a with
    | ⟨0, _⟩ => exact (show r + 16 * ((y 0).val / 16) = (y 0).val by omega) | ⟨1, _⟩ => exact (show 0 + 1 * (y 1).val = (y 1).val by omega)
    · refine Eq.trans (congrArg (hp.get x) (funext fun a => Fin.ext ?_)) (hP (unperm 16 y))
      match a with | ⟨0, _⟩ => exact (show o + 1 * ((y 0).val / 16) = ((y 0).val % 16 * 128 + (y 0).val / 16) % 2048 by omega) | ⟨1, _⟩ => exact (show 0 + 1 * (y 1).val = (y 1).val by omega)
  · rw [putR_miss]
    · rw [hX y]
      by_cases h : (y 0).val % 16 < r
      · rw [if_pos h, if_pos (by omega)]
      · rw [if_neg h, if_neg (by omega)]
    · intro j hj
      have e : r + 16 * (j 0).val = (y 0).val := congrArg (fun z : S2176x128.Idx => (z 0).val) hj
      omega

/-- A dilation's part added: every row gets its own. -/
theorem acc16_2176_runs {acc part : Memref sig .tc .vmem S2176x128 .f32} (ha : Hd c held acc) (hp : Hd c held part)
    (hind : ∀ x X, hp.get (ha.set x X) = hp.get x) (x : σ) (A P : S2048x128.Idx → Elt F .f32) (hA : ∀ y, ha.get x (wide y) = A y)
    (hP : ∀ y, hp.get x (wide y) = P y) :
    ∃ X' : S2176x128.Idx → Elt F .f32, Runs 𝒱 c bd E held defs (acc16_2176 acc part) x ⟨⟩ (ha.set x X')
      ∧ ∀ y : S2048x128.Idx, X' (wide y) = FloatOps.addf (A y) (P (unperm 16 y)) := by
  have h0 : ∀ y : S2048x128.Idx, ha.get x (wide y) = if (y 0).val % 16 < 0 then FloatOps.addf (A y) (P (unperm 16 y)) else A y :=
    fun y => (hA y).trans (if_neg (Nat.not_lt_zero _)).symm
  suffices h : ∃ X' : S2176x128.Idx → Elt F .f32, Runs 𝒱 c bd E held defs (acc16_2176 acc part) (ha.set x (ha.get x)) ⟨⟩ (ha.set x X')
      ∧ ∀ y : S2048x128.Idx, X' (wide y) = FloatOps.addf (A y) (P (unperm 16 y)) by
    obtain ⟨X', h, h'⟩ := h
    exact ⟨X', Runs.at_get ha h, h'⟩
  generalize ha.get x = X0 at h0 ⊢
  obtain ⟨X1, r0, h1⟩ := ac16_2176_step (𝒱 := 𝒱) (bd := bd) (E := E) (defs := defs) ha hp hind 0 0 (by decide) rfl inb_S2176x128_S128x128_0_0_s_16_1 inb_S2176x128_S128x128_0_0 x A P hP X0 h0
  obtain ⟨X2, r1, h2⟩ := ac16_2176_step (𝒱 := 𝒱) (bd := bd) (E := E) (defs := defs) ha hp hind 1 128 (by decide) rfl inb_S2176x128_S128x128_1_0_s_16_1 inb_S2176x128_S128x128_128_0 x A P hP X1 h1
  obtain ⟨X3, r2, h3⟩ := ac16_2176_step (𝒱 := 𝒱) (bd := bd) (E := E) (defs := defs) ha hp hind 2 256 (by decide) rfl inb_S2176x128_S128x128_2_0_s_16_1 inb_S2176x128_S128x128_256_0 x A P hP X2 h2
  obtain ⟨X4, r3, h4⟩ := ac16_2176_step (𝒱 := 𝒱) (bd := bd) (E := E) (defs := defs) ha hp hind 3 384 (by decide) rfl inb_S2176x128_S128x128_3_0_s_16_1 inb_S2176x128_S128x128_384_0 x A P hP X3 h3
  obtain ⟨X5, r4, h5⟩ := ac16_2176_step (𝒱 := 𝒱) (bd := bd) (E := E) (defs := defs) ha hp hind 4 512 (by decide) rfl inb_S2176x128_S128x128_4_0_s_16_1 inb_S2176x128_S128x128_512_0 x A P hP X4 h4
  obtain ⟨X6, r5, h6⟩ := ac16_2176_step (𝒱 := 𝒱) (bd := bd) (E := E) (defs := defs) ha hp hind 5 640 (by decide) rfl inb_S2176x128_S128x128_5_0_s_16_1 inb_S2176x128_S128x128_640_0 x A P hP X5 h5
  obtain ⟨X7, r6, h7⟩ := ac16_2176_step (𝒱 := 𝒱) (bd := bd) (E := E) (defs := defs) ha hp hind 6 768 (by decide) rfl inb_S2176x128_S128x128_6_0_s_16_1 inb_S2176x128_S128x128_768_0 x A P hP X6 h6
  obtain ⟨X8, r7, h8⟩ := ac16_2176_step (𝒱 := 𝒱) (bd := bd) (E := E) (defs := defs) ha hp hind 7 896 (by decide) rfl inb_S2176x128_S128x128_7_0_s_16_1 inb_S2176x128_S128x128_896_0 x A P hP X7 h7
  obtain ⟨X9, r8, h9⟩ := ac16_2176_step (𝒱 := 𝒱) (bd := bd) (E := E) (defs := defs) ha hp hind 8 1024 (by decide) rfl inb_S2176x128_S128x128_8_0_s_16_1 inb_S2176x128_S128x128_1024_0 x A P hP X8 h8
  obtain ⟨X10, r9, h10⟩ := ac16_2176_step (𝒱 := 𝒱) (bd := bd) (E := E) (defs := defs) ha hp hind 9 1152 (by decide) rfl inb_S2176x128_S128x128_9_0_s_16_1 inb_S2176x128_S128x128_1152_0 x A P hP X9 h9
  obtain ⟨X11, r10, h11⟩ := ac16_2176_step (𝒱 := 𝒱) (bd := bd) (E := E) (defs := defs) ha hp hind 10 1280 (by decide) rfl inb_S2176x128_S128x128_10_0_s_16_1 inb_S2176x128_S128x128_1280_0 x A P hP X10 h10
  obtain ⟨X12, r11, h12⟩ := ac16_2176_step (𝒱 := 𝒱) (bd := bd) (E := E) (defs := defs) ha hp hind 11 1408 (by decide) rfl inb_S2176x128_S128x128_11_0_s_16_1 inb_S2176x128_S128x128_1408_0 x A P hP X11 h11
  obtain ⟨X13, r12, h13⟩ := ac16_2176_step (𝒱 := 𝒱) (bd := bd) (E := E) (defs := defs) ha hp hind 12 1536 (by decide) rfl inb_S2176x128_S128x128_12_0_s_16_1 inb_S2176x128_S128x128_1536_0 x A P hP X12 h12
  obtain ⟨X14, r13, h14⟩ := ac16_2176_step (𝒱 := 𝒱) (bd := bd) (E := E) (defs := defs) ha hp hind 13 1664 (by decide) rfl inb_S2176x128_S128x128_13_0_s_16_1 inb_S2176x128_S128x128_1664_0 x A P hP X13 h13
  obtain ⟨X15, r14, h15⟩ := ac16_2176_step (𝒱 := 𝒱) (bd := bd) (E := E) (defs := defs) ha hp hind 14 1792 (by decide) rfl inb_S2176x128_S128x128_14_0_s_16_1 inb_S2176x128_S128x128_1792_0 x A P hP X14 h14
  obtain ⟨X16, r15, h16⟩ := ac16_2176_step (𝒱 := 𝒱) (bd := bd) (E := E) (defs := defs) ha hp hind 15 1920 (by decide) rfl inb_S2176x128_S128x128_15_0_s_16_1 inb_S2176x128_S128x128_1920_0 x A P hP X15 h15
  exact ⟨X16, r0.bind <| r1.bind <| r2.bind <| r3.bind <| r4.bind <| r5.bind <| r6.bind <| r7.bind <| r8.bind <| r9.bind <| r10.bind <| r11.bind <| r12.bind <| r13.bind <| r14.bind <| r15, fun y => (h16 y).trans (if_pos (Nat.mod_lt _ (by decide)))⟩

end Cert.AttnBwd

end
-- ==== Proof.Model.lean ====
/-
  What the attention backward body computes, as a function of its operands' contents: the gradients of a block's queries and of
  its window's keys and values, put together over the blocks of a dilation and over the dilations.
-/
module

public import proofs.«01_k».proof.Proof.Steps

@[expose] public section

noncomputable section

namespace Cert.AttnBwd

open Idealize.ShloMosaic Idealize.ShloMosaic.TcCoe
open Cert.KernelIdeal Cert.Mem
open Facts₀ Facts

variable {F : FTy → Type} [FloatOps F] [Facts]

/-- The rows of block `b`. -/
def rows {α : Type} (X : S2048x128.Idx → α) (b : Nat) : S128x128.Idx → α := fun j =>
  X (Shape.pair (d := ![2048, 128]) ⟨(128 * b + (j 0).val) % 2048, Nat.mod_lt _ (by decide)⟩ (j 1))

/-- The rows of the block before and of the block itself. -/
def window {α : Type} (X : S2048x128.Idx → α) (b : Nat) : S256x128.Idx → α :=
  concatenate S256x128 0 [⟨S128x128, rows X (b - 1)⟩, ⟨S128x128, rows X b⟩] concatenates_S128x128_S128x128_S256x128_d0

/-- The streams of one dilation: queries, keys, values and the output's cotangent, rounded; the scores' log-sums and the row sums. -/
structure Streams (F : FTy → Type) where
  q : S2048x128.Idx → F .bf16
  k : S2048x128.Idx → F .bf16
  v : S2048x128.Idx → F .bf16
  dy : S2048x128.Idx → F .bf16
  lse : S2048x128.Idx → F .f32
  dl : S2048x128.Idx → F .f32

section Block
variable (bias : FVec F S128x256 .f32) (nblk : BitVec 32) (S : Streams F)

/-- Block `t`'s gradient of its queries, -/
def dqB (t : Nat) : FVec F S128x128 .f32 :=
  blkDq jjV bandV bias (firstOf nblk t) (rows S.q t) (rows S.dy t) (rows S.lse t) (rows S.dl t) (window S.k t) (window S.v t)
/-- of its window's keys, -/
def dkB (t : Nat) : FVec F S256x128 .f32 :=
  blkDk jjV bandV bias (firstOf nblk t) (rows S.q t) (rows S.dy t) (rows S.lse t) (rows S.dl t) (window S.k t) (window S.v t)
/-- and of its window's values. -/
def dvB (t : Nat) : FVec F S256x128 .f32 :=
  blkDv jjV bandV bias (firstOf nblk t) (rows S.q t) (rows S.dy t) (rows S.lse t) (window S.k t)

end Block

/-- The carry into block `t`: the upper half of the block before. -/
def carry (D : Nat → FVec F S256x128 .f32) : Nat → FVec F S128x128 .f32
  | 0 => zeroV
  | t + 1 => hi (D t)

/-- Block `t` of a sum over windows: the block's own upper half and the next block's lower half. -/
def joined (D : Nat → FVec F S256x128 .f32) (t : Nat) : FVec F S128x128 .f32 :=
  if t < 15 then addf (carry D (t + 1)) (lo (D (t + 1))) else carry D 16

/-- Blocks put one below the other. -/
def stacked (B : Nat → FVec F S128x128 .f32) : S2048x128.Idx → F .f32 := fun y =>
  B ((y 0).val / 128) (Shape.pair (d := ![128, 128]) ⟨(y 0).val % 128, Nat.mod_lt _ (by decide)⟩ (y 1))

/-- A head's slope. -/
def slopeV (sl : S1x1x128.Idx → F .f32) : FVec F S1x1 .f32 :=
  extractStridedSlice S1x1 ![0, 0] (shapeCast S1x128 sl shapeCasts_S1x1x128_S1x128) slices_S1x128_o0_0_S1x1

/-- A head's operands. -/
structure Ops (F : FTy → Type) where
  q : S1x2048x128.Idx → F .f32
  k : S1x2048x128.Idx → F .f32
  v : S1x2048x128.Idx → F .f32
  sl : S1x1x128.Idx → F .f32
  o : S2048x128.Idx → F .bf16
  lse : S2048x128.Idx → F .f32
  dy : S2048x128.Idx → F .f32

/-- The streams of the first dilation. -/
def streams1 (x : Ops F) : Streams F where
  q y := FloatOps.truncf .bf16 bitsLt_bf16_f32 (sq x.q y)
  k y := FloatOps.truncf .bf16 bitsLt_bf16_f32 (sq x.k y)
  v y := FloatOps.truncf .bf16 bitsLt_bf16_f32 (sq x.v y)
  dy y := FloatOps.truncf .bf16 bitsLt_bf16_f32 (x.dy y)
  lse := x.lse
  dl := deltaV x.dy x.o

/-- The streams of a later dilation. -/
def streams (d : Nat) (x : Ops F) : Streams F where
  q y := FloatOps.truncf .bf16 bitsLt_bf16_f32 (sq x.q (perm d y))
  k y := FloatOps.truncf .bf16 bitsLt_bf16_f32 (sq x.k (perm d y))
  v y := FloatOps.truncf .bf16 bitsLt_bf16_f32 (sq x.v (perm d y))
  dy y := FloatOps.truncf .bf16 bitsLt_bf16_f32 (x.dy (perm d y))
  lse y := x.lse (perm d y)
  dl y := deltaV x.dy x.o (perm d y)

/-- The bias of dilation 1. -/
def bias1 (x : Ops F) : FVec F S128x256 .f32 := biasV (slopeV x.sl) (Scalar.ofBits .f32 0x3F800000#32)
/-- The gradients of the queries, the keys and the values of dilation 1, in the order of its streams. -/
def dq1 (x : Ops F) : S2048x128.Idx → F .f32 := stacked (dqB (bias1 x) 16#32 (streams1 x))
def dk1 (x : Ops F) : S2048x128.Idx → F .f32 := stacked (joined (dkB (bias1 x) 16#32 (streams1 x)))
def dv1 (x : Ops F) : S2048x128.Idx → F .f32 := stacked (joined (dvB (bias1 x) 16#32 (streams1 x)))

/-- The bias of dilation 4. -/
def bias4 (x : Ops F) : FVec F S128x256 .f32 := biasV (slopeV x.sl) (Scalar.ofBits .f32 0x40800000#32)
/-- The gradients of the queries, the keys and the values of dilation 4, in the order of its streams. -/
def dq4 (x : Ops F) : S2048x128.Idx → F .f32 := stacked (dqB (bias4 x) 4#32 (streams 4 x))
def dk4 (x : Ops F) : S2048x128.Idx → F .f32 := stacked (joined (dkB (bias4 x) 4#32 (streams 4 x)))
def dv4 (x : Ops F) : S2048x128.Idx → F .f32 := stacked (joined (dvB (bias4 x) 4#32 (streams 4 x)))

/-- The bias of dilation 16. -/
def bias16 (x : Ops F) : FVec F S128x256 .f32 := biasV (slopeV x.sl) (Scalar.ofBits .f32 0x41800000#32)
/-- The gradients of the queries, the keys and the values of dilation 16, in the order of its streams. -/
def dq16 (x : Ops F) : S2048x128.Idx → F .f32 := stacked (dqB (bias16 x) 1#32 (streams 16 x))
def dk16 (x : Ops F) : S2048x128.Idx → F .f32 := stacked (joined (dkB (bias16 x) 1#32 (streams 16 x)))
def dv16 (x : Ops F) : S2048x128.Idx → F .f32 := stacked (joined (dvB (bias16 x) 1#32 (streams 16 x)))

/-- The gradient of the queries: the dilations' sum. -/
def dqS (x : Ops F) : S2048x128.Idx → F .f32 := fun y =>
  FloatOps.addf (FloatOps.addf (dq1 x y) (dq4 x (unperm 4 y))) (dq16 x (unperm 16 y))

/-- The gradient of the keys: the dilations' sum. -/
def dkS (x : Ops F) : S2048x128.Idx → F .f32 := fun y =>
  FloatOps.addf (FloatOps.addf (dk1 x y) (dk4 x (unperm 4 y))) (dk16 x (unperm 16 y))

/-- The gradient of the values: the dilations' sum. -/
def dvS (x : Ops F) : S2048x128.Idx → F .f32 := fun y =>
  FloatOps.addf (FloatOps.addf (dv1 x y) (dv4 x (unperm 4 y))) (dv16 x (unperm 16 y))

/-- A place of the result, its slot dropped. -/
def inSlot (z : S3x2048x128.Idx) : S2048x128.Idx := Shape.pair (d := ![2048, 128]) (z 1) (z 2)

/-- The result of one head: the three gradients, rounded. -/
def outM (x : Ops F) : S3x2048x128.Idx → F .bf16 := fun z =>
  FloatOps.truncf .bf16 bitsLt_bf16_f32
    (if (z 0).val = 0 then dqS x (inSlot z) else if (z 0).val = 1 then dkS x (inSlot z) else dvS x (inSlot z))

end Cert.AttnBwd

end
-- ==== Proof.State.lean ====
/-
  The contents of the attention backward body's twenty-one buffers, each with its handle.
-/
module

public import proofs.«01_k».proof.Proof.Model

@[expose] public section

noncomputable section

namespace Cert.AttnBwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.Mem
open Facts₀ Facts

variable {F : FTy → Type} [FloatOps F] [Facts]
variable {Ix : Type} [DecidableEq Ix] {Name : Type} [DecidableEq Name] {U : Type} [URA U] {Lvl : Type} [Preorder Lvl]

/-- The buffers' contents. -/
structure St (F : FTy → Type) where
  a1 : S1x2048x128.Idx → Elt F .f32
  a2 : S1x2048x128.Idx → Elt F .f32
  a3 : S1x2048x128.Idx → Elt F .f32
  a4 : S1x1x128.Idx → Elt F .f32
  a5 : S2048x128.Idx → Elt F .bf16
  a6 : S2048x128.Idx → Elt F .f32
  a7 : S2048x128.Idx → Elt F .f32
  a8 : S3x2048x128.Idx → Elt F .bf16
  a9 : S2048x128.Idx → Elt F .bf16
  a10 : S2048x128.Idx → Elt F .bf16
  a11 : S2048x128.Idx → Elt F .bf16
  a12 : S2048x128.Idx → Elt F .bf16
  a13 : S2048x128.Idx → Elt F .f32
  a14 : S2048x128.Idx → Elt F .f32
  a15 : S2048x128.Idx → Elt F .f32
  a16 : S2048x128.Idx → Elt F .f32
  a17 : S2176x128.Idx → Elt F .f32
  a18 : S2176x128.Idx → Elt F .f32
  a19 : S2048x128.Idx → Elt F .f32
  a20 : S2176x128.Idx → Elt F .f32
  a21 : S2176x128.Idx → Elt F .f32

variable (arg1 : Memref sig .tc .vmem S1x2048x128 .f32)
variable (arg2 : Memref sig .tc .vmem S1x2048x128 .f32)
variable (arg3 : Memref sig .tc .vmem S1x2048x128 .f32)
variable (arg4 : Memref sig .tc .vmem S1x1x128 .f32)
variable (arg5 : Memref sig .tc .vmem S2048x128 .bf16)
variable (arg6 : Memref sig .tc .vmem S2048x128 .f32)
variable (arg7 : Memref sig .tc .vmem S2048x128 .f32)
variable (arg8 : Memref sig .tc .vmem S3x2048x128 .bf16)
variable (arg9 : Memref sig .tc .vmem S2048x128 .bf16)
variable (arg10 : Memref sig .tc .vmem S2048x128 .bf16)
variable (arg11 : Memref sig .tc .vmem S2048x128 .bf16)
variable (arg12 : Memref sig .tc .vmem S2048x128 .bf16)
variable (arg13 : Memref sig .tc .vmem S2048x128 .f32)
variable (arg14 : Memref sig .tc .vmem S2048x128 .f32)
variable (arg15 : Memref sig .tc .vmem S2048x128 .f32)
variable (arg16 : Memref sig .tc .vmem S2048x128 .f32)
variable (arg17 : Memref sig .tc .vmem S2176x128 .f32)
variable (arg18 : Memref sig .tc .vmem S2176x128 .f32)
variable (arg19 : Memref sig .tc .vmem S2048x128 .f32)
variable (arg20 : Memref sig .tc .vmem S2176x128 .f32)
variable (arg21 : Memref sig .tc .vmem S2176x128 .f32)
variable (c : Dev nD)

/-- Every buffer, held at its contents. -/
def held (x : St F) : sProp (MT nD τ sig Ix (Elt F) Name U Lvl) :=
  iprop(owns (c : Thread nD τ) arg1 fullShare x.a1 ∗ owns (c : Thread nD τ) arg2 fullShare x.a2 ∗ owns (c : Thread nD τ) arg3 fullShare x.a3 ∗ owns (c : Thread nD τ) arg4 fullShare x.a4 ∗ owns (c : Thread nD τ) arg5 fullShare x.a5 ∗ owns (c : Thread nD τ) arg6 fullShare x.a6 ∗ owns (c : Thread nD τ) arg7 fullShare x.a7 ∗ owns (c : Thread nD τ) arg8 fullShare x.a8 ∗ owns (c : Thread nD τ) arg9 fullShare x.a9 ∗ owns (c : Thread nD τ) arg10 fullShare x.a10 ∗ owns (c : Thread nD τ) arg11 fullShare x.a11 ∗ owns (c : Thread nD τ) arg12 fullShare x.a12 ∗ owns (c : Thread nD τ) arg13 fullShare x.a13 ∗ owns (c : Thread nD τ) arg14 fullShare x.a14 ∗ owns (c : Thread nD τ) arg15 fullShare x.a15 ∗ owns (c : Thread nD τ) arg16 fullShare x.a16 ∗ owns (c : Thread nD τ) arg17 fullShare x.a17 ∗ owns (c : Thread nD τ) arg18 fullShare x.a18 ∗ owns (c : Thread nD τ) arg19 fullShare x.a19 ∗ owns (c : Thread nD τ) arg20 fullShare x.a20 ∗ owns (c : Thread nD τ) arg21 fullShare x.a21)

/-- Buffer 1's handle. -/
def hd1 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg1 where
  get x := x.a1
  set x X := { x with a1 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H1]; · iexact H1
    iintro %X H1
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 2's handle. -/
def hd2 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg2 where
  get x := x.a2
  set x X := { x with a2 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H2]; · iexact H2
    iintro %X H2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 3's handle. -/
def hd3 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg3 where
  get x := x.a3
  set x X := { x with a3 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H3]; · iexact H3
    iintro %X H3
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 4's handle. -/
def hd4 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg4 where
  get x := x.a4
  set x X := { x with a4 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H4]; · iexact H4
    iintro %X H4
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 5's handle. -/
def hd5 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg5 where
  get x := x.a5
  set x X := { x with a5 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H5]; · iexact H5
    iintro %X H5
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 6's handle. -/
def hd6 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg6 where
  get x := x.a6
  set x X := { x with a6 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H6]; · iexact H6
    iintro %X H6
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 7's handle. -/
def hd7 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg7 where
  get x := x.a7
  set x X := { x with a7 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H7]; · iexact H7
    iintro %X H7
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 8's handle. -/
def hd8 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg8 where
  get x := x.a8
  set x X := { x with a8 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H8]; · iexact H8
    iintro %X H8
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 9's handle. -/
def hd9 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg9 where
  get x := x.a9
  set x X := { x with a9 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H9]; · iexact H9
    iintro %X H9
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 10's handle. -/
def hd10 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg10 where
  get x := x.a10
  set x X := { x with a10 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H10]; · iexact H10
    iintro %X H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 11's handle. -/
def hd11 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg11 where
  get x := x.a11
  set x X := { x with a11 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H11]; · iexact H11
    iintro %X H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 12's handle. -/
def hd12 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg12 where
  get x := x.a12
  set x X := { x with a12 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H12]; · iexact H12
    iintro %X H12
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 13's handle. -/
def hd13 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg13 where
  get x := x.a13
  set x X := { x with a13 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H13]; · iexact H13
    iintro %X H13
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 14's handle. -/
def hd14 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg14 where
  get x := x.a14
  set x X := { x with a14 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H14]; · iexact H14
    iintro %X H14
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 15's handle. -/
def hd15 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg15 where
  get x := x.a15
  set x X := { x with a15 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H15]; · iexact H15
    iintro %X H15
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 16's handle. -/
def hd16 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg16 where
  get x := x.a16
  set x X := { x with a16 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H16]; · iexact H16
    iintro %X H16
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 17's handle. -/
def hd17 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg17 where
  get x := x.a17
  set x X := { x with a17 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H17]; · iexact H17
    iintro %X H17
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 18's handle. -/
def hd18 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg18 where
  get x := x.a18
  set x X := { x with a18 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H18]; · iexact H18
    iintro %X H18
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 19's handle. -/
def hd19 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg19 where
  get x := x.a19
  set x X := { x with a19 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H19]; · iexact H19
    iintro %X H19
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 20's handle. -/
def hd20 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg20 where
  get x := x.a20
  set x X := { x with a20 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H20]; · iexact H20
    iintro %X H20
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- Buffer 21's handle. -/
def hd21 : Hd c (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) arg21 where
  get x := x.a21
  set x X := { x with a21 := X }
  set_get _ := rfl
  get_set _ _ := rfl
  set_set _ _ _ := rfl
  acc x := by
    unfold held
    iintro ⟨H1, H2, H3, H4, H5, H6, H7, H8, H9, H10, H11, H12, H13, H14, H15, H16, H17, H18, H19, H20, H21⟩
    isplitl [H21]; · iexact H21
    iintro %X H21
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.AttnBwd

end
-- ==== Proof.Blocks.lean ====
/-
  The attention backward body's blocks, run: each block fills its own rows of the gradients, and the loops all of them.
-/
module

public import proofs.«01_k».proof.Proof.State

@[expose] public section

noncomputable section

namespace Cert.AttnBwd

open Idealize.ShloMosaic Idealize.ShloMosaic.TcCoe
open Idealize.SL Idealize.SL.RA Idealize.SL.BI
open Idealize.SL.Sem
open Cert.KernelIdeal Cert.Mem
open Facts₀ Facts

variable {F : FTy → Type} [FloatOps F] [Facts]

section Pure

theorem off1_eq (t : Fin 16) : k0_off1 (BitVec.ofNat 32 t.val) = ![0, 128 * t.val, 0] := by revert t; decide
theorem off2_eq (t : Fin 16) : k0_off2 (BitVec.ofNat 32 t.val) = ![128 * t.val, 0] := by revert t; decide
theorem off3_eq (t : Fin 16) : k0_off3 (BitVec.ofNat 32 t.val) = ![0, 128 * (t.val - 1), 0] := by revert t; decide
theorem off5_eq (t : Fin 16) : k0_off5 (BitVec.ofNat 32 t.val) = ![128 * (t.val - 1), 0] := by revert t; decide
theorem off4_eq (t : Fin 16) : k0_off4 (BitVec.ofNat 32 t.val) = ![128 * (if t.val = 0 then 16 else t.val - 1), 0] := by revert t; decide

/-- A block of rows, loaded. -/
theorem load_rows {α : Type} (X : S2048x128.Idx → α) (off : Fin 2 → Nat) (inb) (b : Nat) (hb : b < 16) (h : off = ![128 * b, 0]) :
    (fun j => X ((Rect.unit (s := S2048x128) off S128x128.size inb).toLoadRect.idx j)) = rows X b := by
  subst h
  funext j
  have h0 : (j 0).val < 128 := (j 0).isLt
  refine congrArg X (funext fun a => Fin.ext ?_)
  match a with
  | ⟨0, _⟩ => exact (show 128 * b + 1 * (j 0).val = (128 * b + (j 0).val) % 2048 by omega)
  | ⟨1, _⟩ => exact (show 0 + 1 * (j 1).val = (j 1).val by omega)

/-- A block of rows of a window's slot, loaded and its slot dropped. -/
theorem load_rows3 {α : Type} (X : S1x2048x128.Idx → α) (off : Fin 3 → Nat) (inb) (b : Nat) (hb : b < 16) (h : off = ![0, 128 * b, 0]) :
    shapeCast S128x128 (fun j => X ((Rect.unit (s := S1x2048x128) off S1x128x128.size inb).toLoadRect.idx j)) shapeCasts_S1x128x128_S128x128
      = rows (sq X) b := by
  subst h
  funext j
  have h0 : (j 0).val < 128 := (j 0).isLt
  refine (shapeCast_dropUnit_apply ![128, 128] _ _ _).trans ?_
  refine congrArg X (funext fun a => Fin.ext ?_)
  match a with
  | ⟨0, _⟩ => rfl
  | ⟨1, _⟩ => exact (show 128 * b + 1 * (j 0).val = (128 * b + (j 0).val) % 2048 by omega)
  | ⟨2, _⟩ => exact (show 0 + 1 * (j 1).val = (j 1).val by omega)

/-- A window rounded is the window of the rounded rows. -/
theorem truncf_window (X : S2048x128.Idx → F .f32) (b : Nat) :
    truncf .bf16 (concatenate S256x128 0 [⟨S128x128, rows X (b - 1)⟩, ⟨S128x128, rows X b⟩] concatenates_S128x128_S128x128_S256x128_d0) bitsLt_bf16_f32
      = window (fun y => FloatOps.truncf .bf16 bitsLt_bf16_f32 (X y)) b := by
  funext j
  have h1 : (j 1).val < 128 := (j 1).isLt
  by_cases h : (j 0).val < 128
  · have e (a : Fin 2) : ((Shape.pair (d := ![128, 128]) ⟨(j 0).val, h⟩ (j 1) : S128x128.Idx) a).val = (j a).val := by
      match a with
      | ⟨0, _⟩ => rfl
      | ⟨1, _⟩ => rfl
    refine (congrArg (FloatOps.truncf .bf16 bitsLt_bf16_f32)
      (concatenate_pair_apply_left (t := S256x128) (s₁ := S128x128) (s₂ := S128x128) 0 (rows X (b - 1)) (rows X b) _ j rfl (Shape.pair (d := ![128, 128]) ⟨(j 0).val, h⟩ (j 1)) e)).trans
      (concatenate_pair_apply_left (t := S256x128) (s₁ := S128x128) (s₂ := S128x128) 0 (rows (fun y => FloatOps.truncf .bf16 bitsLt_bf16_f32 (X y)) (b - 1)) _ _ j rfl
        (Shape.pair (d := ![128, 128]) ⟨(j 0).val, h⟩ (j 1)) e).symm
  · have h0 : (j 0).val < 256 := (j 0).isLt
    have hlt : (j 0).val - 128 < 128 := by omega
    have e (a : Fin 2) (ha : a ≠ 0) : ((Shape.pair (d := ![128, 128]) ⟨(j 0).val - 128, hlt⟩ (j 1) : S128x128.Idx) a).val = (j a).val := by
      match a with
      | ⟨0, _⟩ => exact absurd rfl ha
      | ⟨1, _⟩ => rfl
    have e' : (j 0).val - 128 + 128 = (j 0).val := by omega
    refine (congrArg (FloatOps.truncf .bf16 bitsLt_bf16_f32)
      (concatenate_pair_apply_right (t := S256x128) (s₁ := S128x128) (s₂ := S128x128) 0 (rows X (b - 1)) (rows X b) _ j rfl rfl (Shape.pair (d := ![128, 128]) ⟨(j 0).val - 128, hlt⟩ (j 1)) e e')).trans
      (concatenate_pair_apply_right (t := S256x128) (s₁ := S128x128) (s₂ := S128x128) 0 (rows (fun y => FloatOps.truncf .bf16 bitsLt_bf16_f32 (X y)) (b - 1)) (rows (fun y => FloatOps.truncf .bf16 bitsLt_bf16_f32 (X y)) b) concatenates_S128x128_S128x128_S256x128_d0 j rfl rfl
        (Shape.pair (d := ![128, 128]) ⟨(j 0).val - 128, hlt⟩ (j 1)) e e').symm

/-- A block stored below the blocks before it. -/
theorem put_stacked (B : Nat → FVec F S128x128 .f32) (X : S2048x128.Idx → F .f32) (off : Fin 2 → Nat) (inb) (t : Nat) (ht : t < 16) (h : off = ![128 * t, 0])
    (hX : ∀ y : S2048x128.Idx, (y 0).val < 128 * t → X y = stacked B y) (v : S128x128.Idx → F .f32) (hv : v = B t) (y : S2048x128.Idx)
    (hy : (y 0).val < 128 * (t + 1)) : putR (Rect.unit (s := S2048x128) off S128x128.size inb) v X y = stacked B y := by
  subst h hv
  by_cases hlt : (y 0).val < 128 * t
  · rw [putR_miss_unit _ _ _ _ _ y (0 : Fin 2) (Or.inl hlt)]
    exact hX y hlt
  · have hq : (y 0).val / 128 = t := by omega
    have hm : (y 0).val % 128 = (y 0).val - 128 * t := by omega
    rw [putR_hit _ _ _ y (Shape.pair (d := ![128, 128]) ⟨(y 0).val % 128, Nat.mod_lt _ (by decide)⟩ (y 1)) (fun a => by
      match a with
      | ⟨0, _⟩ => exact (show 128 * t + 1 * ((y 0).val % 128) = (y 0).val by omega)
      | ⟨1, _⟩ => exact (show 0 + 1 * (y 1).val = (y 1).val by omega))]
    unfold stacked
    rw [hq]

/-- The block before joined, stored below the blocks before it; the first store's rows are read by nothing. -/
theorem put_joined (D : Nat → FVec F S256x128 .f32) (X : S2176x128.Idx → F .f32) (off : Fin 2 → Nat) (inb) (t : Nat) (ht : t < 16)
    (h : t ≠ 0 → off = ![128 * (t - 1), 0])
    (hX : ∀ y : S2048x128.Idx, (y 0).val < 128 * (t - 1) → X (wide y) = stacked (joined D) y) (y : S2048x128.Idx)
    (hy : (y 0).val < 128 * t) :
    putR (Rect.unit (s := S2176x128) off S128x128.size inb) (addf (carry D t) (lo (D t))) X (wide y) = stacked (joined D) y := by
  have ht0 : t ≠ 0 := by intro h; subst h; omega
  obtain rfl := h ht0
  have hlt' : (y 0).val < 2048 := (y 0).isLt
  by_cases hlt : (y 0).val < 128 * (t - 1)
  · rw [putR_miss_unit _ _ _ _ _ _ (0 : Fin 2) (Or.inl hlt)]
    exact hX y hlt
  · have hq : (y 0).val / 128 = t - 1 := by omega
    have hm : (y 0).val % 128 = (y 0).val - 128 * (t - 1) := by omega
    rw [putR_hit _ _ _ _ (Shape.pair (d := ![128, 128]) ⟨(y 0).val % 128, Nat.mod_lt _ (by decide)⟩ (y 1)) (fun a => by
      match a with
      | ⟨0, _⟩ => exact (show 128 * (t - 1) + 1 * ((y 0).val % 128) = (y 0).val by omega)
      | ⟨1, _⟩ => exact (show 0 + 1 * (y 1).val = (y 1).val by omega))]
    unfold stacked joined
    rw [hq, if_pos (by omega), show t - 1 + 1 = t by omega]

/-- The last carry stored below all. -/
theorem put_last (D : Nat → FVec F S256x128 .f32) (X : S2176x128.Idx → F .f32) (inb)
    (hX : ∀ y : S2048x128.Idx, (y 0).val < 128 * 15 → X (wide y) = stacked (joined D) y) (y : S2048x128.Idx) :
    putR (Rect.unit (s := S2176x128) ![1920, 0] S128x128.size inb) (carry D 16) X (wide y) = stacked (joined D) y := by
  have hlt' : (y 0).val < 2048 := (y 0).isLt
  by_cases hlt : (y 0).val < 1920
  · rw [putR_miss_unit _ _ _ _ _ _ (0 : Fin 2) (Or.inl hlt)]
    exact hX y hlt
  · have hq : (y 0).val / 128 = 15 := by omega
    rw [putR_hit _ _ _ _ (Shape.pair (d := ![128, 128]) ⟨(y 0).val % 128, Nat.mod_lt _ (by decide)⟩ (y 1)) (fun a => by
      match a with
      | ⟨0, _⟩ => exact (show 1920 + 1 * ((y 0).val % 128) = (y 0).val by omega)
      | ⟨1, _⟩ => exact (show 0 + 1 * (y 1).val = (y 1).val by omega))]
    unfold stacked joined
    rw [hq, if_neg (by omega)]

end Pure

variable {Ix : Type} [DecidableEq Ix] {Name : Type} [DecidableEq Name] {U : Type} [URA U] {Lvl : Type} [Preorder Lvl]
variable {defs : Defs nD τ sig (Elt F) Λ₀} {𝒱 : Variants} {c : Dev nD} {bd : Option 𝒱.V} {E : Set Name}
variable {arg1 : Memref sig .tc .vmem S1x2048x128 .f32}
variable {arg2 : Memref sig .tc .vmem S1x2048x128 .f32}
variable {arg3 : Memref sig .tc .vmem S1x2048x128 .f32}
variable {arg4 : Memref sig .tc .vmem S1x1x128 .f32}
variable {arg5 : Memref sig .tc .vmem S2048x128 .bf16}
variable {arg6 : Memref sig .tc .vmem S2048x128 .f32}
variable {arg7 : Memref sig .tc .vmem S2048x128 .f32}
variable {arg8 : Memref sig .tc .vmem S3x2048x128 .bf16}
variable {arg9 : Memref sig .tc .vmem S2048x128 .bf16}
variable {arg10 : Memref sig .tc .vmem S2048x128 .bf16}
variable {arg11 : Memref sig .tc .vmem S2048x128 .bf16}
variable {arg12 : Memref sig .tc .vmem S2048x128 .bf16}
variable {arg13 : Memref sig .tc .vmem S2048x128 .f32}
variable {arg14 : Memref sig .tc .vmem S2048x128 .f32}
variable {arg15 : Memref sig .tc .vmem S2048x128 .f32}
variable {arg16 : Memref sig .tc .vmem S2048x128 .f32}
variable {arg17 : Memref sig .tc .vmem S2176x128 .f32}
variable {arg18 : Memref sig .tc .vmem S2176x128 .f32}
variable {arg19 : Memref sig .tc .vmem S2048x128 .f32}
variable {arg20 : Memref sig .tc .vmem S2176x128 .f32}
variable {arg21 : Memref sig .tc .vmem S2176x128 .f32}

/-- The first dilation's streams, as the buffers hold them. -/
def strA (x : St F) : Streams F where
  q y := FloatOps.truncf .bf16 bitsLt_bf16_f32 (sq x.a1 y)
  k y := FloatOps.truncf .bf16 bitsLt_bf16_f32 (sq x.a2 y)
  v y := FloatOps.truncf .bf16 bitsLt_bf16_f32 (sq x.a3 y)
  dy y := FloatOps.truncf .bf16 bitsLt_bf16_f32 (x.a7 y)
  lse := x.a6
  dl := x.a15

/-- Block `t`: its own rows of the three gradients are filled, and the carry handed on. -/
theorem blkA_step (bias : FVec F S128x256 .f32) (t : Nat) (ht : t < 16) (x : St F) (X : S2048x128.Idx → Elt F .f32) (Y Z : S2176x128.Idx → Elt F .f32)
    (hX : ∀ y : S2048x128.Idx, (y 0).val < 128 * t → X y = stacked (dqB bias 16#32 (strA x)) y)
    (hY : ∀ y : S2048x128.Idx, (y 0).val < 128 * (t - 1) → Y (wide y) = stacked (joined (dkB bias 16#32 (strA x))) y)
    (hZ : ∀ y : S2048x128.Idx, (y 0).val < 128 * (t - 1) → Z (wide y) = stacked (joined (dvB bias 16#32 (strA x))) y) :
    ∃ (X' : S2048x128.Idx → Elt F .f32) (Y' Z' : S2176x128.Idx → Elt F .f32),
      Runs 𝒱 c bd E (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) defs
        (blkA arg1 arg2 arg3 arg6 arg7 arg15 arg19 arg20 arg21 jjV bandV bias t ht (carry (dkB bias 16#32 (strA x)) t) (carry (dvB bias 16#32 (strA x)) t))
        { x with a19 := X, a20 := Y, a21 := Z } (carry (dkB bias 16#32 (strA x)) (t + 1), carry (dvB bias 16#32 (strA x)) (t + 1)) { x with a19 := X', a20 := Y', a21 := Z' }
      ∧ (∀ y : S2048x128.Idx, (y 0).val < 128 * (t + 1) → X' y = stacked (dqB bias 16#32 (strA x)) y)
      ∧ (∀ y : S2048x128.Idx, (y 0).val < 128 * t → Y' (wide y) = stacked (joined (dkB bias 16#32 (strA x))) y)
      ∧ (∀ y : S2048x128.Idx, (y 0).val < 128 * t → Z' (wide y) = stacked (joined (dvB bias 16#32 (strA x))) y) := by
  refine ⟨putR (Rect.unit (s := S2048x128) (k0_off2 (BitVec.ofNat 32 t)) S128x128.size (k0_off2_inb ⟨t, ht⟩)) (dqB bias 16#32 (strA x) t) X,
    putR (Rect.unit (s := S2176x128) (k0_off4 (BitVec.ofNat 32 t)) S128x128.size (k0_off4_inb ⟨t, ht⟩)) (addf (carry (dkB bias 16#32 (strA x)) t) (lo (dkB bias 16#32 (strA x) t))) Y,
    putR (Rect.unit (s := S2176x128) (k0_off4 (BitVec.ofNat 32 t)) S128x128.size (k0_off4_inb ⟨t, ht⟩)) (addf (carry (dvB bias 16#32 (strA x)) t) (lo (dvB bias 16#32 (strA x) t))) Z, ?_,
    fun y hy => put_stacked _ X _ _ t ht (off2_eq ⟨t, ht⟩) hX _ rfl y hy, fun y hy => put_joined _ Y _ _ t ht (fun h => (off4_eq ⟨t, ht⟩).trans (by rw [if_neg h])) hY y hy,
    fun y hy => put_joined _ Z _ _ t ht (fun h => (off4_eq ⟨t, ht⟩).trans (by rw [if_neg h])) hZ y hy⟩
  have e2 : k0_off2 (BitVec.ofNat 32 t) = ![128 * t, 0] := off2_eq ⟨t, ht⟩
  have e1 : k0_off1 (BitVec.ofNat 32 t) = ![0, 128 * t, 0] := off1_eq ⟨t, ht⟩
  have e3 : k0_off3 (BitVec.ofNat 32 t) = ![0, 128 * (t - 1), 0] := off3_eq ⟨t, ht⟩
  unfold blkA
  refine Runs.bind (Runs.load (hd1 arg1 arg2 arg3 arg4 arg5 arg6 arg7 arg8 arg9 arg10 arg11 arg12 arg13 arg14 arg15 arg16 arg17 arg18 arg19 arg20 arg21 c) _ _ _) ?_
  refine Runs.bind (Runs.load (hd7 arg1 arg2 arg3 arg4 arg5 arg6 arg7 arg8 arg9 arg10 arg11 arg12 arg13 arg14 arg15 arg16 arg17 arg18 arg19 arg20 arg21 c) _ _ _) ?_
  refine Runs.bind (Runs.load (hd6 arg1 arg2 arg3 arg4 arg5 arg6 arg7 arg8 arg9 arg10 arg11 arg12 arg13 arg14 arg15 arg16 arg17 arg18 arg19 arg20 arg21 c) _ _ _) ?_
  refine Runs.bind (Runs.load (hd15 arg1 arg2 arg3 arg4 arg5 arg6 arg7 arg8 arg9 arg10 arg11 arg12 arg13 arg14 arg15 arg16 arg17 arg18 arg19 arg20 arg21 c) _ _ _) ?_
  refine Runs.bind (Runs.load (hd2 arg1 arg2 arg3 arg4 arg5 arg6 arg7 arg8 arg9 arg10 arg11 arg12 arg13 arg14 arg15 arg16 arg17 arg18 arg19 arg20 arg21 c) _ _ _) ?_
  refine Runs.bind (Runs.load (hd2 arg1 arg2 arg3 arg4 arg5 arg6 arg7 arg8 arg9 arg10 arg11 arg12 arg13 arg14 arg15 arg16 arg17 arg18 arg19 arg20 arg21 c) _ _ _) ?_
  refine Runs.bind (Runs.load (hd3 arg1 arg2 arg3 arg4 arg5 arg6 arg7 arg8 arg9 arg10 arg11 arg12 arg13 arg14 arg15 arg16 arg17 arg18 arg19 arg20 arg21 c) _ _ _) ?_
  refine Runs.bind (Runs.load (hd3 arg1 arg2 arg3 arg4 arg5 arg6 arg7 arg8 arg9 arg10 arg11 arg12 arg13 arg14 arg15 arg16 arg17 arg18 arg19 arg20 arg21 c) _ _ _) ?_
  simp only [hd1, hd2, hd3, hd6, hd7, hd15, hd9, hd10, hd11, hd12, hd13, hd14]
  rw [load_rows3 x.a1 _ _ t ht e1, load_rows x.a7 _ _ t ht e2, load_rows x.a6 _ _ t ht e2, load_rows x.a15 _ _ t ht e2,
    load_rows3 x.a2 _ _ (t - 1) (by omega) e3, load_rows3 x.a2 _ _ t ht e1, load_rows3 x.a3 _ _ (t - 1) (by omega) e3, load_rows3 x.a3 _ _ t ht e1,
    truncf_window, truncf_window]
  simp only [shapeCast_self]
  rw [show blkDq jjV bandV bias (firstOf 16#32 t) (truncf .bf16 (rows (sq x.a1) t) bitsLt_bf16_f32) (truncf .bf16 (rows x.a7 t) bitsLt_bf16_f32) (rows x.a6 t) (rows x.a15 t) (window (fun y => FloatOps.truncf .bf16 bitsLt_bf16_f32 (sq x.a2 y)) t) (window (fun y => FloatOps.truncf .bf16 bitsLt_bf16_f32 (sq x.a3 y)) t) = dqB bias 16#32 (strA x) t from rfl,
    show blkDk jjV bandV bias (firstOf 16#32 t) (truncf .bf16 (rows (sq x.a1) t) bitsLt_bf16_f32) (truncf .bf16 (rows x.a7 t) bitsLt_bf16_f32) (rows x.a6 t) (rows x.a15 t) (window (fun y => FloatOps.truncf .bf16 bitsLt_bf16_f32 (sq x.a2 y)) t) (window (fun y => FloatOps.truncf .bf16 bitsLt_bf16_f32 (sq x.a3 y)) t) = dkB bias 16#32 (strA x) t from rfl,
    show blkDv jjV bandV bias (firstOf 16#32 t) (truncf .bf16 (rows (sq x.a1) t) bitsLt_bf16_f32) (truncf .bf16 (rows x.a7 t) bitsLt_bf16_f32) (rows x.a6 t) (window (fun y => FloatOps.truncf .bf16 bitsLt_bf16_f32 (sq x.a2 y)) t) = dvB bias 16#32 (strA x) t from rfl]
  refine Runs.bind (Runs.load (hd19 arg1 arg2 arg3 arg4 arg5 arg6 arg7 arg8 arg9 arg10 arg11 arg12 arg13 arg14 arg15 arg16 arg17 arg18 arg19 arg20 arg21 c) _ _ _) ?_
  refine Runs.bind (Runs.store (hd19 arg1 arg2 arg3 arg4 arg5 arg6 arg7 arg8 arg9 arg10 arg11 arg12 arg13 arg14 arg15 arg16 arg17 arg18 arg19 arg20 arg21 c) _ _ _ _ _) ?_
  refine Runs.bind (Runs.load (hd20 arg1 arg2 arg3 arg4 arg5 arg6 arg7 arg8 arg9 arg10 arg11 arg12 arg13 arg14 arg15 arg16 arg17 arg18 arg19 arg20 arg21 c) _ _ _) ?_
  refine Runs.bind (Runs.store (hd20 arg1 arg2 arg3 arg4 arg5 arg6 arg7 arg8 arg9 arg10 arg11 arg12 arg13 arg14 arg15 arg16 arg17 arg18 arg19 arg20 arg21 c) _ _ _ _ _) ?_
  refine Runs.bind (Runs.load (hd21 arg1 arg2 arg3 arg4 arg5 arg6 arg7 arg8 arg9 arg10 arg11 arg12 arg13 arg14 arg15 arg16 arg17 arg18 arg19 arg20 arg21 c) _ _ _) ?_
  refine Runs.bind (Runs.store (hd21 arg1 arg2 arg3 arg4 arg5 arg6 arg7 arg8 arg9 arg10 arg11 arg12 arg13 arg14 arg15 arg16 arg17 arg18 arg19 arg20 arg21 c) _ _ _ _ _) ?_
  simp only [hd19, hd20, hd21]
  exact Runs.pure (carry (dkB bias 16#32 (strA x)) (t + 1), carry (dvB bias 16#32 (strA x)) (t + 1)) _

/-- A later dilation's streams, as the buffers hold them. -/
def strB (x : St F) : Streams F := ⟨x.a9, x.a10, x.a11, x.a12, x.a13, x.a14⟩

/-- Block `t`: its own rows of the three gradients are filled, and the carry handed on. -/
theorem blkB_step (bias : FVec F S128x256 .f32) (nblk : BitVec 32) (t : Nat) (ht : t < 16) (x : St F) (X : S2048x128.Idx → Elt F .f32) (Y Z : S2176x128.Idx → Elt F .f32)
    (hX : ∀ y : S2048x128.Idx, (y 0).val < 128 * t → X y = stacked (dqB bias nblk (strB x)) y)
    (hY : ∀ y : S2048x128.Idx, (y 0).val < 128 * (t - 1) → Y (wide y) = stacked (joined (dkB bias nblk (strB x))) y)
    (hZ : ∀ y : S2048x128.Idx, (y 0).val < 128 * (t - 1) → Z (wide y) = stacked (joined (dvB bias nblk (strB x))) y) :
    ∃ (X' : S2048x128.Idx → Elt F .f32) (Y' Z' : S2176x128.Idx → Elt F .f32),
      Runs 𝒱 c bd E (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) defs
        (blkB arg9 arg10 arg11 arg12 arg13 arg14 arg16 arg17 arg18 jjV bandV bias nblk t ht (carry (dkB bias nblk (strB x)) t) (carry (dvB bias nblk (strB x)) t))
        { x with a16 := X, a17 := Y, a18 := Z } (carry (dkB bias nblk (strB x)) (t + 1), carry (dvB bias nblk (strB x)) (t + 1)) { x with a16 := X', a17 := Y', a18 := Z' }
      ∧ (∀ y : S2048x128.Idx, (y 0).val < 128 * (t + 1) → X' y = stacked (dqB bias nblk (strB x)) y)
      ∧ (∀ y : S2048x128.Idx, (y 0).val < 128 * t → Y' (wide y) = stacked (joined (dkB bias nblk (strB x))) y)
      ∧ (∀ y : S2048x128.Idx, (y 0).val < 128 * t → Z' (wide y) = stacked (joined (dvB bias nblk (strB x))) y) := by
  refine ⟨putR (Rect.unit (s := S2048x128) (k0_off2 (BitVec.ofNat 32 t)) S128x128.size (k0_off2_inb ⟨t, ht⟩)) (dqB bias nblk (strB x) t) X,
    putR (Rect.unit (s := S2176x128) (k0_off4 (BitVec.ofNat 32 t)) S128x128.size (k0_off4_inb ⟨t, ht⟩)) (addf (carry (dkB bias nblk (strB x)) t) (lo (dkB bias nblk (strB x) t))) Y,
    putR (Rect.unit (s := S2176x128) (k0_off4 (BitVec.ofNat 32 t)) S128x128.size (k0_off4_inb ⟨t, ht⟩)) (addf (carry (dvB bias nblk (strB x)) t) (lo (dvB bias nblk (strB x) t))) Z, ?_,
    fun y hy => put_stacked _ X _ _ t ht (off2_eq ⟨t, ht⟩) hX _ rfl y hy, fun y hy => put_joined _ Y _ _ t ht (fun h => (off4_eq ⟨t, ht⟩).trans (by rw [if_neg h])) hY y hy,
    fun y hy => put_joined _ Z _ _ t ht (fun h => (off4_eq ⟨t, ht⟩).trans (by rw [if_neg h])) hZ y hy⟩
  have e2 : k0_off2 (BitVec.ofNat 32 t) = ![128 * t, 0] := off2_eq ⟨t, ht⟩
  have e5 : k0_off5 (BitVec.ofNat 32 t) = ![128 * (t - 1), 0] := off5_eq ⟨t, ht⟩
  unfold blkB
  refine Runs.bind (Runs.load (hd9 arg1 arg2 arg3 arg4 arg5 arg6 arg7 arg8 arg9 arg10 arg11 arg12 arg13 arg14 arg15 arg16 arg17 arg18 arg19 arg20 arg21 c) _ _ _) ?_
  refine Runs.bind (Runs.load (hd12 arg1 arg2 arg3 arg4 arg5 arg6 arg7 arg8 arg9 arg10 arg11 arg12 arg13 arg14 arg15 arg16 arg17 arg18 arg19 arg20 arg21 c) _ _ _) ?_
  refine Runs.bind (Runs.load (hd13 arg1 arg2 arg3 arg4 arg5 arg6 arg7 arg8 arg9 arg10 arg11 arg12 arg13 arg14 arg15 arg16 arg17 arg18 arg19 arg20 arg21 c) _ _ _) ?_
  refine Runs.bind (Runs.load (hd14 arg1 arg2 arg3 arg4 arg5 arg6 arg7 arg8 arg9 arg10 arg11 arg12 arg13 arg14 arg15 arg16 arg17 arg18 arg19 arg20 arg21 c) _ _ _) ?_
  refine Runs.bind (Runs.load (hd10 arg1 arg2 arg3 arg4 arg5 arg6 arg7 arg8 arg9 arg10 arg11 arg12 arg13 arg14 arg15 arg16 arg17 arg18 arg19 arg20 arg21 c) _ _ _) ?_
  refine Runs.bind (Runs.load (hd10 arg1 arg2 arg3 arg4 arg5 arg6 arg7 arg8 arg9 arg10 arg11 arg12 arg13 arg14 arg15 arg16 arg17 arg18 arg19 arg20 arg21 c) _ _ _) ?_
  refine Runs.bind (Runs.load (hd11 arg1 arg2 arg3 arg4 arg5 arg6 arg7 arg8 arg9 arg10 arg11 arg12 arg13 arg14 arg15 arg16 arg17 arg18 arg19 arg20 arg21 c) _ _ _) ?_
  refine Runs.bind (Runs.load (hd11 arg1 arg2 arg3 arg4 arg5 arg6 arg7 arg8 arg9 arg10 arg11 arg12 arg13 arg14 arg15 arg16 arg17 arg18 arg19 arg20 arg21 c) _ _ _) ?_
  simp only [hd1, hd2, hd3, hd6, hd7, hd15, hd9, hd10, hd11, hd12, hd13, hd14]
  rw [load_rows x.a9 _ _ t ht e2, load_rows x.a12 _ _ t ht e2, load_rows x.a13 _ _ t ht e2, load_rows x.a14 _ _ t ht e2,
    load_rows x.a10 _ _ (t - 1) (by omega) e5, load_rows x.a10 _ _ t ht e2, load_rows x.a11 _ _ (t - 1) (by omega) e5, load_rows x.a11 _ _ t ht e2]
  simp only [shapeCast_self]
  simp only [show ∀ X : S2048x128.Idx → F .bf16, concatenate S256x128 0 [⟨S128x128, rows X (t - 1)⟩, ⟨S128x128, rows X t⟩] concatenates_S128x128_S128x128_S256x128_d0 = window X t from fun _ => rfl]
  rw [show blkDq jjV bandV bias (firstOf nblk t) (rows x.a9 t) (rows x.a12 t) (rows x.a13 t) (rows x.a14 t) (window x.a10 t) (window x.a11 t) = dqB bias nblk (strB x) t from rfl,
    show blkDk jjV bandV bias (firstOf nblk t) (rows x.a9 t) (rows x.a12 t) (rows x.a13 t) (rows x.a14 t) (window x.a10 t) (window x.a11 t) = dkB bias nblk (strB x) t from rfl,
    show blkDv jjV bandV bias (firstOf nblk t) (rows x.a9 t) (rows x.a12 t) (rows x.a13 t) (window x.a10 t) = dvB bias nblk (strB x) t from rfl]
  refine Runs.bind (Runs.load (hd16 arg1 arg2 arg3 arg4 arg5 arg6 arg7 arg8 arg9 arg10 arg11 arg12 arg13 arg14 arg15 arg16 arg17 arg18 arg19 arg20 arg21 c) _ _ _) ?_
  refine Runs.bind (Runs.store (hd16 arg1 arg2 arg3 arg4 arg5 arg6 arg7 arg8 arg9 arg10 arg11 arg12 arg13 arg14 arg15 arg16 arg17 arg18 arg19 arg20 arg21 c) _ _ _ _ _) ?_
  refine Runs.bind (Runs.load (hd17 arg1 arg2 arg3 arg4 arg5 arg6 arg7 arg8 arg9 arg10 arg11 arg12 arg13 arg14 arg15 arg16 arg17 arg18 arg19 arg20 arg21 c) _ _ _) ?_
  refine Runs.bind (Runs.store (hd17 arg1 arg2 arg3 arg4 arg5 arg6 arg7 arg8 arg9 arg10 arg11 arg12 arg13 arg14 arg15 arg16 arg17 arg18 arg19 arg20 arg21 c) _ _ _ _ _) ?_
  refine Runs.bind (Runs.load (hd18 arg1 arg2 arg3 arg4 arg5 arg6 arg7 arg8 arg9 arg10 arg11 arg12 arg13 arg14 arg15 arg16 arg17 arg18 arg19 arg20 arg21 c) _ _ _) ?_
  refine Runs.bind (Runs.store (hd18 arg1 arg2 arg3 arg4 arg5 arg6 arg7 arg8 arg9 arg10 arg11 arg12 arg13 arg14 arg15 arg16 arg17 arg18 arg19 arg20 arg21 c) _ _ _ _ _) ?_
  simp only [hd16, hd17, hd18]
  exact Runs.pure (carry (dkB bias nblk (strB x)) (t + 1), carry (dvB bias nblk (strB x)) (t + 1)) _

end Cert.AttnBwd

end
-- ==== Proof.Loops.lean ====
/-
  The attention backward body's loops of sixteen blocks, run.
-/
module

public import proofs.«01_k».proof.Proof.Blocks

@[expose] public section

noncomputable section

namespace Cert.AttnBwd

open Idealize.ShloMosaic Idealize.ShloMosaic.TcCoe
open Idealize.SL Idealize.SL.RA Idealize.SL.BI
open Idealize.SL.Sem
open Cert.KernelIdeal Cert.Mem
open Facts₀ Facts

variable {F : FTy → Type} [FloatOps F] [Facts]

variable {Ix : Type} [DecidableEq Ix] {Name : Type} [DecidableEq Name] {U : Type} [URA U] {Lvl : Type} [Preorder Lvl]
variable {defs : Defs nD τ sig (Elt F) Λ₀} {𝒱 : Variants} {c : Dev nD} {bd : Option 𝒱.V} {E : Set Name}
/-- Sixteen steps in a row, a pair handed on. -/
def loopP {β : Type} (step : ∀ t : Nat, t < 16 → FVec F S128x128 .f32 × FVec F S128x128 .f32 → Prog (TpuEff nD τ sig (Elt F) Λ₀ .tc) (FVec F S128x128 .f32 × FVec F S128x128 .f32))
    (k : FVec F S128x128 .f32 × FVec F S128x128 .f32 → Prog (TpuEff nD τ sig (Elt F) Λ₀ .tc) β) :
    (n t : Nat) → n + t = 16 → FVec F S128x128 .f32 × FVec F S128x128 .f32 → Prog (TpuEff nD τ sig (Elt F) Λ₀ .tc) β
  | 0, _, _, cr => k cr
  | n + 1, t, h, cr => step t (by omega) cr >>= fun cr' => loopP step k n (t + 1) (by omega) cr'

/-- An invariant kept by every step holds after all. -/
theorem loop_runs {σ : Type} {held : σ → sProp (MT nD τ sig Ix (Elt F) Name U Lvl)} {β : Type}
    {step : ∀ t : Nat, t < 16 → FVec F S128x128 .f32 × FVec F S128x128 .f32 → Prog (TpuEff nD τ sig (Elt F) Λ₀ .tc) (FVec F S128x128 .f32 × FVec F S128x128 .f32)}
    {k : FVec F S128x128 .f32 × FVec F S128x128 .f32 → Prog (TpuEff nD τ sig (Elt F) Λ₀ .tc) β} {cf : Nat → FVec F S128x128 .f32 × FVec F S128x128 .f32} {b : β}
    {inv : Nat → σ → Prop} {P : σ → Prop}
    (hstep : ∀ t ht x, inv t x → ∃ x', Runs 𝒱 c bd E held defs (step t ht (cf t)) x (cf (t + 1)) x' ∧ inv (t + 1) x')
    (hk : ∀ x, inv 16 x → ∃ x', Runs 𝒱 c bd E held defs (k (cf 16)) x b x' ∧ P x') :
    ∀ (n t : Nat) (h : n + t = 16) (x : σ), inv t x → ∃ x', Runs 𝒱 c bd E held defs (loopP step k n t h (cf t)) x b x' ∧ P x'
  | 0, t, h, x, hx => by
    obtain rfl : t = 16 := by omega
    exact hk x hx
  | n + 1, t, h, x, hx => by
    obtain ⟨x', r, hx'⟩ := hstep t (by omega) x hx
    obtain ⟨x'', r', hP⟩ := loop_runs hstep hk n (t + 1) (by omega) x' hx'
    exact ⟨x'', r.bind r', hP⟩

variable {arg1 : Memref sig .tc .vmem S1x2048x128 .f32}
variable {arg2 : Memref sig .tc .vmem S1x2048x128 .f32}
variable {arg3 : Memref sig .tc .vmem S1x2048x128 .f32}
variable {arg4 : Memref sig .tc .vmem S1x1x128 .f32}
variable {arg5 : Memref sig .tc .vmem S2048x128 .bf16}
variable {arg6 : Memref sig .tc .vmem S2048x128 .f32}
variable {arg7 : Memref sig .tc .vmem S2048x128 .f32}
variable {arg8 : Memref sig .tc .vmem S3x2048x128 .bf16}
variable {arg9 : Memref sig .tc .vmem S2048x128 .bf16}
variable {arg10 : Memref sig .tc .vmem S2048x128 .bf16}
variable {arg11 : Memref sig .tc .vmem S2048x128 .bf16}
variable {arg12 : Memref sig .tc .vmem S2048x128 .bf16}
variable {arg13 : Memref sig .tc .vmem S2048x128 .f32}
variable {arg14 : Memref sig .tc .vmem S2048x128 .f32}
variable {arg15 : Memref sig .tc .vmem S2048x128 .f32}
variable {arg16 : Memref sig .tc .vmem S2048x128 .f32}
variable {arg17 : Memref sig .tc .vmem S2176x128 .f32}
variable {arg18 : Memref sig .tc .vmem S2176x128 .f32}
variable {arg19 : Memref sig .tc .vmem S2048x128 .f32}
variable {arg20 : Memref sig .tc .vmem S2176x128 .f32}
variable {arg21 : Memref sig .tc .vmem S2176x128 .f32}

/-- The sixteen blocks: the three gradients are filled. -/
theorem blksA_runs (bias : FVec F S128x256 .f32) (x : St F) :
    ∃ (Y' Z' : S2176x128.Idx → Elt F .f32),
      Runs 𝒱 c bd E (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) defs (blksA arg1 arg2 arg3 arg6 arg7 arg15 arg19 arg20 arg21 jjV bandV bias) x ⟨⟩
        { x with a19 := stacked (dqB bias 16#32 (strA x)), a20 := Y', a21 := Z' }
      ∧ (∀ y : S2048x128.Idx, Y' (wide y) = stacked (joined (dkB bias 16#32 (strA x))) y)
      ∧ (∀ y : S2048x128.Idx, Z' (wide y) = stacked (joined (dvB bias 16#32 (strA x))) y) := by
  have hX0 : ∀ y : S2048x128.Idx, (y 0).val < 128 * 0 → x.a19 y = stacked (dqB bias 16#32 (strA x)) y := fun y h => absurd h (Nat.not_lt_zero _)
  have hY0 : ∀ y : S2048x128.Idx, (y 0).val < 128 * (0 - 1) → x.a20 (wide y) = stacked (joined (dkB bias 16#32 (strA x))) y := fun y h => absurd h (Nat.not_lt_zero _)
  have hZ0 : ∀ y : S2048x128.Idx, (y 0).val < 128 * (0 - 1) → x.a21 (wide y) = stacked (joined (dvB bias 16#32 (strA x))) y := fun y h => absurd h (Nat.not_lt_zero _)
  have key := loop_runs (𝒱 := 𝒱) (c := c) (bd := bd) (E := E) (defs := defs) (held := (held (Ix := Ix) (Name := Name) (U := U) (Lvl := Lvl) (F := F) arg1 arg2 arg3 arg4 arg5 arg6 arg7 arg8 arg9 arg10 arg11 arg12 arg13 arg14 arg15 arg16 arg17 arg18 arg19 arg20 arg21 c))
    (step := fun t ht cr => blkA arg1 arg2 arg3 arg6 arg7 arg15 arg19 arg20 arg21 jjV bandV bias t ht cr.1 cr.2) (cf := fun t => (carry (dkB bias 16#32 (strA x)) t, carry (dvB bias 16#32 (strA x)) t))
    (inv := fun t x' => ∃ (X : S2048x128.Idx → Elt F .f32) (Y Z : S2176x128.Idx → Elt F .f32), x' = { x with a19 := X, a20 := Y, a21 := Z } ∧ (∀ y : S2048x128.Idx, (y 0).val < 128 * t → X y = stacked (dqB bias 16#32 (strA x)) y)
        ∧ (∀ y : S2048x128.Idx, (y 0).val < 128 * (t - 1) → Y (wide y) = stacked (joined (dkB bias 16#32 (strA x))) y)
        ∧ (∀ y : S2048x128.Idx, (y 0).val < 128 * (t - 1) → Z (wide y) = stacked (joined (dvB bias 16#32 (strA x))) y))
    (k := fun cr => tail arg20 arg21 cr) (b := ⟨⟩)
    (P := fun x'' => ∃ (Y' Z' : S2176x128.Idx → Elt F .f32), x'' = { x with a19 := stacked (dqB bias 16#32 (strA x)), a20 := Y', a21 := Z' }
      ∧ (∀ y : S2048x128.Idx, Y' (wide y) = stacked (joined (dkB bias 16#32 (strA x))) y)
      ∧ (∀ y : S2048x128.Idx, Z' (wide y) = stacked (joined (dvB bias 16#32 (strA x))) y)) ?_ ?_ 16 0 rfl x ⟨x.a19, x.a20, x.a21, rfl, hX0, hY0, hZ0⟩
  · obtain ⟨x'', hr, Y', Z', rfl, hY, hZ⟩ := key
    exact ⟨Y', Z', hr, hY, hZ⟩
  · rintro t ht _ ⟨X, Y, Z, rfl, hX, hY, hZ⟩
    obtain ⟨X', Y', Z', r, hX', hY', hZ'⟩ := blkA_step (𝒱 := 𝒱) (c := c) (bd := bd) (E := E) (defs := defs) (arg1 := arg1) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) (arg18 := arg18) (arg19 := arg19) (arg20 := arg20) (arg21 := arg21) (Ix := Ix) (U := U) (Lvl := Lvl) bias t ht x X Y Z hX hY hZ
    exact ⟨_, r, X', Y', Z', rfl, hX', hY', hZ'⟩
  · rintro _ ⟨X, Y, Z, rfl, hX, hY, hZ⟩
    have e : X = stacked (dqB bias 16#32 (strA x)) := funext fun y => hX y (show (y 0).val < 2048 from (y 0).isLt)
    subst e
    refine ⟨{ x with a19 := stacked (dqB bias 16#32 (strA x)), a20 := _, a21 := _ }, ?_, _, _, rfl, fun y => put_last _ Y inb_S2176x128_S128x128_1920_0 hY y, fun y => put_last _ Z inb_S2176x128_S128x128_1920_0 hZ y⟩
    unfold tail
    simp only [shapeCast_self]
    refine Runs.bind (Runs.load (hd20 arg1 arg2 arg3 arg4 arg5 arg6 arg7 arg8 arg9 arg10 arg11 arg12 arg13 arg14 arg15 arg16 arg17 arg18 arg19 arg20 arg21 c) _ _ _) ?_
    refine Runs.bind (Runs.store (hd20 arg1 arg2 arg3 arg4 arg5 arg6 arg7 arg8 arg9 arg10 arg11 arg12 arg13 arg14 arg15 arg16 arg17 arg18 arg19 arg20 arg21 c) _ _ _ _ _) ?_
    refine Runs.bind (Runs.load (hd21 arg1 arg2 arg3 arg4 arg5 arg6 arg7 arg8 arg9 arg10 arg11 arg12 arg13 arg14 arg15 arg16 arg17 arg18 arg19 arg20 arg21 c) _ _ _) ?_
    exact Runs.store (hd21 arg1 arg2 arg3 arg4 arg5 arg6 arg7 arg8 arg9 arg10 arg11 arg12 arg13 arg14 arg15 arg16 arg17 arg18 arg19 arg20 arg21 c) _ _ _ _ _

/-- The sixteen blocks: the three gradients are filled. -/
theorem blksB_runs (bias : FVec F S128x256 .f32) (nblk : BitVec 32) (x : St F) :
    ∃ (Y' Z' : S2176x128.Idx → Elt F .f32),
      Runs 𝒱 c bd E (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) defs (blksB arg9 arg10 arg11 arg12 arg13 arg14 arg16 arg17 arg18 jjV bandV bias nblk) x ⟨⟩
        { x with a16 := stacked (dqB bias nblk (strB x)), a17 := Y', a18 := Z' }
      ∧ (∀ y : S2048x128.Idx, Y' (wide y) = stacked (joined (dkB bias nblk (strB x))) y)
      ∧ (∀ y : S2048x128.Idx, Z' (wide y) = stacked (joined (dvB bias nblk (strB x))) y) := by
  have hX0 : ∀ y : S2048x128.Idx, (y 0).val < 128 * 0 → x.a16 y = stacked (dqB bias nblk (strB x)) y := fun y h => absurd h (Nat.not_lt_zero _)
  have hY0 : ∀ y : S2048x128.Idx, (y 0).val < 128 * (0 - 1) → x.a17 (wide y) = stacked (joined (dkB bias nblk (strB x))) y := fun y h => absurd h (Nat.not_lt_zero _)
  have hZ0 : ∀ y : S2048x128.Idx, (y 0).val < 128 * (0 - 1) → x.a18 (wide y) = stacked (joined (dvB bias nblk (strB x))) y := fun y h => absurd h (Nat.not_lt_zero _)
  have key := loop_runs (𝒱 := 𝒱) (c := c) (bd := bd) (E := E) (defs := defs) (held := (held (Ix := Ix) (Name := Name) (U := U) (Lvl := Lvl) (F := F) arg1 arg2 arg3 arg4 arg5 arg6 arg7 arg8 arg9 arg10 arg11 arg12 arg13 arg14 arg15 arg16 arg17 arg18 arg19 arg20 arg21 c))
    (step := fun t ht cr => blkB arg9 arg10 arg11 arg12 arg13 arg14 arg16 arg17 arg18 jjV bandV bias nblk t ht cr.1 cr.2) (cf := fun t => (carry (dkB bias nblk (strB x)) t, carry (dvB bias nblk (strB x)) t))
    (inv := fun t x' => ∃ (X : S2048x128.Idx → Elt F .f32) (Y Z : S2176x128.Idx → Elt F .f32), x' = { x with a16 := X, a17 := Y, a18 := Z } ∧ (∀ y : S2048x128.Idx, (y 0).val < 128 * t → X y = stacked (dqB bias nblk (strB x)) y)
        ∧ (∀ y : S2048x128.Idx, (y 0).val < 128 * (t - 1) → Y (wide y) = stacked (joined (dkB bias nblk (strB x))) y)
        ∧ (∀ y : S2048x128.Idx, (y 0).val < 128 * (t - 1) → Z (wide y) = stacked (joined (dvB bias nblk (strB x))) y))
    (k := fun cr => tail arg17 arg18 cr) (b := ⟨⟩)
    (P := fun x'' => ∃ (Y' Z' : S2176x128.Idx → Elt F .f32), x'' = { x with a16 := stacked (dqB bias nblk (strB x)), a17 := Y', a18 := Z' }
      ∧ (∀ y : S2048x128.Idx, Y' (wide y) = stacked (joined (dkB bias nblk (strB x))) y)
      ∧ (∀ y : S2048x128.Idx, Z' (wide y) = stacked (joined (dvB bias nblk (strB x))) y)) ?_ ?_ 16 0 rfl x ⟨x.a16, x.a17, x.a18, rfl, hX0, hY0, hZ0⟩
  · obtain ⟨x'', hr, Y', Z', rfl, hY, hZ⟩ := key
    exact ⟨Y', Z', hr, hY, hZ⟩
  · rintro t ht _ ⟨X, Y, Z, rfl, hX, hY, hZ⟩
    obtain ⟨X', Y', Z', r, hX', hY', hZ'⟩ := blkB_step (𝒱 := 𝒱) (c := c) (bd := bd) (E := E) (defs := defs) (arg1 := arg1) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) (arg18 := arg18) (arg19 := arg19) (arg20 := arg20) (arg21 := arg21) (Ix := Ix) (U := U) (Lvl := Lvl) bias nblk t ht x X Y Z hX hY hZ
    exact ⟨_, r, X', Y', Z', rfl, hX', hY', hZ'⟩
  · rintro _ ⟨X, Y, Z, rfl, hX, hY, hZ⟩
    have e : X = stacked (dqB bias nblk (strB x)) := funext fun y => hX y (show (y 0).val < 2048 from (y 0).isLt)
    subst e
    refine ⟨{ x with a16 := stacked (dqB bias nblk (strB x)), a17 := _, a18 := _ }, ?_, _, _, rfl, fun y => put_last _ Y inb_S2176x128_S128x128_1920_0 hY y, fun y => put_last _ Z inb_S2176x128_S128x128_1920_0 hZ y⟩
    unfold tail
    simp only [shapeCast_self]
    refine Runs.bind (Runs.load (hd17 arg1 arg2 arg3 arg4 arg5 arg6 arg7 arg8 arg9 arg10 arg11 arg12 arg13 arg14 arg15 arg16 arg17 arg18 arg19 arg20 arg21 c) _ _ _) ?_
    refine Runs.bind (Runs.store (hd17 arg1 arg2 arg3 arg4 arg5 arg6 arg7 arg8 arg9 arg10 arg11 arg12 arg13 arg14 arg15 arg16 arg17 arg18 arg19 arg20 arg21 c) _ _ _ _ _) ?_
    refine Runs.bind (Runs.load (hd18 arg1 arg2 arg3 arg4 arg5 arg6 arg7 arg8 arg9 arg10 arg11 arg12 arg13 arg14 arg15 arg16 arg17 arg18 arg19 arg20 arg21 c) _ _ _) ?_
    exact Runs.store (hd18 arg1 arg2 arg3 arg4 arg5 arg6 arg7 arg8 arg9 arg10 arg11 arg12 arg13 arg14 arg15 arg16 arg17 arg18 arg19 arg20 arg21 c) _ _ _ _ _

end Cert.AttnBwd

end
-- ==== Proof.Run.lean ====
/-
  The attention backward body, run whole: its operands stay, and its result is the model's.
-/
module

public import proofs.«01_k».proof.Proof.Loops

@[expose] public section

noncomputable section

namespace Cert.AttnBwd

open Idealize.ShloMosaic Idealize.ShloMosaic.TcCoe
open Idealize.SL Idealize.SL.RA Idealize.SL.BI
open Idealize.SL.Sem
open Cert.KernelIdeal Cert.Mem
open Facts₀ Facts

variable {F : FTy → Type} [FloatOps F] [Facts]

section Pure

/-- A whole buffer, loaded. -/
theorem load_all {α : Type} (X : S2048x128.Idx → α) (inb) :
    (fun j => X ((Rect.unit (s := S2048x128) ![0, 0] S2048x128.size inb).toLoadRect.idx j)) = X := by
  funext j
  refine congrArg X (funext fun a => Fin.ext ?_)
  match a with
  | ⟨0, _⟩ => exact (show 0 + 1 * (j 0).val = (j 0).val by omega)
  | ⟨1, _⟩ => exact (show 0 + 1 * (j 1).val = (j 1).val by omega)

/-- The first 2048 rows of a wide buffer, loaded. -/
theorem load_wide {α : Type} (X : S2176x128.Idx → α) (inb) :
    (fun j : S2048x128.Idx => X ((Rect.unit (s := S2176x128) ![0, 0] S2048x128.size inb).toLoadRect.idx j)) = fun y => X (wide y) := by
  funext j
  refine congrArg X (funext fun a => Fin.ext ?_)
  match a with
  | ⟨0, _⟩ => exact (show 0 + 1 * (j 0).val = (j 0).val by omega)
  | ⟨1, _⟩ => exact (show 0 + 1 * (j 1).val = (j 1).val by omega)

/-- The slope's row, loaded. -/
theorem load_slope {α : Type} (X : S1x1x128.Idx → α) (inb) :
    (fun j => X ((Rect.unit (s := S1x1x128) ![0, 0, 0] S1x1x128.size inb).toLoadRect.idx j)) = X := by
  funext j
  refine congrArg X (funext fun a => Fin.ext ?_)
  match a with
  | ⟨0, _⟩ => exact (show 0 + 1 * (j 0).val = (j 0).val by omega)
  | ⟨1, _⟩ => exact (show 0 + 1 * (j 1).val = (j 1).val by omega)
  | ⟨2, _⟩ => exact (show 0 + 1 * (j 2).val = (j 2).val by omega)

/-- A whole buffer, stored. -/
theorem put_all {α : Type} (X w : S2048x128.Idx → α) (inb) : putR (Rect.unit (s := S2048x128) ![0, 0] S2048x128.size inb) w X = w := by
  funext j
  refine putR_hit (Rect.unit (s := S2048x128) ![0, 0] S2048x128.size inb) w X j (show S2048x128.Idx from j) fun a => ?_
  match a with
  | ⟨0, _⟩ => exact (show 0 + 1 * (j 0).val = (j 0).val by omega)
  | ⟨1, _⟩ => exact (show 0 + 1 * (j 1).val = (j 1).val by omega)

/-- One slot of the result, stored: that slot is the payload, the others stay. -/
theorem put_slot {α : Type} (X : S3x2048x128.Idx → α) (k : Nat) (inb) (v : S2048x128.Idx → α) (z : S3x2048x128.Idx) :
    putR (Rect.unit (s := S3x2048x128) ![k, 0, 0] S1x2048x128.size inb) (shapeCast S1x2048x128 v shapeCasts_S2048x128_S1x2048x128) X z
      = if (z 0).val = k then v (inSlot z) else X z := by
  by_cases h : (z 0).val = k
  · rw [if_pos h, putR_hit _ _ _ z (Fin.cons ⟨0, Nat.one_pos⟩ (inSlot z)) (fun a => by
      match a with
      | ⟨0, _⟩ => exact (show k + 1 * 0 = (z 0).val by omega)
      | ⟨1, _⟩ => exact (show 0 + 1 * (z 1).val = (z 1).val by omega)
      | ⟨2, _⟩ => exact (show 0 + 1 * (z 2).val = (z 2).val by omega))]
    exact shapeCast_addUnit_apply ![2048, 128] v _ _
  · rw [if_neg h, putR_miss_unit _ _ _ _ _ z (0 : Fin 3) (show (z 0).val < k ∨ k + 1 ≤ (z 0).val by omega)]

end Pure

variable {Ix : Type} [DecidableEq Ix] {Name : Type} [DecidableEq Name] {U : Type} [URA U] {Lvl : Type} [Preorder Lvl]
variable {defs : Defs nD τ sig (Elt F) Λ₀} {𝒱 : Variants} {c : Dev nD} {bd : Option 𝒱.V} {E : Set Name}

section Out
variable {σ : Type} {held : σ → sProp (MT nD τ sig Ix (Elt F) Name U Lvl)} {arg8 : Memref sig .tc .vmem S3x2048x128 .bf16}

/-- A sum rounded into one slot of the result. -/
theorem outP2048_runs {src : Memref sig .tc .vmem S2048x128 .f32} (h8 : Hd c held arg8) (hs : Hd c held src) (k : Nat) (hn) (hk) (hst) (x : σ) :
    Runs 𝒱 c bd E held defs (outP2048 arg8 src k hn hk hst) x ⟨⟩
      (h8.set x fun z => if (z 0).val = k then FloatOps.truncf .bf16 bitsLt_bf16_f32 (hs.get x (inSlot z)) else h8.get x z) := by
  have e : (fun z : S3x2048x128.Idx => if (z 0).val = k then FloatOps.truncf .bf16 bitsLt_bf16_f32 (hs.get x (inSlot z)) else h8.get x z)
      = putR (Rect.unit (s := S3x2048x128) ![k, 0, 0] S1x2048x128.size hk) (shapeCast S1x2048x128 (truncf .bf16 (fun j : S2048x128.Idx => hs.get x ((Rect.unit (s := S2048x128) ![0, 0] S2048x128.size hn).toLoadRect.idx j)) bitsLt_bf16_f32) shapeCasts_S2048x128_S1x2048x128) (h8.get x) := by
    funext z
    refine Eq.trans ?_ (put_slot (h8.get x) k hk _ z).symm
    exact congrArg (fun u => if (z 0).val = k then FloatOps.truncf .bf16 bitsLt_bf16_f32 u else h8.get x z) (congrFun (load_all (hs.get x) hn) (inSlot z)).symm
  rw [e]
  unfold outP2048
  refine Runs.bind (Runs.load hs _ _ _) ?_
  refine Runs.bind (Runs.load h8 _ _ _) ?_
  exact Runs.store h8 _ _ _ _ _

/-- The same from a wide sum. -/
theorem outP2176_runs {src : Memref sig .tc .vmem S2176x128 .f32} (h8 : Hd c held arg8) (hs : Hd c held src) (k : Nat) (hn) (hk) (hst) (x : σ) :
    Runs 𝒱 c bd E held defs (outP2176 arg8 src k hn hk hst) x ⟨⟩
      (h8.set x fun z => if (z 0).val = k then FloatOps.truncf .bf16 bitsLt_bf16_f32 (hs.get x (wide (inSlot z))) else h8.get x z) := by
  have e : (fun z : S3x2048x128.Idx => if (z 0).val = k then FloatOps.truncf .bf16 bitsLt_bf16_f32 (hs.get x (wide (inSlot z))) else h8.get x z)
      = putR (Rect.unit (s := S3x2048x128) ![k, 0, 0] S1x2048x128.size hk) (shapeCast S1x2048x128 (truncf .bf16 (fun j : S2048x128.Idx => hs.get x ((Rect.unit (s := S2176x128) ![0, 0] S2048x128.size hn).toLoadRect.idx j)) bitsLt_bf16_f32) shapeCasts_S2048x128_S1x2048x128) (h8.get x) := by
    funext z
    refine Eq.trans ?_ (put_slot (h8.get x) k hk _ z).symm
    exact congrArg (fun u => if (z 0).val = k then FloatOps.truncf .bf16 bitsLt_bf16_f32 u else h8.get x z) (congrFun (load_wide (hs.get x) hn) (inSlot z)).symm
  rw [e]
  unfold outP2176
  refine Runs.bind (Runs.load hs _ _ _) ?_
  refine Runs.bind (Runs.load h8 _ _ _) ?_
  exact Runs.store h8 _ _ _ _ _

end Out

variable {arg1 : Memref sig .tc .vmem S1x2048x128 .f32}
variable {arg2 : Memref sig .tc .vmem S1x2048x128 .f32}
variable {arg3 : Memref sig .tc .vmem S1x2048x128 .f32}
variable {arg4 : Memref sig .tc .vmem S1x1x128 .f32}
variable {arg5 : Memref sig .tc .vmem S2048x128 .bf16}
variable {arg6 : Memref sig .tc .vmem S2048x128 .f32}
variable {arg7 : Memref sig .tc .vmem S2048x128 .f32}
variable {arg8 : Memref sig .tc .vmem S3x2048x128 .bf16}
variable {arg9 : Memref sig .tc .vmem S2048x128 .bf16}
variable {arg10 : Memref sig .tc .vmem S2048x128 .bf16}
variable {arg11 : Memref sig .tc .vmem S2048x128 .bf16}
variable {arg12 : Memref sig .tc .vmem S2048x128 .bf16}
variable {arg13 : Memref sig .tc .vmem S2048x128 .f32}
variable {arg14 : Memref sig .tc .vmem S2048x128 .f32}
variable {arg15 : Memref sig .tc .vmem S2048x128 .f32}
variable {arg16 : Memref sig .tc .vmem S2048x128 .f32}
variable {arg17 : Memref sig .tc .vmem S2176x128 .f32}
variable {arg18 : Memref sig .tc .vmem S2176x128 .f32}
variable {arg19 : Memref sig .tc .vmem S2048x128 .f32}
variable {arg20 : Memref sig .tc .vmem S2176x128 .f32}
variable {arg21 : Memref sig .tc .vmem S2176x128 .f32}

/-- The operands, as the buffers hold them. -/
def ops (x : St F) : Ops F := ⟨x.a1, x.a2, x.a3, x.a4, x.a5, x.a6, x.a7⟩

/-- The row sums are stored, and the slope returned. -/
theorem initP_runs (x : St F) :
    Runs 𝒱 c bd E (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) defs (initP arg4 arg5 arg7 arg15) x (slopeV x.a4) { x with a15 := deltaV x.a7 x.a5 } := by
  unfold initP
  refine Runs.bind (Runs.load (hd4 (Ix := Ix) (Name := Name) (U := U) (Lvl := Lvl) (F := F) arg1 arg2 arg3 arg4 arg5 arg6 arg7 arg8 arg9 arg10 arg11 arg12 arg13 arg14 arg15 arg16 arg17 arg18 arg19 arg20 arg21 c) _ _ _) ?_
  refine Runs.bind (Runs.load (hd7 (Ix := Ix) (Name := Name) (U := U) (Lvl := Lvl) (F := F) arg1 arg2 arg3 arg4 arg5 arg6 arg7 arg8 arg9 arg10 arg11 arg12 arg13 arg14 arg15 arg16 arg17 arg18 arg19 arg20 arg21 c) _ _ _) ?_
  refine Runs.bind (Runs.load (hd5 (Ix := Ix) (Name := Name) (U := U) (Lvl := Lvl) (F := F) arg1 arg2 arg3 arg4 arg5 arg6 arg7 arg8 arg9 arg10 arg11 arg12 arg13 arg14 arg15 arg16 arg17 arg18 arg19 arg20 arg21 c) _ _ _) ?_
  refine Runs.bind (Runs.load (hd15 (Ix := Ix) (Name := Name) (U := U) (Lvl := Lvl) (F := F) arg1 arg2 arg3 arg4 arg5 arg6 arg7 arg8 arg9 arg10 arg11 arg12 arg13 arg14 arg15 arg16 arg17 arg18 arg19 arg20 arg21 c) _ _ _) ?_
  simp only [hd4, hd5, hd7]
  rw [load_slope, load_all, load_all]
  simp only [shapeCast_self]
  refine Runs.bind (Runs.store (hd15 (Ix := Ix) (Name := Name) (U := U) (Lvl := Lvl) (F := F) arg1 arg2 arg3 arg4 arg5 arg6 arg7 arg8 arg9 arg10 arg11 arg12 arg13 arg14 arg15 arg16 arg17 arg18 arg19 arg20 arg21 c) _ _ _ _ _) ?_
  simp only [hd15]
  rw [put_all]
  exact Runs.pure (slopeV x.a4) _

/-- A later dilation: its streams are copied, its blocks run, and its parts added to the sums. -/
theorem dil4_runs (harg9 : arg9.IsWhole) (harg10 : arg10.IsWhole) (harg11 : arg11.IsWhole) (harg12 : arg12.IsWhole) (x : St F) (o : Ops F) (ho : ops x = o) (hd : x.a15 = deltaV x.a7 x.a5) (A K V : S2048x128.Idx → F .f32)
    (hA : ∀ y, x.a19 y = A y) (hK : ∀ y, x.a20 (wide y) = K y) (hV : ∀ y, x.a21 (wide y) = V y) {β : Type} (k : PUnit → Prog (TpuEff nD τ sig (Elt F) Λ₀ .tc) β) (b : β) (P : St F → Prop)
    (hk : ∀ x' : St F, ops x' = o → x'.a15 = deltaV x'.a7 x'.a5 → (∀ y, x'.a19 y = FloatOps.addf (A y) (dq4 o (unperm 4 y)))
      → (∀ y, x'.a20 (wide y) = FloatOps.addf (K y) (dk4 o (unperm 4 y))) → (∀ y, x'.a21 (wide y) = FloatOps.addf (V y) (dv4 o (unperm 4 y)))
      → ∃ x'' : St F, Runs 𝒱 c bd E (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) defs (k ⟨⟩) x' b x'' ∧ P x'') :
    ∃ x'' : St F, Runs 𝒱 c bd E (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) defs (st4_3b arg1 arg9 harg9 >>= fun _ => st4_3b arg2 arg10 harg10 >>= fun _ => st4_3b arg3 arg11 harg11 >>= fun _ => st4_2b arg7 arg12 harg12 >>= fun _ => st4_2g arg6 arg13 >>= fun _ => st4_2f arg15 arg14 >>= fun _ => blksB arg9 arg10 arg11 arg12 arg13 arg14 arg16 arg17 arg18 jjV bandV (bias4 o) 4#32 >>= fun _ => acc4_2048 arg19 arg16 >>= fun _ => acc4_2176 arg20 arg17 >>= fun _ => acc4_2176 arg21 arg18 >>= k) x b x'' ∧ P x'' := by
  subst ho
  have r1 := st4_3b_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd1 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd9 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) harg9 x
  have r2 := st4_3b_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd2 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd10 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) harg10 ((hd9 (Ix := Ix) (Name := Name) (U := U) (Lvl := Lvl) (F := F) arg1 arg2 arg3 arg4 arg5 arg6 arg7 arg8 arg9 arg10 arg11 arg12 arg13 arg14 arg15 arg16 arg17 arg18 arg19 arg20 arg21 c).set x fun y => FloatOps.truncf .bf16 bitsLt_bf16_f32 (sq x.a1 (perm 4 y)))
  set x2 : St F := { x with a9 := fun y => FloatOps.truncf .bf16 bitsLt_bf16_f32 (sq x.a1 (perm 4 y)), a10 := fun y => FloatOps.truncf .bf16 bitsLt_bf16_f32 (sq x.a2 (perm 4 y)) } with hx2
  have r3 := st4_3b_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd3 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd11 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) harg11 x2
  set x3 : St F := { x2 with a11 := fun y => FloatOps.truncf .bf16 bitsLt_bf16_f32 (sq x.a3 (perm 4 y)) } with hx3
  have r4 := st4_2b_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd7 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd12 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) harg12 x3
  set x4 : St F := { x3 with a12 := fun y => FloatOps.truncf .bf16 bitsLt_bf16_f32 (x.a7 (perm 4 y)) } with hx4
  have r5 := st4_2g_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd6 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd13 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) x4
  set x5 : St F := { x4 with a13 := fun y => x.a6 (perm 4 y) } with hx5
  have r6 := st4_2f_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd15 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd14 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) x5
  set x6 : St F := { x5 with a14 := fun y => x.a15 (perm 4 y) } with hx6
  have hS : strB x6 = streams 4 (ops x) := by
    simp only [hx6, hx5, hx4, hx3, hx2, strB, streams, ops, hd]
  obtain ⟨Y, Z, r7, hY, hZ⟩ := blksB_runs (𝒱 := 𝒱) (bd := bd) (E := E) (defs := defs) (c := c) (Ix := Ix) (U := U) (Lvl := Lvl) (arg1 := arg1) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) (arg18 := arg18) (arg19 := arg19) (arg20 := arg20) (arg21 := arg21) (bias4 (ops x)) 4#32 x6
  rw [hS] at r7 hY hZ
  set x7 : St F := { x6 with a16 := stacked (dqB (bias4 (ops x)) 4#32 (streams 4 (ops x))), a17 := Y, a18 := Z } with hx7
  obtain ⟨X8, r8, h8⟩ := acc4_2048_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd19 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd16 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) x7 A (dq4 (ops x)) hA (fun _ => rfl)
  set x8 : St F := { x7 with a19 := X8 } with hx8
  obtain ⟨X9, r9, h9⟩ := acc4_2176_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd20 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd17 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) x8 K (dk4 (ops x)) hK hY
  set x9 : St F := { x8 with a20 := X9 } with hx9
  obtain ⟨X10, r10, h10⟩ := acc4_2176_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd21 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd18 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) x9 V (dv4 (ops x)) hV hZ
  set x10 : St F := { x9 with a21 := X10 } with hx10
  obtain ⟨x'', rk, hP⟩ := hk x10 rfl hd h8 h9 h10
  refine ⟨x'', ?_, hP⟩
  exact r1.bind <| r2.bind <| r3.bind <| r4.bind <| r5.bind <| r6.bind <| r7.bind <| r8.bind <| r9.bind <| r10.bind rk

/-- The same at dilation 16. -/
theorem dil16_runs (harg9 : arg9.IsWhole) (harg10 : arg10.IsWhole) (harg11 : arg11.IsWhole) (harg12 : arg12.IsWhole) (x : St F) (o : Ops F) (ho : ops x = o) (hd : x.a15 = deltaV x.a7 x.a5) (A K V : S2048x128.Idx → F .f32)
    (hA : ∀ y, x.a19 y = A y) (hK : ∀ y, x.a20 (wide y) = K y) (hV : ∀ y, x.a21 (wide y) = V y) {β : Type} (k : PUnit → Prog (TpuEff nD τ sig (Elt F) Λ₀ .tc) β) (b : β) (P : St F → Prop)
    (hk : ∀ x' : St F, ops x' = o → x'.a15 = deltaV x'.a7 x'.a5 → (∀ y, x'.a19 y = FloatOps.addf (A y) (dq16 o (unperm 16 y)))
      → (∀ y, x'.a20 (wide y) = FloatOps.addf (K y) (dk16 o (unperm 16 y))) → (∀ y, x'.a21 (wide y) = FloatOps.addf (V y) (dv16 o (unperm 16 y)))
      → ∃ x'' : St F, Runs 𝒱 c bd E (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) defs (k ⟨⟩) x' b x'' ∧ P x'') :
    ∃ x'' : St F, Runs 𝒱 c bd E (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) defs (st16_3b arg1 arg9 harg9 >>= fun _ => st16_3b arg2 arg10 harg10 >>= fun _ => st16_3b arg3 arg11 harg11 >>= fun _ => st16_2b arg7 arg12 harg12 >>= fun _ => st16_2g arg6 arg13 >>= fun _ => st16_2f arg15 arg14 >>= fun _ => blksB arg9 arg10 arg11 arg12 arg13 arg14 arg16 arg17 arg18 jjV bandV (bias16 o) 1#32 >>= fun _ => acc16_2048 arg19 arg16 >>= fun _ => acc16_2176 arg20 arg17 >>= fun _ => acc16_2176 arg21 arg18 >>= k) x b x'' ∧ P x'' := by
  subst ho
  have r1 := st16_3b_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd1 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd9 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) harg9 x
  have r2 := st16_3b_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd2 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd10 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) harg10 ((hd9 (Ix := Ix) (Name := Name) (U := U) (Lvl := Lvl) (F := F) arg1 arg2 arg3 arg4 arg5 arg6 arg7 arg8 arg9 arg10 arg11 arg12 arg13 arg14 arg15 arg16 arg17 arg18 arg19 arg20 arg21 c).set x fun y => FloatOps.truncf .bf16 bitsLt_bf16_f32 (sq x.a1 (perm 16 y)))
  set x2 : St F := { x with a9 := fun y => FloatOps.truncf .bf16 bitsLt_bf16_f32 (sq x.a1 (perm 16 y)), a10 := fun y => FloatOps.truncf .bf16 bitsLt_bf16_f32 (sq x.a2 (perm 16 y)) } with hx2
  have r3 := st16_3b_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd3 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd11 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) harg11 x2
  set x3 : St F := { x2 with a11 := fun y => FloatOps.truncf .bf16 bitsLt_bf16_f32 (sq x.a3 (perm 16 y)) } with hx3
  have r4 := st16_2b_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd7 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd12 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) harg12 x3
  set x4 : St F := { x3 with a12 := fun y => FloatOps.truncf .bf16 bitsLt_bf16_f32 (x.a7 (perm 16 y)) } with hx4
  have r5 := st16_2g_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd6 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd13 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) x4
  set x5 : St F := { x4 with a13 := fun y => x.a6 (perm 16 y) } with hx5
  have r6 := st16_2f_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd15 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd14 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) x5
  set x6 : St F := { x5 with a14 := fun y => x.a15 (perm 16 y) } with hx6
  have hS : strB x6 = streams 16 (ops x) := by
    simp only [hx6, hx5, hx4, hx3, hx2, strB, streams, ops, hd]
  obtain ⟨Y, Z, r7, hY, hZ⟩ := blksB_runs (𝒱 := 𝒱) (bd := bd) (E := E) (defs := defs) (c := c) (Ix := Ix) (U := U) (Lvl := Lvl) (arg1 := arg1) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) (arg18 := arg18) (arg19 := arg19) (arg20 := arg20) (arg21 := arg21) (bias16 (ops x)) 1#32 x6
  rw [hS] at r7 hY hZ
  set x7 : St F := { x6 with a16 := stacked (dqB (bias16 (ops x)) 1#32 (streams 16 (ops x))), a17 := Y, a18 := Z } with hx7
  obtain ⟨X8, r8, h8⟩ := acc16_2048_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd19 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd16 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) x7 A (dq16 (ops x)) hA (fun _ => rfl)
  set x8 : St F := { x7 with a19 := X8 } with hx8
  obtain ⟨X9, r9, h9⟩ := acc16_2176_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd20 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd17 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) x8 K (dk16 (ops x)) hK hY
  set x9 : St F := { x8 with a20 := X9 } with hx9
  obtain ⟨X10, r10, h10⟩ := acc16_2176_runs (𝒱 := 𝒱) (bd := bd) (E := E) (defs := defs) (held := held (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd21 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd18 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (fun _ _ => rfl) x9 V (dv16 (ops x)) hV hZ
  set x10 : St F := { x9 with a21 := X10 } with hx10
  obtain ⟨x'', rk, hP⟩ := hk x10 rfl hd h8 h9 h10
  refine ⟨x'', ?_, hP⟩
  exact r1.bind <| r2.bind <| r3.bind <| r4.bind <| r5.bind <| r6.bind <| r7.bind <| r8.bind <| r9.bind <| r10.bind rk

/-- The body, run: the operands stay, and the result is the model's. -/
theorem body_runs (i : grid0.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (x : St F) :
    ∃ x' : St F, Runs 𝒱 c bd E (held (Ix := Ix) (Name := Name) (U := U) (Lvl := Lvl) (F := F) arg1 arg2 arg3 arg4 arg5 arg6 arg7 arg8 arg9 arg10 arg11 arg12 arg13 arg14 arg15 arg16 arg17 arg18 arg19 arg20 arg21 c) defs (body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) x ⟨⟩ x' ∧ ops x' = ops x ∧ x'.a8 = outM (ops x) := by
  unfold body
  have r0 := initP_runs (𝒱 := 𝒱) (bd := bd) (E := E) (defs := defs) (c := c) (Ix := Ix) (U := U) (Lvl := Lvl) (Name := Name) (arg1 := arg1) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) (arg18 := arg18) (arg19 := arg19) (arg20 := arg20) (arg21 := arg21) x
  set x0 : St F := { x with a15 := deltaV x.a7 x.a5 } with hx0
  obtain ⟨Y, Z, r1, hY, hZ⟩ := blksA_runs (𝒱 := 𝒱) (bd := bd) (E := E) (defs := defs) (c := c) (Ix := Ix) (U := U) (Lvl := Lvl) (arg1 := arg1) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) (arg18 := arg18) (arg19 := arg19) (arg20 := arg20) (arg21 := arg21) (bias1 (ops x)) x0
  have hS : strA x0 = streams1 (ops x) := rfl
  rw [hS] at r1 hY hZ
  set x1 : St F := { x0 with a19 := stacked (dqB (bias1 (ops x)) 16#32 (streams1 (ops x))), a20 := Y, a21 := Z } with hx1
  have ho1 : ops x1 = ops x := rfl
  refine (fun ⟨x', r, h⟩ => ⟨x', r0.bind (r1.bind r), h⟩) (dil4_runs harg9 harg10 harg11 harg12 x1 (ops x) ho1 rfl (dq1 (ops x)) (dk1 (ops x)) (dv1 (ops x)) (fun _ => rfl) hY hZ _ _ _ fun x2 ho2 hd2 hA2 hK2 hV2 => ?_)
  refine dil16_runs harg9 harg10 harg11 harg12 x2 (ops x) ho2 hd2 _ _ _ hA2 hK2 hV2 _ _ _ fun x3 ho3 hd3 hA3 hK3 hV3 => ?_
  have s1 := outP2048_runs (𝒱 := 𝒱) (bd := bd) (E := E) (defs := defs) (hd8 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd19 (Ix := Ix) (Name := Name) (U := U) (Lvl := Lvl) (F := F) arg1 arg2 arg3 arg4 arg5 arg6 arg7 arg8 arg9 arg10 arg11 arg12 arg13 arg14 arg15 arg16 arg17 arg18 arg19 arg20 arg21 c) 0 inb_S2048x128_S2048x128_0_0 inb_S3x2048x128_S1x2048x128_0_0_0 (View.stores_vmem h_S1x2048x128 (harg8.storeExact_slice rfl _ packedbf16_S3x2048x128_S1x2048x128_0_0_0) (fun _ => rfl)) x3
  have s2 := outP2176_runs (𝒱 := 𝒱) (bd := bd) (E := E) (defs := defs) (hd8 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd20 (Ix := Ix) (Name := Name) (U := U) (Lvl := Lvl) (F := F) arg1 arg2 arg3 arg4 arg5 arg6 arg7 arg8 arg9 arg10 arg11 arg12 arg13 arg14 arg15 arg16 arg17 arg18 arg19 arg20 arg21 c) 1 inb_S2176x128_S2048x128_0_0 inb_S3x2048x128_S1x2048x128_1_0_0 (View.stores_vmem h_S1x2048x128 (harg8.storeExact_slice rfl _ packedbf16_S3x2048x128_S1x2048x128_1_0_0) (fun _ => rfl)) ((hd8 (Ix := Ix) (Name := Name) (U := U) (Lvl := Lvl) (F := F) arg1 arg2 arg3 arg4 arg5 arg6 arg7 arg8 arg9 arg10 arg11 arg12 arg13 arg14 arg15 arg16 arg17 arg18 arg19 arg20 arg21 c).set x3 fun z => if (z 0).val = 0 then FloatOps.truncf .bf16 bitsLt_bf16_f32 (x3.a19 (inSlot z)) else x3.a8 z)
  have s3 := outP2176_runs (𝒱 := 𝒱) (bd := bd) (E := E) (defs := defs) (hd8 (Ix := Ix) (Name := Name) (U := U) (Lvl := Lvl) (F := F) arg1 arg2 arg3 arg4 arg5 arg6 arg7 arg8 arg9 arg10 arg11 arg12 arg13 arg14 arg15 arg16 arg17 arg18 arg19 arg20 arg21 c) (hd21 (Ix := Ix) (Name := Name) (U := U) (Lvl := Lvl) (F := F) arg1 arg2 arg3 arg4 arg5 arg6 arg7 arg8 arg9 arg10 arg11 arg12 arg13 arg14 arg15 arg16 arg17 arg18 arg19 arg20 arg21 c) 2 inb_S2176x128_S2048x128_0_0 inb_S3x2048x128_S1x2048x128_2_0_0 (View.stores_vmem h_S1x2048x128 (harg8.storeExact_slice rfl _ packedbf16_S3x2048x128_S1x2048x128_2_0_0) (fun _ => rfl)) ((hd8 (Ix := Ix) (Name := Name) (U := U) (Lvl := Lvl) (F := F) arg1 arg2 arg3 arg4 arg5 arg6 arg7 arg8 arg9 arg10 arg11 arg12 arg13 arg14 arg15 arg16 arg17 arg18 arg19 arg20 arg21 c).set x3 fun z => if (z 0).val = 1 then FloatOps.truncf .bf16 bitsLt_bf16_f32 (x3.a20 (wide (inSlot z))) else if (z 0).val = 0 then FloatOps.truncf .bf16 bitsLt_bf16_f32 (x3.a19 (inSlot z)) else x3.a8 z)
  refine ⟨_, s1.bind (s2.bind (s3.bind (Runs.pure _ _))), ho3, ?_⟩
  funext z
  have h3 : (z 0).val < 3 := (z 0).isLt
  show (if (z 0).val = 2 then FloatOps.truncf .bf16 bitsLt_bf16_f32 (x3.a21 (wide (inSlot z))) else if (z 0).val = 1 then FloatOps.truncf .bf16 bitsLt_bf16_f32 (x3.a20 (wide (inSlot z))) else if (z 0).val = 0 then FloatOps.truncf .bf16 bitsLt_bf16_f32 (x3.a19 (inSlot z)) else x3.a8 z) = outM (ops x) z
  unfold outM
  by_cases h0 : (z 0).val = 0
  · rw [if_neg (by omega), if_neg (by omega), if_pos h0, if_pos h0, hA3]
    rfl
  by_cases h1 : (z 0).val = 1
  · rw [if_neg (by omega), if_pos h1, if_neg h0, if_pos h1, hK3]
    rfl
  · rw [if_pos (by omega), if_neg h0, if_neg h1, hV3]
    rfl

end Cert.AttnBwd

end
-- ==== Proof.Launch.lean ====
/-
  The attention backward kernel, run: at every grid point the body turns the point's blocks into the head's gradients
  (`Run.lean`), the pipeline moves the blocks, and the program ends with its arguments unchanged, its result assembled from the heads'
  blocks, and every semaphore counter at zero. Stated once, for any float values at which the printed body is the body of `Shape.lean`.
-/
module

public import proofs.«01_k».proof.Proof.Run
public import proofs.«01_k».proof.Proof.Gen.KernelIdeal.Frame

@[expose] public section

noncomputable section

namespace Cert.AttnBwd

open Cert.KernelIdeal Cert.KernelIdeal.Gen Cert.Mem
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operands of the point's head: the windows' blocks. -/
def opsAt (c : Dev nD) (t : Fin cfg0.N) : Ops F :=
  ⟨iblk m c 0 t, iblk m c 1 t, iblk m c 2 t, iblk m c 3 t, iblk m c 4 t, iblk m c 5 t, iblk m c 6 t⟩

/-- What the pipeline is told: the arrays as launched; after a point the operands' blocks in place and the result's block
    the head's gradients; between points the scratch at something; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outM (opsAt m c t)
  Φ _ := Pipeline.ΦA spec0 c
  q w := Pipeline.shareOf spec0 w
  owed _ := 0

/-- The body's triple at a point. -/
theorem point (hcc : ∀ t : Fin cfg0.N, bodyAt0 (F := F) t = body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) (c : Dev nD) (t : Fin cfg0.N)
    (X1 : S1x2048x128.Idx → Elt F .f32) (X2 : S1x2048x128.Idx → Elt F .f32) (X3 : S1x2048x128.Idx → Elt F .f32) (X4 : S1x1x128.Idx → Elt F .f32) (X5 : S2048x128.Idx → Elt F .bf16) (X6 : S2048x128.Idx → Elt F .f32) (X7 : S2048x128.Idx → Elt F .f32) (X8 : S3x2048x128.Idx → Elt F .bf16)
    (f0 : Buf (Elt F) ((c : Thread nD τ).loc cc0_scratch0)) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) (f7 : Buf (Elt F) ((c : Thread nD τ).loc cc0_scratch7)) (f8 : Buf (Elt F) ((c : Thread nD τ).loc cc0_scratch8)) (f9 : Buf (Elt F) ((c : Thread nD τ).loc cc0_scratch9)) (f10 : Buf (Elt F) ((c : Thread nD τ).loc cc0_scratch10)) (f11 : Buf (Elt F) ((c : Thread nD τ).loc cc0_scratch11)) (f12 : Buf (Elt F) ((c : Thread nD τ).loc cc0_scratch12))
    (Q : PUnit → sProp 𝕄) :
    iprop(owns (c : Thread nD τ) (win0_0.stage (cfg0.slots t 0)) fullShare X1 ∗ owns (c : Thread nD τ) (win0_1.stage (cfg0.slots t 1)) fullShare X2 ∗ owns (c : Thread nD τ) (win0_2.stage (cfg0.slots t 2)) fullShare X3 ∗ owns (c : Thread nD τ) (win0_3.stage (cfg0.slots t 3)) fullShare X4 ∗ owns (c : Thread nD τ) (win0_4.stage (cfg0.slots t 4)) fullShare X5 ∗ owns (c : Thread nD τ) (win0_5.stage (cfg0.slots t 5)) fullShare X6 ∗ owns (c : Thread nD τ) (win0_6.stage (cfg0.slots t 6)) fullShare X7 ∗ owns (c : Thread nD τ) (win0_7.stage (cfg0.slots t 7)) fullShare X8 ∗ (((c : Thread nD τ).loc cc0_scratch0) ↦{fullShare} f0) ∗ (((c : Thread nD τ).loc cc0_scratch1) ↦{fullShare} f1) ∗ (((c : Thread nD τ).loc cc0_scratch2) ↦{fullShare} f2) ∗ (((c : Thread nD τ).loc cc0_scratch3) ↦{fullShare} f3) ∗ (((c : Thread nD τ).loc cc0_scratch4) ↦{fullShare} f4) ∗ (((c : Thread nD τ).loc cc0_scratch5) ↦{fullShare} f5) ∗ (((c : Thread nD τ).loc cc0_scratch6) ↦{fullShare} f6) ∗ (((c : Thread nD τ).loc cc0_scratch7) ↦{fullShare} f7) ∗ (((c : Thread nD τ).loc cc0_scratch8) ↦{fullShare} f8) ∗ (((c : Thread nD τ).loc cc0_scratch9) ↦{fullShare} f9) ∗ (((c : Thread nD τ).loc cc0_scratch10) ↦{fullShare} f10) ∗ (((c : Thread nD τ).loc cc0_scratch11) ↦{fullShare} f11) ∗ (((c : Thread nD τ).loc cc0_scratch12) ↦{fullShare} f12)
      ∗ ((owns (c : Thread nD τ) (win0_0.stage (cfg0.slots t 0)) fullShare X1 ∗ owns (c : Thread nD τ) (win0_1.stage (cfg0.slots t 1)) fullShare X2 ∗ owns (c : Thread nD τ) (win0_2.stage (cfg0.slots t 2)) fullShare X3 ∗ owns (c : Thread nD τ) (win0_3.stage (cfg0.slots t 3)) fullShare X4 ∗ owns (c : Thread nD τ) (win0_4.stage (cfg0.slots t 4)) fullShare X5 ∗ owns (c : Thread nD τ) (win0_5.stage (cfg0.slots t 5)) fullShare X6 ∗ owns (c : Thread nD τ) (win0_6.stage (cfg0.slots t 6)) fullShare X7 ∗ owns (c : Thread nD τ) (win0_7.stage (cfg0.slots t 7)) fullShare (outM ⟨X1, X2, X3, X4, X5, X6, X7⟩) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f)) -∗ Q ⟨⟩))
      ⊢ wp frame (wpE (defs₀ (F := F)) Variants.none (c : Thread nD τ) none) Set.univ (bodyAt0 t) Q := by
  rw [hcc t]
  obtain ⟨x', r, ho, h8⟩ := body_runs (𝒱 := Variants.none) (bd := none) (E := Set.univ) (defs := defs₀ (F := F)) (c := c) (Ix := Unit) (Name := ℕ) (U := UR sig nD τ) (Lvl := ℕ)
    (arg1 := (win0_0.stage (cfg0.slots t 0))) (arg2 := (win0_1.stage (cfg0.slots t 1))) (arg3 := (win0_2.stage (cfg0.slots t 2))) (arg4 := (win0_3.stage (cfg0.slots t 3))) (arg5 := (win0_4.stage (cfg0.slots t 4))) (arg6 := (win0_5.stage (cfg0.slots t 5))) (arg7 := (win0_6.stage (cfg0.slots t 6))) (arg8 := (win0_7.stage (cfg0.slots t 7))) (arg9 := (Memref.whole cc0_scratch0)) (arg10 := (Memref.whole cc0_scratch1)) (arg11 := (Memref.whole cc0_scratch2)) (arg12 := (Memref.whole cc0_scratch3)) (arg13 := (Memref.whole cc0_scratch4)) (arg14 := (Memref.whole cc0_scratch5)) (arg15 := (Memref.whole cc0_scratch6)) (arg16 := (Memref.whole cc0_scratch7)) (arg17 := (Memref.whole cc0_scratch8)) (arg18 := (Memref.whole cc0_scratch9)) (arg19 := (Memref.whole cc0_scratch10)) (arg20 := (Memref.whole cc0_scratch11)) (arg21 := (Memref.whole cc0_scratch12))
    (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
    ⟨X1, X2, X3, X4, X5, X6, X7, X8, f0, f1, f2, f3, f4, f5, f6, f7, f8, f9, f10, f11, f12⟩
  have e1 : x'.a1 = X1 := congrArg Ops.q ho
  have e2 : x'.a2 = X2 := congrArg Ops.k ho
  have e3 : x'.a3 = X3 := congrArg Ops.v ho
  have e4 : x'.a4 = X4 := congrArg Ops.sl ho
  have e5 : x'.a5 = X5 := congrArg Ops.o ho
  have e6 : x'.a6 = X6 := congrArg Ops.lse ho
  have e7 : x'.a7 = X7 := congrArg Ops.dy ho
  have e8 : x'.a8 = outM ⟨X1, X2, X3, X4, X5, X6, X7⟩ := h8
  have r := r Q
  unfold held at r
  rw [e1, e2, e3, e4, e5, e6, e7, e8] at r
  simp only [owns_whole] at r
  iintro ⟨H1, H2, H3, H4, H5, H6, H7, H8, H9, H10, H11, H12, H13, H14, H15, H16, H17, H18, H19, H20, H21, HQ⟩
  iapply r $$ [H1 H2 H3 H4 H5 H6 H7 H8 H9 H10 H11 H12 H13 H14 H15 H16 H17 H18 H19 H20 H21]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  iintro ⟨H1, H2, H3, H4, H5, H6, H7, H8, H9, H10, H11, H12, H13, H14, H15, H16, H17, H18, H19, H20, H21⟩
  iapply HQ
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

set_option maxHeartbeats 4000000 in
/-- The pipeline's body obligation. -/
theorem body_obligation (hcc : ∀ t : Fin cfg0.N, bodyAt0 (F := F) t = body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) (c : Dev nD) :
    BodyObligation (dats m 0 c) (defs₀ (F := F)) Variants.none () Set.univ := fun t => by
  have hb0 : ∀ d, (dats m 0 c).before 0 t d = iblk m c 0 t := fun d => before0_0_of m (dats m 0 c) rfl (fun _ => rfl) t d
  have hb1 : ∀ d, (dats m 0 c).before 1 t d = iblk m c 1 t := fun d => before0_1_of m (dats m 0 c) rfl (fun _ => rfl) t d
  have hb2 : ∀ d, (dats m 0 c).before 2 t d = iblk m c 2 t := fun d => before0_2_of m (dats m 0 c) rfl (fun _ => rfl) t d
  have hb3 : ∀ d, (dats m 0 c).before 3 t d = iblk m c 3 t := fun d => before0_3_of m (dats m 0 c) rfl (fun _ => rfl) t d
  have hb4 : ∀ d, (dats m 0 c).before 4 t d = iblk m c 4 t := fun d => before0_4_of m (dats m 0 c) rfl (fun _ => rfl) t d
  have hb5 : ∀ d, (dats m 0 c).before 5 t d = iblk m c 5 t := fun d => before0_5_of m (dats m 0 c) rfl (fun _ => rfl) t d
  have hb6 : ∀ d, (dats m 0 c).before 6 t d = iblk m c 6 t := fun d => before0_6_of m (dats m 0 c) rfl (fun _ => rfl) t d
  rw [bigSep_W0, bigSep_W0]
  simp only [hb0, hb1, hb2, hb3, hb4, hb5, hb6]
  rw [show (dats m 0 c).Φ t.castSucc = Pipeline.ΦA spec0 c from rfl, show (dats m 0 c).Φ t.succ = Pipeline.ΦA spec0 c from rfl]
  unfold Pipeline.ΦA Dat.owesAt Pipeline.owesWithin
  rw [scopedRest0_eq]
  rw [show (dats m 0 c).owed t.castSucc = 0 from rfl, show (dats m 0 c).owed t.succ = 0 from rfl]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩⟩, HP⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (point hcc c t (iblk m c 0 t) (iblk m c 1 t) (iblk m c 2 t) (iblk m c 3 t) (iblk m c 4 t) (iblk m c 5 t) (iblk m c 6 t) ((dats m 0 c).before 7 t d7) f0 f1 f2 f3 f4 f5 f6 f7 f8 f9 f10 f11 f12)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iintro ⟨H0, H1, H2, H3, H4, H5, H6, H7, S0, S1, S2, S3, S4, S5, S6, S7, S8, S9, S10, S11, S12⟩
  isplitl [S0 S1 S2 S3 S4 S5 S6 S7 S8 S9 S10 S11 S12 HP]
  · isplitr [HP]; swap; · iexact HP
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12
  isplitl [HO]
  · iexists W; isplitr; · ipureintro; exact hW
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The result as the pipeline leaves it. -/
def result (c : Dev nD) : Buf (Elt F) ((c : Thread nD τ).loc main_v92) := (dats m 0 c).arrAt 7 cfg0.N

set_option maxHeartbeats 4000000 in
/-- The run: arguments unchanged, the result as the pipeline leaves it, every counter at zero. -/
theorem run_main (hcc : ∀ t : Fin cfg0.N, bodyAt0 (F := F) t = body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v92) = result m c) ∧ r.2.sem = fun _ => 0) :=
  Pipeline.θ_run_frame_shared cfgs (dats m) (0 : Fin 1) launch₀0 defs₀ Variants.none m ρ main
    (fun c => (body_obligation m hcc c).loose) (fun _ _ _ => rfl) (fun _ _ => rfl) (V m) (hmain m Variants.none) (fun _ _ => rfl) (fun _ _ => rfl) _
    fun r ⟨h, hs⟩ => ⟨fun c => ⟨⟨(((h c).1 2).trans ((dats m 0 c).arrAt_in 2 rfl _)).trans (V_main_arg0 m c),
      (((h c).1 3).trans ((dats m 0 c).arrAt_in 3 rfl _)).trans (V_main_arg1 m c),
      (((h c).1 6).trans ((dats m 0 c).arrAt_in 6 rfl _)).trans (V_main_arg2 m c)⟩, (h c).1 7⟩, hs⟩

end Cert.AttnBwd

end
-- ==== Proof.BodyEq.lean ====
module

public import proofs.«01_k».proof.Proof.Shape
public import Idealize.ShloMosaic.PureOps.Ideal

@[expose] public section

set_option maxHeartbeats 4000000
set_option maxRecDepth 20000

open Idealize.ShloMosaic
open scoped Idealize.ShloMosaic.ProgEq

prog_eq Cert.AttnBwd.body_ideal : Cert.KernelIdeal.cc0_attn_bwd Cert.AttnBwd.body from Cert.KernelIdeal to Cert.KernelIdeal at Ideal inferInstance by
  intros; rfl

end
-- ==== Proof.Twin.lean ====
module

public import proofs.«01_k».proof.Proof.Shape
public import proofs.«01_k».proof.Kernel
public import Idealize.ShloMosaic.PureOps.BitExact

@[expose] public section

set_option maxHeartbeats 4000000
set_option maxRecDepth 20000

open Idealize.ShloMosaic
open scoped Idealize.ShloMosaic.ProgEq

prog_eq Cert.AttnBwd.body_bits : Cert.KernelIdeal.cc0_attn_bwd Cert.AttnBwd.body from Cert.KernelIdeal to Cert.KernelIdeal at Bits inferInstance by
  intros; rfl

prog_eq Cert.AttnBwd.twin : Cert.Kernel.cc0_attn_bwd Cert.KernelIdeal.cc0_attn_bwd from Cert.Kernel to Cert.KernelIdeal at Bits inferInstance by
  intros; rfl

lift_eq Cert.AttnBwd.twin_defs₀ : Cert.Kernel.defs₀ Cert.KernelIdeal.defs₀ via Cert.AttnBwd.twin of Cert.Kernel.cc0_attn_bwd Cert.KernelIdeal.cc0_attn_bwd from Cert.Kernel to Cert.KernelIdeal at Bits inferInstance

lift_eq Cert.AttnBwd.twin_defs : Cert.Kernel.defs Cert.KernelIdeal.defs via Cert.AttnBwd.twin_defs₀ of Cert.Kernel.defs₀ Cert.KernelIdeal.defs₀ from Cert.Kernel to Cert.KernelIdeal at Bits inferInstance

end
-- ==== Proof.Frames.lean ====
/-
  The frames of the attention backward kernel: the run of `Launch.lean` at the extended reals, and the same run at float words for the
  kernel as printed, whose text is the same.
-/
module

public import proofs.«01_k».proof.Defs
public import proofs.«01_k».proof.Proof.Launch
public import proofs.«01_k».proof.Proof.BodyEq
public import proofs.«01_k».proof.Proof.Twin
public import proofs.«01_k».proof.Proof.Gen.Kernel

@[expose] public section

noncomputable section

namespace Cert.AttnBwd

open Idealize.ShloMosaic Idealize.SL.Sem
open Cert.KernelIdeal Cert.KernelIdeal.Gen

theorem at_ideal (t : Fin cfg0.N) : bodyAt0 (F := Ideal) t = body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) := by
  unfold bodyAt0
  exact body_ideal ..

theorem at_bits (t : Fin cfg0.N) : bodyAt0 (F := Bits) t = body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) := by
  unfold bodyAt0
  exact body_bits ..

/-- The frame of the ideal program. -/
theorem frame_ideal : Cert.quiescent_KernelIdeal := fun m ρ _ =>
  (θ_run Cert.KernelIdeal.defs _ _).mono (fun _ h => ⟨fun c => (h.1 c).1, h.2⟩) (run_main (F := Ideal) m ρ at_ideal)

set_option maxHeartbeats 4000000 in
set_option backward.isDefEq.respectTransparency.types false in
/-- The frame of the program as printed. -/
theorem frame_kernel : Cert.quiescent_Kernel := fun m ρ _ => by
  rw [show Cert.Kernel.defs (F := Bits) = Cert.KernelIdeal.defs (F := Bits) from twin_defs ..]
  exact (θ_run Cert.KernelIdeal.defs _ _).mono (fun _ h => ⟨fun c => (h.1 c).1, h.2⟩) (run_main (F := Bits) m ρ at_bits)

end Cert.AttnBwd

end
-- ==== Proof.Dense.lean ====
/-
  Dilated attention over the reals: the scores of the keys that a query sees, the softmax of each dilation, the mixture of the
  dilations, and the derivative of the mixture written out step by step. The equations at the end say that the steps of the
  derivative are those of one softmax over all dilations together, given its log-sum.
-/
module

public import Idealize.ShloMosaic.PureOps.Ideal.Laws

@[expose] public section

noncomputable section

namespace Cert.Dense

open scoped BigOperators

/-- The three dilations. -/
def dil (g : Fin 3) : ℕ := ![1, 4, 16] g

theorem dil_pos (g : Fin 3) : 0 < dil g := by fin_cases g <;> simp [dil]

/-- Query `t` sees key `j`: the keys a multiple of the dilation behind, at most 128 steps back. -/
def Sees (g : Fin 3) (t j : Fin 2048) : Prop :=
  j.val ≤ t.val ∧ (t.val - j.val) % dil g = 0 ∧ (t.val - j.val) / dil g ≤ 128

instance (g : Fin 3) (t j : Fin 2048) : Decidable (Sees g t j) := by unfold Sees; infer_instance

theorem sees_self (g : Fin 3) (t : Fin 2048) : Sees g t t := by simp [Sees]

/-- The heads' queries, keys, values, cotangents and slopes, and the scale of the scores. -/
structure Data where
  q : Fin 16 → Fin 2048 → Fin 128 → ℝ
  k : Fin 16 → Fin 2048 → Fin 128 → ℝ
  v : Fin 16 → Fin 2048 → Fin 128 → ℝ
  dy : Fin 16 → Fin 2048 → Fin 128 → ℝ
  sl : Fin 16 → ℝ
  c : ℝ

variable (X : Data) (g : Fin 3) (h : Fin 16) (t j : Fin 2048) (e : Fin 128)

/-- A score: the scaled product and the bias. -/
def sc : ℝ := (∑ e, X.q h t e * X.k h j e) * X.c + -(X.sl h * (dil g : ℝ)) * (((t.val - j.val) / dil g : ℕ) : ℝ)

/-- The greatest score of a query. -/
def mx : ℝ := (Finset.univ.filter (Sees g t)).sup' ⟨t, by simp [sees_self]⟩ (sc X g h t)

/-- The exponentials of the scores, -/
def p : ℝ := if Sees g t j then Real.exp (sc X g h t j - mx X g h t) else 0
/-- their sum, -/
def l : ℝ := ∑ j, p X g h t j
/-- the sum of the values that they weigh, -/
def pv : ℝ := ∑ j, X.v h j e * p X g h t j
/-- the output of a dilation -/
def o : ℝ := pv X g h t e * (1 / l X g h t)
/-- and its log-sum. -/
def ls : ℝ := mx X g h t + Real.log (l X g h t)

/-- The greatest log-sum of the dilations, -/
def top : ℝ := Finset.univ.sup' ⟨0, Finset.mem_univ _⟩ fun g => ls X g h t
/-- the exponentials of the log-sums, -/
def ex : ℝ := Real.exp (ls X g h t - top X h t)
/-- their sum, -/
def E : ℝ := ∑ g, ex X g h t
/-- the dilations' weights, -/
def w : ℝ := ex X g h t * (1 / E X h t)
/-- the output -/
def y : ℝ := ∑ g, w X g h t * o X g h t e
/-- and the log-sum over all dilations. -/
def L : ℝ := top X h t + Real.log (E X h t)

/-- The cotangent's product with a dilation's output, -/
def D : ℝ := ∑ e, X.dy h t e * o X g h t e
/-- the cotangent of a dilation's log-sum, -/
def dls : ℝ := (D X g h t * (1 / E X h t) + -(∑ g, D X g h t * (1 / (E X h t * E X h t)) * ex X g h t)) * ex X g h t
/-- that of the weighted values -/
def dO : ℝ := w X g h t * X.dy h t e * (1 / l X g h t)
/-- and that of a score, but for the greatest score's own part. -/
def dp : ℝ := (∑ e, dO X g h t e * X.v h j e
  + (dls X g h t * (1 / l X g h t) + -(∑ e, w X g h t * X.dy h t e * (1 / (l X g h t * l X g h t)) * pv X g h t e))) * p X g h t j

/-- A probability of the softmax over all dilations, -/
def P : ℝ := if Sees g t j then Real.exp (sc X g h t j - L X h t) else 0
/-- the cotangent's product with the output -/
def dlt : ℝ := ∑ e, X.dy h t e * y X h t e
/-- and the gradient of a score. -/
def dS : ℝ := P X g h t j * ((∑ e, X.dy h t e * X.v h j e) - dlt X h t)

theorem le_mx (hs : Sees g t j) : sc X g h t j ≤ mx X g h t :=
  Finset.le_sup' (sc X g h t) (by simpa using hs)

theorem mx_attained : ∃ j, Sees g t j ∧ mx X g h t = sc X g h t j := by
  obtain ⟨j, hj, e⟩ := Finset.exists_mem_eq_sup' (s := Finset.univ.filter (Sees g t)) ⟨t, by simp [sees_self]⟩ (sc X g h t)
  exact ⟨j, by simpa using hj, e⟩

theorem p_nonneg : 0 ≤ p X g h t j := by unfold p; split <;> positivity

theorem l_pos : 0 < l X g h t :=
  Finset.sum_pos' (fun j _ => p_nonneg X g h t j) ⟨t, Finset.mem_univ _, by unfold p; rw [if_pos (sees_self g t)]; positivity⟩

theorem ex_pos : 0 < ex X g h t := Real.exp_pos _

theorem E_pos : 0 < E X h t := Finset.sum_pos (fun g _ => ex_pos X g h t) ⟨0, Finset.mem_univ _⟩

theorem le_top : ls X g h t ≤ top X h t := Finset.le_sup' (fun g => ls X g h t) (Finset.mem_univ g)

theorem top_attained : ∃ g, top X h t = ls X g h t := by
  obtain ⟨g, _, e⟩ := Finset.exists_mem_eq_sup' (s := (Finset.univ : Finset (Fin 3))) ⟨0, Finset.mem_univ _⟩ fun g => ls X g h t
  exact ⟨g, e⟩

/-- The softmax over all dilations is each dilation's softmax, weighted. -/
theorem P_eq : P X g h t j = w X g h t * (1 / l X g h t) * p X g h t j := by
  have hl := l_pos X g h t
  have hE := E_pos X h t
  unfold P p
  split
  · unfold w ex ls L
    rw [Real.exp_sub, Real.exp_sub, Real.exp_sub, Real.exp_add, Real.exp_add, Real.exp_log hl, Real.exp_log hE]
    have := (Real.exp_pos (mx X g h t)).ne'
    have := (Real.exp_pos (top X h t)).ne'
    field_simp
  · simp

theorem dlt_eq : dlt X h t = ∑ g, w X g h t * D X g h t := by
  unfold dlt y D
  simp only [Finset.mul_sum]
  rw [Finset.sum_comm]
  exact Finset.sum_congr rfl fun g _ => Finset.sum_congr rfl fun e _ => by ring

theorem dls_eq : dls X g h t = w X g h t * (D X g h t - dlt X h t) := by
  have hE := (E_pos X h t).ne'
  rw [dlt_eq]
  unfold dls w
  have : ∑ g, D X g h t * (1 / (E X h t * E X h t)) * ex X g h t = (1 / E X h t) * ∑ g, ex X g h t * (1 / E X h t) * D X g h t := by
    rw [Finset.mul_sum]
    exact Finset.sum_congr rfl fun g _ => by field_simp
  rw [this]; ring

theorem D_eq : ∑ e, w X g h t * X.dy h t e * (1 / (l X g h t * l X g h t)) * pv X g h t e = w X g h t * (1 / l X g h t) * D X g h t := by
  have hl := (l_pos X g h t).ne'
  unfold D o
  rw [Finset.mul_sum]
  exact Finset.sum_congr rfl fun e _ => by field_simp

/-- The derivative's steps give the gradient of the softmax over all dilations. -/
theorem dp_eq : dp X g h t j = dS X g h t j := by
  unfold dp dS
  rw [P_eq, D_eq, dls_eq]
  have : ∑ e, dO X g h t e * X.v h j e = w X g h t * (1 / l X g h t) * ∑ e, X.dy h t e * X.v h j e := by
    unfold dO
    rw [Finset.mul_sum]
    exact Finset.sum_congr rfl fun e _ => by ring
  rw [this]; ring

theorem sum_p_dy : ∑ j, p X g h t j * (∑ e, X.dy h t e * X.v h j e) = l X g h t * D X g h t := by
  have hl := (l_pos X g h t).ne'
  unfold D o pv
  simp only [Finset.mul_sum, Finset.sum_mul]
  rw [Finset.sum_comm]
  exact Finset.sum_congr rfl fun e _ => Finset.sum_congr rfl fun j _ => by field_simp

/-- The greatest score has no part in the derivative. -/
theorem dls_add_sum : dls X g h t + ∑ j, -dp X g h t j = 0 := by
  have hl := (l_pos X g h t).ne'
  have h1 : ∑ j, dp X g h t j = w X g h t * (1 / l X g h t) * (∑ j, p X g h t j * (∑ e, X.dy h t e * X.v h j e) - l X g h t * dlt X h t) := by
    rw [show l X g h t * dlt X h t = ∑ j, p X g h t j * dlt X h t by rw [← Finset.sum_mul]; rfl, ← Finset.sum_sub_distrib, Finset.mul_sum]
    exact Finset.sum_congr rfl fun j _ => by rw [dp_eq, dS, P_eq]; ring
  rw [Finset.sum_neg_distrib, h1, sum_p_dy, dls_eq]
  field_simp; ring

/-- The gradients of the queries, of the keys and of the values. -/
def dq : ℝ := ∑ j, (∑ g, dS X g h t j) * X.c * X.k h j e
def dk : ℝ := ∑ t, (∑ g, dS X g h t j) * X.c * X.q h t e
def dv : ℝ := ∑ g, ∑ t, P X g h t j * X.dy h t e

end Cert.Dense

end
-- ==== Proof.Coe.lean ====
/-
  Facts on the extended reals that the proof uses on both sides: sums and greatest elements of real values, the literals, and the
  words that decide which keys a query sees.
-/
module

public import proofs.«01_k».proof.Proof.Dense
public import Idealize.ShloMosaic.Lib.Pointwise
public import Idealize.ShloMosaic.Lib.IdealHost
public import Idealize.ShloMosaic.Lib.WordCmp
public import Idealize.ShloMosaic.Lib.Routing.Words

@[expose] public section

noncomputable section

namespace Cert.AttnMath

open Idealize.ShloMosaic Cert.Dense

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max {ι : Type*} [Fintype ι] (f : ι → EReal) (x : EReal) (h : ∀ i, f i ≤ x) (i : ι) (hi : f i = x) :
    (Finset.univ : Finset ι).fold max ⊥ f = x :=
  le_antisymm (Finset.fold_max_le x |>.2 ⟨bot_le, fun i _ => h i⟩) (Finset.le_fold_max x |>.2 (Or.inr ⟨i, Finset.mem_univ _, hi.ge⟩))

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

/-- The scale of the scores. -/
def scale : ℝ := (Ideal.ofBits .f32 0x3DB504F3#32).toReal

theorem scale_eq : Ideal.ofBits .f32 0x3DB504F3#32 = (scale : EReal) := by
  have h : Ideal.ofBits .f32 0x3DB504F3#32 = ((11863283 * (2 ^ 27)⁻¹ : ℝ) : EReal) := by simp [Ideal.ofBits, Ideal.ieee]
  rw [scale, h, EReal.toReal_coe]

/-- A real that is below the greatest extended real in size is a real. -/
theorem coe_toReal_of_abs {x : EReal} (h : max x (-x) < ⊤) : ((x.toReal : ℝ) : EReal) = x := by
  induction x with
  | bot => simp at h
  | top => simp at h
  | coe r => rfl

/-- The word of a dilation. -/
def dilWord (g : Fin 3) : BitVec 32 := BitVec.ofNat 32 (dil g)

theorem gap_word {t j : Fin 2048} (h : j.val ≤ t.val) :
    IntOp.subi (BitVec.ofNat 32 t.val) (BitVec.ofNat 32 j.val) = BitVec.ofNat 32 (t.val - j.val) := by
  have ht := t.isLt
  have hj := j.isLt
  apply BitVec.eq_of_toNat_eq
  simp only [IntOp.subi, BitVec.toNat_sub, BitVec.toNat_ofNat]
  omega

theorem dil_le (g : Fin 3) : dil g ≤ 16 := by fin_cases g <;> simp [dil]

theorem quot_word (g : Fin 3) {t j : Fin 2048} (h : j.val ≤ t.val) :
    IntOp.divsi .host (IntOp.subi (BitVec.ofNat 32 t.val) (BitVec.ofNat 32 j.val)) (dilWord g)
      = BitVec.ofNat 32 ((t.val - j.val) / dil g) := by
  rw [gap_word h]
  exact Routing.divsi_word _ (by have := t.isLt; omega) (dil_pos g) (by have := dil_le g; omega)

theorem rem_word (g : Fin 3) {t j : Fin 2048} (h : j.val ≤ t.val) :
    IntOp.remsi .host (IntOp.subi (BitVec.ofNat 32 t.val) (BitVec.ofNat 32 j.val)) (dilWord g)
      = BitVec.ofNat 32 ((t.val - j.val) % dil g) := by
  rw [gap_word h]
  exact Routing.remsi_word _ (by have := t.isLt; omega) (dil_pos g) (by have := dil_le g; omega)

/-- The bit that says whether a query sees a key. -/
theorem sees_word (g : Fin 3) (t j : Fin 2048) :
    IntOp.andi (IntOp.andi (IntOp.cmpi .sge (IntOp.subi (BitVec.ofNat 32 t.val) (BitVec.ofNat 32 j.val)) 0#32)
        (IntOp.cmpi .eq (IntOp.remsi .host (IntOp.subi (BitVec.ofNat 32 t.val) (BitVec.ofNat 32 j.val)) (dilWord g)) 0#32))
      (IntOp.cmpi .sle (IntOp.divsi .host (IntOp.subi (BitVec.ofNat 32 t.val) (BitVec.ofNat 32 j.val)) (dilWord g)) 128#32)
      = BitVec.ofBool (decide (Sees g t j)) := by
  have ht := t.isLt
  have hj := j.isLt
  by_cases h : j.val ≤ t.val
  · have hq : (t.val - j.val) / dil g < 2048 := lt_of_le_of_lt (Nat.div_le_self _ _) (by omega)
    have hr : (t.val - j.val) % dil g < 2048 := lt_of_le_of_lt (Nat.mod_le _ _) (by omega)
    rw [quot_word g h, rem_word g h, gap_word h, show (0#32) = BitVec.ofNat 32 0 from rfl, show (128#32) = BitVec.ofNat 32 128 from rfl,
      WordCmp.cmpi_sge_ofNat (by omega) (by omega), WordCmp.cmpi_eq_ofNat (by omega) (by omega), WordCmp.cmpi_sle_ofNat (by omega) (by omega),
      WordCmp.andi_ofBool, WordCmp.andi_ofBool]
    congr 1
    simp [Sees, h, Bool.decide_and]
  · have h0 : IntOp.cmpi .sge (IntOp.subi (BitVec.ofNat 32 t.val) (BitVec.ofNat 32 j.val)) 0#32 = 0#1 := by
      rw [WordCmp.cmpi_sge_zero, decide_eq_false]; · rfl
      simp only [IntOp.subi, BitVec.toNat_sub, BitVec.toNat_ofNat]
      omega
    rw [h0, decide_eq_false (by simp [Sees, h])]
    simp [IntOp.andi]

theorem word_toInt {n : ℕ} (h : n < 2 ^ 31) : (BitVec.ofNat 32 n).toInt = n := WordCmp.toInt_ofNat_of_lt h

/-- The step of a dilation, and how many steps back a key lies, as reals. -/
theorem dil_real (g : Fin 3) : (FloatOps.sitofp .f32 (dilWord g) : Ideal .f32) = ((dil g : ℝ) : EReal) := by
  show (((dilWord g).toInt : ℝ) : EReal) = _
  rw [dilWord, word_toInt (by have := dil_le g; omega)]; simp

theorem quot_real (g : Fin 3) {t j : Fin 2048} (h : j.val ≤ t.val) :
    (FloatOps.sitofp .f32 (IntOp.divsi .host (IntOp.subi (BitVec.ofNat 32 t.val) (BitVec.ofNat 32 j.val)) (dilWord g)) : Ideal .f32)
      = ((((t.val - j.val) / dil g : ℕ) : ℝ) : EReal) := by
  rw [quot_word g h]
  show (((BitVec.ofNat 32 _).toInt : ℝ) : EReal) = _
  rw [word_toInt (lt_of_le_of_lt (Nat.div_le_self _ _) (by have := t.isLt; omega)), Int.cast_natCast]

/-- The lane of a head. -/
def lane (h : Fin 16) (e : Fin 128) : Fin 2048 := ⟨h.val * 128 + e.val, by omega⟩

theorem lane_head (h : Fin 16) (e : Fin 128) (hh : (lane h e).val / 128 < 16) : (⟨(lane h e).val / 128, hh⟩ : Fin 16) = h :=
  Fin.ext (show (h.val * 128 + e.val) / 128 = h.val by omega)

theorem lane_lane (h : Fin 16) (e : Fin 128) (hh : (lane h e).val % 128 < 128) : (⟨(lane h e).val % 128, hh⟩ : Fin 128) = e :=
  Fin.ext (show (h.val * 128 + e.val) % 128 = e.val by omega)

theorem lane_surj (l : Fin 2048) : ∃ h e, l = lane h e :=
  ⟨⟨l.val / 128, by omega⟩, ⟨l.val % 128, by omega⟩, Fin.ext (show l.val = l.val / 128 * 128 + l.val % 128 by omega)⟩

/-- The three gradients, one array. -/
def grad (X : Data) (s : Fin 3) (t l : Fin 2048) : ℝ :=
  if s.val = 0 then dq X ⟨l.val / 128, by omega⟩ t ⟨l.val % 128, by omega⟩
  else if s.val = 1 then dk X ⟨l.val / 128, by omega⟩ t ⟨l.val % 128, by omega⟩
  else dv X ⟨l.val / 128, by omega⟩ t ⟨l.val % 128, by omega⟩

theorem grad_lane (X : Data) (s : Fin 3) (h : Fin 16) (t : Fin 2048) (e : Fin 128) :
    grad X s t (lane h e) = if s.val = 0 then dq X h t e else if s.val = 1 then dk X h t e else dv X h t e := by
  unfold grad
  rw [lane_head, lane_lane]

/-- The data that three arrays hold. -/
def dataOf (A : (⟨3, ![7, 2048, 2048]⟩ : Shape).Idx → EReal) (B : (⟨3, ![16, 1, 128]⟩ : Shape).Idx → EReal)
    (C : (⟨2, ![2048, 2048]⟩ : Shape).Idx → EReal) : Data where
  q h t e := (A (ix3 0 t (lane h e))).toReal
  k h t e := (A (ix3 1 t (lane h e))).toReal
  v h t e := (A (ix3 2 t (lane h e))).toReal
  dy h t e := (C (ix2 t (lane h e))).toReal
  sl h := (B (ix3 h 0 0)).toReal
  c := scale

end Cert.AttnMath

end
-- ==== Proof.Block.lean ====
/-
  A block's probabilities and gradients read at an index, where the streams are real numbers, and the gradients of a whole stream:
  sums over all its rows.
-/
module

public import proofs.«01_k».proof.Proof.Model
public import proofs.«01_k».proof.Proof.Coe

@[expose] public section

noncomputable section

namespace Cert.AttnBwd

open Idealize.ShloMosaic Idealize.ShloMosaic.TcCoe
open Cert.KernelIdeal Cert.Mem Cert.AttnMath
open Facts₀ Facts
open scoped BigOperators

/-! Sums over the rows of a stream whose summands are zero away from some rows. -/

theorem sum_shift (f : ℕ → ℝ) (a n : ℕ) (h : a + n ≤ 2048) (hf : ∀ r, r < 2048 → ¬(a ≤ r ∧ r < a + n) → f r = 0) :
    ∑ i : Fin n, f (a + i.val) = ∑ r ∈ Finset.range 2048, f r := by
  rw [Fin.sum_univ_eq_sum_range (fun i => f (a + i)) n]
  have e := Finset.sum_Ico_eq_sum_range f a (a + n)
  rw [Nat.add_sub_cancel_left] at e
  rw [← e]
  refine Finset.sum_subset (fun r hr => ?_) fun r hr hn => ?_
  · rw [Finset.mem_Ico] at hr; rw [Finset.mem_range]; omega
  · rw [Finset.mem_range] at hr; rw [Finset.mem_Ico] at hn; exact hf r hr hn

theorem sum_two (f : ℕ → ℝ) (t : ℕ) (h : t < 15) (hf : ∀ r, r < 2048 → ¬(128 * t ≤ r ∧ r < 128 * t + 256) → f r = 0) :
    (∑ i : Fin 128, f (128 * t + i.val)) + ∑ i : Fin 128, f (128 * (t + 1) + i.val) = ∑ r ∈ Finset.range 2048, f r := by
  rw [← sum_shift f (128 * t) 256 (by omega) hf, Fin.sum_univ_eq_sum_range (fun i => f (128 * t + i)) 256,
    Fin.sum_univ_eq_sum_range (fun i => f (128 * t + i)) 128, Fin.sum_univ_eq_sum_range (fun i => f (128 * (t + 1) + i)) 128,
    show (256 : ℕ) = 128 + 128 from rfl, Finset.sum_range_add]
  exact congrArg _ (Finset.sum_congr rfl fun i _ => congrArg f (by omega))

theorem sum_window (f : ℕ → ℝ) (b : ℕ) (h : b < 16) (hf : ∀ r, r < 2048 → ¬(128 * b ≤ r + 128 ∧ r < 128 * b + 128) → f r = 0) :
    (∑ j : Fin 256, if 128 ≤ 128 * b + j.val then f (128 * b + j.val - 128) else 0) = ∑ r ∈ Finset.range 2048, f r := by
  rw [Fin.sum_univ_eq_sum_range (fun j => if 128 ≤ 128 * b + j then f (128 * b + j - 128) else 0) 256, ← Finset.sum_filter]
  rw [← Finset.sum_filter_of_ne (s := Finset.range 2048) (p := fun r => 128 * b ≤ r + 128 ∧ r < 128 * b + 128)
    (fun r hr hne => by_contra fun hn => hne (hf r (Finset.mem_range.1 hr) hn))]
  refine Finset.sum_nbij' (fun j => 128 * b + j - 128) (fun r => r + 128 - 128 * b) ?_ ?_ ?_ ?_ ?_
  · intro j hj; rw [Finset.mem_filter, Finset.mem_range] at hj ⊢; omega
  · intro r hr; rw [Finset.mem_filter, Finset.mem_range] at hr ⊢; omega
  · intro j hj; rw [Finset.mem_filter, Finset.mem_range] at hj; show 128 * b + j - 128 + 128 - 128 * b = j; omega
  · intro r hr; rw [Finset.mem_filter, Finset.mem_range] at hr; show 128 * b + (r + 128 - 128 * b) - 128 = r; omega
  · intro j hj; rfl

/-- The streams of a dilation as real numbers, the bias of one step, and the blocks of a segment. -/
structure RS where
  q : ℕ → Fin 128 → ℝ
  k : ℕ → Fin 128 → ℝ
  v : ℕ → Fin 128 → ℝ
  dy : ℕ → Fin 128 → ℝ
  L : ℕ → ℝ
  δ : ℕ → ℝ
  s : ℝ
  n : ℕ

/-- Row `r` sees row `r'`: the same segment, and at most 128 rows back. -/
def Near (n r r' : ℕ) : Prop := r' ≤ r ∧ r - r' ≤ 128 ∧ r' / (128 * n) = r / (128 * n)

instance (n r r' : ℕ) : Decidable (Near n r r') := by unfold Near; infer_instance

/-- The probability of a row's key, -/
def PS (R : RS) (r r' : ℕ) : ℝ :=
  if Near R.n r r' then Real.exp ((∑ e, R.q r e * R.k r' e) * scale + -R.s * ((r : ℝ) - (r' : ℝ)) - R.L r) else 0
/-- and the gradient of its score. -/
def DS (R : RS) (r r' : ℕ) : ℝ := PS R r r' * ((∑ e, R.dy r e * R.v r' e) - R.δ r)

theorem PS_far (R : RS) {r r' : ℕ} (h : ¬(r' ≤ r ∧ r ≤ r' + 128)) : PS R r r' = 0 :=
  if_neg fun hn => h ⟨hn.1, by have := hn.2.1; omega⟩

theorem DS_far (R : RS) {r r' : ℕ} (h : ¬(r' ≤ r ∧ r ≤ r' + 128)) : DS R r r' = 0 := by rw [DS, PS_far R h, zero_mul]

/-- The mask of a block, in the rows of its stream. -/
theorem near_iff {n b i j : ℕ} (hn : n = 16 ∨ n = 4 ∨ n = 1) (hi : i < 128) (hj : j < 256) :
    ((i ≤ j ∧ j ≤ 128 + i) ∧ (b % n = 0 → 128 ≤ j)) ↔ (128 ≤ 128 * b + j ∧ Near n (128 * b + i) (128 * b + j - 128)) := by
  unfold Near
  rcases hn with rfl | rfl | rfl <;> omega

variable [Facts]

theorem word_gap (i : Fin 128) (j : Fin 256) :
    (IntOp.subi (IntOp.addi 128#32 (BitVec.ofNat 32 i.val)) (BitVec.ofNat 32 j.val)).toInt = 128 + (i.val : ℤ) - (j.val : ℤ) := by
  have hi := i.isLt
  have hj := j.isLt
  simp only [IntOp.subi, IntOp.addi, BitVec.toInt_sub, BitVec.toInt_add]
  rw [word_toInt (by omega), word_toInt (by omega), word_toInt (by omega), Int.bmod_def, Int.bmod_def]
  push_cast
  omega

theorem band_read (i : Fin 128) (j : Fin 256) : bandV (ix2 i j) = BitVec.ofBool (decide (i.val ≤ j.val ∧ j.val ≤ 128 + i.val)) := by
  pointwise [bandV, diffV]
  have h := word_gap i j
  generalize IntOp.subi (IntOp.addi 128#32 (BitVec.ofNat 32 i.val)) (BitVec.ofNat 32 j.val) = w at h ⊢
  have h1 : IntOp.cmpi .sge w 0#32 = BitVec.ofBool (decide (j.val ≤ 128 + i.val)) := by
    show BitVec.ofBool (BitVec.sle 0#32 w) = _
    rw [BitVec.sle, h]
    congr 1
    simp only [BitVec.toInt_zero, decide_eq_decide]
    omega
  have h2 : IntOp.cmpi .sle w 128#32 = BitVec.ofBool (decide (i.val ≤ j.val)) := by
    show BitVec.ofBool (BitVec.sle w 128#32) = _
    rw [BitVec.sle, h]
    congr 1
    have : (128#32).toInt = 128 := by decide
    simp only [this, decide_eq_decide]
    omega
  rw [h1, h2, WordCmp.andi_ofBool, Bool.and_comm, ← Bool.decide_and]

theorem bias_read {sl fac : ℝ} {a : FVec Ideal S1x1 .f32} {b : EReal} (ha : a (ix2 0 0) = (sl : EReal)) (hb : b = (fac : EReal)) (i : Fin 128) (j : Fin 256) :
    biasV a b (ix2 i j) = ((-(sl * fac) * ((128 + i.val : ℝ) - (j.val : ℝ)) : ℝ) : EReal) := by
  pointwise [biasV, diffV]
  rw [ha, hb, ← EReal.coe_mul, zero_sub, ← EReal.coe_neg]
  refine (congrArg (((-(sl * fac) : ℝ) : EReal) * ·) (show _ = (((128 + i.val : ℝ) - (j.val : ℝ) : ℝ) : EReal) from ?_)).trans (EReal.coe_mul _ _).symm
  show (((IntOp.subi (IntOp.addi 128#32 (BitVec.ofNat 32 i.val)) (BitVec.ofNat 32 j.val)).toInt : ℝ) : EReal) = _
  rw [word_gap]
  push_cast
  rfl

theorem first_read (t : Fin 16) : firstOf 16#32 t.val = (if t.val % 16 = 0 then 128#32 else 0#32) ∧ firstOf 4#32 t.val = (if t.val % 4 = 0 then 128#32 else 0#32)
    ∧ firstOf 1#32 t.val = (if t.val % 1 = 0 then 128#32 else 0#32) := by
  fin_cases t <;> exact ⟨rfl, rfl, rfl⟩

/-- The word of a segment's blocks. -/
theorem first_of {n : ℕ} (hn : n = 16 ∨ n = 4 ∨ n = 1) (t : Fin 16) : firstOf (BitVec.ofNat 32 n) t.val = if t.val % n = 0 then 128#32 else 0#32 := by
  rcases hn with rfl | rfl | rfl
  · exact (first_read t).1
  · exact (first_read t).2.1
  · exact (first_read t).2.2

theorem ge_first {n b : ℕ} (j : Fin 256) : IntOp.cmpi .sge (BitVec.ofNat 32 j.val) (if b % n = 0 then 128#32 else 0#32) = BitVec.ofBool (decide (b % n = 0 → 128 ≤ j.val)) := by
  have hj := j.isLt
  by_cases h : b % n = 0
  · rw [if_pos h, show (128#32) = BitVec.ofNat 32 128 from rfl, WordCmp.cmpi_sge_ofNat (by omega) (by omega)]
    congr 1
    simp [h]
  · rw [if_neg h, show (0#32) = BitVec.ofNat 32 0 from rfl, WordCmp.cmpi_sge_ofNat (by omega) (by omega)]
    congr 1
    simp [h]

/-- The streams `S` hold the real numbers `R`. -/
structure Holds (S : Streams Ideal) (bias : FVec Ideal S128x256 .f32) (R : RS) : Prop where
  q : ∀ (r : Fin 2048) e, S.q (ix2 r e) = (R.q r.val e : EReal)
  k : ∀ (r : Fin 2048) e, S.k (ix2 r e) = (R.k r.val e : EReal)
  v : ∀ (r : Fin 2048) e, S.v (ix2 r e) = (R.v r.val e : EReal)
  dy : ∀ (r : Fin 2048) e, S.dy (ix2 r e) = (R.dy r.val e : EReal)
  lse : ∀ (r : Fin 2048) e, S.lse (ix2 r e) = (R.L r.val : EReal)
  dl : ∀ (r : Fin 2048) e, S.dl (ix2 r e) = (R.δ r.val : EReal)
  bias : ∀ (i : Fin 128) (j : Fin 256), bias (ix2 i j) = ((-R.s * ((128 + i.val : ℝ) - (j.val : ℝ)) : ℝ) : EReal)
  n : R.n = 16 ∨ R.n = 4 ∨ R.n = 1

theorem rows_read {α : Type} (X : S2048x128.Idx → α) (b : Fin 16) (i e : Fin 128) : rows X b.val (ix2 i e) = X (ix2 ⟨128 * b.val + i.val, by omega⟩ e) := by
  have hb : (128 * b.val + i.val) % 2048 = 128 * b.val + i.val := Nat.mod_eq_of_lt (by omega)
  refine congrArg X (funext fun a => Fin.ext ?_)
  match a with
  | ⟨0, _⟩ => exact hb
  | ⟨1, _⟩ => rfl

theorem window_read {α : Type} (X : S2048x128.Idx → α) (b : Nat) (j : Fin 256) (e : Fin 128) :
    window X b (ix2 j e) = if h : j.val < 128 then rows X (b - 1) (ix2 ⟨j.val, h⟩ e) else rows X b (ix2 ⟨j.val - 128, by omega⟩ e) := by
  pointwise [window]

/-- A window's row that its stream has. -/
theorem window_real {X : S2048x128.Idx → EReal} {K : ℕ → Fin 128 → ℝ} (hX : ∀ (r : Fin 2048) e, X (ix2 r e) = (K r.val e : EReal)) (b : Fin 16) (j : Fin 256)
    (hj : 128 ≤ 128 * b.val + j.val) (e : Fin 128) : window X b.val (ix2 j e) = (K (128 * b.val + j.val - 128) e : EReal) := by
  rw [window_read]
  split
  · have hb := rows_read X ⟨b.val - 1, by omega⟩ ⟨j.val, by assumption⟩ e
    refine hb.trans ((hX _ _).trans ?_)
    show (K (128 * (b.val - 1) + j.val) e : EReal) = _
    rw [show 128 * (b.val - 1) + j.val = 128 * b.val + j.val - 128 by omega]
  · refine (rows_read X b ⟨j.val - 128, by omega⟩ e).trans ((hX _ _).trans ?_)
    show (K (128 * b.val + (j.val - 128)) e : EReal) = _
    rw [show 128 * b.val + (j.val - 128) = 128 * b.val + j.val - 128 by omega]

variable {S : Streams Ideal} {bias : FVec Ideal S128x256 .f32} {R : RS}

theorem p_read (H : Holds S bias R) (b : Fin 16) (i : Fin 128) (j : Fin 256) :
    blkP jjV bandV bias (firstOf (BitVec.ofNat 32 R.n) b.val) (rows S.q b.val) (rows S.lse b.val) (window S.k b.val) (ix2 i j)
      = ((if 128 ≤ 128 * b.val + j.val then PS R (128 * b.val + i.val) (128 * b.val + j.val - 128) else 0 : ℝ) : EReal) := by
  pointwise [blkP, jjV]
  rw [band_read, first_of H.n, ge_first, WordCmp.andi_ofBool, ← Bool.decide_and, Scalar.select_def]
  have hm := near_iff (b := b.val) H.n i.isLt j.isLt
  by_cases hN : 128 ≤ 128 * b.val + j.val ∧ Near R.n (128 * b.val + i.val) (128 * b.val + j.val - 128)
  · rw [if_pos (by rw [decide_eq_true (hm.2 hN)]; rfl), if_pos hN.1, PS, if_pos hN.2]
    have hl : (if h : j.val < 128 then rows S.lse b.val (ix2 i ⟨j.val, h⟩) else rows S.lse b.val (ix2 i ⟨j.val - 128, by omega⟩) : EReal) = (R.L (128 * b.val + i.val) : EReal) := by
      split
      · exact (rows_read S.lse b i _).trans (H.lse _ _)
      · exact (rows_read S.lse b i _).trans (H.lse _ _)
    rw [hl, H.bias]
    simp only [rows_read, H.q, window_real H.k b j hN.1, scale_eq, ← EReal.coe_mul, ← coe_sum, ← EReal.coe_add, ← EReal.coe_sub]
    rw [Ideal.exp_coe]
    have hc : ((128 * b.val + i.val : ℕ) : ℝ) - ((128 * b.val + j.val - 128 : ℕ) : ℝ) = (128 + i.val : ℝ) - (j.val : ℝ) := by
      rw [Nat.cast_sub hN.1]; push_cast; ring
    rw [hc]
  · rw [if_neg (by rw [decide_eq_false fun h => hN (hm.1 h)]; decide)]
    split
    · rename_i h
      rw [PS, if_neg fun hn => hN ⟨h, hn⟩, EReal.coe_zero]
    · rw [EReal.coe_zero]

theorem ds_read (H : Holds S bias R) (b : Fin 16) (i : Fin 128) (j : Fin 256) :
    blkDs jjV bandV bias (firstOf (BitVec.ofNat 32 R.n) b.val) (rows S.q b.val) (rows S.dy b.val) (rows S.lse b.val) (rows S.dl b.val) (window S.k b.val) (window S.v b.val) (ix2 i j)
      = ((if 128 ≤ 128 * b.val + j.val then DS R (128 * b.val + i.val) (128 * b.val + j.val - 128) else 0 : ℝ) : EReal) := by
  pointwise [blkDs]
  rw [p_read H]
  by_cases hN : 128 ≤ 128 * b.val + j.val
  · rw [if_pos hN, if_pos hN, DS]
    have hl : (if h : j.val < 128 then rows S.dl b.val (ix2 i ⟨j.val, h⟩) else rows S.dl b.val (ix2 i ⟨j.val - 128, by omega⟩) : EReal) = (R.δ (128 * b.val + i.val) : EReal) := by
      split
      · exact (rows_read S.dl b i _).trans (H.dl _ _)
      · exact (rows_read S.dl b i _).trans (H.dl _ _)
    rw [hl]
    simp only [rows_read, H.dy, window_real H.v b j hN, ← EReal.coe_mul, ← coe_sum, ← EReal.coe_sub]
  · rw [if_neg hN, if_neg hN, EReal.coe_zero, zero_mul]

/-- A block's gradient of its queries is a sum over all rows of the stream. -/
theorem dq_read (H : Holds S bias R) (b : Fin 16) (i e : Fin 128) :
    dqB bias (BitVec.ofNat 32 R.n) S b.val (ix2 i e) = (((∑ r' ∈ Finset.range 2048, DS R (128 * b.val + i.val) r' * R.k r' e) * scale : ℝ) : EReal) := by
  pointwise [dqB, blkDq]
  have hf : ∀ j : Fin 256, (blkDs jjV bandV bias (firstOf (BitVec.ofNat 32 R.n) b.val) (rows S.q b.val) (rows S.dy b.val) (rows S.lse b.val) (rows S.dl b.val) (window S.k b.val) (window S.v b.val) (ix2 i j) * window S.k b.val (ix2 j e) : EReal)
      = ((if 128 ≤ 128 * b.val + j.val then DS R (128 * b.val + i.val) (128 * b.val + j.val - 128) * R.k (128 * b.val + j.val - 128) e else 0 : ℝ) : EReal) := by
    intro j
    rw [ds_read H]
    by_cases hN : 128 ≤ 128 * b.val + j.val
    · rw [if_pos hN, if_pos hN, window_real H.k b j hN, ← EReal.coe_mul]
    · rw [if_neg hN, if_neg hN, EReal.coe_zero, zero_mul]
  refine (congrArg (· * _) (Finset.sum_congr rfl fun j _ => hf j)).trans ?_
  rw [scale_eq, ← coe_sum, ← EReal.coe_mul, sum_window (fun r' => DS R (128 * b.val + i.val) r' * R.k r' e) b.val b.isLt]
  intro r hr hn
  show DS R _ r * _ = 0
  rw [DS_far R (by omega), zero_mul]

theorem dk_read (H : Holds S bias R) (b : Fin 16) (j : Fin 256) (e : Fin 128) (hN : 128 ≤ 128 * b.val + j.val) :
    dkB bias (BitVec.ofNat 32 R.n) S b.val (ix2 j e) = (((∑ i : Fin 128, DS R (128 * b.val + i.val) (128 * b.val + j.val - 128) * R.q (128 * b.val + i.val) e) * scale : ℝ) : EReal) := by
  pointwise [dkB, blkDk]
  simp only [ds_read H, if_pos hN, rows_read, H.q, scale_eq, ← EReal.coe_mul, ← coe_sum]

theorem dv_read (H : Holds S bias R) (b : Fin 16) (j : Fin 256) (e : Fin 128) (hN : 128 ≤ 128 * b.val + j.val) :
    dvB bias (BitVec.ofNat 32 R.n) S b.val (ix2 j e) = ((∑ i : Fin 128, PS R (128 * b.val + i.val) (128 * b.val + j.val - 128) * R.dy (128 * b.val + i.val) e : ℝ) : EReal) := by
  pointwise [dvB, blkDv]
  simp only [p_read H, if_pos hN, rows_read, H.dy, ← EReal.coe_mul, ← coe_sum]

theorem hi_read (D : FVec Ideal S256x128 .f32) (i e : Fin 128) : hi D (ix2 i e) = D (ix2 ⟨128 + i.val, by omega⟩ e) := by
  pointwise [hi]

theorem lo_read (D : FVec Ideal S256x128 .f32) (i e : Fin 128) : lo D (ix2 i e) = D (ix2 ⟨i.val, by omega⟩ e) := by
  pointwise [lo]

/-- The sum over windows, where each window's part is a sum over its block's queries. -/
theorem joined_read (D : Nat → FVec Ideal S256x128 .f32) (G : ℕ → ℕ → Fin 128 → ℝ)
    (hD : ∀ (b : Fin 16) (j : Fin 256) (e : Fin 128), 128 ≤ 128 * b.val + j.val → D b.val (ix2 j e) = ((∑ i : Fin 128, G (128 * b.val + i.val) (128 * b.val + j.val - 128) e : ℝ) : EReal))
    (hG : ∀ r r' e, ¬(r' ≤ r ∧ r ≤ r' + 128) → G r r' e = 0) (t : Fin 16) (i e : Fin 128) :
    joined D t.val (ix2 i e) = ((∑ r ∈ Finset.range 2048, G r (128 * t.val + i.val) e : ℝ) : EReal) := by
  have h1 : (hi (D t.val) (ix2 i e) : EReal) = ((∑ i' : Fin 128, G (128 * t.val + i'.val) (128 * t.val + i.val) e : ℝ) : EReal) := by
    rw [hi_read, hD t _ e (by show 128 ≤ 128 * t.val + (128 + i.val); omega)]
    have : 128 * t.val + (128 + i.val) - 128 = 128 * t.val + i.val := by omega
    simp only [this]
  unfold joined
  split
  · rename_i ht
    have h2 : (lo (D (t.val + 1)) (ix2 i e) : EReal) = ((∑ i' : Fin 128, G (128 * (t.val + 1) + i'.val) (128 * t.val + i.val) e : ℝ) : EReal) := by
      rw [lo_read]
      refine (hD ⟨t.val + 1, by omega⟩ _ e (by show 128 ≤ 128 * (t.val + 1) + i.val; omega)).trans ?_
      have : 128 * (t.val + 1) + i.val - 128 = 128 * t.val + i.val := by omega
      simp only [this]
    refine (congrArg₂ (· + ·) h1 h2).trans ?_
    rw [← EReal.coe_add, sum_two (fun r => G r (128 * t.val + i.val) e) t.val ht]
    exact fun r hr hn => hG r _ e (by omega)
  · rename_i ht
    have ht' : t.val = 15 := by omega
    have hc : carry D 16 = hi (D t.val) := by rw [ht']; rfl
    rw [hc]
    refine h1.trans ?_
    rw [sum_shift (fun r => G r (128 * t.val + i.val) e) (128 * t.val) 128 (by omega)]
    exact fun r hr hn => hG r _ e (by omega)

/-- The rows of a stream, read from its blocks. -/
theorem stacked_read (B : Nat → FVec Ideal S128x128 .f32) (G : ℕ → Fin 128 → ℝ)
    (hB : ∀ (t : Fin 16) (i e : Fin 128), B t.val (ix2 i e) = (G (128 * t.val + i.val) e : EReal)) (r : Fin 2048) (e : Fin 128) :
    stacked B (ix2 r e) = (G r.val e : EReal) := by
  have h := hB ⟨r.val / 128, by omega⟩ ⟨r.val % 128, by omega⟩ e
  have hr : 128 * (r.val / 128) + r.val % 128 = r.val := by omega
  simp only [hr] at h
  refine Eq.trans (congrArg (B (r.val / 128)) (funext fun a => ?_)) h
  match a with
  | ⟨0, _⟩ => rfl
  | ⟨1, _⟩ => rfl

theorem dq_stream (H : Holds S bias R) (r : Fin 2048) (e : Fin 128) :
    stacked (dqB bias (BitVec.ofNat 32 R.n) S) (ix2 r e) = (((∑ r' ∈ Finset.range 2048, DS R r.val r' * R.k r' e) * scale : ℝ) : EReal) :=
  stacked_read _ (fun r e => (∑ r' ∈ Finset.range 2048, DS R r r' * R.k r' e) * scale) (fun t i e => dq_read H t i e) r e

theorem dk_stream (H : Holds S bias R) (r' : Fin 2048) (e : Fin 128) :
    stacked (joined (dkB bias (BitVec.ofNat 32 R.n) S)) (ix2 r' e) = ((∑ r ∈ Finset.range 2048, DS R r r'.val * R.q r e * scale : ℝ) : EReal) :=
  stacked_read _ (fun r' e => ∑ r ∈ Finset.range 2048, DS R r r' * R.q r e * scale)
    (joined_read _ (fun r r' e => DS R r r' * R.q r e * scale) (fun b j e hN => (dk_read H b j e hN).trans (by rw [Finset.sum_mul]))
      fun r r' e h => by show DS R r r' * _ * _ = 0; rw [DS_far R h, zero_mul, zero_mul]) r' e

theorem dv_stream (H : Holds S bias R) (r' : Fin 2048) (e : Fin 128) :
    stacked (joined (dvB bias (BitVec.ofNat 32 R.n) S)) (ix2 r' e) = ((∑ r ∈ Finset.range 2048, PS R r r'.val * R.dy r e : ℝ) : EReal) :=
  stacked_read _ (fun r' e => ∑ r ∈ Finset.range 2048, PS R r r' * R.dy r e)
    (joined_read _ (fun r r' e => PS R r r' * R.dy r e) (fun b j e hN => dv_read H b j e hN)
      fun r r' e h => by show PS R r r' * _ = 0; rw [PS_far R h, zero_mul]) r' e

end Cert.AttnBwd

end
-- ==== Proof.Heads.lean ====
/-
  A head's gradients: the streams of a dilation hold the head's rows in the order of their residues, so the three dilations' parts,
  put back in the order of the rows, add up to the gradients of Dense.
-/
module

public import proofs.«01_k».proof.Proof.Block

@[expose] public section

noncomputable section

namespace Cert.AttnBwd

open Idealize.ShloMosaic Idealize.ShloMosaic.TcCoe
open Cert.KernelIdeal Cert.Mem Cert.AttnMath Cert.Dense
open Facts₀ Facts
open scoped BigOperators

/-- The row of a head that row `r` of a dilation's stream holds, -/
def pos (g : Fin 3) (r : ℕ) : Fin 2048 := ⟨(r % (2048 / dil g) * dil g + r / (2048 / dil g)) % 2048, Nat.mod_lt _ (by decide)⟩
/-- and the row of the stream that holds a head's row. -/
def place (g : Fin 3) (t : Fin 2048) : Fin 2048 := ⟨(t.val % dil g * (2048 / dil g) + t.val / dil g) % 2048, Nat.mod_lt _ (by decide)⟩

theorem pos0 {r : ℕ} (h : r < 2048) : (pos 0 r).val = r :=
  show (r % 2048 * 1 + r / 2048) % 2048 = r by omega
theorem pos1 {r : ℕ} (h : r < 2048) : (pos 1 r).val = r % 512 * 4 + r / 512 :=
  Nat.mod_eq_of_lt (show r % 512 * 4 + r / 512 < 2048 by omega)
theorem pos2 {r : ℕ} (h : r < 2048) : (pos 2 r).val = r % 128 * 16 + r / 128 :=
  Nat.mod_eq_of_lt (show r % 128 * 16 + r / 128 < 2048 by omega)

theorem place0 (t : Fin 2048) : (place 0 t).val = t.val :=
  show (t.val % 1 * 2048 + t.val / 1) % 2048 = t.val by have := t.isLt; omega
theorem place1 (t : Fin 2048) : (place 1 t).val = t.val % 4 * 512 + t.val / 4 :=
  Nat.mod_eq_of_lt (show t.val % 4 * 512 + t.val / 4 < 2048 by have := t.isLt; omega)
theorem place2 (t : Fin 2048) : (place 2 t).val = t.val % 16 * 128 + t.val / 16 :=
  Nat.mod_eq_of_lt (show t.val % 16 * 128 + t.val / 16 < 2048 by have := t.isLt; omega)

theorem pos_place (g : Fin 3) (t : Fin 2048) : pos g (place g t).val = t := by
  have ht := t.isLt
  have hp := (place g t).isLt
  refine Fin.ext ?_
  obtain rfl | rfl | rfl : g = 0 ∨ g = 1 ∨ g = 2 := by omega
  · rw [pos0 hp, place0]
  · rw [pos1 hp, place1]; omega
  · rw [pos2 hp, place2]; omega

theorem pos_bij (g : Fin 3) : Function.Bijective fun r : Fin 2048 => pos g r.val :=
  Finite.surjective_iff_bijective.1 fun t => ⟨place g t, pos_place g t⟩

/-- A sum over a stream's rows is a sum over the head's rows. -/
theorem sum_pos_eq (g : Fin 3) (f : Fin 2048 → ℝ) : ∑ r ∈ Finset.range 2048, f (pos g r) = ∑ t, f t := by
  rw [Finset.sum_range fun r => f (pos g r)]
  exact (pos_bij g).sum_comp f

theorem near_sees (g : Fin 3) {r r' : ℕ} (hr : r < 2048) (hr' : r' < 2048) : Near (16 / dil g) r r' ↔ Sees g (pos g r) (pos g r') := by
  unfold Near Sees
  obtain rfl | rfl | rfl : g = 0 ∨ g = 1 ∨ g = 2 := by omega
  · rw [pos0 hr, pos0 hr']
    show r' ≤ r ∧ r - r' ≤ 128 ∧ r' / 2048 = r / 2048 ↔ r' ≤ r ∧ (r - r') % 1 = 0 ∧ (r - r') / 1 ≤ 128
    omega
  · rw [pos1 hr, pos1 hr']
    show r' ≤ r ∧ r - r' ≤ 128 ∧ r' / 512 = r / 512 ↔ r' % 512 * 4 + r' / 512 ≤ r % 512 * 4 + r / 512
      ∧ (r % 512 * 4 + r / 512 - (r' % 512 * 4 + r' / 512)) % 4 = 0 ∧ (r % 512 * 4 + r / 512 - (r' % 512 * 4 + r' / 512)) / 4 ≤ 128
    have e := Nat.div_add_mod r 512
    have e' := Nat.div_add_mod r' 512
    have l := Nat.mod_lt r (show 0 < 512 by decide)
    have l' := Nat.mod_lt r' (show 0 < 512 by decide)
    have k : r / 512 < 4 := by omega
    have k' : r' / 512 < 4 := by omega
    generalize r % 512 = a at *
    generalize r' % 512 = a' at *
    generalize r / 512 = b at *
    generalize r' / 512 = b' at *
    subst e e'
    constructor
    · rintro ⟨h1, h2, rfl⟩
      refine ⟨by omega, by omega, by omega⟩
    · rintro ⟨h1, h2, h3⟩
      have hb : b' = b := by omega
      subst hb
      exact ⟨by omega, by omega, rfl⟩
  · rw [pos2 hr, pos2 hr']
    show r' ≤ r ∧ r - r' ≤ 128 ∧ r' / 128 = r / 128 ↔ r' % 128 * 16 + r' / 128 ≤ r % 128 * 16 + r / 128
      ∧ (r % 128 * 16 + r / 128 - (r' % 128 * 16 + r' / 128)) % 16 = 0 ∧ (r % 128 * 16 + r / 128 - (r' % 128 * 16 + r' / 128)) / 16 ≤ 128
    have e := Nat.div_add_mod r 128
    have e' := Nat.div_add_mod r' 128
    have l := Nat.mod_lt r (show 0 < 128 by decide)
    have l' := Nat.mod_lt r' (show 0 < 128 by decide)
    have k : r / 128 < 16 := by omega
    have k' : r' / 128 < 16 := by omega
    generalize r % 128 = a at *
    generalize r' % 128 = a' at *
    generalize r / 128 = b at *
    generalize r' / 128 = b' at *
    subst e e'
    constructor
    · rintro ⟨h1, h2, rfl⟩
      refine ⟨by omega, by omega, by omega⟩
    · rintro ⟨h1, h2, h3⟩
      have hb : b' = b := by omega
      subst hb
      exact ⟨by omega, by omega, rfl⟩

theorem steps_eq (g : Fin 3) {r r' : ℕ} (hr : r < 2048) (hr' : r' < 2048) (h : Near (16 / dil g) r r') :
    ((pos g r).val - (pos g r').val) / dil g = r - r' := by
  unfold Near at h
  obtain rfl | rfl | rfl : g = 0 ∨ g = 1 ∨ g = 2 := by omega
  · rw [pos0 hr, pos0 hr']
    exact Nat.div_one _
  · rw [pos1 hr, pos1 hr']
    change r' ≤ r ∧ r - r' ≤ 128 ∧ r' / 512 = r / 512 at h
    show (r % 512 * 4 + r / 512 - (r' % 512 * 4 + r' / 512)) / 4 = r - r'
    omega
  · rw [pos2 hr, pos2 hr']
    change r' ≤ r ∧ r - r' ≤ 128 ∧ r' / 128 = r / 128 at h
    show (r % 128 * 16 + r / 128 - (r' % 128 * 16 + r' / 128)) / 16 = r - r'
    omega

/-- The streams of a head. -/
def rsOf (X : Data) (h : Fin 16) (g : Fin 3) : RS where
  q r := X.q h (pos g r)
  k r := X.k h (pos g r)
  v r := X.v h (pos g r)
  dy r := X.dy h (pos g r)
  L r := L X h (pos g r)
  δ r := dlt X h (pos g r)
  s := X.sl h * (dil g : ℝ)
  n := 16 / dil g

theorem PS_eq (X : Data) (hc : X.c = scale) (h : Fin 16) (g : Fin 3) {r r' : ℕ} (hr : r < 2048) (hr' : r' < 2048) :
    PS (rsOf X h g) r r' = P X g h (pos g r) (pos g r') := by
  unfold PS P
  by_cases hn : Near (16 / dil g) r r'
  · have hs := (near_sees g hr hr').1 hn
    rw [if_pos hs]
    refine (if_pos hn).trans ?_
    show Real.exp ((∑ e, X.q h (pos g r) e * X.k h (pos g r') e) * scale + -(X.sl h * (dil g : ℝ)) * ((r : ℝ) - (r' : ℝ)) - L X h (pos g r)) = _
    rw [sc, steps_eq g hr hr' hn, Nat.cast_sub hn.1, hc]
  · rw [if_neg fun hs => hn ((near_sees g hr hr').2 hs)]
    exact if_neg hn

theorem DS_eq (X : Data) (hc : X.c = scale) (h : Fin 16) (g : Fin 3) {r r' : ℕ} (hr : r < 2048) (hr' : r' < 2048) :
    DS (rsOf X h g) r r' = dS X g h (pos g r) (pos g r') := by
  rw [DS, dS, PS_eq X hc h g hr hr']
  rfl

variable [Facts]

/-- The operands hold a head's data. -/
structure Head (x : Ops Ideal) (X : Data) (h : Fin 16) : Prop where
  q : ∀ t e, sq x.q (ix2 t e) = (X.q h t e : EReal)
  k : ∀ t e, sq x.k (ix2 t e) = (X.k h t e : EReal)
  v : ∀ t e, sq x.v (ix2 t e) = (X.v h t e : EReal)
  dy : ∀ t e, x.dy (ix2 t e) = (X.dy h t e : EReal)
  o : ∀ t e, x.o (ix2 t e) = (y X h t e : EReal)
  lse : ∀ t e, x.lse (ix2 t e) = (L X h t : EReal)
  sl : slopeV x.sl (ix2 0 0) = (X.sl h : EReal)
  c : X.c = scale

variable {x : Ops Ideal} {X : Data} {h : Fin 16}

theorem delta_read (H : Head x X h) (t : Fin 2048) (e : Fin 128) : (deltaV (F := Ideal) x.dy x.o : FVec Ideal S2048x128 .f32) (ix2 t e) = (dlt X h t : EReal) := by
  pointwise [deltaV]
  simp only [H.dy, H.o, ← EReal.coe_mul]
  rw [dlt, coe_sum]

theorem perm_ix (g : Fin 3) (r : Fin 2048) (e : Fin 128) : perm (dil g) (ix2 r e) = ix2 (pos g r.val) e := by
  funext a
  match a with
  | ⟨0, _⟩ => rfl
  | ⟨1, _⟩ => rfl

theorem unperm_ix (g : Fin 3) (t : Fin 2048) (e : Fin 128) : unperm (dil g) (ix2 t e) = ix2 (place g t) e := by
  funext a
  match a with
  | ⟨0, _⟩ => rfl
  | ⟨1, _⟩ => rfl

theorem holds (H : Head x X h) (g : Fin 3) {bias : FVec Ideal S128x256 .f32}
    (hb : ∀ (i : Fin 128) (j : Fin 256), bias (ix2 i j) = ((-(X.sl h * (dil g : ℝ)) * ((128 + i.val : ℝ) - (j.val : ℝ)) : ℝ) : EReal)) :
    Holds (streams (dil g) x) bias (rsOf X h g) where
  q r e := (congrArg (sq x.q) (perm_ix g r e)).trans (H.q _ _)
  k r e := (congrArg (sq x.k) (perm_ix g r e)).trans (H.k _ _)
  v r e := (congrArg (sq x.v) (perm_ix g r e)).trans (H.v _ _)
  dy r e := (congrArg x.dy (perm_ix g r e)).trans (H.dy _ _)
  lse r e := (congrArg x.lse (perm_ix g r e)).trans (H.lse _ _)
  dl r e := (congrArg (deltaV (F := Ideal) x.dy x.o) (perm_ix g r e)).trans (delta_read H _ _)
  bias := hb
  n := show 16 / dil g = 16 ∨ 16 / dil g = 4 ∨ 16 / dil g = 1 by fin_cases g <;> simp [dil]

theorem perm_one (y : S2048x128.Idx) : perm 1 y = y := by
  have hy : (y 0).val < 2048 := (y 0).isLt
  funext a
  match a with
  | ⟨0, _⟩ => exact Fin.ext (show ((y 0).val % 2048 * 1 + (y 0).val / 2048) % 2048 = (y 0).val by omega)
  | ⟨1, _⟩ => rfl

theorem streams_one (x : Ops Ideal) : streams1 x = streams 1 x := by
  unfold streams1 streams
  simp only [perm_one]

variable {g : Fin 3} {bias : FVec Ideal S128x256 .f32}

theorem dq_head (H : Head x X h) (K : Holds (streams (dil g) x) bias (rsOf X h g)) (t : Fin 2048) (e : Fin 128) :
    stacked (dqB bias (BitVec.ofNat 32 (16 / dil g)) (streams (dil g) x)) (ix2 (place g t) e) = (((∑ j, dS X g h t j * X.k h j e) * scale : ℝ) : EReal) := by
  refine (dq_stream K (place g t) e).trans (congrArg _ (congrArg (· * scale) ?_))
  rw [← sum_pos_eq g fun j => dS X g h t j * X.k h j e]
  refine Finset.sum_congr rfl fun r hr => ?_
  rw [DS_eq X H.c h g (place g t).isLt (Finset.mem_range.1 hr), pos_place]
  rfl

theorem dk_head (H : Head x X h) (K : Holds (streams (dil g) x) bias (rsOf X h g)) (t : Fin 2048) (e : Fin 128) :
    stacked (joined (dkB bias (BitVec.ofNat 32 (16 / dil g)) (streams (dil g) x))) (ix2 (place g t) e) = ((∑ j, dS X g h j t * X.q h j e * scale : ℝ) : EReal) := by
  refine (dk_stream K (place g t) e).trans (congrArg _ ?_)
  rw [← sum_pos_eq g fun j => dS X g h j t * X.q h j e * scale]
  refine Finset.sum_congr rfl fun r hr => ?_
  rw [DS_eq X H.c h g (Finset.mem_range.1 hr) (place g t).isLt, pos_place]
  rfl

theorem dv_head (H : Head x X h) (K : Holds (streams (dil g) x) bias (rsOf X h g)) (t : Fin 2048) (e : Fin 128) :
    stacked (joined (dvB bias (BitVec.ofNat 32 (16 / dil g)) (streams (dil g) x))) (ix2 (place g t) e) = ((∑ j, P X g h j t * X.dy h j e : ℝ) : EReal) := by
  refine (dv_stream K (place g t) e).trans (congrArg _ ?_)
  rw [← sum_pos_eq g fun j => P X g h j t * X.dy h j e]
  refine Finset.sum_congr rfl fun r hr => ?_
  rw [PS_eq X H.c h g (Finset.mem_range.1 hr) (place g t).isLt, pos_place]
  rfl

theorem one_f32 : Ideal.ofBits .f32 0x3F800000#32 = ((dil 0 : ℝ) : EReal) := by simp [Ideal.ofBits, Ideal.ieee, dil, ← EReal.coe_mul]; norm_num
theorem four_f32 : Ideal.ofBits .f32 0x40800000#32 = ((dil 1 : ℝ) : EReal) := by
  have h : Ideal.ofBits .f32 0x40800000#32 = ((8388608 * (2 ^ 21)⁻¹ : ℝ) : EReal) := by simp [Ideal.ofBits, Ideal.ieee]
  rw [h]
  refine congrArg _ (show (8388608 * (2 ^ 21)⁻¹ : ℝ) = ((4 : ℕ) : ℝ) from ?_)
  norm_num
theorem sixteen_f32 : Ideal.ofBits .f32 0x41800000#32 = ((dil 2 : ℝ) : EReal) := by
  have h : Ideal.ofBits .f32 0x41800000#32 = ((8388608 * (2 ^ 19)⁻¹ : ℝ) : EReal) := by simp [Ideal.ofBits, Ideal.ieee]
  rw [h]
  refine congrArg _ (show (8388608 * (2 ^ 19)⁻¹ : ℝ) = ((16 : ℕ) : ℝ) from ?_)
  norm_num

theorem bias_head (H : Head x X h) (g : Fin 3) {b : EReal} (hb : b = ((dil g : ℝ) : EReal)) (i : Fin 128) (j : Fin 256) :
    biasV (F := Ideal) (slopeV x.sl) b (ix2 i j) = ((-(X.sl h * (dil g : ℝ)) * ((128 + i.val : ℝ) - (j.val : ℝ)) : ℝ) : EReal) :=
  bias_read H.sl hb i j

theorem holds0 (H : Head x X h) : Holds (streams (dil 0) x) (bias1 x) (rsOf X h 0) := holds H 0 (bias_head H 0 one_f32)
theorem holds1 (H : Head x X h) : Holds (streams (dil 1) x) (bias4 x) (rsOf X h 1) := holds H 1 (bias_head H 1 four_f32)
theorem holds2 (H : Head x X h) : Holds (streams (dil 2) x) (bias16 x) (rsOf X h 2) := holds H 2 (bias_head H 2 sixteen_f32)

theorem place_zero (t : Fin 2048) : place 0 t = t := Fin.ext (place0 t)

theorem dqS_read (H : Head x X h) (t : Fin 2048) (e : Fin 128) : dqS x (ix2 t e) = (dq X h t e : EReal) := by
  have h0 : (dq1 x (ix2 t e) : EReal) = (((∑ j, dS X 0 h t j * X.k h j e) * scale : ℝ) : EReal) := by
    have := dq_head H (holds0 H) t e
    rw [place_zero] at this
    rw [dq1, streams_one]
    exact this
  have h1 : (dq4 x (unperm 4 (ix2 t e)) : EReal) = (((∑ j, dS X 1 h t j * X.k h j e) * scale : ℝ) : EReal) := (congrArg (dq4 x) (unperm_ix 1 t e)).trans (dq_head H (holds1 H) t e)
  have h2 : (dq16 x (unperm 16 (ix2 t e)) : EReal) = (((∑ j, dS X 2 h t j * X.k h j e) * scale : ℝ) : EReal) := (congrArg (dq16 x) (unperm_ix 2 t e)).trans (dq_head H (holds2 H) t e)
  refine (congrArg₂ (· + ·) (congrArg₂ (· + ·) h0 h1) h2).trans ?_
  rw [← EReal.coe_add, ← EReal.coe_add, dq, ← H.c]
  refine congrArg _ ?_
  simp only [Fin.sum_univ_three, Finset.sum_mul, ← Finset.sum_add_distrib]
  exact Finset.sum_congr rfl fun j _ => by ring

theorem dkS_read (H : Head x X h) (t : Fin 2048) (e : Fin 128) : dkS x (ix2 t e) = (dk X h t e : EReal) := by
  have h0 : (dk1 x (ix2 t e) : EReal) = ((∑ j, dS X 0 h j t * X.q h j e * scale : ℝ) : EReal) := by
    have := dk_head H (holds0 H) t e
    rw [place_zero] at this
    rw [dk1, streams_one]
    exact this
  have h1 : (dk4 x (unperm 4 (ix2 t e)) : EReal) = ((∑ j, dS X 1 h j t * X.q h j e * scale : ℝ) : EReal) := (congrArg (dk4 x) (unperm_ix 1 t e)).trans (dk_head H (holds1 H) t e)
  have h2 : (dk16 x (unperm 16 (ix2 t e)) : EReal) = ((∑ j, dS X 2 h j t * X.q h j e * scale : ℝ) : EReal) := (congrArg (dk16 x) (unperm_ix 2 t e)).trans (dk_head H (holds2 H) t e)
  refine (congrArg₂ (· + ·) (congrArg₂ (· + ·) h0 h1) h2).trans ?_
  rw [← EReal.coe_add, ← EReal.coe_add, dk, ← H.c]
  refine congrArg _ ?_
  simp only [Fin.sum_univ_three, Finset.sum_mul, ← Finset.sum_add_distrib]
  exact Finset.sum_congr rfl fun j _ => by ring

theorem dvS_read (H : Head x X h) (t : Fin 2048) (e : Fin 128) : dvS x (ix2 t e) = (dv X h t e : EReal) := by
  have h0 : (dv1 x (ix2 t e) : EReal) = ((∑ j, P X 0 h j t * X.dy h j e : ℝ) : EReal) := by
    have := dv_head H (holds0 H) t e
    rw [place_zero] at this
    rw [dv1, streams_one]
    exact this
  have h1 : (dv4 x (unperm 4 (ix2 t e)) : EReal) = ((∑ j, P X 1 h j t * X.dy h j e : ℝ) : EReal) := (congrArg (dv4 x) (unperm_ix 1 t e)).trans (dv_head H (holds1 H) t e)
  have h2 : (dv16 x (unperm 16 (ix2 t e)) : EReal) = ((∑ j, P X 2 h j t * X.dy h j e : ℝ) : EReal) := (congrArg (dv16 x) (unperm_ix 2 t e)).trans (dv_head H (holds2 H) t e)
  refine (congrArg₂ (· + ·) (congrArg₂ (· + ·) h0 h1) h2).trans ?_
  rw [← EReal.coe_add, ← EReal.coe_add, dv, Fin.sum_univ_three]

/-- A head's result: its gradients. -/
theorem out_read (H : Head x X h) (s : Fin 3) (t : Fin 2048) (e : Fin 128) : outM x (ix3 s t e) = (grad X s t (lane h e) : EReal) := by
  have hz : inSlot (ix3 s t e) = ix2 t e := by
    funext a
    match a with
    | ⟨0, _⟩ => rfl
    | ⟨1, _⟩ => rfl
  rw [grad_lane]
  show (if s.val = 0 then dqS x (inSlot (ix3 s t e)) else if s.val = 1 then dkS x (inSlot (ix3 s t e)) else dvS x (inSlot (ix3 s t e)) : EReal) = _
  rw [hz]
  split
  · exact dqS_read H t e
  split
  · exact dkS_read H t e
  · exact dvS_read H t e

end Cert.AttnBwd

end
-- ==== Proof.RefA.lean ====
/-
  The reference's arrays read at an index, up to the outputs and log-sums of the dilations: real numbers, those of Dense.
-/
module

public import proofs.«01_k».proof.Proof.Gen.ReferenceIdeal.Run
public import proofs.«01_k».proof.Proof.Coe

@[expose] public section

noncomputable section

namespace Cert.AttnRef

open Idealize.ShloMosaic Idealize.ShloMosaic.TcCoe
open Cert.ReferenceIdeal Cert.ReferenceIdeal.Gen Cert.ReferenceIdeal.Value
open Cert.Dense Cert.AttnMath

/-- The arrays `V0` hold the data `X`. -/
structure Reads (V0 : Valuation τ sig (Elt Ideal)) (X : Data) : Prop where
  q : ∀ h t e, res_main_v3 V0 (ix3 h t e) = (X.q h t e : EReal)
  k : ∀ h t e, res_main_v7 V0 (ix3 h t e) = (X.k h t e : EReal)
  v : ∀ h t e, res_main_v11 V0 (ix3 h t e) = (X.v h t e : EReal)
  dy : ∀ g h t e, res_main_v105 V0 (ix4 g h t e) = (X.dy h t e : EReal)
  sl : ∀ h, V0 (Proc.tc.devRef main_arg1) (ix3 h 0 0) = (X.sl h : EReal)
  c : Ideal.ofBits .f32 1035273459#32 = (X.c : EReal)

variable {V0 : Valuation τ sig (Elt Ideal)} {X : Data}

theorem r19 (g : Fin 3) (t j : Fin 2048) : res_main_v19 V0 (ix3 g t j) = (dilWord g : BitVec 32) := by
  pointwise [res_main_v19, res_main_c]
  fin_cases g <;> rfl

theorem r17 (g : Fin 3) (t j : Fin 2048) :
    res_main_v17 V0 (ix3 g t j) = (IntOp.subi (BitVec.ofNat 32 t.val) (BitVec.ofNat 32 j.val) : BitVec 32) := by
  pointwise [res_main_v17, res_main_c]

theorem r20 (g : Fin 3) (t j : Fin 2048) :
    res_main_v20 V0 (ix3 g t j) = (IntOp.divsi .host (IntOp.subi (BitVec.ofNat 32 t.val) (BitVec.ofNat 32 j.val)) (dilWord g) : BitVec 32) := by
  pointwise [res_main_v20]
  simp only [r17, r19]

theorem r50_1 (g : Fin 3) (h : Fin 16) (t j : Fin 2048) :
    res_main_v50_1 V0 (ix4 g h t j) = (BitVec.ofBool (decide (Sees g t j)) : BitVec 1) := by
  pointwise [res_main_v50_1]
  simp only [r17, r19, r20]
  exact sees_word g t j

theorem lit_dil (g : Fin 3) : (FloatOps.sitofp FTy.f32 (lit0 (S3.rowMajor (ix1 g))) : Ideal .f32) = ((dil g : ℝ) : EReal) := by
  rw [show lit0 (S3.rowMajor (ix1 g)) = dilWord g by fin_cases g <;> rfl, dil_real]

theorem r50_0 (R : Reads V0 X) (g : Fin 3) (h : Fin 16) (t j : Fin 2048) :
    res_main_v50_0 V0 (ix4 g h t j) = if Sees g t j then (sc X g h t j : EReal) else ⊥ := by
  pointwise [res_main_v50_0, res_main_c]
  simp only [r50_1, r20, R.q, R.k, R.sl, R.c, lit_dil]
  rw [Scalar.select_def]
  by_cases hs : Sees g t j
  · rw [if_pos (by simp [hs]), if_pos hs, quot_real g hs.1]
    unfold sc
    rw [EReal.coe_add, EReal.coe_mul, coe_sum, EReal.coe_mul, EReal.coe_neg, EReal.coe_mul]
    simp only [EReal.coe_mul]
  · rw [if_neg (by simp [hs]), if_neg hs]
    exact neg_inf

theorem fold50 (R : Reads V0 X) (g : Fin 3) (h : Fin 16) (t : Fin 2048) :
    (Finset.univ : Finset (Fin 2048)).fold (max : EReal → EReal → EReal) ⊥ (fun j => res_main_v50_0 V0 (ix4 g h t j)) = (mx X g h t : EReal) := by
  obtain ⟨j, hs, hj⟩ := mx_attained X g h t
  have e : (fun j => res_main_v50_0 V0 (ix4 g h t j) : Fin 2048 → EReal) = fun j => if Sees g t j then (sc X g h t j : EReal) else ⊥ :=
    funext fun j => r50_0 R g h t j
  rw [e]
  refine fold_max _ _ (fun j' => ?_) j ?_
  · by_cases hs' : Sees g t j'
    · rw [if_pos hs']; exact EReal.coe_le_coe_iff.2 (le_mx X g h t j' hs')
    · rw [if_neg hs']; exact bot_le
  · rw [if_pos hs, hj]

theorem r51 (R : Reads V0 X) (g : Fin 3) (h : Fin 16) (t : Fin 2048) : res_main_v51 V0 (ix3 g h t) = (mx X g h t : EReal) := by
  pointwise [res_main_v51]
  rw [neg_inf]
  exact (Shape.ReducesTo.fold_fiber_r4_a3 reducesTo_S3x16x2048x2048_S3x16x2048_d3 (ix3 g h t) (max : EReal → EReal → EReal) ⊥ (res_main_v50_0 V0)).trans
    (fold50 R g h t)

theorem r55 (R : Reads V0 X) (g : Fin 3) (h : Fin 16) (t j : Fin 2048) :
    res_main_v55 V0 (ix4 g h t j) = ((if Sees g t j ∧ sc X g h t j = mx X g h t then 1 else 0 : ℝ) : EReal) := by
  pointwise [res_main_v55]
  rw [r50_0 R, r51 R]
  show (((BitVec.ofBool _).toNat : ℝ) : EReal) = _
  by_cases hs : Sees g t j
  · by_cases he : sc X g h t j = mx X g h t <;> simp [hs, he]
  · simp [hs]

theorem r57 (R : Reads V0 X) (g : Fin 3) (h : Fin 16) (t : Fin 2048) : res_main_v57 V0 (ix4 g h t 0) = (mx X g h t : EReal) := by
  pointwise [res_main_v57]
  rw [r51 R]

theorem r60 (R : Reads V0 X) (g : Fin 3) (h : Fin 16) (t j : Fin 2048) : res_main_v60 V0 (ix4 g h t j) = (p X g h t j : EReal) := by
  pointwise [res_main_v60]
  rw [r50_0 R, r57 R, p]
  split
  · rw [← EReal.coe_sub, Ideal.exp_coe]
  · rw [EReal.bot_sub, Ideal.exp_bot, EReal.coe_zero]

end Cert.AttnRef

end
-- ==== Proof.RefB.lean ====
/-
  The reference's arrays read at an index, up to the outputs and log-sums of the dilations: real numbers, those of Dense.
-/
module

public import proofs.«01_k».proof.Proof.Gen.ReferenceIdeal.Run
public import proofs.«01_k».proof.Proof.RefA

@[expose] public section

noncomputable section

namespace Cert.AttnRef

open Idealize.ShloMosaic Idealize.ShloMosaic.TcCoe
open Cert.ReferenceIdeal Cert.ReferenceIdeal.Gen Cert.ReferenceIdeal.Value
open Cert.Dense Cert.AttnMath

variable {V0 : Valuation τ sig (Elt Ideal)} {X : Data}

theorem r62 (R : Reads V0 X) (g : Fin 3) (h : Fin 16) (t : Fin 2048) : res_main_v62 V0 (ix4 g h t 0) = (l X g h t : EReal) := by
  pointwise [res_main_v62]
  simp only [r60 R]
  rw [l, coe_sum]

theorem r64 (R : Reads V0 X) (g : Fin 3) (h : Fin 16) (t : Fin 2048) (e : Fin 128) : res_main_v64 V0 (ix4 g h t e) = (pv X g h t e : EReal) := by
  pointwise [res_main_v64]
  simp only [r60 R, R.v, ← EReal.coe_mul]
  rw [pv, coe_sum]

theorem r66 (R : Reads V0 X) (g : Fin 3) (h : Fin 16) (t : Fin 2048) (e : Fin 128) : res_main_v66 V0 (ix4 g h t e) = (o X g h t e : EReal) := by
  pointwise [res_main_v66]
  rw [r64 R, r62 R, Ideal.div_coe (l_pos X g h t).ne', ← EReal.coe_mul, o]

theorem log_coe {x : ℝ} (h : 0 < x) : Ideal.log (x : EReal) = (Real.log x : EReal) := if_neg (not_le.2 h)

theorem sum_log {s : Shape} (a b : FVec Ideal s .f32) (i : s.Idx) : (addf a (Host.log b) : FVec Ideal s .f32) i = (a i + Ideal.log (b i) : EReal) := rfl

theorem r71 (R : Reads V0 X) (g : Fin 3) (h : Fin 16) (t : Fin 2048) : res_main_v71 V0 (ix4 g h t 0) = (ls X g h t : EReal) := by
  unfold res_main_v71
  refine (sum_log _ _ _).trans ?_
  rw [r57 R, r62 R, log_coe (l_pos X g h t), ← EReal.coe_add, ls]

end Cert.AttnRef

end
-- ==== Proof.RefC.lean ====
/-
  The reference's arrays of the derivative read at an index: the steps of Dense.
-/
module

public import proofs.«01_k».proof.Proof.Gen.ReferenceIdeal.Run
public import proofs.«01_k».proof.Proof.RefB

@[expose] public section

noncomputable section

namespace Cert.AttnRef

open Idealize.ShloMosaic Idealize.ShloMosaic.TcCoe
open Cert.ReferenceIdeal Cert.ReferenceIdeal.Gen Cert.ReferenceIdeal.Value
open Cert.Dense Cert.AttnMath

variable {V0 : Valuation τ sig (Elt Ideal)} {X : Data}

theorem fold71 (R : Reads V0 X) (h : Fin 16) (t : Fin 2048) :
    (Finset.univ : Finset (Fin 3)).fold (max : EReal → EReal → EReal) ⊥ (fun g => res_main_v71 V0 (ix4 g h t 0)) = (top X h t : EReal) := by
  obtain ⟨g, hg⟩ := top_attained X h t
  have e : (fun g => res_main_v71 V0 (ix4 g h t 0) : Fin 3 → EReal) = fun g => (ls X g h t : EReal) := funext fun g => r71 R g h t
  rw [e]
  exact fold_max _ _ (fun g' => EReal.coe_le_coe_iff.2 (le_top X g' h t)) g (congrArg _ hg.symm)

theorem r72 (R : Reads V0 X) (h : Fin 16) (t : Fin 2048) : res_main_v72 V0 (ix3 h t 0) = (top X h t : EReal) := by
  pointwise [res_main_v72]
  rw [neg_inf]
  exact (Shape.ReducesTo.fold_fiber_r4_a0 reducesTo_S3x16x2048x1_S16x2048x1_d0 (ix3 h t 0) (max : EReal → EReal → EReal) ⊥ (res_main_v71 V0)).trans
    (fold71 R h t)

theorem exp_sub_apply {s : Shape} (a b : FVec Ideal s .f32) (i : s.Idx) : (Host.exp (subf a b) : FVec Ideal s .f32) i = (Ideal.exp (a i - b i) : EReal) := rfl

/-- The greatest log-sum, spread over the dilations. -/
theorem spread_top (T : FVec Ideal S16x2048x1 .f32) (g : Fin 3) (h : Fin 16) (t : Fin 2048) :
    (broadcastInDim S3x16x2048x1 ![0, 1, 2, 3] bcast_S1x16x2048x1_S3x16x2048x1_0_1_2_3 (broadcastInDim S1x16x2048x1 ![1, 2, 3] bcast_S16x2048x1_S1x16x2048x1_1_2_3 (maximumf (broadcastInDim S16x2048x1 ![] bcast_S_S16x2048x1 (constant S_ .f32 0xFF800000#32)) T)) : FVec Ideal S3x16x2048x1 .f32) (ix4 g h t 0)
      = (max (Ideal.ofBits .f32 0xFF800000#32) (T (ix3 h t 0)) : EReal) := by
  pointwise

theorem r92 (R : Reads V0 X) (g : Fin 3) (h : Fin 16) (t : Fin 2048) : res_main_v92 V0 (ix4 g h t 0) = (ex X g h t : EReal) := by
  unfold res_main_v92
  refine (exp_sub_apply _ _ _).trans ?_
  rw [spread_top, r71 R, r72 R, neg_inf, max_eq_right bot_le, ← EReal.coe_sub, Ideal.exp_coe, ex]

theorem r94 (R : Reads V0 X) (h : Fin 16) (t : Fin 2048) : res_main_v94 V0 (ix4 0 h t 0) = (E X h t : EReal) := by
  pointwise [res_main_v94]
  simp only [r92 R]
  rw [E, coe_sum]

theorem r96 (R : Reads V0 X) (g : Fin 3) (h : Fin 16) (t : Fin 2048) : res_main_v96 V0 (ix4 g h t 0) = (w X g h t : EReal) := by
  pointwise [res_main_v96]
  rw [r92 R, r94 R, Ideal.div_coe (E_pos X h t).ne', ← EReal.coe_mul, w]

theorem r107 (R : Reads V0 X) (g : Fin 3) (h : Fin 16) (t : Fin 2048) (e : Fin 128) :
    res_main_v107 V0 (ix4 g h t e) = ((w X g h t * X.dy h t e : ℝ) : EReal) := by
  pointwise [res_main_v107]
  rw [r96 R, R.dy, ← EReal.coe_mul]

theorem r110 (R : Reads V0 X) (g : Fin 3) (h : Fin 16) (t : Fin 2048) : res_main_v110 V0 (ix4 g h t 0) = (D X g h t : EReal) := by
  pointwise [res_main_v110]
  simp only [R.dy, r66 R, ← EReal.coe_mul]
  rw [D, coe_sum]

/-- The sum over two axes of one element each has one summand. -/
theorem sum_d0_3 (x : FVec Ideal S1x16x2048x1 .f32) (h : Fin 16) (t : Fin 2048) :
    Ideal.hostReduceAdd reducesTo_S1x16x2048x1_S16x2048_d0_3 x 0 (ix2 h t) = (x (ix4 0 h t 0) : EReal) := by
  unfold Ideal.hostReduceAdd
  rw [zero_add]
  refine (Finset.sum_congr (s₂ := {ix4 0 h t 0}) ?_ fun _ _ => rfl).trans (Finset.sum_singleton _ _)
  ext i
  rw [Finset.mem_filter, Finset.mem_singleton]
  constructor
  · rintro ⟨_, e⟩
    rw [eq_ix4 i]
    have e1 : i 1 = h := congrFun e 0
    have e2 : i 2 = t := congrFun e 1
    have e0 : i 0 = (0 : Fin 1) := Subsingleton.elim (α := Fin 1) _ _
    have e3 : i 3 = (0 : Fin 1) := Subsingleton.elim (α := Fin 1) _ _
    rw [e0, e1, e2, e3]
  · rintro rfl
    refine ⟨Finset.mem_univ _, funext fun b => Fin.ext ?_⟩
    match b with
    | ⟨0, _⟩ => rfl
    | ⟨1, _⟩ => rfl

/-- The summand of `r123`. -/
theorem sum123 (a e : FVec Ideal S3x16x2048x1 .f32) (b : FVec Ideal S1x16x2048x1 .f32) (h : Fin 16) (t : Fin 2048) :
    (Host.negf (shapeCast S1x16x2048x1 (Host.reduceAdd (mulf (mulf a (broadcastInDim S3x16x2048x1 ![0, 1, 2, 3] bcast_S1x16x2048x1_S3x16x2048x1_0_1_2_3 (Host.divf (broadcastInDim S1x16x2048x1 ![] bcast_S_S1x16x2048x1 (constant S_ .f32 0x3F800000#32)) (mulf b b)))) e) (constant S_ .f32 0x00000000#32) reducesTo_S3x16x2048x1_S16x2048x1_d0 h_S_) shapeCasts_S16x2048x1_S1x16x2048x1) : FVec Ideal S1x16x2048x1 .f32) (ix4 0 h t 0)
      = (-∑ g : Fin 3, a (ix4 g h t 0) * Ideal.div 1 (b (ix4 0 h t 0) * b (ix4 0 h t 0)) * e (ix4 g h t 0) : EReal) := by
  pointwise

theorem r123 (R : Reads V0 X) (g : Fin 3) (h : Fin 16) (t : Fin 2048) : res_main_v123 V0 (ix4 g h t 0) = (dls X g h t : EReal) := by
  have hE := E_pos X h t
  pointwise [res_main_v123]
  rw [sum_d0_3, sum123]
  simp only [r110 R, r94 R, r92 R, ← EReal.coe_mul, Ideal.div_coe hE.ne', Ideal.div_coe (mul_pos hE hE).ne', one_mul, ← coe_sum, ← EReal.coe_neg, ← EReal.coe_add]
  rw [dls]

theorem r134 (R : Reads V0 X) (g : Fin 3) (h : Fin 16) (t : Fin 2048) (e : Fin 128) : res_main_v134 V0 (ix4 h e g t) = (dO X g h t e : EReal) := by
  pointwise [res_main_v134]
  rw [r107 R, r62 R, Ideal.div_coe (l_pos X g h t).ne', ← EReal.coe_mul, dO]

theorem r142 (R : Reads V0 X) (g : Fin 3) (h : Fin 16) (t j : Fin 2048) : res_main_v142 V0 (ix4 g h t j) = (dp X g h t j : EReal) := by
  have hl := l_pos X g h t
  pointwise [res_main_v142]
  simp only [r134 R, R.v, r123 R, r62 R, r60 R, r107 R, r64 R, Fin.sum_univ_one, Ideal.div_coe hl.ne', Ideal.div_coe (mul_pos hl hl).ne', one_mul, ← EReal.coe_mul, ← coe_sum, ← EReal.coe_neg, ← EReal.coe_add]
  rw [dp]

/-- What a dilation adds to a score's gradient: the greatest score's own part is zero, and a key that is not seen has none. -/
theorem step157 (g : Fin 3) (h : Fin 16) (t j : Fin 2048) (m : BitVec 1) (hm : m = BitVec.ofBool (decide (Sees g t j))) (a b : Fin 2048 → EReal) (s : Fin 1 → EReal)
    (ha : ∀ j, a j = (dp X g h t j : EReal)) (hb : ∀ j, b j = ((if Sees g t j ∧ sc X g h t j = mx X g h t then 1 else 0 : ℝ) : EReal)) (hs : ∀ i, s i = (dls X g h t : EReal)) :
    Scalar.select m (a j + Ideal.div (∑ i, (s i + ∑ j', -a j')) (∑ j', b j') * b j) 0 = (dS X g h t j : EReal) := by
  obtain ⟨j', hs', hj'⟩ := mx_attained X g h t
  have h55 : ∑ j', b j' ≠ 0 := by
    simp only [hb, ← coe_sum]
    refine fun e => absurd (EReal.coe_eq_zero.1 e) (ne_of_gt ?_)
    exact Finset.sum_pos' (fun b _ => by split <;> norm_num) ⟨j', Finset.mem_univ _, by rw [if_pos ⟨hs', hj'.symm⟩]; norm_num⟩
  have hn : ∑ i, (s i + ∑ j', -a j') = 0 := by
    rw [Fin.sum_univ_one, hs]
    simp only [ha, ← EReal.coe_neg, ← coe_sum, ← EReal.coe_add]
    rw [dls_add_sum, EReal.coe_zero]
  rw [hn, Ideal.zero_div h55, zero_mul, add_zero, hm, ha, dp_eq, Scalar.select_def]
  by_cases hs : Sees g t j
  · rw [if_pos (by simp [hs])]
  · rw [if_neg (by simp [hs]), dS, P, if_neg hs, zero_mul, EReal.coe_zero]

theorem r157 (R : Reads V0 X) (h : Fin 16) (t j : Fin 2048) : res_main_v157 V0 (ix3 h t j) = (((∑ g, dS X g h t j) * X.c : ℝ) : EReal) := by
  pointwise [res_main_v157]
  rw [Fin.sum_univ_one, R.c]
  refine (congrArg (· * (X.c : EReal)) (Finset.sum_congr rfl fun g _ => step157 (X := X) g h t j _ (r50_1 g h t j) (fun j => res_main_v142 V0 (ix4 g h t j)) (fun j => res_main_v55 V0 (ix4 g h t j))
    (fun i => res_main_v123 V0 (ix4 g h t i)) (r142 R g h t) (r55 R g h t) fun i => ?_)).trans ?_
  · rw [show i = 0 from Subsingleton.elim _ _]
    exact r123 R g h t
  · rw [← coe_sum, ← EReal.coe_mul]

end Cert.AttnRef

end
-- ==== Proof.Host.lean ====
/-
  The arrays the kernel program hands its kernel: up to the outputs and log-sums of the dilations they are the reference's own
  arrays, and the output and log-sum of the mixture are those of Dense.
-/
module

public import proofs.«01_k».proof.Proof.Gen.KernelIdeal.Frame
public import proofs.«01_k».proof.Proof.RefC

@[expose] public section

noncomputable section

namespace Cert.AttnHost

open Cert.KernelIdeal Cert.KernelIdeal.Gen
open Idealize.ShloMosaic Idealize.ShloMosaic.TcCoe
open Cert.ReferenceIdeal.Value (res_main_c res_main_v3 res_main_v7 res_main_v11 res_main_v17 res_main_v19 res_main_v20 res_main_v50_0 res_main_v50_1 res_main_v51 res_main_v57 res_main_v60 res_main_v62 res_main_v64 res_main_v66 res_main_v71 res_main_v72 res_main_v92 res_main_v94 res_main_v96)

variable {F : FTy → Type} [FloatOps F]

/-- The contents after the scores, after the masked scores, after the dilations' log-sums, and at the kernel. -/
def W0 (W : Valuation τ sig (Elt F)) : Valuation τ sig (Elt F) := StableHlo.after hostOps0 W
def W1 (W : Valuation τ sig (Elt F)) : Valuation τ sig (Elt F) := StableHlo.after hostOps0_1 (W0 W)
def W2 (W : Valuation τ sig (Elt F)) : Valuation τ sig (Elt F) := StableHlo.after (hostOps0_2.take 15) (W1 W)
def W3 (W : Valuation τ sig (Elt F)) : Valuation τ sig (Elt F) := StableHlo.after (hostOps0_2.drop 15) (W2 W)

variable (W : Valuation τ sig (Elt F)) (V0 : Valuation Cert.ReferenceIdeal.τ Cert.ReferenceIdeal.sig (Elt F))

/-- The two programs' arguments agree. -/
structure Same : Prop where
  a0 : (W (Proc.devRef .tc main_arg0) : FVec F S7x2048x2048 .f32) = V0 (Proc.devRef .tc Cert.ReferenceIdeal.main_arg0)
  a1 : (W (Proc.devRef .tc main_arg1) : FVec F S16x1x128 .f32) = V0 (Proc.devRef .tc Cert.ReferenceIdeal.main_arg1)

variable {W V0}

set_option maxRecDepth 8192 in
set_option maxHeartbeats 2000000 in
theorem w0_v11 (H : Same W V0) : (W0 W (Proc.devRef .tc main_v11) : FVec F S16x2048x128 .f32) = res_main_v11 V0 := by
  unfold W0
  simp only [hostOps0]
  after_results_simp
  rw [res_main_v11, ← H.a0]
  rfl

set_option maxRecDepth 8192 in
set_option maxHeartbeats 2000000 in
theorem w0_v49 : (broadcastInDim S3x16x2048x2048 ![0, 1, 2, 3] bcast_S3x1x2048x2048_S3x16x2048x2048_0_1_2_3 (W0 W (Proc.devRef .tc main_v49) : IVec S3x1x2048x2048 1) : IVec S3x16x2048x2048 1) = res_main_v50_1 V0 := by
  unfold W0
  simp only [hostOps0]
  after_results_simp
  rfl

set_option maxRecDepth 8192 in
set_option maxHeartbeats 2000000 in
theorem w1_v50 (H : Same W V0) : (W1 W (Proc.devRef .tc main_v50) : FVec F S3x16x2048x2048 .f32) = res_main_v50_0 V0 := by
  unfold W1
  simp only [hostOps0_1]
  after_results_simp
  rw [res_main_v50_0, ← w0_v49 (W := W) (V0 := V0), res_main_v3, res_main_v7, ← H.a0, ← H.a1]
  unfold W0
  simp only [hostOps0]
  after_results_simp
  rfl

set_option maxRecDepth 8192 in
set_option maxHeartbeats 2000000 in
theorem w1_v11 (H : Same W V0) : (W1 W (Proc.devRef .tc main_v11) : FVec F S16x2048x128 .f32) = res_main_v11 V0 := by
  unfold W1
  simp only [hostOps0_1]
  after_results_simp
  exact w0_v11 H

set_option maxRecDepth 8192 in
set_option maxHeartbeats 2000000 in
theorem w2_v61 (H : Same W V0) : (W2 W (Proc.devRef .tc main_v61) : FVec F S3x16x2048x128 .f32) = res_main_v66 V0 := by
  unfold W2
  simp only [hostOps0_2, List.take_succ_cons, List.take_zero]
  after_results_simp
  rw [res_main_v66, res_main_v64, res_main_v62, res_main_v60, res_main_v57, res_main_v51, ← w1_v50 H, ← w1_v11 H]
  rfl

set_option maxRecDepth 8192 in
set_option maxHeartbeats 2000000 in
theorem w2_v63 (H : Same W V0) : (W2 W (Proc.devRef .tc main_v63) : FVec F S3x16x2048x1 .f32) = res_main_v71 V0 := by
  unfold W2
  simp only [hostOps0_2, List.take_succ_cons, List.take_zero]
  after_results_simp
  rw [res_main_v71, res_main_v62, res_main_v60, res_main_v57, res_main_v51, ← w1_v50 H]

/-- The mixture of the outputs `o` at the weights `w`, its columns head by head. -/
def mixed (w : FVec F S3x16x2048x1 .f32) (o : FVec F S3x16x2048x128 .f32) : FVec F S2048x2048 .bf16 :=
  truncf .bf16 (shapeCast S2048x2048 (transpose S2048x16x128 [1, 0, 2] (Host.reduceAdd (mulf (broadcastInDim S3x16x2048x128 ![0, 1, 2, 3] bcast_S3x16x2048x1_S3x16x2048x128_0_1_2_3 w) o) (constant S_ .f32 0x00000000#32) reducesTo_S3x16x2048x128_S16x2048x128_d0 h_S_) transposes_S16x2048x128_S2048x16x128_1_0_2) shapeCasts_S2048x16x128_S2048x2048) bitsLt_bf16_f32

/-- The log-sums `ls` less their greatest `T`, as exponentials. -/
def spread (ls : FVec F S3x16x2048x1 .f32) (T : FVec F S16x2048x1 .f32) : FVec F S3x16x2048x1 .f32 :=
  Host.exp (subf ls (broadcastInDim S3x16x2048x1 ![0, 1, 2, 3] bcast_S1x16x2048x1_S3x16x2048x1_0_1_2_3 (broadcastInDim S1x16x2048x1 ![1, 2, 3] bcast_S16x2048x1_S1x16x2048x1_1_2_3 T)))

/-- The sum over the dilations. -/
def over (x : FVec F S3x16x2048x1 .f32) : FVec F S16x2048x1 .f32 :=
  Host.reduceAdd x (constant S_ .f32 0x00000000#32) reducesTo_S3x16x2048x1_S16x2048x1_d0 h_S_

/-- A number per query and head, over the head's columns. -/
def perHead (x : FVec F S16x2048x1 .f32) : FVec F S2048x2048 .f32 :=
  shapeCast S2048x2048 (transpose S2048x16x128 [1, 0, 2] (broadcastInDim S16x2048x128 ![0, 1, 2] bcast_S16x2048x1_S16x2048x128_0_1_2 x) transposes_S16x2048x128_S2048x16x128_1_0_2) shapeCasts_S2048x16x128_S2048x2048

set_option maxRecDepth 8192 in
set_option maxHeartbeats 2000000 in
theorem w3_v89 (H : Same W V0) : (W3 W (Proc.devRef .tc main_v89) : FVec F S2048x2048 .bf16) = mixed (res_main_v96 V0) (res_main_v66 V0) := by
  unfold W3
  simp only [hostOps0_2, List.drop_succ_cons, List.drop_zero]
  after_results_simp
  rw [mixed, res_main_v96, res_main_v94, res_main_v92, res_main_v72, ← w2_v63 H, ← w2_v61 H]
  rfl

set_option maxRecDepth 8192 in
set_option maxHeartbeats 2000000 in
theorem w3_v91 (H : Same W V0) : (W3 W (Proc.devRef .tc main_v91) : FVec F S2048x2048 .f32) = perHead (addf (res_main_v72 V0) (Host.log (over (spread (res_main_v71 V0) (res_main_v72 V0))))) := by
  unfold W3
  simp only [hostOps0_2, List.drop_succ_cons, List.drop_zero]
  after_results_simp
  rw [perHead, over, spread, res_main_v72, ← w2_v63 H]
  rfl

section Values

open Cert.Dense Cert.AttnMath Cert.AttnRef

variable {V0 : Valuation Cert.ReferenceIdeal.τ Cert.ReferenceIdeal.sig (Elt Ideal)} {X : Data}

theorem mixed_apply (w : FVec Ideal S3x16x2048x1 .f32) (o : FVec Ideal S3x16x2048x128 .f32) (t l : Fin 2048) :
    mixed w o (ix2 t l) = (∑ g : Fin 3, w (ix4 g ⟨l.val / 128, by omega⟩ t 0) * o (ix4 g ⟨l.val / 128, by omega⟩ t ⟨l.val % 128, by omega⟩) : EReal) := by
  pointwise [mixed]

theorem mixed_read (w : FVec Ideal S3x16x2048x1 .f32) (o : FVec Ideal S3x16x2048x128 .f32) (t : Fin 2048) (h : Fin 16) (e : Fin 128) :
    mixed w o (ix2 t (lane h e)) = (∑ g : Fin 3, w (ix4 g h t 0) * o (ix4 g h t e) : EReal) :=
  (mixed_apply w o t (lane h e)).trans (by rw [lane_head, lane_lane])

theorem perHead_apply (x : FVec Ideal S16x2048x1 .f32) (t l : Fin 2048) :
    perHead x (ix2 t l) = (x (ix3 ⟨l.val / 128, by omega⟩ t 0) : EReal) := by
  pointwise [perHead]

theorem perHead_read (x : FVec Ideal S16x2048x1 .f32) (t : Fin 2048) (h : Fin 16) (e : Fin 128) :
    perHead x (ix2 t (lane h e)) = (x (ix3 h t 0) : EReal) :=
  (perHead_apply x t (lane h e)).trans (by rw [lane_head])

theorem spread_read (ls : FVec Ideal S3x16x2048x1 .f32) (T : FVec Ideal S16x2048x1 .f32) (g : Fin 3) (h : Fin 16) (t : Fin 2048) :
    spread ls T (ix4 g h t 0) = (Ideal.exp (ls (ix4 g h t 0) - T (ix3 h t 0)) : EReal) := by
  pointwise [spread]

theorem over_read (x : FVec Ideal S3x16x2048x1 .f32) (h : Fin 16) (t : Fin 2048) :
    over x (ix3 h t 0) = (∑ g : Fin 3, x (ix4 g h t 0) : EReal) := by
  pointwise [over]

theorem y_read (R : Reads V0 X) (t : Fin 2048) (h : Fin 16) (e : Fin 128) :
    mixed (res_main_v96 V0) (res_main_v66 V0) (ix2 t (lane h e)) = (y X h t e : EReal) := by
  rw [mixed_read]
  simp only [r96 R, r66 R, ← EReal.coe_mul]
  rw [y, coe_sum]

theorem lse_read (R : Reads V0 X) (t : Fin 2048) (h : Fin 16) (e : Fin 128) :
    perHead (addf (res_main_v72 V0) (Host.log (over (spread (res_main_v71 V0) (res_main_v72 V0))))) (ix2 t (lane h e)) = (L X h t : EReal) := by
  rw [perHead_read]
  refine (sum_log _ _ _).trans ?_
  rw [over_read]
  simp only [spread_read, r71 R, r72 R, ← EReal.coe_sub, Ideal.exp_coe]
  rw [← coe_sum, ← show E X h t = ∑ g, Real.exp (ls X g h t - top X h t) from rfl, log_coe (E_pos X h t), ← EReal.coe_add, L]

end Values

end Cert.AttnHost

end
-- ==== Proof.RefD.lean ====
/-
  The reference's result read at an index: the gradients of Dense.
-/
module

public import proofs.«01_k».proof.Proof.Gen.ReferenceIdeal.Run
public import proofs.«01_k».proof.Proof.RefC

@[expose] public section

noncomputable section

namespace Cert.AttnRef

open Idealize.ShloMosaic Idealize.ShloMosaic.TcCoe
open Cert.ReferenceIdeal Cert.ReferenceIdeal.Gen Cert.ReferenceIdeal.Value
open Cert.Dense Cert.AttnMath

variable {V0 : Valuation τ sig (Elt Ideal)} {X : Data}

/-- The array that the reference returns. -/
def refOut (V0 : Valuation τ sig (Elt Ideal)) : FVec Ideal S3x2048x2048 .bf16 :=
  truncf .bf16 ((concatenate S3x2048x2048 0 [⟨S1x2048x2048, ((broadcastInDim S1x2048x2048 ![1, 2] bcast_S2048x2048_S1x2048x2048_1_2 (shapeCast _ (transpose S2048x16x128 [1, 0, 2] (Host.dotGeneral (φ₁ := .f32) (φ₂ := .f32) dot_S16x2048x2048_S16x2048x128_S16x2048x128_2_1_1_2_0_0 none (res_main_v157 V0) (res_main_v7 V0)) transposes_S16x2048x128_S2048x16x128_1_0_2) shapeCasts_S2048x16x128_S2048x2048)) : (⟨S1x2048x2048, .f32⟩ : BufTy).Contents (Elt Ideal))⟩, ⟨S1x2048x2048, ((broadcastInDim S1x2048x2048 ![1, 2] bcast_S2048x2048_S1x2048x2048_1_2 (shapeCast _ (transpose S2048x16x128 [1, 0, 2] (Host.dotGeneral (φ₁ := .f32) (φ₂ := .f32) dot_S16x2048x2048_S16x2048x128_S16x2048x128_1_1_2_2_0_0 none (res_main_v157 V0) (res_main_v3 V0)) transposes_S16x2048x128_S2048x16x128_1_0_2) shapeCasts_S2048x16x128_S2048x2048)) : (⟨S1x2048x2048, .f32⟩ : BufTy).Contents (Elt Ideal))⟩, ⟨S1x2048x2048, ((broadcastInDim S1x2048x2048 ![1, 2] bcast_S2048x2048_S1x2048x2048_1_2 (shapeCast _ (transpose S2048x16x128 [1, 0, 2] (transpose S16x2048x128 [0, 2, 1] (Host.dotGeneral (φ₁ := .f32) (φ₂ := .f32) dot_S16x128x3x2048_S3x16x2048x2048_S16x128x2048_23_02_1_3_0_1 none (res_main_v134 V0) (res_main_v60 V0)) transposes_S16x128x2048_S16x2048x128_0_2_1) transposes_S16x2048x128_S2048x16x128_1_0_2) shapeCasts_S2048x16x128_S2048x2048)) : (⟨S1x2048x2048, .f32⟩ : BufTy).Contents (Elt Ideal))⟩] concatenates_S1x2048x2048_S1x2048x2048_S1x2048x2048_S3x2048x2048_d0 : (⟨S3x2048x2048, .f32⟩ : BufTy).Contents (Elt Ideal))) bitsLt_bf16_f32

theorem out_dq (R : Reads V0 X) (h : Fin 16) (t : Fin 2048) (e : Fin 128) : refOut V0 (ix3 0 t (lane h e)) = (dq X h t e : EReal) := by
  pointwise [refOut]
  rw [lane_head, lane_lane]
  simp only [r157 R, R.k, ← EReal.coe_mul]
  rw [dq, coe_sum]

theorem out_dk (R : Reads V0 X) (h : Fin 16) (t : Fin 2048) (e : Fin 128) : refOut V0 (ix3 1 t (lane h e)) = (dk X h t e : EReal) := by
  pointwise [refOut]
  rw [lane_head, lane_lane]
  simp only [r157 R, R.q, ← EReal.coe_mul]
  rw [dk, coe_sum]

theorem out_dv (R : Reads V0 X) (h : Fin 16) (t : Fin 2048) (e : Fin 128) : refOut V0 (ix3 2 t (lane h e)) = (dv X h t e : EReal) := by
  pointwise [refOut]
  rw [lane_head, lane_lane]
  simp only [r134 R, r60 R, ← EReal.coe_mul, ← coe_sum]
  rw [dv]
  refine congrArg _ (Finset.sum_congr rfl fun g _ => Finset.sum_congr rfl fun t' _ => ?_)
  rw [P_eq, dO]
  ring

theorem out_lane (R : Reads V0 X) (s : Fin 3) (h : Fin 16) (t : Fin 2048) (e : Fin 128) :
    refOut V0 (ix3 s t (lane h e)) = (grad X s t (lane h e) : EReal) := by
  rw [grad_lane]
  fin_cases s
  · exact out_dq R h t e
  · exact out_dk R h t e
  · exact out_dv R h t e

theorem out_all (R : Reads V0 X) : refOut V0 = fun z => (grad X (z 0) (z 1) (z 2) : EReal) := by
  funext z
  obtain ⟨h, e, hl⟩ := lane_surj (z 2)
  refine (congrArg (refOut V0) (eq_ix3 z)).trans ?_
  have := out_lane R (z 0) h (z 1) e
  rw [← hl] at this
  exact this

/-- The data of three arrays whose read elements are real numbers. -/
theorem reads_of (A : FVec Ideal S7x2048x2048 .f32) (B : FVec Ideal S16x1x128 .f32) (C : FVec Ideal S2048x2048 .f32)
    (h0 : V0 (Proc.tc.devRef main_arg0) = A) (h1 : V0 (Proc.tc.devRef main_arg1) = B) (h2 : V0 (Proc.tc.devRef main_arg2) = C)
    (hA : ∀ (s : Fin 7) t l, s.val < 3 → max (A (ix3 s t l)) (-A (ix3 s t l)) < (⊤ : EReal)) (hB : ∀ h, max (B (ix3 h 0 0)) (-B (ix3 h 0 0)) < (⊤ : EReal))
    (hC : ∀ t l, max (C (ix2 t l)) (-C (ix2 t l)) < (⊤ : EReal)) : Reads V0 (dataOf A B C) where
  q h t e := by
    pointwise [res_main_v3, h0]
    exact (coe_toReal_of_abs (hA 0 t (lane h e) (by decide))).symm
  k h t e := by
    pointwise [res_main_v7, h0]
    exact (coe_toReal_of_abs (hA 1 t (lane h e) (by decide))).symm
  v h t e := by
    pointwise [res_main_v11, h0]
    exact (coe_toReal_of_abs (hA 2 t (lane h e) (by decide))).symm
  dy g h t e := by
    pointwise [res_main_v105, h2]
    exact (coe_toReal_of_abs (hC t (lane h e))).symm
  sl h := by
    rw [h1]
    exact (coe_toReal_of_abs (hB h)).symm
  c := scale_eq

end Cert.AttnRef

end
-- ==== Proof.Value.lean ====
/-
  The result of the attention backward kernel as real numbers: a grid point's operands are a head's columns of the launched arrays,
  and the heads' blocks of gradients tile the result.
-/
module

public import proofs.«01_k».proof.Proof.Launch
public import proofs.«01_k».proof.Proof.Heads
public import proofs.«01_k».proof.Proof.Host
public import proofs.«01_k».proof.Proof.RefD
public import Idealize.ShloMosaic.Lib.Pipeline.ValueKit

@[expose] public section

noncomputable section

namespace Cert.AttnValue

open Cert.KernelIdeal Cert.KernelIdeal.Gen Cert.AttnBwd Cert.AttnHost
open Idealize.ShloMosaic Idealize.ShloMosaic.TcCoe
open Cert.Dense Cert.AttnMath Cert.AttnRef

/-- The block each window is at. -/
theorem idx : ∀ t : Fin cfg0.N, win0_0.index t = ![0, 0, t.val] ∧ win0_1.index t = ![1, 0, t.val] ∧ win0_2.index t = ![2, 0, t.val]
    ∧ win0_3.index t = ![t.val, 0, 0] ∧ win0_4.index t = ![0, t.val] ∧ win0_5.index t = ![0, t.val] ∧ win0_6.index t = ![0, t.val] ∧ win0_7.index t = ![0, 0, t.val] :=
  (by decide +kernel : ∀ t : Fin grid0.N, _)

/-- The head of a grid point. -/
def headOf (t : Fin cfg0.N) : Fin 16 := ⟨t.val, t.isLt⟩

variable (m : (ℓ : Loc nD τ sig) → Buf (Elt Ideal) ℓ) (c : Dev nD)

theorem blk_q (t : Fin cfg0.N) (i : Fin 2048) (e : Fin 128) : (iblk m c 0 t (ix3 0 i e) : EReal) = V m c main_arg0 (ix3 0 i (lane (headOf t) e)) := by
  refine congrArg (V m c main_arg0) ?_
  have := idx t
  blk_ext [this, lane, headOf]

theorem blk_k (t : Fin cfg0.N) (i : Fin 2048) (e : Fin 128) : (iblk m c 1 t (ix3 0 i e) : EReal) = V m c main_arg0 (ix3 1 i (lane (headOf t) e)) := by
  refine congrArg (V m c main_arg0) ?_
  have := idx t
  blk_ext [this, lane, headOf]

theorem blk_v (t : Fin cfg0.N) (i : Fin 2048) (e : Fin 128) : (iblk m c 2 t (ix3 0 i e) : EReal) = V m c main_arg0 (ix3 2 i (lane (headOf t) e)) := by
  refine congrArg (V m c main_arg0) ?_
  have := idx t
  blk_ext [this, lane, headOf]

theorem blk_sl (t : Fin cfg0.N) (e : Fin 128) : (iblk m c 3 t (ix3 0 0 e) : EReal) = V m c main_arg1 (ix3 (headOf t) 0 e) := by
  refine congrArg (V m c main_arg1) ?_
  have := idx t
  blk_ext [this, headOf]

theorem blk_y (t : Fin cfg0.N) (i : Fin 2048) (e : Fin 128) : (iblk m c 4 t (ix2 i e) : EReal) = V m c main_v89 (ix2 i (lane (headOf t) e)) := by
  refine congrArg (V m c main_v89) ?_
  have := idx t
  blk_ext [this, lane, headOf]

theorem blk_lse (t : Fin cfg0.N) (i : Fin 2048) (e : Fin 128) : (iblk m c 5 t (ix2 i e) : EReal) = V m c main_v91 (ix2 i (lane (headOf t) e)) := by
  refine congrArg (V m c main_v91) ?_
  have := idx t
  blk_ext [this, lane, headOf]

theorem blk_dy (t : Fin cfg0.N) (i : Fin 2048) (e : Fin 128) : (iblk m c 6 t (ix2 i e) : EReal) = V m c main_arg2 (ix2 i (lane (headOf t) e)) := by
  refine congrArg (V m c main_arg2) ?_
  have := idx t
  blk_ext [this, lane, headOf]

/-- The launched arrays on a device, their finite entries, and a reference's arrays that agree with them. -/
structure Launched (A : FVec Ideal S7x2048x2048 .f32) (B : FVec Ideal S16x1x128 .f32) (C : FVec Ideal S2048x2048 .f32)
    (V0 : Valuation Cert.ReferenceIdeal.τ Cert.ReferenceIdeal.sig (Elt Ideal)) : Prop where
  a0 : m ((c : Thread nD τ).loc main_arg0) = A
  a1 : m ((c : Thread nD τ).loc main_arg1) = B
  a2 : m ((c : Thread nD τ).loc main_arg2) = C
  b0 : V0 (Proc.devRef .tc Cert.ReferenceIdeal.main_arg0) = A
  b1 : V0 (Proc.devRef .tc Cert.ReferenceIdeal.main_arg1) = B
  b2 : V0 (Proc.devRef .tc Cert.ReferenceIdeal.main_arg2) = C
  fA : ∀ (s : Fin 7) t l, s.val < 3 → max (A (ix3 s t l)) (-A (ix3 s t l)) < (⊤ : EReal)
  fB : ∀ h, max (B (ix3 h 0 0)) (-B (ix3 h 0 0)) < (⊤ : EReal)
  fC : ∀ t l, max (C (ix2 t l)) (-C (ix2 t l)) < (⊤ : EReal)

variable {m c} {A : FVec Ideal S7x2048x2048 .f32} {B : FVec Ideal S16x1x128 .f32} {C : FVec Ideal S2048x2048 .f32}
  {V0 : Valuation Cert.ReferenceIdeal.τ Cert.ReferenceIdeal.sig (Elt Ideal)}

theorem Launched.reads (H : Launched m c A B C V0) : Reads V0 (dataOf A B C) :=
  reads_of A B C H.b0 H.b1 H.b2 H.fA H.fB H.fC

theorem Launched.same (H : Launched m c A B C V0) : Same (fun b => m (c, b)) V0 where
  a0 := H.a0.trans H.b0.symm
  a1 := H.a1.trans H.b1.symm

/-- The contents at the kernel, in stages. -/
theorem V_eq (b : Ref sig .tc) : V m c b = W3 (fun b => m (c, b)) (Proc.devRef .tc b) := by
  unfold V W3 W2 W1 W0
  rw [List.flatten_cons, List.flatten_cons, List.flatten_cons, List.flatten_nil, List.append_nil, StableHlo.after_append, StableHlo.after_append,
    ← StableHlo.after_append (List.take 15 hostOps0_2), List.take_append_drop]

theorem Launched.y (H : Launched m c A B C V0) (t : Fin 2048) (h : Fin 16) (e : Fin 128) :
    (V m c main_v89 (ix2 t (lane h e)) : EReal) = (y (dataOf A B C) h t e : EReal) := by
  rw [V_eq]
  exact (congrFun (w3_v89 H.same) (ix2 t (lane h e))).trans (y_read H.reads t h e)

theorem Launched.lse (H : Launched m c A B C V0) (t : Fin 2048) (h : Fin 16) (e : Fin 128) :
    (V m c main_v91 (ix2 t (lane h e)) : EReal) = (L (dataOf A B C) h t : EReal) := by
  rw [V_eq]
  exact (congrFun (w3_v91 H.same) (ix2 t (lane h e))).trans (lse_read H.reads t h e)

theorem sq_read (x : S1x2048x128.Idx → EReal) (i : Fin 2048) (e : Fin 128) : sq x (ix2 i e) = x (ix3 0 i e) :=
  congrArg x (by funext a; fin_cases a <;> rfl)

theorem slope_read (x : FVec Ideal S1x1x128 .f32) : slopeV x (ix2 0 0) = (x (ix3 0 0 0) : EReal) := by
  pointwise [slopeV]

theorem Launched.q (H : Launched m c A B C V0) (t : Fin cfg0.N) (i : Fin 2048) (e : Fin 128) :
    (iblk m c 0 t (ix3 0 i e) : EReal) = ((dataOf A B C).q (headOf t) i e : EReal) := by
  rw [blk_q, V_main_arg0, H.a0]
  exact (coe_toReal_of_abs (H.fA 0 i _ (by decide))).symm

theorem Launched.k (H : Launched m c A B C V0) (t : Fin cfg0.N) (i : Fin 2048) (e : Fin 128) :
    (iblk m c 1 t (ix3 0 i e) : EReal) = ((dataOf A B C).k (headOf t) i e : EReal) := by
  rw [blk_k, V_main_arg0, H.a0]
  exact (coe_toReal_of_abs (H.fA 1 i _ (by decide))).symm

theorem Launched.v (H : Launched m c A B C V0) (t : Fin cfg0.N) (i : Fin 2048) (e : Fin 128) :
    (iblk m c 2 t (ix3 0 i e) : EReal) = ((dataOf A B C).v (headOf t) i e : EReal) := by
  rw [blk_v, V_main_arg0, H.a0]
  exact (coe_toReal_of_abs (H.fA 2 i _ (by decide))).symm

theorem Launched.sl (H : Launched m c A B C V0) (t : Fin cfg0.N) :
    (iblk m c 3 t (ix3 0 0 0) : EReal) = ((dataOf A B C).sl (headOf t) : EReal) := by
  rw [blk_sl, V_main_arg1, H.a1]
  exact (coe_toReal_of_abs (H.fB _)).symm

theorem Launched.dy (H : Launched m c A B C V0) (t : Fin cfg0.N) (i : Fin 2048) (e : Fin 128) :
    (iblk m c 6 t (ix2 i e) : EReal) = ((dataOf A B C).dy (headOf t) i e : EReal) := by
  rw [blk_dy, V_main_arg2, H.a2]
  exact (coe_toReal_of_abs (H.fC i _)).symm

theorem head_of (x1 x2 x3 : FVec Ideal S1x2048x128 .f32) (x4 : FVec Ideal S1x1x128 .f32) (x5 : FVec Ideal S2048x128 .bf16) (x6 x7 : FVec Ideal S2048x128 .f32)
    (X : Data) (h : Fin 16) (hc : X.c = scale)
    (h1 : ∀ i e, x1 (ix3 0 i e) = (X.q h i e : EReal)) (h2 : ∀ i e, x2 (ix3 0 i e) = (X.k h i e : EReal)) (h3 : ∀ i e, x3 (ix3 0 i e) = (X.v h i e : EReal))
    (h4 : x4 (ix3 0 0 0) = (X.sl h : EReal)) (h5 : ∀ i e, x5 (ix2 i e) = (y X h i e : EReal)) (h6 : ∀ i e, x6 (ix2 i e) = (L X h i : EReal))
    (h7 : ∀ i e, x7 (ix2 i e) = (X.dy h i e : EReal)) : Head (⟨x1, x2, x3, x4, x5, x6, x7⟩ : Ops Ideal) X h where
  q i e := (sq_read x1 i e).trans (h1 i e)
  k i e := (sq_read x2 i e).trans (h2 i e)
  v i e := (sq_read x3 i e).trans (h3 i e)
  dy := h7
  o := h5
  lse := h6
  sl := (slope_read x4).trans h4
  c := hc

theorem Launched.o (H : Launched m c A B C V0) (t : Fin cfg0.N) (i : Fin 2048) (e : Fin 128) :
    (iblk m c 4 t (ix2 i e) : EReal) = (Dense.y (dataOf A B C) (headOf t) i e : EReal) :=
  (blk_y m c t i e).trans (H.y i (headOf t) e)

theorem Launched.l (H : Launched m c A B C V0) (t : Fin cfg0.N) (i : Fin 2048) (e : Fin 128) :
    (iblk m c 5 t (ix2 i e) : EReal) = (L (dataOf A B C) (headOf t) i : EReal) :=
  (blk_lse m c t i e).trans (H.lse i (headOf t) e)

set_option maxHeartbeats 4000000 in
theorem Launched.head (H : Launched m c A B C V0) (t : Fin cfg0.N) : Head (opsAt m c t) (dataOf A B C) (headOf t) :=
  head_of (iblk m c 0 t) (iblk m c 1 t) (iblk m c 2 t) (iblk m c 3 t) (iblk m c 4 t) (iblk m c 5 t) (iblk m c 6 t) (dataOf A B C) (headOf t) rfl
    (H.q t) (H.k t) (H.v t) (H.sl t) (H.o t) (H.l t) (H.dy t)

/-- Where a block of the result lies. -/
theorem out_place (t : Fin cfg0.N) (s : Fin 3) (i : Fin 2048) (e : Fin 128) :
    (win0_7.blk t).view.emb (ix3 s i e) = ix3 s i (lane (headOf t) e) := by
  have := idx t
  blk_ext [this, lane, headOf]

/-- The gradients, as the result's buffer. -/
def grads (A : FVec Ideal S7x2048x2048 .f32) (B : FVec Ideal S16x1x128 .f32) (C : FVec Ideal S2048x2048 .f32) : FVec Ideal S3x2048x2048 .bf16 :=
  fun z => (grad (dataOf A B C) (z 0) (z 1) (z 2) : EReal)

theorem grads_at (s : Fin 3) (i l : Fin 2048) : grads A B C (ix3 s i l) = (grad (dataOf A B C) s i l : EReal) := rfl

/-- A point's block of the result. -/
theorem Launched.block (H : Launched m c A B C V0) (t : Fin cfg0.N) (z : S3x2048x128.Idx) :
    (outM (opsAt m c t) z : EReal) = grads A B C ((win0_7.blk t).view.emb z) := by
  rw [eq_ix3 z]
  refine (out_read (H.head t) (z 0) (z 1) (z 2)).trans ?_
  refine Eq.trans (grads_at (A := A) (B := B) (C := C) (z 0) (z 1) (lane (headOf t) (z 2))).symm ?_
  exact congrArg (grads A B C) (out_place t (z 0) (z 1) (z 2)).symm

/-- The result is the gradients. -/
theorem Launched.result (H : Launched m c A B C V0) : (result m c : FVec Ideal S3x2048x2048 .bf16) = grads A B C := by
  unfold AttnBwd.result
  refine (dats m 0 c).arrAt_eq_of_covers 7 _ (by decide +kernel) fun t _ z => ?_
  blk_simp
  exact H.block t z

end Cert.AttnValue

end
-- ==== Proof.Finite.lean ====
/-
  The claim's condition read back: the entries the attention reads are finite.
-/
module

public import proofs.«01_k».proof.Pre_finite
public import proofs.«01_k».proof.Proof.Coe
public import Idealize.ShloMosaic.Lib.ReduceAll

@[expose] public section

noncomputable section

namespace Cert.AttnFinite

open Idealize.ShloMosaic Cert.Pre_finite Cert.AttnMath

/-- The condition's shape facts. -/
theorem facts : Cert.Pre_finite.Facts where
  slices_S7x2048x2048_S3x2048x2048_0_0_0 := by decide
  bcast_S_S3x2048x2048 := by decide
  reducesTo_S3x2048x2048_S_d0_1_2 := by decide
  h_S_ := by decide
  slices_S16x1x128_S16x1x1_0_0_0 := by decide
  bcast_S_S16x1x1 := by decide
  reducesTo_S16x1x1_S_d0_1_2 := by decide
  bcast_S_S2048x2048 := by decide
  reducesTo_S2048x2048_S_d0_1 := by decide

instance : Subsingleton S_.Idx := ⟨fun a b => funext fun i => i.elim0⟩

theorem lt_of_bit {x : EReal} (h : BitVec.ofBool (decide (max x (-x) < Ideal.ofBits .f32 0x7F800000#32)) = 1#1) : max x (-x) < (⊤ : EReal) := by
  rw [pos_inf] at h
  by_contra hn
  simp [hn] at h

variable [Facts] (A : FVec Ideal S7x2048x2048 .f32) (B : FVec Ideal S16x1x128 .f32) (C : FVec Ideal S2048x2048 .f32)

/-- Every entry the attention reads is finite. -/
theorem finite (h : fn A B C = fun _ => 1#1) :
    (∀ (s : Fin 7) t l, s.val < 3 → max (A (ix3 s t l)) (-A (ix3 s t l)) < (⊤ : EReal))
      ∧ (∀ h, max (B (ix3 h 0 0)) (-B (ix3 h 0 0)) < (⊤ : EReal))
      ∧ ∀ t l, max (C (ix2 t l)) (-C (ix2 t l)) < (⊤ : EReal) := by
  have h0 := congrFun h ix0
  unfold fn at h0
  obtain ⟨h1, hC⟩ := IntOp.andi_eq_one.1 h0
  obtain ⟨hA, hB⟩ := IntOp.andi_eq_one.1 h1
  refine ⟨fun s t l hs => ?_, fun i => ?_, fun t l => ?_⟩
  · have e := Host.reduce_andi_all _ _ _ _ _ hA (ix3 ⟨s.val, hs⟩ t l)
    have e' : max (A (ix3 s t l)) (-A (ix3 s t l)) < (⊤ : EReal) := by
      refine lt_of_bit (Eq.trans ?_ e)
      pointwise
      rfl
    exact e'
  · have e := Host.reduce_andi_all _ _ _ _ _ hB (ix3 i 0 0)
    refine lt_of_bit (Eq.trans ?_ e)
    pointwise
    rfl
  · have e := Host.reduce_andi_all _ _ _ _ _ hC (ix2 t l)
    refine lt_of_bit (Eq.trans ?_ e)
    pointwise
    rfl

end Cert.AttnFinite

end
-- ==== Proof.lean ====
module

public import proofs.«01_k».proof.Defs
public import proofs.«01_k».proof.Proof.Gen.ReferenceIdeal.Run
public import proofs.«01_k».proof.Proof.ProjIn
public import proofs.«01_k».proof.Proof.Gen.Kernel2Ideal.Value
public import proofs.«01_k».proof.Proof.Gen.Kernel2.Frame
public import proofs.«01_k».proof.Proof.Gen.Reference2Ideal.Run
public import proofs.«01_k».proof.Proof.Gen.Kernel3Ideal.Value
public import proofs.«01_k».proof.Proof.Gen.Kernel3.Frame
public import proofs.«01_k».proof.Proof.Gen.Reference3Ideal.Run
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Kernel7Ideal.Value
public import proofs.«01_k».proof.Proof.Gen.Kernel7.Frame
public import proofs.«01_k».proof.Proof.Gen.Reference7Ideal.Run
public import proofs.«01_k».proof.Proof.Gen.Kernel8Ideal.Value
public import proofs.«01_k».proof.Proof.Gen.Kernel8.Frame
public import proofs.«01_k».proof.Proof.Gen.Reference8Ideal.Run
public import proofs.«01_k».proof.Proof.Gen.Kernel9Ideal.Value
public import proofs.«01_k».proof.Proof.Gen.Kernel9.Frame
public import proofs.«01_k».proof.Proof.Gen.Reference9Ideal.Run
public import proofs.«01_k».proof.Proof.Gen.Kernel10Ideal.Value
public import proofs.«01_k».proof.Proof.Gen.Kernel10.Frame
public import proofs.«01_k».proof.Proof.Gen.Reference10Ideal.Run
public import proofs.«01_k».proof.Proof.Gen.Kernel11Ideal.Value
public import proofs.«01_k».proof.Proof.Gen.Kernel11.Frame
public import proofs.«01_k».proof.Proof.Gen.Reference11Ideal.Run
public import proofs.«01_k».proof.Proof.Gen.Kernel12Ideal.Value
public import proofs.«01_k».proof.Proof.Gen.Kernel12.Frame
public import proofs.«01_k».proof.Proof.Gen.Reference12Ideal.Run
public import proofs.«01_k».proof.Proof.Gen.Kernel13Ideal.Value
public import proofs.«01_k».proof.Proof.Gen.Kernel13.Frame
public import proofs.«01_k».proof.Proof.Gen.Reference13Ideal.Run
public import proofs.«01_k».proof.Proof.Gen.Kernel14Ideal.Value
public import proofs.«01_k».proof.Proof.Gen.Kernel14.Frame
public import proofs.«01_k».proof.Proof.Gen.Reference14Ideal.Run
public import proofs.«01_k».proof.Proof.Gen.Kernel15Ideal.Value
public import proofs.«01_k».proof.Proof.Gen.Kernel15.Frame
public import proofs.«01_k».proof.Proof.Gen.Reference15Ideal.Run
public import proofs.«01_k».proof.Proof.Gen.Kernel16Ideal.Value
public import proofs.«01_k».proof.Proof.Gen.Kernel16.Frame
public import proofs.«01_k».proof.Proof.Gen.Reference16Ideal.Run
public import proofs.«01_k».proof.Proof.DHid
public import proofs.«01_k».proof.Proof.GDown
public import proofs.«01_k».proof.Proof.DHn
public import proofs.«01_k».proof.Proof.GUp
public import proofs.«01_k».proof.Proof.Up
public import proofs.«01_k».proof.Proof.Down
public import proofs.«01_k».proof.Proof.DXn
public import proofs.«01_k».proof.Proof.GSquare
public import proofs.«01_k».proof.Proof.DSquare
public import proofs.«01_k».proof.Proof.Square
public import proofs.«01_k».proof.Proof.Resid
public import proofs.«01_k».proof.Proof.Merge
public import proofs.«01_k».proof.Proof.DMerge
public import proofs.«01_k».proof.Proof.GInRest
public import proofs.«01_k».proof.Proof.GInQkv
public import proofs.«01_k».proof.Proof.Frames
public import proofs.«01_k».proof.Proof.Value
public import proofs.«01_k».proof.Proof.Finite

@[expose] public section

noncomputable section

namespace Cert.Proof

open Idealize.ShloMosaic Idealize.SL.Sem

/-- The frame of the reference: it changes no argument, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite inputs both programs end with the gradients of the attention. -/
theorem value : Cert.algebraic_KernelIdeal_ReferenceIdeal_pre_finite (hPre_finite := Cert.AttnFinite.facts) := by
  intro m g m' g' hp ha
  have := Cert.AttnFinite.facts
  have H : ∀ c, Cert.AttnValue.Launched m c _ _ _ (StableHlo.launchContents m' c) := fun c =>
    have f := Cert.AttnFinite.finite _ _ _ (hp c)
    ⟨rfl, rfl, rfl, (ha c).1, (ha c).2.1, (ha c).2.2, f.1, f.2.1, f.2.2⟩
  refine ⟨fun c => Cert.AttnBwd.result m c, ?_, ?_⟩
  · exact (θ_run Cert.KernelIdeal.defs _ _).mono (fun _ h c => ⟨(h.1 c).2, (h.1 c).1⟩) (Cert.AttnBwd.run_main (F := Ideal) m g Cert.AttnBwd.at_ideal)
  · refine (θ_run Cert.ReferenceIdeal.defs _ _).mono (fun _ h c => ⟨(h c).1.trans ?_, (h c).2⟩) (Cert.ReferenceIdeal.Value.run (F := Ideal) m' g')
    exact (Cert.AttnRef.out_all (H c).reads).trans (H c).result.symm

/-- The gradient of the squared ReLU's argument: both programs end with it. -/
theorem d_hid : Cert.algebraic_Kernel2Ideal_Reference2Ideal := by
  intro m g m' g' _ ha
  refine ⟨fun c => Cert.DHid.grad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · exact (θ_run Cert.Kernel2Ideal.defs _ _).mono (fun _ h c => ⟨(h c).1.trans (Cert.DHid.final m c), (h c).2⟩) (Cert.Kernel2Ideal.Value.run_blocks (F := Ideal) m g)
  · refine (θ_run Cert.Reference2Ideal.defs _ _).mono (fun _ h c => ⟨(h c).1.trans ?_, (h c).2⟩) (Cert.Reference2Ideal.Value.run (F := Ideal) m' g')
    exact (funext fun i => Cert.DHid.reference_eq _ _ _ i).trans (congr (congr (congrArg Cert.DHid.grad (ha c).1) (ha c).2.1) (ha c).2.2)

/-- The gradient of w_down: both programs end with it. -/
theorem g_w_down : Cert.algebraic_Kernel3Ideal_Reference3Ideal := by
  intro m g m' g' _ ha
  refine ⟨fun c => Cert.GDown.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run Cert.Kernel3Ideal.defs _ _).mono (fun _ h c => ⟨(h c).1.trans (Cert.GDown.final m c), (h c).2⟩) (Cert.Kernel3Ideal.Value.run_blocks (F := Ideal) m g)
  · refine (θ_run Cert.Reference3Ideal.defs _ _).mono (fun _ h c => ⟨(h c).1.trans ?_, (h c).2⟩) (Cert.Reference3Ideal.Value.run (F := Ideal) m' g')
    exact (funext fun i => Cert.GDown.reference_eq _ _ i).trans (congr (congrArg Cert.GDown.grad (ha c).1) (ha c).2)

/-- The gradient of the normalized input of the channel mixer: both programs end with it. -/
theorem d_hn : Cert.algebraic_Kernel4Ideal_Reference4Ideal := by
  intro m g m' g' _ ha
  refine ⟨fun c => Cert.DHn.grad (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run Cert.Kernel4Ideal.defs _ _).mono (fun _ h c => ⟨(h c).1.trans (Cert.DHn.final m c), (h c).2⟩) (Cert.Kernel4Ideal.Value.run_blocks (F := Ideal) m g)
  · refine (θ_run Cert.Reference4Ideal.defs _ _).mono (fun _ h c => ⟨(h c).1.trans ?_, (h c).2⟩) (Cert.Reference4Ideal.Value.run (F := Ideal) m' g')
    exact (funext fun i => Cert.DHn.reference_eq _ _ i).trans (congr (congrArg Cert.DHn.grad (ha c).1) (ha c).2)

/-- The gradient of w_up: both programs end with it. -/
theorem g_w_up : Cert.algebraic_Kernel5Ideal_Reference5Ideal := by
  intro m g m' g' _ ha
  refine ⟨fun c => Cert.GUp.grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · exact (θ_run Cert.Kernel5Ideal.defs _ _).mono (fun _ h c => ⟨(h c).1.trans (Cert.GUp.final m c), (h c).2⟩) (Cert.Kernel5Ideal.Value.run_blocks (F := Ideal) m g)
  · refine (θ_run Cert.Reference5Ideal.defs _ _).mono (fun _ h c => ⟨(h c).1.trans ?_, (h c).2⟩) (Cert.Reference5Ideal.Value.run (F := Ideal) m' g')
    exact (funext fun i => Cert.GUp.reference_eq _ _ i).trans (congr (congrArg Cert.GUp.grad (ha c).1) (ha c).2)

/-- The product with w_up and its squared ReLU: both programs end with them. -/
theorem w_up_relu2 : Cert.algebraic_Kernel6Ideal_Reference6Ideal := by
  intro m g m' g' _ ha
  refine ⟨fun c => Cert.Up.hid (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), fun c => Cert.Up.relu (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · exact (θ_run Cert.Kernel6Ideal.defs _ _).mono (fun _ h c => ⟨(h c).1.trans (Cert.Up.final_hid m c), (h c).2.1.trans (Cert.Up.final_relu m c), (h c).2.2⟩) (Cert.Kernel6Ideal.Value.run_blocks (F := Ideal) m g)
  · refine (θ_run Cert.Reference6Ideal.defs _ _).mono (fun _ h c => ⟨(h c).1.trans ?_, (h c).2.1.trans ?_, (h c).2.2⟩) (Cert.Reference6Ideal.Value.run (F := Ideal) m' g')
    · exact (funext fun i => Cert.Up.reference_hid _ _ i).trans (congr (congrArg Cert.Up.hid (ha c).1) (ha c).2)
    · exact (funext fun i => Cert.Up.reference_relu _ _ i).trans (congr (congrArg Cert.Up.relu (ha c).1) (ha c).2)

/-- The product with w_down added to the residual: both programs end with it. -/
theorem w_down_resid : Cert.algebraic_Kernel7Ideal_Reference7Ideal := by
  intro m g m' g' _ ha
  refine ⟨fun c => Cert.Down.res (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · exact (θ_run Cert.Kernel7Ideal.defs _ _).mono (fun _ h c => ⟨(h c).1.trans (Cert.Down.final m c), (h c).2⟩) (Cert.Kernel7Ideal.Value.run_blocks (F := Ideal) m g)
  · refine (θ_run Cert.Reference7Ideal.defs _ _).mono (fun _ h c => ⟨(h c).1.trans ?_, (h c).2⟩) (Cert.Reference7Ideal.Value.run (F := Ideal) m' g')
    exact (funext fun i => Cert.Down.reference_eq _ _ _ i).trans (congr (congr (congrArg Cert.Down.res (ha c).1) (ha c).2.1) (ha c).2.2)

/-- The gradient of the input projection's left side: both programs end with it. -/
theorem dxn : Cert.algebraic_Kernel8Ideal_Reference8Ideal := by
  intro m g m' g' _ ha
  refine ⟨fun c => Cert.DXn.grad (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run Cert.Kernel8Ideal.defs _ _).mono (fun _ h c => ⟨(h c).1.trans (Cert.DXn.final m c), (h c).2⟩) (Cert.Kernel8Ideal.Value.run_blocks (F := Ideal) m g)
  · refine (θ_run Cert.Reference8Ideal.defs _ _).mono (fun _ h c => ⟨(h c).1.trans ?_, (h c).2⟩) (Cert.Reference8Ideal.Value.run (F := Ideal) m' g')
    exact (funext fun i => Cert.DXn.reference_eq _ _ i).trans (congr (congrArg Cert.DXn.grad (ha c).1) (ha c).2)

/-- The gradient of a square matrix: both programs end with it. -/
theorem g_square : Cert.algebraic_Kernel9Ideal_Reference9Ideal := by
  intro m g m' g' _ ha
  refine ⟨fun c => Cert.GSquare.grad (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run Cert.Kernel9Ideal.defs _ _).mono (fun _ h c => ⟨(h c).1.trans (Cert.GSquare.final m c), (h c).2⟩) (Cert.Kernel9Ideal.Value.run_blocks (F := Ideal) m g)
  · refine (θ_run Cert.Reference9Ideal.defs _ _).mono (fun _ h c => ⟨(h c).1.trans ?_, (h c).2⟩) (Cert.Reference9Ideal.Value.run (F := Ideal) m' g')
    exact (funext fun i => Cert.GSquare.reference_eq _ _ i).trans (congr (congrArg Cert.GSquare.grad (ha c).1) (ha c).2)

/-- The gradient of the left side of a product with a square matrix: both programs end with it. -/
theorem d_square : Cert.algebraic_Kernel10Ideal_Reference10Ideal := by
  intro m g m' g' _ ha
  refine ⟨fun c => Cert.DSquare.grad (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · exact (θ_run Cert.Kernel10Ideal.defs _ _).mono (fun _ h c => ⟨(h c).1.trans (Cert.DSquare.final m c), (h c).2⟩) (Cert.Kernel10Ideal.Value.run_blocks (F := Ideal) m g)
  · refine (θ_run Cert.Reference10Ideal.defs _ _).mono (fun _ h c => ⟨(h c).1.trans ?_, (h c).2⟩) (Cert.Reference10Ideal.Value.run (F := Ideal) m' g')
    exact (funext fun i => Cert.DSquare.reference_eq _ _ i).trans (congr (congrArg Cert.DSquare.grad (ha c).1) (ha c).2)

/-- The product with w_proj_attn: both programs end with it. -/
theorem proj_attn : Cert.algebraic_Kernel11Ideal_Reference11Ideal := by
  intro m g m' g' _ ha
  refine ⟨fun c => Cert.Square.prod (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · exact (θ_run Cert.Kernel11Ideal.defs _ _).mono (fun _ h c => ⟨(h c).1.trans (Cert.Square.final m c), (h c).2⟩) (Cert.Kernel11Ideal.Value.run_blocks (F := Ideal) m g)
  · refine (θ_run Cert.Reference11Ideal.defs _ _).mono (fun _ h c => ⟨(h c).1.trans ?_, (h c).2⟩) (Cert.Reference11Ideal.Value.run (F := Ideal) m' g')
    exact (funext fun i => Cert.Square.reference_eq _ _ i).trans (congr (congrArg Cert.Square.prod (ha c).1) (ha c).2)

/-- The product with w_out added to the residual: both programs end with it. -/
theorem w_out_resid : Cert.algebraic_Kernel12Ideal_Reference12Ideal := by
  intro m g m' g' _ ha
  refine ⟨fun c => Cert.Resid.res (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)), ?_, ?_⟩
  · exact (θ_run Cert.Kernel12Ideal.defs _ _).mono (fun _ h c => ⟨(h c).1.trans (Cert.Resid.final m c), (h c).2⟩) (Cert.Kernel12Ideal.Value.run_blocks (F := Ideal) m g)
  · refine (θ_run Cert.Reference12Ideal.defs _ _).mono (fun _ h c => ⟨(h c).1.trans ?_, (h c).2⟩) (Cert.Reference12Ideal.Value.run (F := Ideal) m' g')
    exact (funext fun i => Cert.Resid.reference_eq _ _ _ i).trans (congr (congr (congrArg Cert.Resid.res (ha c).1) (ha c).2.1) (ha c).2.2)

/-- The gated merge and the product with w_proj_lru: both programs end with them. -/
theorem proj_lru_merge : Cert.algebraic_Kernel13Ideal_Reference13Ideal := by
  intro m g m' g' _ ha
  refine ⟨fun c => Cert.Merge.merged (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)), fun c => Cert.Merge.prod (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), ?_, ?_⟩
  · exact (θ_run Cert.Kernel13Ideal.defs _ _).mono (fun _ h c => ⟨(h c).1.trans (Cert.Merge.final_merged m c), (h c).2.1.trans (Cert.Merge.final_prod m c), (h c).2.2⟩) (Cert.Kernel13Ideal.Value.run_blocks (F := Ideal) m g)
  · refine (θ_run Cert.Reference13Ideal.defs _ _).mono (fun _ h c => ⟨(h c).1.trans ?_, (h c).2.1.trans ?_, (h c).2.2⟩) (Cert.Reference13Ideal.Value.run (F := Ideal) m' g')
    · exact (funext fun i => Cert.Merge.reference_merged _ _ _ _ i).trans (congr (congr (congr (congrArg Cert.Merge.merged (ha c).1) (ha c).2.1) (ha c).2.2.1) (ha c).2.2.2)
    · exact (funext fun i => Cert.Merge.reference_prod _ _ i).trans (congr (congrArg Cert.Merge.prod (ha c).1) (ha c).2.1)

/-- The gradients of the gated merge: both programs end with them. -/
theorem d_merged : Cert.algebraic_Kernel14Ideal_Reference14Ideal := by
  intro m g m' g' _ ha
  refine ⟨fun c => Cert.DMerge.branch 5 (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)), fun c => Cert.DMerge.branch 6 (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)), fun c => Cert.DMerge.gates (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)), ?_, ?_⟩
  · exact (θ_run Cert.Kernel14Ideal.defs _ _).mono (fun _ h c => ⟨(h c).1.trans (Cert.DMerge.final_attn m c), (h c).2.1.trans (Cert.DMerge.final_lru m c), (h c).2.2.1.trans (Cert.DMerge.final_gates m c), (h c).2.2.2⟩) (Cert.Kernel14Ideal.Value.run_blocks (F := Ideal) m g)
  · refine (θ_run Cert.Reference14Ideal.defs _ _).mono (fun _ h c => ⟨(h c).1.trans ?_, (h c).2.1.trans ?_, (h c).2.2.1.trans ?_, (h c).2.2.2⟩) (Cert.Reference14Ideal.Value.run (F := Ideal) m' g')
    · exact (funext fun i => Cert.DMerge.reference_attn _ _ _ i).trans (congr (congr (congrArg (Cert.DMerge.branch 5) (ha c).1) (ha c).2.2.2.1) (ha c).2.2.2.2)
    · exact (funext fun i => Cert.DMerge.reference_lru _ _ _ i).trans (congr (congr (congrArg (Cert.DMerge.branch 6) (ha c).1) (ha c).2.2.2.1) (ha c).2.2.2.2)
    · exact (funext fun i => Cert.DMerge.reference_gates _ _ _ _ _ i).trans (congr (congr (congr (congr (congrArg Cert.DMerge.gates (ha c).1) (ha c).2.1) (ha c).2.2.1) (ha c).2.2.2.1) (ha c).2.2.2.2)

/-- The gradient of w_in after the columns of q, k and v: both programs end with it. -/
theorem g_w_in_rest : Cert.algebraic_Kernel15Ideal_Reference15Ideal := by
  intro m g m' g' _ ha
  refine ⟨fun c => Cert.GInRest.grad (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)), ?_, ?_⟩
  · exact (θ_run Cert.Kernel15Ideal.defs _ _).mono (fun _ h c => ⟨(h c).1.trans (Cert.GInRest.final m c), (h c).2⟩) (Cert.Kernel15Ideal.Value.run_blocks (F := Ideal) m g)
  · refine (θ_run Cert.Reference15Ideal.defs _ _).mono (fun _ h c => ⟨(h c).1.trans ?_, (h c).2⟩) (Cert.Reference15Ideal.Value.run (F := Ideal) m' g')
    exact (funext fun i => Cert.GInRest.reference_eq _ _ _ i).trans (congr (congr (congrArg Cert.GInRest.grad (ha c).1) (ha c).2.1) (ha c).2.2)

/-- The gradient of w_in's columns of q, k and v: both programs end with it. -/
theorem g_w_in_qkv : Cert.algebraic_Kernel16Ideal_Reference16Ideal := by
  intro m g m' g' _ ha
  refine ⟨fun c => Cert.GInQkv.grad (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)), ?_, ?_⟩
  · exact (θ_run Cert.Kernel16Ideal.defs _ _).mono (fun _ h c => ⟨(h c).1.trans (Cert.GInQkv.final m c), (h c).2⟩) (Cert.Kernel16Ideal.Value.run_blocks (F := Ideal) m g)
  · refine (θ_run Cert.Reference16Ideal.defs _ _).mono (fun _ h c => ⟨(h c).1.trans ?_, (h c).2⟩) (Cert.Reference16Ideal.Value.run (F := Ideal) m' g')
    exact (funext fun i => Cert.GInQkv.reference_eq _ _ _ i).trans (congr (congr (congrArg Cert.GInQkv.grad (ha c).1) (ha c).2.1) (ha c).2.2)

/-- The part's number, read back from the condition. -/
theorem part_of (m : (ℓ : Loc Cert.Kernel17Ideal.nD Cert.Kernel17Ideal.τ Cert.Kernel17Ideal.sig) → Buf (Elt Ideal) ℓ)
    (h : Cert.Pre_Kernel17Ideal (hPre_is_part := Cert.ProjIn.facts) m) :
    ∃ k : Fin 4, ∀ c : Dev Cert.Kernel17Ideal.nD, m ((c.tc : Thread Cert.Kernel17Ideal.nD Cert.Kernel17Ideal.τ).loc Cert.Kernel17Ideal.main_arg0) = fun _ => BitVec.ofNat 32 k.val := by
  have := Cert.ProjIn.facts
  obtain ⟨k, hk⟩ := Cert.ProjIn.part _ _ _ _ (h 0)
  exact ⟨k, fun c => by rw [Subsingleton.elim c 0]; exact hk⟩

theorem ok_ideal (m : (ℓ : Loc Cert.Kernel17Ideal.nD Cert.Kernel17Ideal.τ Cert.Kernel17Ideal.sig) → Buf (Elt Ideal) ℓ)
    (h : Cert.Pre_Kernel17Ideal (hPre_is_part := Cert.ProjIn.facts) m) : Cert.Kernel17Ideal.Gen.Ok (F := Ideal) m := by
  obtain ⟨k, hk⟩ := part_of m h
  unfold Cert.Kernel17Ideal.Gen.Ok
  rw [Cert.ProjIn.table m (hk 0)]
  exact Cert.ProjIn.ok k

theorem ok_kernel (m : (ℓ : Loc Cert.Kernel17.nD Cert.Kernel17.τ Cert.Kernel17.sig) → Buf (Elt Bits) ℓ)
    (h : Cert.Pre_Kernel17 (hPre_is_part := Cert.ProjIn.facts) m) : Cert.Kernel17.Gen.Ok (F := Bits) m := by
  have := Cert.ProjIn.facts
  obtain ⟨k, hk⟩ := Cert.ProjIn.part _ _ _ _ (h 0)
  unfold Cert.Kernel17.Gen.Ok
  rw [Cert.ProjIn.tableB m hk]
  exact Cert.ProjIn.okB k

/-- The input projection: both programs end with one part of it. -/
theorem proj_in : Cert.algebraic_Kernel17Ideal_Reference17Ideal (hPre_is_part := Cert.ProjIn.facts) := by
  intro m g m' g' hp ha
  obtain ⟨k, hk⟩ := part_of m hp
  refine ⟨fun c => Cert.ProjIn.result k.val (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)), ?_, ?_⟩
  · exact Cert.ProjIn.run m g (ok_ideal m hp) (Cert.ProjIn.table m (hk 0))
  · refine (θ_run Cert.Reference17Ideal.defs _ _).mono (fun _ h c => ⟨(h c).1.trans ?_, (h c).2⟩) (Cert.Reference17Ideal.Value.run (F := Ideal) m' g')
    rw [(ha c).1, (ha c).2.1, (ha c).2.2.1, (ha c).2.2.2, hk c]
    exact funext fun i => Cert.ProjIn.reference_eq k _ _ _ i

/-- The frame of the reference of `Kernel2`. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The frame of the reference of `Kernel3`. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The frame of the reference of `Kernel4`. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The frame of the reference of `Kernel5`. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The frame of the reference of `Kernel6`. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The frame of the reference of `Kernel7`. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The frame of the reference of `Kernel8`. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The frame of the reference of `Kernel9`. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The frame of the reference of `Kernel10`. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The frame of the reference of `Kernel11`. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The frame of the reference of `Kernel12`. -/
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The frame of the reference of `Kernel13`. -/
theorem frame_reference13 : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

/-- The frame of the reference of `Kernel14`. -/
theorem frame_reference14 : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

/-- The frame of the reference of `Kernel15`. -/
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The frame of the reference of `Kernel16`. -/
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The frame of the reference of `Kernel17`. -/
theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.AttnFinite.facts, Cert.ProjIn.facts,
    Cert.AttnBwd.frame_kernel, Cert.AttnBwd.frame_ideal,
    fun m g _ => Cert.AttnBwd.frame_ideal m g trivial, frame_reference, fun m g _ => frame_reference m g trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ h => Cert.Kernel17.Gen.frame m ρ (ok_kernel m h), fun m ρ h => Cert.Kernel17Ideal.Gen.frame m ρ (ok_ideal m h), frame_reference17,
    fun m ρ _ => frame_reference17 m ρ trivial,
    trivial, value, trivial, d_hid, trivial, g_w_down, trivial, d_hn, trivial, g_w_up,
    trivial, w_up_relu2, trivial, w_down_resid, trivial, dxn, trivial, g_square, trivial, d_square, trivial, proj_attn, trivial, w_out_resid, trivial, proj_lru_merge, trivial, d_merged, trivial, g_w_in_rest, trivial, g_w_in_qkv, trivial, proj_in⟩

end Cert.Proof

end
